-- ==== Defs.lean ====
def Pre_Kernel [hPre_ids_ok : Cert.Pre_ids_ok.Facts] (m : (ℓ : Loc Cert.Kernel.nD Cert.Kernel.τ Cert.Kernel.sig) → Buf (Elt Bits) ℓ) : Prop :=
  ∀ c : Dev Cert.Kernel.nD,
    (Cert.Pre_ids_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_ok : Cert.Pre_ids_ok.Facts] (m : (ℓ : Loc Cert.KernelIdeal.nD Cert.KernelIdeal.τ Cert.KernelIdeal.sig) → Buf (Elt Ideal) ℓ) : Prop :=
  ∀ c : Dev Cert.KernelIdeal.nD,
    (Cert.Pre_ids_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_ids_ok : Cert.Pre_ids_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_ok : Cert.Pre_ids_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_ok : Cert.Pre_ids_ok.Facts) (hPre_inputs_ok : Cert.Pre_inputs_ok.Facts),
    quiescent_Kernel (hKernel := hKernel) (hPre_ids_ok := hPre_ids_ok)
    ∧ quiescent_KernelIdeal (hKernelIdeal := hKernelIdeal) (hPre_ids_ok := hPre_ids_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_ids_ok.lean ====
abbrev S50000x256 : Shape := ⟨2, ![50000, 256]⟩
abbrev S50000 : Shape := ⟨1, ![50000]⟩
abbrev S768x256 : Shape := ⟨2, ![768, 256]⟩
abbrev S256 : Shape := ⟨1, ![256]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x256 .f32) (main_arg1 : IVec S50000 32) (main_arg2 : FVec F S768x256 .f32) (main_arg3 : FVec F S256 .f32) (main_arg4 : FVec F S256 .f32) (main_arg5 : FVec F S256 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 1 := constantI S_ 1 1#1
  let main_v2 : IVec S_ 1 := (fun x v => Host.reduce IntOp.andi x v reducesTo_S50000_S_d0 h_S_) main_v1 main_c_0
  let main_c_1 : IVec S_ 32 := constantI S_ 32 512#32
  let main_v3 : IVec S50000 32 := broadcastInDim S50000 ![] bcast_S_S50000 main_c_1
  let main_v4 : IVec S50000 1 := cmpi .slt main_arg1 main_v3
  let main_c_2 : IVec S_ 1 := constantI S_ 1 1#1
  let main_v5 : IVec S_ 1 := (fun x v => Host.reduce IntOp.andi x v reducesTo_S50000_S_d0 h_S_) main_v4 main_c_2
  let main_v6 : IVec S_ 1 := andi main_v2 main_v5
  main_v6
-- ==== Pre_inputs_ok.lean ====
abbrev S50000x256 : Shape := ⟨2, ![50000, 256]⟩
abbrev S50000 : Shape := ⟨1, ![50000]⟩
abbrev S768x256 : Shape := ⟨2, ![768, 256]⟩
abbrev S256 : Shape := ⟨1, ![256]⟩
abbrev S_ : Shape := ⟨0, ![]⟩
abbrev S49999 : Shape := ⟨1, ![49999]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000 : S_.BroadcastsInDim S50000 (![] : Fin 0 → Fin S50000.rank)
  reducesTo_S50000_S_d0 : S50000.ReducesTo [0] S_
  slices_S50000_S49999_0 : S50000.Slices ![0] S49999
  slices_S50000_S49999_1 : S50000.Slices ![1] S49999
  reducesTo_S49999_S_d0 : S49999.ReducesTo [0] S_

variable [Facts]

def fn {F : FTy → Type} [FloatOps F] (main_arg0 : FVec F S50000x256 .f32) (main_arg1 : IVec S50000 32) (main_arg2 : FVec F S768x256 .f32) (main_arg3 : FVec F S256 .f32) (main_arg4 : FVec F S256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_c_0 : IVec S_ 32 := constantI S_ 32 0#32
  let main_v4 : IVec S50000 32 := broadcastInDim S50000 ![] bcast_S_S50000 main_c_0
  let main_v5 : IVec S50000 1 := cmpi .sge main_arg1 main_v4
  let main_c_1 : IVec S_ 1 := constantI S_ 1 1#1
  let main_v6 : IVec S_ 1 := (fun x v => Host.reduce IntOp.andi x v reducesTo_S50000_S_d0 h_S_) main_v5 main_c_1
  let main_c_2 : IVec S_ 32 := constantI S_ 32 512#32
  let main_v7 : IVec S50000 32 := broadcastInDim S50000 ![] bcast_S_S50000 main_c_2
  let main_v8 : IVec S50000 1 := cmpi .slt main_arg1 main_v7
  let main_c_3 : IVec S_ 1 := constantI S_ 1 1#1
  let main_v9 : IVec S_ 1 := (fun x v => Host.reduce IntOp.andi x v reducesTo_S50000_S_d0 h_S_) main_v8 main_c_3
  let main_v10 : IVec S_ 1 := andi main_v6 main_v9
  let main_v11 : IVec S_ 1 := andi main_v3 main_v10
  let main_v12 : IVec S49999 32 := (extractStridedSlice S49999 ![0] · slices_S50000_S49999_0) main_arg1
  let main_v13 : IVec S49999 32 := (extractStridedSlice S49999 ![1] · slices_S50000_S49999_1) main_arg1
  let main_v14 : IVec S49999 1 := cmpi .sle main_v12 main_v13
  let main_c_4 : IVec S_ 1 := constantI S_ 1 1#1
  let main_v15 : IVec S_ 1 := (fun x v => Host.reduce IntOp.andi x v reducesTo_S49999_S_d0 h_S_) main_v14 main_c_4
  let main_v16 : IVec S_ 1 := andi main_v11 main_v15
  main_v16
-- ==== Kernel.lean ====
abbrev S50000x256 : Shape := ⟨2, ![50000, 256]⟩
abbrev S50000 : Shape := ⟨1, ![50000]⟩
abbrev S768x256 : Shape := ⟨2, ![768, 256]⟩
abbrev S256 : Shape := ⟨1, ![256]⟩
abbrev S_ : Shape := ⟨0, ![]⟩
abbrev S184 : Shape := ⟨1, ![184]⟩
abbrev S50184 : Shape := ⟨1, ![50184]⟩
abbrev S512x256 : Shape := ⟨2, ![512, 256]⟩
abbrev S512 : Shape := ⟨1, ![512]⟩
abbrev S48 : Shape := ⟨1, ![48]⟩
abbrev S128x256 : Shape := ⟨2, ![128, 256]⟩
abbrev S16x256 : Shape := ⟨2, ![16, 256]⟩
abbrev S16 : Shape := ⟨1, ![16]⟩
abbrev S1 : Shape := ⟨1, ![1]⟩
abbrev S1x16 : Shape := ⟨2, ![1, 16]⟩
abbrev S512x1 : Shape := ⟨2, ![512, 1]⟩
abbrev S1x256 : Shape := ⟨2, ![1, 256]⟩
abbrev S256x256 : Shape := ⟨2, ![256, 256]⟩

abbrev nBuf : Table → Nat
  | .hbm => 17
  | .local .tc .vmem => 8
  | .local .scVector .vmem => 7
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S768x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .i32⟩
  | .hbm, ⟨7, _⟩ => ⟨S184, .i32⟩
  | .hbm, ⟨8, _⟩ => ⟨S50184, .i32⟩
  | .hbm, ⟨9, _⟩ => ⟨S512x256, .f32⟩
  | .hbm, ⟨10, _⟩ => ⟨S512x256, .f32⟩
  | .hbm, ⟨11, _⟩ => ⟨S512, .f32⟩
  | .hbm, ⟨12, _⟩ => ⟨S512x1, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S512x256, .f32⟩
  | .local .tc .vmem, ⟨0, _⟩ => ⟨S512x256, .f32⟩
  | .local .tc .vmem, ⟨1, _⟩ => ⟨S512x256, .f32⟩
  | .local .tc .vmem, ⟨2, _⟩ => ⟨S512x1, .f32⟩
  | .local .tc .vmem, ⟨3, _⟩ => ⟨S768x256, .f32⟩
  | .local .tc .vmem, ⟨4, _⟩ => ⟨S1x256, .f32⟩
  | .local .tc .vmem, ⟨5, _⟩ => ⟨S1x256, .f32⟩
  | .local .tc .vmem, ⟨6, _⟩ => ⟨S1x256, .f32⟩
  | .local .tc .vmem, ⟨7, _⟩ => ⟨S512x256, .f32⟩
  | .local .scVector .vmem, ⟨0, _⟩ => ⟨S50184, .i32⟩
  | .local .scVector .vmem, ⟨1, _⟩ => ⟨S48, .i32⟩
  | .local .scVector .vmem, ⟨2, _⟩ => ⟨S128x256, .f32⟩
  | .local .scVector .vmem, ⟨3, _⟩ => ⟨S128x256, .f32⟩
  | .local .scVector .vmem, ⟨4, _⟩ => ⟨S16x256, .f32⟩
  | .local .scVector .vmem, ⟨5, _⟩ => ⟨S16x256, .f32⟩
  | .local .scVector .vmem, ⟨6, _⟩ => ⟨S16, .f32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_arg0_scv : Ref sig .scVector := ⟨.hbm, 0, rfl⟩
abbrev main_v1_scv : Ref sig .scVector := ⟨.hbm, 8, rfl⟩
abbrev main_v2_0_scv : Ref sig .scVector := ⟨.hbm, 9, rfl⟩
abbrev main_v2_1_scv : Ref sig .scVector := ⟨.hbm, 10, rfl⟩
abbrev main_v2_2_scv : Ref sig .scVector := ⟨.hbm, 11, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  v2
@[reducible] def k0_t1_loop : Scf.Loop 32 :=
  let c0_i32_0 : BitVec 32 := 0#32
  let c16_i32_1 : BitVec 32 := 16#32
  let v9 : BitVec 32 := Scalar.addi c0_i32_0 c16_i32_1
  let c1_i32 : BitVec 32 := 1#32
  ⟨c0_i32_0, v9, c1_i32⟩

def k0_chk1 (v26 : IVec S16 32) : Prop :=
  (∀ a x, ((![v26] : Fin 1 → IVec S16 32) a x).toNat < S50184.size a)
theorem k0_idx1_inb : ∀ (v26 : IVec S16 32) (k0_hw1 : k0_chk1 v26), ∀ a x, ((![v26] : Fin 1 → IVec S16 32) a x).toNat < S50184.size a := fun v26 k0_hw1 => k0_hw1
@[reducible] def k0_t2_loop : Scf.Loop 32 :=
  let c0_i32_6 : BitVec 32 := 0#32
  let c16_i32_7 : BitVec 32 := 16#32
  let v16 : BitVec 32 := Scalar.addi c0_i32_6 c16_i32_7
  let c1_i32_8 : BitVec 32 := 1#32
  ⟨c0_i32_6, v16, c1_i32_8⟩

def k0_chk2 (v26 : IVec S16 32) : Prop :=
  (∀ a x, ((![v26] : Fin 1 → IVec S16 32) a x).toNat < S50184.size a)
theorem k0_idx2_inb : ∀ (v26 : IVec S16 32) (k0_hw2 : k0_chk2 v26), ∀ a x, ((![v26] : Fin 1 → IVec S16 32) a x).toNat < S50184.size a := fun v26 k0_hw2 => k0_hw2
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v3 : BitVec 32 := v2
  ![v3.toNat]
@[reducible] def k0_t3_loop : Scf.Loop 32 :=
  let c0_i32_12 : BitVec 32 := 0#32
  let c16_i32_13 : BitVec 32 := 16#32
  let v23 : BitVec 32 := Scalar.addi c0_i32_12 c16_i32_13
  let c1_i32_14 : BitVec 32 := 1#32
  ⟨c0_i32_12, v23, c1_i32_14⟩
def k0_off2 (k0_t3 : Fin k0_t3_loop.trips) : Fin 1 → Nat :=
  let c0_i32_12 : BitVec 32 := 0#32
  let c1_i32_14 : BitVec 32 := 1#32
  let arg16 : BitVec 32 := Scf.iv c0_i32_12 c1_i32_14 k0_t3
  let v24 : Index := Scalar.indexCast arg16
  ![v24.toNat]
def k0_off3 (k0_t3 : Fin k0_t3_loop.trips) : Fin 1 → Nat :=
  let c16_i32_16 : BitVec 32 := 16#32
  let c0_i32_12 : BitVec 32 := 0#32
  let c1_i32_14 : BitVec 32 := 1#32
  let arg16 : BitVec 32 := Scf.iv c0_i32_12 c1_i32_14 k0_t3
  let v28 : BitVec 32 := Scalar.addi c16_i32_16 arg16
  let v29 : Index := Scalar.indexCast v28
  ![v29.toNat]
def k0_mult2 (v27 : BitVec 32) : BitVec 32 :=
  let c0_i32_44 : BitVec 32 := 0#32
  let v114 : BitVec 32 := Scalar.addi v27 c0_i32_44
  let c0_i32_45 : BitVec 32 := 0#32
  let v116 : BitVec 1 := Scalar.cmpi .sgt v114 c0_i32_45
  let v117 : BitVec 32 := Scalar.extui v116
  let c0_i32_46 : BitVec 32 := 0#32
  let v118 : BitVec 1 := Scalar.cmpi .slt v114 c0_i32_46
  let v119 : BitVec 32 := Scalar.extui v118
  let v120 : BitVec 32 := Scalar.subi v117 v119
  let c8_i32 : BitVec 32 := 8#32
  let c0_i32_47 : BitVec 32 := 0#32
  let v121 : BitVec 1 := Scalar.cmpi .sgt c8_i32 c0_i32_47
  let v122 : BitVec 32 := Scalar.extui v121
  let c0_i32_48 : BitVec 32 := 0#32
  let v123 : BitVec 1 := Scalar.cmpi .slt c8_i32 c0_i32_48
  let v124 : BitVec 32 := Scalar.extui v123
  let v125 : BitVec 32 := Scalar.subi v122 v124
  let v126 : BitVec 1 := Scalar.cmpi .ne v120 v125
  let v127 : BitVec 32 := Scalar.remsi v114 c8_i32
  let c0_i32_49 : BitVec 32 := 0#32
  let v128 : BitVec 1 := Scalar.cmpi .ne v127 c0_i32_49
  let v129 : BitVec 1 := Scalar.andi v126 v128
  let v115 : BitVec 32 := Scalar.divsi v114 c8_i32
  let c1_i32_50 : BitVec 32 := 1#32
  let v130 : BitVec 32 := Scalar.subi v115 c1_i32_50
  let v131 : BitVec 32 := Scalar.select v129 v130 v115
  let c8_i32_51 : BitVec 32 := 8#32
  let v132 : BitVec 32 := Scalar.muli v131 c8_i32_51
  let c49872_i32 : BitVec 32 := 49872#32
  let v133 : BitVec 32 := Scalar.minsi v132 c49872_i32
  v133
def k0_cond1 (v27 : BitVec 32) (v32 : BitVec 32) : BitVec 1 :=
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c0_i32_18 : BitVec 32 := 0#32
  let v38 : BitVec 1 := Scalar.cmpi .sgt v35 c0_i32_18
  let v39 : BitVec 32 := Scalar.extui v38
  let c0_i32_19 : BitVec 32 := 0#32
  let v40 : BitVec 1 := Scalar.cmpi .ne v39 c0_i32_19
  v40

def k0_off4 (v27 : BitVec 32) : Fin 2 → Nat :=
  let c0_i32_44 : BitVec 32 := 0#32
  let v114 : BitVec 32 := Scalar.addi v27 c0_i32_44
  let c0_i32_45 : BitVec 32 := 0#32
  let v116 : BitVec 1 := Scalar.cmpi .sgt v114 c0_i32_45
  let v117 : BitVec 32 := Scalar.extui v116
  let c0_i32_46 : BitVec 32 := 0#32
  let v118 : BitVec 1 := Scalar.cmpi .slt v114 c0_i32_46
  let v119 : BitVec 32 := Scalar.extui v118
  let v120 : BitVec 32 := Scalar.subi v117 v119
  let c8_i32 : BitVec 32 := 8#32
  let c0_i32_47 : BitVec 32 := 0#32
  let v121 : BitVec 1 := Scalar.cmpi .sgt c8_i32 c0_i32_47
  let v122 : BitVec 32 := Scalar.extui v121
  let c0_i32_48 : BitVec 32 := 0#32
  let v123 : BitVec 1 := Scalar.cmpi .slt c8_i32 c0_i32_48
  let v124 : BitVec 32 := Scalar.extui v123
  let v125 : BitVec 32 := Scalar.subi v122 v124
  let v126 : BitVec 1 := Scalar.cmpi .ne v120 v125
  let v127 : BitVec 32 := Scalar.remsi v114 c8_i32
  let c0_i32_49 : BitVec 32 := 0#32
  let v128 : BitVec 1 := Scalar.cmpi .ne v127 c0_i32_49
  let v129 : BitVec 1 := Scalar.andi v126 v128
  let v115 : BitVec 32 := Scalar.divsi v114 c8_i32
  let c1_i32_50 : BitVec 32 := 1#32
  let v130 : BitVec 32 := Scalar.subi v115 c1_i32_50
  let v131 : BitVec 32 := Scalar.select v129 v130 v115
  let c8_i32_51 : BitVec 32 := 8#32
  let v132 : BitVec 32 := Scalar.muli v131 c8_i32_51
  let c49872_i32 : BitVec 32 := 49872#32
  let v133 : BitVec 32 := Scalar.minsi v132 c49872_i32
  let v134 : BitVec 32 := v133
  let c0_i32_52 : BitVec 32 := 0#32
  ![v134.toNat, 0]
@[reducible] def k0_t4_loop (v27 : BitVec 32) (v32 : BitVec 32) : Scf.Loop 32 :=
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_24 : BitVec 32 := 1#32
  ⟨c0_i32_22, v47, c1_i32_24⟩
def k0_mult3 (v27 : BitVec 32) (v32 : BitVec 32) (k0_t4 : Fin (k0_t4_loop v27 v32).trips) : BitVec 32 :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_94 : BitVec 32 := 1#32
  let v212 : BitVec 32 := Scalar.addi v114 c1_i32_94
  let c120_i32_95 : BitVec 32 := 120#32
  let v213 : BitVec 32 := Scalar.muli v212 c120_i32_95
  let v214 : BitVec 32 := Scalar.addi v27 v213
  let c0_i32_97 : BitVec 32 := 0#32
  let v216 : BitVec 1 := Scalar.cmpi .sgt v214 c0_i32_97
  let v217 : BitVec 32 := Scalar.extui v216
  let c0_i32_98 : BitVec 32 := 0#32
  let v218 : BitVec 1 := Scalar.cmpi .slt v214 c0_i32_98
  let v219 : BitVec 32 := Scalar.extui v218
  let v220 : BitVec 32 := Scalar.subi v217 v219
  let c8_i32_96 : BitVec 32 := 8#32
  let c0_i32_99 : BitVec 32 := 0#32
  let v221 : BitVec 1 := Scalar.cmpi .sgt c8_i32_96 c0_i32_99
  let v222 : BitVec 32 := Scalar.extui v221
  let c0_i32_100 : BitVec 32 := 0#32
  let v223 : BitVec 1 := Scalar.cmpi .slt c8_i32_96 c0_i32_100
  let v224 : BitVec 32 := Scalar.extui v223
  let v225 : BitVec 32 := Scalar.subi v222 v224
  let v226 : BitVec 1 := Scalar.cmpi .ne v220 v225
  let v227 : BitVec 32 := Scalar.remsi v214 c8_i32_96
  let c0_i32_101 : BitVec 32 := 0#32
  let v228 : BitVec 1 := Scalar.cmpi .ne v227 c0_i32_101
  let v229 : BitVec 1 := Scalar.andi v226 v228
  let v215 : BitVec 32 := Scalar.divsi v214 c8_i32_96
  let c1_i32_102 : BitVec 32 := 1#32
  let v230 : BitVec 32 := Scalar.subi v215 c1_i32_102
  let v231 : BitVec 32 := Scalar.select v229 v230 v215
  let c8_i32_103 : BitVec 32 := 8#32
  let v232 : BitVec 32 := Scalar.muli v231 c8_i32_103
  let c49872_i32_104 : BitVec 32 := 49872#32
  let v233 : BitVec 32 := Scalar.minsi v232 c49872_i32_104
  v233
def k0_cond2 (v27 : BitVec 32) (v32 : BitVec 32) (k0_t4 : Fin (k0_t4_loop v27 v32).trips) : BitVec 1 :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_45 : BitVec 32 := 1#32
  let v115 : BitVec 32 := Scalar.addi v114 c1_i32_45
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let v116 : BitVec 1 := Scalar.cmpi .slt v115 v35
  let v119 : BitVec 32 := Scalar.extui v116
  let c0_i32_50 : BitVec 32 := 0#32
  let v120 : BitVec 1 := Scalar.cmpi .ne v119 c0_i32_50
  v120

def k0_off5 (v27 : BitVec 32) (v32 : BitVec 32) (k0_t4 : Fin (k0_t4_loop v27 v32).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_94 : BitVec 32 := 1#32
  let v212 : BitVec 32 := Scalar.addi v114 c1_i32_94
  let c120_i32_95 : BitVec 32 := 120#32
  let v213 : BitVec 32 := Scalar.muli v212 c120_i32_95
  let v214 : BitVec 32 := Scalar.addi v27 v213
  let c0_i32_97 : BitVec 32 := 0#32
  let v216 : BitVec 1 := Scalar.cmpi .sgt v214 c0_i32_97
  let v217 : BitVec 32 := Scalar.extui v216
  let c0_i32_98 : BitVec 32 := 0#32
  let v218 : BitVec 1 := Scalar.cmpi .slt v214 c0_i32_98
  let v219 : BitVec 32 := Scalar.extui v218
  let v220 : BitVec 32 := Scalar.subi v217 v219
  let c8_i32_96 : BitVec 32 := 8#32
  let c0_i32_99 : BitVec 32 := 0#32
  let v221 : BitVec 1 := Scalar.cmpi .sgt c8_i32_96 c0_i32_99
  let v222 : BitVec 32 := Scalar.extui v221
  let c0_i32_100 : BitVec 32 := 0#32
  let v223 : BitVec 1 := Scalar.cmpi .slt c8_i32_96 c0_i32_100
  let v224 : BitVec 32 := Scalar.extui v223
  let v225 : BitVec 32 := Scalar.subi v222 v224
  let v226 : BitVec 1 := Scalar.cmpi .ne v220 v225
  let v227 : BitVec 32 := Scalar.remsi v214 c8_i32_96
  let c0_i32_101 : BitVec 32 := 0#32
  let v228 : BitVec 1 := Scalar.cmpi .ne v227 c0_i32_101
  let v229 : BitVec 1 := Scalar.andi v226 v228
  let v215 : BitVec 32 := Scalar.divsi v214 c8_i32_96
  let c1_i32_102 : BitVec 32 := 1#32
  let v230 : BitVec 32 := Scalar.subi v215 c1_i32_102
  let v231 : BitVec 32 := Scalar.select v229 v230 v215
  let c8_i32_103 : BitVec 32 := 8#32
  let v232 : BitVec 32 := Scalar.muli v231 c8_i32_103
  let c49872_i32_104 : BitVec 32 := 49872#32
  let v233 : BitVec 32 := Scalar.minsi v232 c49872_i32_104
  let v234 : BitVec 32 := v233
  let c0_i32_105 : BitVec 32 := 0#32
  ![v234.toNat, 0]
def k0_mult4 (v27 : BitVec 32) (v32 : BitVec 32) (k0_t4 : Fin (k0_t4_loop v27 v32).trips) : BitVec 32 :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  v141
@[reducible] def k0_t5_loop (v27 : BitVec 32) (v32 : BitVec 32) (k0_t4 : Fin (k0_t4_loop v27 v32).trips) : Scf.Loop 32 :=
  let c0_i32_62 : BitVec 32 := 0#32
  let c120_i32_59 : BitVec 32 := 120#32
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_64 : BitVec 32 := 1#32
  ⟨c0_i32_62, v152, c1_i32_64⟩
def k0_off6 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v215 : Index := Scalar.indexCast v214
  let c0_96 : Index := 0#32
  ![v215.toNat, 0]
def k0_off7 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v219 : Index := Scalar.indexCast v214
  let c16_97 : Index := 16#32
  ![v219.toNat, 16]
def k0_off8 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v223 : Index := Scalar.indexCast v214
  let c32_98 : Index := 32#32
  ![v223.toNat, 32]
def k0_off9 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v227 : Index := Scalar.indexCast v214
  let c48_99 : Index := 48#32
  ![v227.toNat, 48]
def k0_off10 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v231 : Index := Scalar.indexCast v214
  let c64_100 : Index := 64#32
  ![v231.toNat, 64]
def k0_off11 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v235 : Index := Scalar.indexCast v214
  let c80_101 : Index := 80#32
  ![v235.toNat, 80]
def k0_off12 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v239 : Index := Scalar.indexCast v214
  let c96_102 : Index := 96#32
  ![v239.toNat, 96]
def k0_off13 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v243 : Index := Scalar.indexCast v214
  let c112_103 : Index := 112#32
  ![v243.toNat, 112]
def k0_off14 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v247 : Index := Scalar.indexCast v214
  let c128_104 : Index := 128#32
  ![v247.toNat, 128]
def k0_off15 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v251 : Index := Scalar.indexCast v214
  let c144_105 : Index := 144#32
  ![v251.toNat, 144]
def k0_off16 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v255 : Index := Scalar.indexCast v214
  let c160_106 : Index := 160#32
  ![v255.toNat, 160]
def k0_off17 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v259 : Index := Scalar.indexCast v214
  let c176_107 : Index := 176#32
  ![v259.toNat, 176]
def k0_off18 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v263 : Index := Scalar.indexCast v214
  let c192_108 : Index := 192#32
  ![v263.toNat, 192]
def k0_off19 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v267 : Index := Scalar.indexCast v214
  let c208_109 : Index := 208#32
  ![v267.toNat, 208]
def k0_off20 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v271 : Index := Scalar.indexCast v214
  let c224_110 : Index := 224#32
  ![v271.toNat, 224]
def k0_off21 (v27 : BitVec 32) (v32 : BitVec 32) (k0_t4 : Fin (k0_t4_loop v27 v32).trips) (k0_t5 : Fin (k0_t5_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t5
  let v212 : BitVec 32 := Scalar.muli c4_i32_94 arg50
  let v213 : BitVec 32 := Scalar.addi v143 v212
  let v214 : BitVec 32 := Scalar.addi v213 c0_i32_95
  let v275 : Index := Scalar.indexCast v214
  let c240_111 : Index := 240#32
  ![v275.toNat, 240]
@[reducible] def k0_t6_loop (v27 : BitVec 32) (v32 : BitVec 32) (k0_t4 : Fin (k0_t4_loop v27 v32).trips) : Scf.Loop 32 :=
  let c0_i32_62 : BitVec 32 := 0#32
  let c120_i32_59 : BitVec 32 := 120#32
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let v149 : BitVec 32 := Scalar.addi c0_i32_62 v148
  let c1_i32_65 : BitVec 32 := 1#32
  ⟨v152, v149, c1_i32_65⟩
def k0_off22 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v215 : Index := Scalar.indexCast v214
  let c0_96 : Index := 0#32
  ![v215.toNat, 0]
def k0_off23 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v219 : Index := Scalar.indexCast v214
  let c16_97 : Index := 16#32
  ![v219.toNat, 16]
def k0_off24 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v223 : Index := Scalar.indexCast v214
  let c32_98 : Index := 32#32
  ![v223.toNat, 32]
def k0_off25 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v227 : Index := Scalar.indexCast v214
  let c48_99 : Index := 48#32
  ![v227.toNat, 48]
def k0_off26 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v231 : Index := Scalar.indexCast v214
  let c64_100 : Index := 64#32
  ![v231.toNat, 64]
def k0_off27 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v235 : Index := Scalar.indexCast v214
  let c80_101 : Index := 80#32
  ![v235.toNat, 80]
def k0_off28 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v239 : Index := Scalar.indexCast v214
  let c96_102 : Index := 96#32
  ![v239.toNat, 96]
def k0_off29 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v243 : Index := Scalar.indexCast v214
  let c112_103 : Index := 112#32
  ![v243.toNat, 112]
def k0_off30 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v247 : Index := Scalar.indexCast v214
  let c128_104 : Index := 128#32
  ![v247.toNat, 128]
def k0_off31 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v251 : Index := Scalar.indexCast v214
  let c144_105 : Index := 144#32
  ![v251.toNat, 144]
def k0_off32 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v255 : Index := Scalar.indexCast v214
  let c160_106 : Index := 160#32
  ![v255.toNat, 160]
def k0_off33 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v259 : Index := Scalar.indexCast v214
  let c176_107 : Index := 176#32
  ![v259.toNat, 176]
def k0_off34 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v263 : Index := Scalar.indexCast v214
  let c192_108 : Index := 192#32
  ![v263.toNat, 192]
def k0_off35 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v267 : Index := Scalar.indexCast v214
  let c208_109 : Index := 208#32
  ![v267.toNat, 208]
def k0_off36 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v271 : Index := Scalar.indexCast v214
  let c224_110 : Index := 224#32
  ![v271.toNat, 224]
def k0_off37 (v27 : BitVec 32) (v32 : BitVec 32) (k0_t4 : Fin (k0_t4_loop v27 v32).trips) (k0_t6 : Fin (k0_t6_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t6
  let v212 : BitVec 32 := Scalar.muli c4_i32_94 arg50
  let v213 : BitVec 32 := Scalar.addi v143 v212
  let v214 : BitVec 32 := Scalar.addi v213 c0_i32_95
  let v275 : Index := Scalar.indexCast v214
  let c240_111 : Index := 240#32
  ![v275.toNat, 240]
@[reducible] def k0_t7_loop (v27 : BitVec 32) (v32 : BitVec 32) (k0_t4 : Fin (k0_t4_loop v27 v32).trips) : Scf.Loop 32 :=
  let c4_i32 : BitVec 32 := 4#32
  let c120_i32_59 : BitVec 32 := 120#32
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_67 : BitVec 32 := 1#32
  ⟨v155, v160, c1_i32_67⟩
def k0_off38 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v213 : Index := Scalar.indexCast v212
  let c0_94 : Index := 0#32
  ![v213.toNat, 0]
def k0_off39 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v217 : Index := Scalar.indexCast v212
  let c16_95 : Index := 16#32
  ![v217.toNat, 16]
def k0_off40 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v221 : Index := Scalar.indexCast v212
  let c32_96 : Index := 32#32
  ![v221.toNat, 32]
def k0_off41 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v225 : Index := Scalar.indexCast v212
  let c48_97 : Index := 48#32
  ![v225.toNat, 48]
def k0_off42 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v229 : Index := Scalar.indexCast v212
  let c64_98 : Index := 64#32
  ![v229.toNat, 64]
def k0_off43 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v233 : Index := Scalar.indexCast v212
  let c80_99 : Index := 80#32
  ![v233.toNat, 80]
def k0_off44 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v237 : Index := Scalar.indexCast v212
  let c96_100 : Index := 96#32
  ![v237.toNat, 96]
def k0_off45 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v241 : Index := Scalar.indexCast v212
  let c112_101 : Index := 112#32
  ![v241.toNat, 112]
def k0_off46 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v245 : Index := Scalar.indexCast v212
  let c128_102 : Index := 128#32
  ![v245.toNat, 128]
def k0_off47 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v249 : Index := Scalar.indexCast v212
  let c144_103 : Index := 144#32
  ![v249.toNat, 144]
def k0_off48 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v253 : Index := Scalar.indexCast v212
  let c160_104 : Index := 160#32
  ![v253.toNat, 160]
def k0_off49 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v257 : Index := Scalar.indexCast v212
  let c176_105 : Index := 176#32
  ![v257.toNat, 176]
def k0_off50 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v261 : Index := Scalar.indexCast v212
  let c192_106 : Index := 192#32
  ![v261.toNat, 192]
def k0_off51 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v265 : Index := Scalar.indexCast v212
  let c208_107 : Index := 208#32
  ![v265.toNat, 208]
def k0_off52 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v269 : Index := Scalar.indexCast v212
  let c224_108 : Index := 224#32
  ![v269.toNat, 224]
def k0_off53 (v27 : BitVec 32) (v32 : BitVec 32) (k0_t4 : Fin (k0_t4_loop v27 v32).trips) (k0_t7 : Fin (k0_t7_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t7
  let v212 : BitVec 32 := Scalar.addi v143 arg50
  let v273 : Index := Scalar.indexCast v212
  let c240_109 : Index := 240#32
  ![v273.toNat, 240]
@[reducible] def k0_t8_loop (v27 : BitVec 32) (v32 : BitVec 32) (k0_t4 : Fin (k0_t4_loop v27 v32).trips) : Scf.Loop 32 :=
  let c4_i32 : BitVec 32 := 4#32
  let c120_i32_59 : BitVec 32 := 120#32
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let v157 : BitVec 32 := Scalar.addi v155 v156
  let c1_i32_68 : BitVec 32 := 1#32
  ⟨v160, v157, c1_i32_68⟩
def k0_off54 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v213 : Index := Scalar.indexCast v212
  let c0_94 : Index := 0#32
  ![v213.toNat, 0]
def k0_off55 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v217 : Index := Scalar.indexCast v212
  let c16_95 : Index := 16#32
  ![v217.toNat, 16]
def k0_off56 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v221 : Index := Scalar.indexCast v212
  let c32_96 : Index := 32#32
  ![v221.toNat, 32]
def k0_off57 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v225 : Index := Scalar.indexCast v212
  let c48_97 : Index := 48#32
  ![v225.toNat, 48]
def k0_off58 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v229 : Index := Scalar.indexCast v212
  let c64_98 : Index := 64#32
  ![v229.toNat, 64]
def k0_off59 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v233 : Index := Scalar.indexCast v212
  let c80_99 : Index := 80#32
  ![v233.toNat, 80]
def k0_off60 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v237 : Index := Scalar.indexCast v212
  let c96_100 : Index := 96#32
  ![v237.toNat, 96]
def k0_off61 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v241 : Index := Scalar.indexCast v212
  let c112_101 : Index := 112#32
  ![v241.toNat, 112]
def k0_off62 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v245 : Index := Scalar.indexCast v212
  let c128_102 : Index := 128#32
  ![v245.toNat, 128]
def k0_off63 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v249 : Index := Scalar.indexCast v212
  let c144_103 : Index := 144#32
  ![v249.toNat, 144]
def k0_off64 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v253 : Index := Scalar.indexCast v212
  let c160_104 : Index := 160#32
  ![v253.toNat, 160]
def k0_off65 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v257 : Index := Scalar.indexCast v212
  let c176_105 : Index := 176#32
  ![v257.toNat, 176]
def k0_off66 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v261 : Index := Scalar.indexCast v212
  let c192_106 : Index := 192#32
  ![v261.toNat, 192]
def k0_off67 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v265 : Index := Scalar.indexCast v212
  let c208_107 : Index := 208#32
  ![v265.toNat, 208]
def k0_off68 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v269 : Index := Scalar.indexCast v212
  let c224_108 : Index := 224#32
  ![v269.toNat, 224]
def k0_off69 (v27 : BitVec 32) (v32 : BitVec 32) (k0_t4 : Fin (k0_t4_loop v27 v32).trips) (k0_t8 : Fin (k0_t8_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t8
  let v212 : BitVec 32 := Scalar.addi v143 arg50
  let v273 : Index := Scalar.indexCast v212
  let c240_109 : Index := 240#32
  ![v273.toNat, 240]
def k0_mult5 (v27 : BitVec 32) (v32 : BitVec 32) (k0_t4 : Fin (k0_t4_loop v27 v32).trips) : BitVec 32 :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c2_i32_94 : BitVec 32 := 2#32
  let v212 : BitVec 32 := Scalar.addi v114 c2_i32_94
  let c120_i32_95 : BitVec 32 := 120#32
  let v213 : BitVec 32 := Scalar.muli v212 c120_i32_95
  let v214 : BitVec 32 := Scalar.addi v27 v213
  let c0_i32_97 : BitVec 32 := 0#32
  let v216 : BitVec 1 := Scalar.cmpi .sgt v214 c0_i32_97
  let v217 : BitVec 32 := Scalar.extui v216
  let c0_i32_98 : BitVec 32 := 0#32
  let v218 : BitVec 1 := Scalar.cmpi .slt v214 c0_i32_98
  let v219 : BitVec 32 := Scalar.extui v218
  let v220 : BitVec 32 := Scalar.subi v217 v219
  let c8_i32_96 : BitVec 32 := 8#32
  let c0_i32_99 : BitVec 32 := 0#32
  let v221 : BitVec 1 := Scalar.cmpi .sgt c8_i32_96 c0_i32_99
  let v222 : BitVec 32 := Scalar.extui v221
  let c0_i32_100 : BitVec 32 := 0#32
  let v223 : BitVec 1 := Scalar.cmpi .slt c8_i32_96 c0_i32_100
  let v224 : BitVec 32 := Scalar.extui v223
  let v225 : BitVec 32 := Scalar.subi v222 v224
  let v226 : BitVec 1 := Scalar.cmpi .ne v220 v225
  let v227 : BitVec 32 := Scalar.remsi v214 c8_i32_96
  let c0_i32_101 : BitVec 32 := 0#32
  let v228 : BitVec 1 := Scalar.cmpi .ne v227 c0_i32_101
  let v229 : BitVec 1 := Scalar.andi v226 v228
  let v215 : BitVec 32 := Scalar.divsi v214 c8_i32_96
  let c1_i32_102 : BitVec 32 := 1#32
  let v230 : BitVec 32 := Scalar.subi v215 c1_i32_102
  let v231 : BitVec 32 := Scalar.select v229 v230 v215
  let c8_i32_103 : BitVec 32 := 8#32
  let v232 : BitVec 32 := Scalar.muli v231 c8_i32_103
  let c49872_i32_104 : BitVec 32 := 49872#32
  let v233 : BitVec 32 := Scalar.minsi v232 c49872_i32_104
  v233
def k0_cond4 (v27 : BitVec 32) (v32 : BitVec 32) (k0_t4 : Fin (k0_t4_loop v27 v32).trips) : BitVec 1 :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c2_i32_70 : BitVec 32 := 2#32
  let v165 : BitVec 32 := Scalar.addi v114 c2_i32_70
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let v166 : BitVec 1 := Scalar.cmpi .slt v165 v35
  let v167 : BitVec 32 := Scalar.extui v166
  let c0_i32_71 : BitVec 32 := 0#32
  let v168 : BitVec 1 := Scalar.cmpi .ne v167 c0_i32_71
  v168

def k0_off70 (v27 : BitVec 32) (v32 : BitVec 32) (k0_t4 : Fin (k0_t4_loop v27 v32).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c2_i32_94 : BitVec 32 := 2#32
  let v212 : BitVec 32 := Scalar.addi v114 c2_i32_94
  let c120_i32_95 : BitVec 32 := 120#32
  let v213 : BitVec 32 := Scalar.muli v212 c120_i32_95
  let v214 : BitVec 32 := Scalar.addi v27 v213
  let c0_i32_97 : BitVec 32 := 0#32
  let v216 : BitVec 1 := Scalar.cmpi .sgt v214 c0_i32_97
  let v217 : BitVec 32 := Scalar.extui v216
  let c0_i32_98 : BitVec 32 := 0#32
  let v218 : BitVec 1 := Scalar.cmpi .slt v214 c0_i32_98
  let v219 : BitVec 32 := Scalar.extui v218
  let v220 : BitVec 32 := Scalar.subi v217 v219
  let c8_i32_96 : BitVec 32 := 8#32
  let c0_i32_99 : BitVec 32 := 0#32
  let v221 : BitVec 1 := Scalar.cmpi .sgt c8_i32_96 c0_i32_99
  let v222 : BitVec 32 := Scalar.extui v221
  let c0_i32_100 : BitVec 32 := 0#32
  let v223 : BitVec 1 := Scalar.cmpi .slt c8_i32_96 c0_i32_100
  let v224 : BitVec 32 := Scalar.extui v223
  let v225 : BitVec 32 := Scalar.subi v222 v224
  let v226 : BitVec 1 := Scalar.cmpi .ne v220 v225
  let v227 : BitVec 32 := Scalar.remsi v214 c8_i32_96
  let c0_i32_101 : BitVec 32 := 0#32
  let v228 : BitVec 1 := Scalar.cmpi .ne v227 c0_i32_101
  let v229 : BitVec 1 := Scalar.andi v226 v228
  let v215 : BitVec 32 := Scalar.divsi v214 c8_i32_96
  let c1_i32_102 : BitVec 32 := 1#32
  let v230 : BitVec 32 := Scalar.subi v215 c1_i32_102
  let v231 : BitVec 32 := Scalar.select v229 v230 v215
  let c8_i32_103 : BitVec 32 := 8#32
  let v232 : BitVec 32 := Scalar.muli v231 c8_i32_103
  let c49872_i32_104 : BitVec 32 := 49872#32
  let v233 : BitVec 32 := Scalar.minsi v232 c49872_i32_104
  let v234 : BitVec 32 := v233
  let c0_i32_105 : BitVec 32 := 0#32
  ![v234.toNat, 0]
def k0_mult6 (v27 : BitVec 32) (v32 : BitVec 32) (k0_t4 : Fin (k0_t4_loop v27 v32).trips) : BitVec 32 :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  v190
@[reducible] def k0_t9_loop (v27 : BitVec 32) (v32 : BitVec 32) (k0_t4 : Fin (k0_t4_loop v27 v32).trips) : Scf.Loop 32 :=
  let c0_i32_86 : BitVec 32 := 0#32
  let c120_i32_83 : BitVec 32 := 120#32
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_88 : BitVec 32 := 1#32
  ⟨c0_i32_86, v201, c1_i32_88⟩
def k0_off71 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v215 : Index := Scalar.indexCast v214
  let c0_96 : Index := 0#32
  ![v215.toNat, 0]
def k0_off72 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v219 : Index := Scalar.indexCast v214
  let c16_97 : Index := 16#32
  ![v219.toNat, 16]
def k0_off73 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v223 : Index := Scalar.indexCast v214
  let c32_98 : Index := 32#32
  ![v223.toNat, 32]
def k0_off74 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v227 : Index := Scalar.indexCast v214
  let c48_99 : Index := 48#32
  ![v227.toNat, 48]
def k0_off75 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v231 : Index := Scalar.indexCast v214
  let c64_100 : Index := 64#32
  ![v231.toNat, 64]
def k0_off76 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v235 : Index := Scalar.indexCast v214
  let c80_101 : Index := 80#32
  ![v235.toNat, 80]
def k0_off77 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v239 : Index := Scalar.indexCast v214
  let c96_102 : Index := 96#32
  ![v239.toNat, 96]
def k0_off78 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v243 : Index := Scalar.indexCast v214
  let c112_103 : Index := 112#32
  ![v243.toNat, 112]
def k0_off79 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v247 : Index := Scalar.indexCast v214
  let c128_104 : Index := 128#32
  ![v247.toNat, 128]
def k0_off80 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v251 : Index := Scalar.indexCast v214
  let c144_105 : Index := 144#32
  ![v251.toNat, 144]
def k0_off81 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v255 : Index := Scalar.indexCast v214
  let c160_106 : Index := 160#32
  ![v255.toNat, 160]
def k0_off82 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v259 : Index := Scalar.indexCast v214
  let c176_107 : Index := 176#32
  ![v259.toNat, 176]
def k0_off83 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v263 : Index := Scalar.indexCast v214
  let c192_108 : Index := 192#32
  ![v263.toNat, 192]
def k0_off84 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v267 : Index := Scalar.indexCast v214
  let c208_109 : Index := 208#32
  ![v267.toNat, 208]
def k0_off85 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v271 : Index := Scalar.indexCast v214
  let c224_110 : Index := 224#32
  ![v271.toNat, 224]
def k0_off86 (v27 : BitVec 32) (v32 : BitVec 32) (k0_t4 : Fin (k0_t4_loop v27 v32).trips) (k0_t9 : Fin (k0_t9_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t9
  let v212 : BitVec 32 := Scalar.muli c4_i32_94 arg50
  let v213 : BitVec 32 := Scalar.addi v192 v212
  let v214 : BitVec 32 := Scalar.addi v213 c0_i32_95
  let v275 : Index := Scalar.indexCast v214
  let c240_111 : Index := 240#32
  ![v275.toNat, 240]
@[reducible] def k0_t10_loop (v27 : BitVec 32) (v32 : BitVec 32) (k0_t4 : Fin (k0_t4_loop v27 v32).trips) : Scf.Loop 32 :=
  let c0_i32_86 : BitVec 32 := 0#32
  let c120_i32_83 : BitVec 32 := 120#32
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let v198 : BitVec 32 := Scalar.addi c0_i32_86 v197
  let c1_i32_89 : BitVec 32 := 1#32
  ⟨v201, v198, c1_i32_89⟩
def k0_off87 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v215 : Index := Scalar.indexCast v214
  let c0_96 : Index := 0#32
  ![v215.toNat, 0]
def k0_off88 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v219 : Index := Scalar.indexCast v214
  let c16_97 : Index := 16#32
  ![v219.toNat, 16]
def k0_off89 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v223 : Index := Scalar.indexCast v214
  let c32_98 : Index := 32#32
  ![v223.toNat, 32]
def k0_off90 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v227 : Index := Scalar.indexCast v214
  let c48_99 : Index := 48#32
  ![v227.toNat, 48]
def k0_off91 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v231 : Index := Scalar.indexCast v214
  let c64_100 : Index := 64#32
  ![v231.toNat, 64]
def k0_off92 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v235 : Index := Scalar.indexCast v214
  let c80_101 : Index := 80#32
  ![v235.toNat, 80]
def k0_off93 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v239 : Index := Scalar.indexCast v214
  let c96_102 : Index := 96#32
  ![v239.toNat, 96]
def k0_off94 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v243 : Index := Scalar.indexCast v214
  let c112_103 : Index := 112#32
  ![v243.toNat, 112]
def k0_off95 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v247 : Index := Scalar.indexCast v214
  let c128_104 : Index := 128#32
  ![v247.toNat, 128]
def k0_off96 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v251 : Index := Scalar.indexCast v214
  let c144_105 : Index := 144#32
  ![v251.toNat, 144]
def k0_off97 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v255 : Index := Scalar.indexCast v214
  let c160_106 : Index := 160#32
  ![v255.toNat, 160]
def k0_off98 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v259 : Index := Scalar.indexCast v214
  let c176_107 : Index := 176#32
  ![v259.toNat, 176]
def k0_off99 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v263 : Index := Scalar.indexCast v214
  let c192_108 : Index := 192#32
  ![v263.toNat, 192]
def k0_off100 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v267 : Index := Scalar.indexCast v214
  let c208_109 : Index := 208#32
  ![v267.toNat, 208]
def k0_off101 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v271 : Index := Scalar.indexCast v214
  let c224_110 : Index := 224#32
  ![v271.toNat, 224]
def k0_off102 (v27 : BitVec 32) (v32 : BitVec 32) (k0_t4 : Fin (k0_t4_loop v27 v32).trips) (k0_t10 : Fin (k0_t10_loop v27 v32 k0_t4).trips) (c0_i32_95 : BitVec 32) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t10
  let v212 : BitVec 32 := Scalar.muli c4_i32_94 arg50
  let v213 : BitVec 32 := Scalar.addi v192 v212
  let v214 : BitVec 32 := Scalar.addi v213 c0_i32_95
  let v275 : Index := Scalar.indexCast v214
  let c240_111 : Index := 240#32
  ![v275.toNat, 240]
@[reducible] def k0_t11_loop (v27 : BitVec 32) (v32 : BitVec 32) (k0_t4 : Fin (k0_t4_loop v27 v32).trips) : Scf.Loop 32 :=
  let c4_i32_90 : BitVec 32 := 4#32
  let c120_i32_83 : BitVec 32 := 120#32
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_92 : BitVec 32 := 1#32
  ⟨v204, v209, c1_i32_92⟩
def k0_off103 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v213 : Index := Scalar.indexCast v212
  let c0_94 : Index := 0#32
  ![v213.toNat, 0]
def k0_off104 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v217 : Index := Scalar.indexCast v212
  let c16_95 : Index := 16#32
  ![v217.toNat, 16]
def k0_off105 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v221 : Index := Scalar.indexCast v212
  let c32_96 : Index := 32#32
  ![v221.toNat, 32]
def k0_off106 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v225 : Index := Scalar.indexCast v212
  let c48_97 : Index := 48#32
  ![v225.toNat, 48]
def k0_off107 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v229 : Index := Scalar.indexCast v212
  let c64_98 : Index := 64#32
  ![v229.toNat, 64]
def k0_off108 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v233 : Index := Scalar.indexCast v212
  let c80_99 : Index := 80#32
  ![v233.toNat, 80]
def k0_off109 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v237 : Index := Scalar.indexCast v212
  let c96_100 : Index := 96#32
  ![v237.toNat, 96]
def k0_off110 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v241 : Index := Scalar.indexCast v212
  let c112_101 : Index := 112#32
  ![v241.toNat, 112]
def k0_off111 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v245 : Index := Scalar.indexCast v212
  let c128_102 : Index := 128#32
  ![v245.toNat, 128]
def k0_off112 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v249 : Index := Scalar.indexCast v212
  let c144_103 : Index := 144#32
  ![v249.toNat, 144]
def k0_off113 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v253 : Index := Scalar.indexCast v212
  let c160_104 : Index := 160#32
  ![v253.toNat, 160]
def k0_off114 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v257 : Index := Scalar.indexCast v212
  let c176_105 : Index := 176#32
  ![v257.toNat, 176]
def k0_off115 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v261 : Index := Scalar.indexCast v212
  let c192_106 : Index := 192#32
  ![v261.toNat, 192]
def k0_off116 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v265 : Index := Scalar.indexCast v212
  let c208_107 : Index := 208#32
  ![v265.toNat, 208]
def k0_off117 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v269 : Index := Scalar.indexCast v212
  let c224_108 : Index := 224#32
  ![v269.toNat, 224]
def k0_off118 (v27 : BitVec 32) (v32 : BitVec 32) (k0_t4 : Fin (k0_t4_loop v27 v32).trips) (k0_t11 : Fin (k0_t11_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t11
  let v212 : BitVec 32 := Scalar.addi v192 arg50
  let v273 : Index := Scalar.indexCast v212
  let c240_109 : Index := 240#32
  ![v273.toNat, 240]
@[reducible] def k0_t12_loop (v27 : BitVec 32) (v32 : BitVec 32) (k0_t4 : Fin (k0_t4_loop v27 v32).trips) : Scf.Loop 32 :=
  let c4_i32_90 : BitVec 32 := 4#32
  let c120_i32_83 : BitVec 32 := 120#32
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let v206 : BitVec 32 := Scalar.addi v204 v205
  let c1_i32_93 : BitVec 32 := 1#32
  ⟨v209, v206, c1_i32_93⟩
def k0_off119 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v213 : Index := Scalar.indexCast v212
  let c0_94 : Index := 0#32
  ![v213.toNat, 0]
def k0_off120 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v217 : Index := Scalar.indexCast v212
  let c16_95 : Index := 16#32
  ![v217.toNat, 16]
def k0_off121 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v221 : Index := Scalar.indexCast v212
  let c32_96 : Index := 32#32
  ![v221.toNat, 32]
def k0_off122 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v225 : Index := Scalar.indexCast v212
  let c48_97 : Index := 48#32
  ![v225.toNat, 48]
def k0_off123 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v229 : Index := Scalar.indexCast v212
  let c64_98 : Index := 64#32
  ![v229.toNat, 64]
def k0_off124 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v233 : Index := Scalar.indexCast v212
  let c80_99 : Index := 80#32
  ![v233.toNat, 80]
def k0_off125 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v237 : Index := Scalar.indexCast v212
  let c96_100 : Index := 96#32
  ![v237.toNat, 96]
def k0_off126 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v241 : Index := Scalar.indexCast v212
  let c112_101 : Index := 112#32
  ![v241.toNat, 112]
def k0_off127 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v245 : Index := Scalar.indexCast v212
  let c128_102 : Index := 128#32
  ![v245.toNat, 128]
def k0_off128 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v249 : Index := Scalar.indexCast v212
  let c144_103 : Index := 144#32
  ![v249.toNat, 144]
def k0_off129 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v253 : Index := Scalar.indexCast v212
  let c160_104 : Index := 160#32
  ![v253.toNat, 160]
def k0_off130 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v257 : Index := Scalar.indexCast v212
  let c176_105 : Index := 176#32
  ![v257.toNat, 176]
def k0_off131 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v261 : Index := Scalar.indexCast v212
  let c192_106 : Index := 192#32
  ![v261.toNat, 192]
def k0_off132 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v265 : Index := Scalar.indexCast v212
  let c208_107 : Index := 208#32
  ![v265.toNat, 208]
def k0_off133 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v269 : Index := Scalar.indexCast v212
  let c224_108 : Index := 224#32
  ![v269.toNat, 224]
def k0_off134 (v27 : BitVec 32) (v32 : BitVec 32) (k0_t4 : Fin (k0_t4_loop v27 v32).trips) (k0_t12 : Fin (k0_t12_loop v27 v32 k0_t4).trips) : Fin 2 → Nat :=
  let c2_i32_44 : BitVec 32 := 2#32
  let c0_i32_22 : BitVec 32 := 0#32
  let c1_i32_24 : BitVec 32 := 1#32
  let arg17 : BitVec 32 := Scf.iv c0_i32_22 c1_i32_24 k0_t4
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t12
  let v212 : BitVec 32 := Scalar.addi v192 arg50
  let v273 : Index := Scalar.indexCast v212
  let c240_109 : Index := 240#32
  ![v273.toNat, 240]
@[reducible] def k0_t13_loop (v27 : BitVec 32) (v32 : BitVec 32) : Scf.Loop 32 :=
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let v44 : BitVec 32 := Scalar.addi c0_i32_22 v43
  let c1_i32_25 : BitVec 32 := 1#32
  ⟨v47, v44, c1_i32_25⟩
def k0_mult7 (v27 : BitVec 32) (v32 : BitVec 32) (k0_t13 : Fin (k0_t13_loop v27 v32).trips) : BitVec 32 :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_94 : BitVec 32 := 1#32
  let v212 : BitVec 32 := Scalar.addi v114 c1_i32_94
  let c120_i32_95 : BitVec 32 := 120#32
  let v213 : BitVec 32 := Scalar.muli v212 c120_i32_95
  let v214 : BitVec 32 := Scalar.addi v27 v213
  let c0_i32_97 : BitVec 32 := 0#32
  let v216 : BitVec 1 := Scalar.cmpi .sgt v214 c0_i32_97
  let v217 : BitVec 32 := Scalar.extui v216
  let c0_i32_98 : BitVec 32 := 0#32
  let v218 : BitVec 1 := Scalar.cmpi .slt v214 c0_i32_98
  let v219 : BitVec 32 := Scalar.extui v218
  let v220 : BitVec 32 := Scalar.subi v217 v219
  let c8_i32_96 : BitVec 32 := 8#32
  let c0_i32_99 : BitVec 32 := 0#32
  let v221 : BitVec 1 := Scalar.cmpi .sgt c8_i32_96 c0_i32_99
  let v222 : BitVec 32 := Scalar.extui v221
  let c0_i32_100 : BitVec 32 := 0#32
  let v223 : BitVec 1 := Scalar.cmpi .slt c8_i32_96 c0_i32_100
  let v224 : BitVec 32 := Scalar.extui v223
  let v225 : BitVec 32 := Scalar.subi v222 v224
  let v226 : BitVec 1 := Scalar.cmpi .ne v220 v225
  let v227 : BitVec 32 := Scalar.remsi v214 c8_i32_96
  let c0_i32_101 : BitVec 32 := 0#32
  let v228 : BitVec 1 := Scalar.cmpi .ne v227 c0_i32_101
  let v229 : BitVec 1 := Scalar.andi v226 v228
  let v215 : BitVec 32 := Scalar.divsi v214 c8_i32_96
  let c1_i32_102 : BitVec 32 := 1#32
  let v230 : BitVec 32 := Scalar.subi v215 c1_i32_102
  let v231 : BitVec 32 := Scalar.select v229 v230 v215
  let c8_i32_103 : BitVec 32 := 8#32
  let v232 : BitVec 32 := Scalar.muli v231 c8_i32_103
  let c49872_i32_104 : BitVec 32 := 49872#32
  let v233 : BitVec 32 := Scalar.minsi v232 c49872_i32_104
  v233
def k0_cond5 (v27 : BitVec 32) (v32 : BitVec 32) (k0_t13 : Fin (k0_t13_loop v27 v32).trips) : BitVec 1 :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_45 : BitVec 32 := 1#32
  let v115 : BitVec 32 := Scalar.addi v114 c1_i32_45
  let v116 : BitVec 1 := Scalar.cmpi .slt v115 v35
  let v119 : BitVec 32 := Scalar.extui v116
  let c0_i32_50 : BitVec 32 := 0#32
  let v120 : BitVec 1 := Scalar.cmpi .ne v119 c0_i32_50
  v120

def k0_off135 (v27 : BitVec 32) (v32 : BitVec 32) (k0_t13 : Fin (k0_t13_loop v27 v32).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_94 : BitVec 32 := 1#32
  let v212 : BitVec 32 := Scalar.addi v114 c1_i32_94
  let c120_i32_95 : BitVec 32 := 120#32
  let v213 : BitVec 32 := Scalar.muli v212 c120_i32_95
  let v214 : BitVec 32 := Scalar.addi v27 v213
  let c0_i32_97 : BitVec 32 := 0#32
  let v216 : BitVec 1 := Scalar.cmpi .sgt v214 c0_i32_97
  let v217 : BitVec 32 := Scalar.extui v216
  let c0_i32_98 : BitVec 32 := 0#32
  let v218 : BitVec 1 := Scalar.cmpi .slt v214 c0_i32_98
  let v219 : BitVec 32 := Scalar.extui v218
  let v220 : BitVec 32 := Scalar.subi v217 v219
  let c8_i32_96 : BitVec 32 := 8#32
  let c0_i32_99 : BitVec 32 := 0#32
  let v221 : BitVec 1 := Scalar.cmpi .sgt c8_i32_96 c0_i32_99
  let v222 : BitVec 32 := Scalar.extui v221
  let c0_i32_100 : BitVec 32 := 0#32
  let v223 : BitVec 1 := Scalar.cmpi .slt c8_i32_96 c0_i32_100
  let v224 : BitVec 32 := Scalar.extui v223
  let v225 : BitVec 32 := Scalar.subi v222 v224
  let v226 : BitVec 1 := Scalar.cmpi .ne v220 v225
  let v227 : BitVec 32 := Scalar.remsi v214 c8_i32_96
  let c0_i32_101 : BitVec 32 := 0#32
  let v228 : BitVec 1 := Scalar.cmpi .ne v227 c0_i32_101
  let v229 : BitVec 1 := Scalar.andi v226 v228
  let v215 : BitVec 32 := Scalar.divsi v214 c8_i32_96
  let c1_i32_102 : BitVec 32 := 1#32
  let v230 : BitVec 32 := Scalar.subi v215 c1_i32_102
  let v231 : BitVec 32 := Scalar.select v229 v230 v215
  let c8_i32_103 : BitVec 32 := 8#32
  let v232 : BitVec 32 := Scalar.muli v231 c8_i32_103
  let c49872_i32_104 : BitVec 32 := 49872#32
  let v233 : BitVec 32 := Scalar.minsi v232 c49872_i32_104
  let v234 : BitVec 32 := v233
  let c0_i32_105 : BitVec 32 := 0#32
  ![v234.toNat, 0]
def k0_mult8 (v27 : BitVec 32) (v32 : BitVec 32) (k0_t13 : Fin (k0_t13_loop v27 v32).trips) : BitVec 32 :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  v141
@[reducible] def k0_t14_loop (v27 : BitVec 32) (v32 : BitVec 32) (k0_t13 : Fin (k0_t13_loop v27 v32).trips) : Scf.Loop 32 :=
  let c0_i32_62 : BitVec 32 := 0#32
  let c120_i32_59 : BitVec 32 := 120#32
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_64 : BitVec 32 := 1#32
  ⟨c0_i32_62, v152, c1_i32_64⟩
def k0_off136 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v215 : Index := Scalar.indexCast v214
  let c0_96 : Index := 0#32
  ![v215.toNat, 0]
def k0_off137 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v219 : Index := Scalar.indexCast v214
  let c16_97 : Index := 16#32
  ![v219.toNat, 16]
def k0_off138 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v223 : Index := Scalar.indexCast v214
  let c32_98 : Index := 32#32
  ![v223.toNat, 32]
def k0_off139 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v227 : Index := Scalar.indexCast v214
  let c48_99 : Index := 48#32
  ![v227.toNat, 48]
def k0_off140 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v231 : Index := Scalar.indexCast v214
  let c64_100 : Index := 64#32
  ![v231.toNat, 64]
def k0_off141 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v235 : Index := Scalar.indexCast v214
  let c80_101 : Index := 80#32
  ![v235.toNat, 80]
def k0_off142 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v239 : Index := Scalar.indexCast v214
  let c96_102 : Index := 96#32
  ![v239.toNat, 96]
def k0_off143 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v243 : Index := Scalar.indexCast v214
  let c112_103 : Index := 112#32
  ![v243.toNat, 112]
def k0_off144 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v247 : Index := Scalar.indexCast v214
  let c128_104 : Index := 128#32
  ![v247.toNat, 128]
def k0_off145 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v251 : Index := Scalar.indexCast v214
  let c144_105 : Index := 144#32
  ![v251.toNat, 144]
def k0_off146 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v255 : Index := Scalar.indexCast v214
  let c160_106 : Index := 160#32
  ![v255.toNat, 160]
def k0_off147 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v259 : Index := Scalar.indexCast v214
  let c176_107 : Index := 176#32
  ![v259.toNat, 176]
def k0_off148 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v263 : Index := Scalar.indexCast v214
  let c192_108 : Index := 192#32
  ![v263.toNat, 192]
def k0_off149 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v267 : Index := Scalar.indexCast v214
  let c208_109 : Index := 208#32
  ![v267.toNat, 208]
def k0_off150 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v271 : Index := Scalar.indexCast v214
  let c224_110 : Index := 224#32
  ![v271.toNat, 224]
def k0_off151 (v27 : BitVec 32) (v32 : BitVec 32) (k0_t13 : Fin (k0_t13_loop v27 v32).trips) (k0_t14 : Fin (k0_t14_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c1_i32_64 : BitVec 32 := 1#32
  let arg50 : BitVec 32 := Scf.iv c0_i32_62 c1_i32_64 k0_t14
  let v212 : BitVec 32 := Scalar.muli c4_i32_94 arg50
  let v213 : BitVec 32 := Scalar.addi v143 v212
  let v214 : BitVec 32 := Scalar.addi v213 c0_i32_95
  let v275 : Index := Scalar.indexCast v214
  let c240_111 : Index := 240#32
  ![v275.toNat, 240]
@[reducible] def k0_t15_loop (v27 : BitVec 32) (v32 : BitVec 32) (k0_t13 : Fin (k0_t13_loop v27 v32).trips) : Scf.Loop 32 :=
  let c0_i32_62 : BitVec 32 := 0#32
  let c120_i32_59 : BitVec 32 := 120#32
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let v149 : BitVec 32 := Scalar.addi c0_i32_62 v148
  let c1_i32_65 : BitVec 32 := 1#32
  ⟨v152, v149, c1_i32_65⟩
def k0_off152 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v215 : Index := Scalar.indexCast v214
  let c0_96 : Index := 0#32
  ![v215.toNat, 0]
def k0_off153 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v219 : Index := Scalar.indexCast v214
  let c16_97 : Index := 16#32
  ![v219.toNat, 16]
def k0_off154 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v223 : Index := Scalar.indexCast v214
  let c32_98 : Index := 32#32
  ![v223.toNat, 32]
def k0_off155 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v227 : Index := Scalar.indexCast v214
  let c48_99 : Index := 48#32
  ![v227.toNat, 48]
def k0_off156 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v231 : Index := Scalar.indexCast v214
  let c64_100 : Index := 64#32
  ![v231.toNat, 64]
def k0_off157 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v235 : Index := Scalar.indexCast v214
  let c80_101 : Index := 80#32
  ![v235.toNat, 80]
def k0_off158 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v239 : Index := Scalar.indexCast v214
  let c96_102 : Index := 96#32
  ![v239.toNat, 96]
def k0_off159 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v243 : Index := Scalar.indexCast v214
  let c112_103 : Index := 112#32
  ![v243.toNat, 112]
def k0_off160 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v247 : Index := Scalar.indexCast v214
  let c128_104 : Index := 128#32
  ![v247.toNat, 128]
def k0_off161 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v251 : Index := Scalar.indexCast v214
  let c144_105 : Index := 144#32
  ![v251.toNat, 144]
def k0_off162 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v255 : Index := Scalar.indexCast v214
  let c160_106 : Index := 160#32
  ![v255.toNat, 160]
def k0_off163 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v259 : Index := Scalar.indexCast v214
  let c176_107 : Index := 176#32
  ![v259.toNat, 176]
def k0_off164 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v263 : Index := Scalar.indexCast v214
  let c192_108 : Index := 192#32
  ![v263.toNat, 192]
def k0_off165 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v267 : Index := Scalar.indexCast v214
  let c208_109 : Index := 208#32
  ![v267.toNat, 208]
def k0_off166 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v271 : Index := Scalar.indexCast v214
  let c224_110 : Index := 224#32
  ![v271.toNat, 224]
def k0_off167 (v27 : BitVec 32) (v32 : BitVec 32) (k0_t13 : Fin (k0_t13_loop v27 v32).trips) (k0_t15 : Fin (k0_t15_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32_94 : BitVec 32 := 4#32
  let c0_i32_62 : BitVec 32 := 0#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v148 : BitVec 32 := Scalar.subi v147 c0_i32_62
  let c1_i32_63 : BitVec 32 := 1#32
  let v150 : BitVec 32 := Scalar.divsi v148 c1_i32_63
  let v151 : BitVec 32 := Scalar.muli v150 c1_i32_63
  let v152 : BitVec 32 := Scalar.addi c0_i32_62 v151
  let c1_i32_65 : BitVec 32 := 1#32
  let arg50 : BitVec 32 := Scf.iv v152 c1_i32_65 k0_t15
  let v212 : BitVec 32 := Scalar.muli c4_i32_94 arg50
  let v213 : BitVec 32 := Scalar.addi v143 v212
  let v214 : BitVec 32 := Scalar.addi v213 c0_i32_95
  let v275 : Index := Scalar.indexCast v214
  let c240_111 : Index := 240#32
  ![v275.toNat, 240]
@[reducible] def k0_t16_loop (v27 : BitVec 32) (v32 : BitVec 32) (k0_t13 : Fin (k0_t13_loop v27 v32).trips) : Scf.Loop 32 :=
  let c4_i32 : BitVec 32 := 4#32
  let c120_i32_59 : BitVec 32 := 120#32
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_67 : BitVec 32 := 1#32
  ⟨v155, v160, c1_i32_67⟩
def k0_off168 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v213 : Index := Scalar.indexCast v212
  let c0_94 : Index := 0#32
  ![v213.toNat, 0]
def k0_off169 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v217 : Index := Scalar.indexCast v212
  let c16_95 : Index := 16#32
  ![v217.toNat, 16]
def k0_off170 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v221 : Index := Scalar.indexCast v212
  let c32_96 : Index := 32#32
  ![v221.toNat, 32]
def k0_off171 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v225 : Index := Scalar.indexCast v212
  let c48_97 : Index := 48#32
  ![v225.toNat, 48]
def k0_off172 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v229 : Index := Scalar.indexCast v212
  let c64_98 : Index := 64#32
  ![v229.toNat, 64]
def k0_off173 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v233 : Index := Scalar.indexCast v212
  let c80_99 : Index := 80#32
  ![v233.toNat, 80]
def k0_off174 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v237 : Index := Scalar.indexCast v212
  let c96_100 : Index := 96#32
  ![v237.toNat, 96]
def k0_off175 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v241 : Index := Scalar.indexCast v212
  let c112_101 : Index := 112#32
  ![v241.toNat, 112]
def k0_off176 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v245 : Index := Scalar.indexCast v212
  let c128_102 : Index := 128#32
  ![v245.toNat, 128]
def k0_off177 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v249 : Index := Scalar.indexCast v212
  let c144_103 : Index := 144#32
  ![v249.toNat, 144]
def k0_off178 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v253 : Index := Scalar.indexCast v212
  let c160_104 : Index := 160#32
  ![v253.toNat, 160]
def k0_off179 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v257 : Index := Scalar.indexCast v212
  let c176_105 : Index := 176#32
  ![v257.toNat, 176]
def k0_off180 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v261 : Index := Scalar.indexCast v212
  let c192_106 : Index := 192#32
  ![v261.toNat, 192]
def k0_off181 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v265 : Index := Scalar.indexCast v212
  let c208_107 : Index := 208#32
  ![v265.toNat, 208]
def k0_off182 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v269 : Index := Scalar.indexCast v212
  let c224_108 : Index := 224#32
  ![v269.toNat, 224]
def k0_off183 (v27 : BitVec 32) (v32 : BitVec 32) (k0_t13 : Fin (k0_t13_loop v27 v32).trips) (k0_t16 : Fin (k0_t16_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let c1_i32_67 : BitVec 32 := 1#32
  let arg50 : BitVec 32 := Scf.iv v155 c1_i32_67 k0_t16
  let v212 : BitVec 32 := Scalar.addi v143 arg50
  let v273 : Index := Scalar.indexCast v212
  let c240_109 : Index := 240#32
  ![v273.toNat, 240]
@[reducible] def k0_t17_loop (v27 : BitVec 32) (v32 : BitVec 32) (k0_t13 : Fin (k0_t13_loop v27 v32).trips) : Scf.Loop 32 :=
  let c4_i32 : BitVec 32 := 4#32
  let c120_i32_59 : BitVec 32 := 120#32
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let v157 : BitVec 32 := Scalar.addi v155 v156
  let c1_i32_68 : BitVec 32 := 1#32
  ⟨v160, v157, c1_i32_68⟩
def k0_off184 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v213 : Index := Scalar.indexCast v212
  let c0_94 : Index := 0#32
  ![v213.toNat, 0]
def k0_off185 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v217 : Index := Scalar.indexCast v212
  let c16_95 : Index := 16#32
  ![v217.toNat, 16]
def k0_off186 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v221 : Index := Scalar.indexCast v212
  let c32_96 : Index := 32#32
  ![v221.toNat, 32]
def k0_off187 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v225 : Index := Scalar.indexCast v212
  let c48_97 : Index := 48#32
  ![v225.toNat, 48]
def k0_off188 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v229 : Index := Scalar.indexCast v212
  let c64_98 : Index := 64#32
  ![v229.toNat, 64]
def k0_off189 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v233 : Index := Scalar.indexCast v212
  let c80_99 : Index := 80#32
  ![v233.toNat, 80]
def k0_off190 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v237 : Index := Scalar.indexCast v212
  let c96_100 : Index := 96#32
  ![v237.toNat, 96]
def k0_off191 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v241 : Index := Scalar.indexCast v212
  let c112_101 : Index := 112#32
  ![v241.toNat, 112]
def k0_off192 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v245 : Index := Scalar.indexCast v212
  let c128_102 : Index := 128#32
  ![v245.toNat, 128]
def k0_off193 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v249 : Index := Scalar.indexCast v212
  let c144_103 : Index := 144#32
  ![v249.toNat, 144]
def k0_off194 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v253 : Index := Scalar.indexCast v212
  let c160_104 : Index := 160#32
  ![v253.toNat, 160]
def k0_off195 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v257 : Index := Scalar.indexCast v212
  let c176_105 : Index := 176#32
  ![v257.toNat, 176]
def k0_off196 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v261 : Index := Scalar.indexCast v212
  let c192_106 : Index := 192#32
  ![v261.toNat, 192]
def k0_off197 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v265 : Index := Scalar.indexCast v212
  let c208_107 : Index := 208#32
  ![v265.toNat, 208]
def k0_off198 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v269 : Index := Scalar.indexCast v212
  let c224_108 : Index := 224#32
  ![v269.toNat, 224]
def k0_off199 (v27 : BitVec 32) (v32 : BitVec 32) (k0_t13 : Fin (k0_t13_loop v27 v32).trips) (k0_t17 : Fin (k0_t17_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c120_i32_51 : BitVec 32 := 120#32
  let v121 : BitVec 32 := Scalar.muli v114 c120_i32_51
  let v122 : BitVec 32 := Scalar.addi v27 v121
  let c0_i32_52 : BitVec 32 := 0#32
  let v124 : BitVec 1 := Scalar.cmpi .sgt v122 c0_i32_52
  let v125 : BitVec 32 := Scalar.extui v124
  let c0_i32_53 : BitVec 32 := 0#32
  let v126 : BitVec 1 := Scalar.cmpi .slt v122 c0_i32_53
  let v127 : BitVec 32 := Scalar.extui v126
  let v128 : BitVec 32 := Scalar.subi v125 v127
  let c8_i32 : BitVec 32 := 8#32
  let c0_i32_54 : BitVec 32 := 0#32
  let v129 : BitVec 1 := Scalar.cmpi .sgt c8_i32 c0_i32_54
  let v130 : BitVec 32 := Scalar.extui v129
  let c0_i32_55 : BitVec 32 := 0#32
  let v131 : BitVec 1 := Scalar.cmpi .slt c8_i32 c0_i32_55
  let v132 : BitVec 32 := Scalar.extui v131
  let v133 : BitVec 32 := Scalar.subi v130 v132
  let v134 : BitVec 1 := Scalar.cmpi .ne v128 v133
  let v135 : BitVec 32 := Scalar.remsi v122 c8_i32
  let c0_i32_56 : BitVec 32 := 0#32
  let v136 : BitVec 1 := Scalar.cmpi .ne v135 c0_i32_56
  let v137 : BitVec 1 := Scalar.andi v134 v136
  let v123 : BitVec 32 := Scalar.divsi v122 c8_i32
  let c1_i32_57 : BitVec 32 := 1#32
  let v138 : BitVec 32 := Scalar.subi v123 c1_i32_57
  let v139 : BitVec 32 := Scalar.select v137 v138 v123
  let c8_i32_58 : BitVec 32 := 8#32
  let v140 : BitVec 32 := Scalar.muli v139 c8_i32_58
  let c49872_i32 : BitVec 32 := 49872#32
  let v141 : BitVec 32 := Scalar.minsi v140 c49872_i32
  let v142 : BitVec 32 := v141
  let v143 : BitVec 32 := Scalar.subi v122 v142
  let c4_i32 : BitVec 32 := 4#32
  let c120_i32_59 : BitVec 32 := 120#32
  let v144 : BitVec 32 := Scalar.subi v32 v122
  let v145 : BitVec 32 := Scalar.minsi c120_i32_59 v144
  let c0_i32_60 : BitVec 32 := 0#32
  let v146 : BitVec 32 := Scalar.maxsi v145 c0_i32_60
  let c2_i32_61 : BitVec 32 := 2#32
  let v147 : BitVec 32 := Scalar.shrsi v146 c2_i32_61
  let v155 : BitVec 32 := Scalar.muli c4_i32 v147
  let v156 : BitVec 32 := Scalar.subi v146 v155
  let c1_i32_66 : BitVec 32 := 1#32
  let v158 : BitVec 32 := Scalar.divsi v156 c1_i32_66
  let v159 : BitVec 32 := Scalar.muli v158 c1_i32_66
  let v160 : BitVec 32 := Scalar.addi v155 v159
  let c1_i32_68 : BitVec 32 := 1#32
  let arg50 : BitVec 32 := Scf.iv v160 c1_i32_68 k0_t17
  let v212 : BitVec 32 := Scalar.addi v143 arg50
  let v273 : Index := Scalar.indexCast v212
  let c240_109 : Index := 240#32
  ![v273.toNat, 240]
def k0_mult9 (v27 : BitVec 32) (v32 : BitVec 32) (k0_t13 : Fin (k0_t13_loop v27 v32).trips) : BitVec 32 :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c2_i32_94 : BitVec 32 := 2#32
  let v212 : BitVec 32 := Scalar.addi v114 c2_i32_94
  let c120_i32_95 : BitVec 32 := 120#32
  let v213 : BitVec 32 := Scalar.muli v212 c120_i32_95
  let v214 : BitVec 32 := Scalar.addi v27 v213
  let c0_i32_97 : BitVec 32 := 0#32
  let v216 : BitVec 1 := Scalar.cmpi .sgt v214 c0_i32_97
  let v217 : BitVec 32 := Scalar.extui v216
  let c0_i32_98 : BitVec 32 := 0#32
  let v218 : BitVec 1 := Scalar.cmpi .slt v214 c0_i32_98
  let v219 : BitVec 32 := Scalar.extui v218
  let v220 : BitVec 32 := Scalar.subi v217 v219
  let c8_i32_96 : BitVec 32 := 8#32
  let c0_i32_99 : BitVec 32 := 0#32
  let v221 : BitVec 1 := Scalar.cmpi .sgt c8_i32_96 c0_i32_99
  let v222 : BitVec 32 := Scalar.extui v221
  let c0_i32_100 : BitVec 32 := 0#32
  let v223 : BitVec 1 := Scalar.cmpi .slt c8_i32_96 c0_i32_100
  let v224 : BitVec 32 := Scalar.extui v223
  let v225 : BitVec 32 := Scalar.subi v222 v224
  let v226 : BitVec 1 := Scalar.cmpi .ne v220 v225
  let v227 : BitVec 32 := Scalar.remsi v214 c8_i32_96
  let c0_i32_101 : BitVec 32 := 0#32
  let v228 : BitVec 1 := Scalar.cmpi .ne v227 c0_i32_101
  let v229 : BitVec 1 := Scalar.andi v226 v228
  let v215 : BitVec 32 := Scalar.divsi v214 c8_i32_96
  let c1_i32_102 : BitVec 32 := 1#32
  let v230 : BitVec 32 := Scalar.subi v215 c1_i32_102
  let v231 : BitVec 32 := Scalar.select v229 v230 v215
  let c8_i32_103 : BitVec 32 := 8#32
  let v232 : BitVec 32 := Scalar.muli v231 c8_i32_103
  let c49872_i32_104 : BitVec 32 := 49872#32
  let v233 : BitVec 32 := Scalar.minsi v232 c49872_i32_104
  v233
def k0_cond7 (v27 : BitVec 32) (v32 : BitVec 32) (k0_t13 : Fin (k0_t13_loop v27 v32).trips) : BitVec 1 :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c2_i32_70 : BitVec 32 := 2#32
  let v165 : BitVec 32 := Scalar.addi v114 c2_i32_70
  let v166 : BitVec 1 := Scalar.cmpi .slt v165 v35
  let v167 : BitVec 32 := Scalar.extui v166
  let c0_i32_71 : BitVec 32 := 0#32
  let v168 : BitVec 1 := Scalar.cmpi .ne v167 c0_i32_71
  v168

def k0_off200 (v27 : BitVec 32) (v32 : BitVec 32) (k0_t13 : Fin (k0_t13_loop v27 v32).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c2_i32_94 : BitVec 32 := 2#32
  let v212 : BitVec 32 := Scalar.addi v114 c2_i32_94
  let c120_i32_95 : BitVec 32 := 120#32
  let v213 : BitVec 32 := Scalar.muli v212 c120_i32_95
  let v214 : BitVec 32 := Scalar.addi v27 v213
  let c0_i32_97 : BitVec 32 := 0#32
  let v216 : BitVec 1 := Scalar.cmpi .sgt v214 c0_i32_97
  let v217 : BitVec 32 := Scalar.extui v216
  let c0_i32_98 : BitVec 32 := 0#32
  let v218 : BitVec 1 := Scalar.cmpi .slt v214 c0_i32_98
  let v219 : BitVec 32 := Scalar.extui v218
  let v220 : BitVec 32 := Scalar.subi v217 v219
  let c8_i32_96 : BitVec 32 := 8#32
  let c0_i32_99 : BitVec 32 := 0#32
  let v221 : BitVec 1 := Scalar.cmpi .sgt c8_i32_96 c0_i32_99
  let v222 : BitVec 32 := Scalar.extui v221
  let c0_i32_100 : BitVec 32 := 0#32
  let v223 : BitVec 1 := Scalar.cmpi .slt c8_i32_96 c0_i32_100
  let v224 : BitVec 32 := Scalar.extui v223
  let v225 : BitVec 32 := Scalar.subi v222 v224
  let v226 : BitVec 1 := Scalar.cmpi .ne v220 v225
  let v227 : BitVec 32 := Scalar.remsi v214 c8_i32_96
  let c0_i32_101 : BitVec 32 := 0#32
  let v228 : BitVec 1 := Scalar.cmpi .ne v227 c0_i32_101
  let v229 : BitVec 1 := Scalar.andi v226 v228
  let v215 : BitVec 32 := Scalar.divsi v214 c8_i32_96
  let c1_i32_102 : BitVec 32 := 1#32
  let v230 : BitVec 32 := Scalar.subi v215 c1_i32_102
  let v231 : BitVec 32 := Scalar.select v229 v230 v215
  let c8_i32_103 : BitVec 32 := 8#32
  let v232 : BitVec 32 := Scalar.muli v231 c8_i32_103
  let c49872_i32_104 : BitVec 32 := 49872#32
  let v233 : BitVec 32 := Scalar.minsi v232 c49872_i32_104
  let v234 : BitVec 32 := v233
  let c0_i32_105 : BitVec 32 := 0#32
  ![v234.toNat, 0]
def k0_mult10 (v27 : BitVec 32) (v32 : BitVec 32) (k0_t13 : Fin (k0_t13_loop v27 v32).trips) : BitVec 32 :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  v190
@[reducible] def k0_t18_loop (v27 : BitVec 32) (v32 : BitVec 32) (k0_t13 : Fin (k0_t13_loop v27 v32).trips) : Scf.Loop 32 :=
  let c0_i32_86 : BitVec 32 := 0#32
  let c120_i32_83 : BitVec 32 := 120#32
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_88 : BitVec 32 := 1#32
  ⟨c0_i32_86, v201, c1_i32_88⟩
def k0_off201 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v215 : Index := Scalar.indexCast v214
  let c0_96 : Index := 0#32
  ![v215.toNat, 0]
def k0_off202 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v219 : Index := Scalar.indexCast v214
  let c16_97 : Index := 16#32
  ![v219.toNat, 16]
def k0_off203 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v223 : Index := Scalar.indexCast v214
  let c32_98 : Index := 32#32
  ![v223.toNat, 32]
def k0_off204 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v227 : Index := Scalar.indexCast v214
  let c48_99 : Index := 48#32
  ![v227.toNat, 48]
def k0_off205 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v231 : Index := Scalar.indexCast v214
  let c64_100 : Index := 64#32
  ![v231.toNat, 64]
def k0_off206 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v235 : Index := Scalar.indexCast v214
  let c80_101 : Index := 80#32
  ![v235.toNat, 80]
def k0_off207 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v239 : Index := Scalar.indexCast v214
  let c96_102 : Index := 96#32
  ![v239.toNat, 96]
def k0_off208 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v243 : Index := Scalar.indexCast v214
  let c112_103 : Index := 112#32
  ![v243.toNat, 112]
def k0_off209 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v247 : Index := Scalar.indexCast v214
  let c128_104 : Index := 128#32
  ![v247.toNat, 128]
def k0_off210 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v251 : Index := Scalar.indexCast v214
  let c144_105 : Index := 144#32
  ![v251.toNat, 144]
def k0_off211 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v255 : Index := Scalar.indexCast v214
  let c160_106 : Index := 160#32
  ![v255.toNat, 160]
def k0_off212 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v259 : Index := Scalar.indexCast v214
  let c176_107 : Index := 176#32
  ![v259.toNat, 176]
def k0_off213 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v263 : Index := Scalar.indexCast v214
  let c192_108 : Index := 192#32
  ![v263.toNat, 192]
def k0_off214 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v267 : Index := Scalar.indexCast v214
  let c208_109 : Index := 208#32
  ![v267.toNat, 208]
def k0_off215 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v271 : Index := Scalar.indexCast v214
  let c224_110 : Index := 224#32
  ![v271.toNat, 224]
def k0_off216 (v27 : BitVec 32) (v32 : BitVec 32) (k0_t13 : Fin (k0_t13_loop v27 v32).trips) (k0_t18 : Fin (k0_t18_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c1_i32_88 : BitVec 32 := 1#32
  let arg50 : BitVec 32 := Scf.iv c0_i32_86 c1_i32_88 k0_t18
  let v212 : BitVec 32 := Scalar.muli c4_i32_94 arg50
  let v213 : BitVec 32 := Scalar.addi v192 v212
  let v214 : BitVec 32 := Scalar.addi v213 c0_i32_95
  let v275 : Index := Scalar.indexCast v214
  let c240_111 : Index := 240#32
  ![v275.toNat, 240]
@[reducible] def k0_t19_loop (v27 : BitVec 32) (v32 : BitVec 32) (k0_t13 : Fin (k0_t13_loop v27 v32).trips) : Scf.Loop 32 :=
  let c0_i32_86 : BitVec 32 := 0#32
  let c120_i32_83 : BitVec 32 := 120#32
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let v198 : BitVec 32 := Scalar.addi c0_i32_86 v197
  let c1_i32_89 : BitVec 32 := 1#32
  ⟨v201, v198, c1_i32_89⟩
def k0_off217 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v215 : Index := Scalar.indexCast v214
  let c0_96 : Index := 0#32
  ![v215.toNat, 0]
def k0_off218 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v219 : Index := Scalar.indexCast v214
  let c16_97 : Index := 16#32
  ![v219.toNat, 16]
def k0_off219 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v223 : Index := Scalar.indexCast v214
  let c32_98 : Index := 32#32
  ![v223.toNat, 32]
def k0_off220 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v227 : Index := Scalar.indexCast v214
  let c48_99 : Index := 48#32
  ![v227.toNat, 48]
def k0_off221 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v231 : Index := Scalar.indexCast v214
  let c64_100 : Index := 64#32
  ![v231.toNat, 64]
def k0_off222 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v235 : Index := Scalar.indexCast v214
  let c80_101 : Index := 80#32
  ![v235.toNat, 80]
def k0_off223 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v239 : Index := Scalar.indexCast v214
  let c96_102 : Index := 96#32
  ![v239.toNat, 96]
def k0_off224 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v243 : Index := Scalar.indexCast v214
  let c112_103 : Index := 112#32
  ![v243.toNat, 112]
def k0_off225 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v247 : Index := Scalar.indexCast v214
  let c128_104 : Index := 128#32
  ![v247.toNat, 128]
def k0_off226 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v251 : Index := Scalar.indexCast v214
  let c144_105 : Index := 144#32
  ![v251.toNat, 144]
def k0_off227 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v255 : Index := Scalar.indexCast v214
  let c160_106 : Index := 160#32
  ![v255.toNat, 160]
def k0_off228 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v259 : Index := Scalar.indexCast v214
  let c176_107 : Index := 176#32
  ![v259.toNat, 176]
def k0_off229 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v263 : Index := Scalar.indexCast v214
  let c192_108 : Index := 192#32
  ![v263.toNat, 192]
def k0_off230 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v267 : Index := Scalar.indexCast v214
  let c208_109 : Index := 208#32
  ![v267.toNat, 208]
def k0_off231 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v271 : Index := Scalar.indexCast v214
  let c224_110 : Index := 224#32
  ![v271.toNat, 224]
def k0_off232 (v27 : BitVec 32) (v32 : BitVec 32) (k0_t13 : Fin (k0_t13_loop v27 v32).trips) (k0_t19 : Fin (k0_t19_loop v27 v32 k0_t13).trips) (c0_i32_95 : BitVec 32) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_94 : BitVec 32 := 4#32
  let c0_i32_86 : BitVec 32 := 0#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v197 : BitVec 32 := Scalar.subi v196 c0_i32_86
  let c1_i32_87 : BitVec 32 := 1#32
  let v199 : BitVec 32 := Scalar.divsi v197 c1_i32_87
  let v200 : BitVec 32 := Scalar.muli v199 c1_i32_87
  let v201 : BitVec 32 := Scalar.addi c0_i32_86 v200
  let c1_i32_89 : BitVec 32 := 1#32
  let arg50 : BitVec 32 := Scf.iv v201 c1_i32_89 k0_t19
  let v212 : BitVec 32 := Scalar.muli c4_i32_94 arg50
  let v213 : BitVec 32 := Scalar.addi v192 v212
  let v214 : BitVec 32 := Scalar.addi v213 c0_i32_95
  let v275 : Index := Scalar.indexCast v214
  let c240_111 : Index := 240#32
  ![v275.toNat, 240]
@[reducible] def k0_t20_loop (v27 : BitVec 32) (v32 : BitVec 32) (k0_t13 : Fin (k0_t13_loop v27 v32).trips) : Scf.Loop 32 :=
  let c4_i32_90 : BitVec 32 := 4#32
  let c120_i32_83 : BitVec 32 := 120#32
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_92 : BitVec 32 := 1#32
  ⟨v204, v209, c1_i32_92⟩
def k0_off233 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v213 : Index := Scalar.indexCast v212
  let c0_94 : Index := 0#32
  ![v213.toNat, 0]
def k0_off234 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v217 : Index := Scalar.indexCast v212
  let c16_95 : Index := 16#32
  ![v217.toNat, 16]
def k0_off235 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v221 : Index := Scalar.indexCast v212
  let c32_96 : Index := 32#32
  ![v221.toNat, 32]
def k0_off236 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v225 : Index := Scalar.indexCast v212
  let c48_97 : Index := 48#32
  ![v225.toNat, 48]
def k0_off237 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v229 : Index := Scalar.indexCast v212
  let c64_98 : Index := 64#32
  ![v229.toNat, 64]
def k0_off238 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v233 : Index := Scalar.indexCast v212
  let c80_99 : Index := 80#32
  ![v233.toNat, 80]
def k0_off239 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v237 : Index := Scalar.indexCast v212
  let c96_100 : Index := 96#32
  ![v237.toNat, 96]
def k0_off240 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v241 : Index := Scalar.indexCast v212
  let c112_101 : Index := 112#32
  ![v241.toNat, 112]
def k0_off241 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v245 : Index := Scalar.indexCast v212
  let c128_102 : Index := 128#32
  ![v245.toNat, 128]
def k0_off242 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v249 : Index := Scalar.indexCast v212
  let c144_103 : Index := 144#32
  ![v249.toNat, 144]
def k0_off243 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v253 : Index := Scalar.indexCast v212
  let c160_104 : Index := 160#32
  ![v253.toNat, 160]
def k0_off244 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v257 : Index := Scalar.indexCast v212
  let c176_105 : Index := 176#32
  ![v257.toNat, 176]
def k0_off245 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v261 : Index := Scalar.indexCast v212
  let c192_106 : Index := 192#32
  ![v261.toNat, 192]
def k0_off246 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v265 : Index := Scalar.indexCast v212
  let c208_107 : Index := 208#32
  ![v265.toNat, 208]
def k0_off247 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v269 : Index := Scalar.indexCast v212
  let c224_108 : Index := 224#32
  ![v269.toNat, 224]
def k0_off248 (v27 : BitVec 32) (v32 : BitVec 32) (k0_t13 : Fin (k0_t13_loop v27 v32).trips) (k0_t20 : Fin (k0_t20_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let c1_i32_92 : BitVec 32 := 1#32
  let arg50 : BitVec 32 := Scf.iv v204 c1_i32_92 k0_t20
  let v212 : BitVec 32 := Scalar.addi v192 arg50
  let v273 : Index := Scalar.indexCast v212
  let c240_109 : Index := 240#32
  ![v273.toNat, 240]
@[reducible] def k0_t21_loop (v27 : BitVec 32) (v32 : BitVec 32) (k0_t13 : Fin (k0_t13_loop v27 v32).trips) : Scf.Loop 32 :=
  let c4_i32_90 : BitVec 32 := 4#32
  let c120_i32_83 : BitVec 32 := 120#32
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let v206 : BitVec 32 := Scalar.addi v204 v205
  let c1_i32_93 : BitVec 32 := 1#32
  ⟨v209, v206, c1_i32_93⟩
def k0_off249 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v213 : Index := Scalar.indexCast v212
  let c0_94 : Index := 0#32
  ![v213.toNat, 0]
def k0_off250 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v217 : Index := Scalar.indexCast v212
  let c16_95 : Index := 16#32
  ![v217.toNat, 16]
def k0_off251 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v221 : Index := Scalar.indexCast v212
  let c32_96 : Index := 32#32
  ![v221.toNat, 32]
def k0_off252 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v225 : Index := Scalar.indexCast v212
  let c48_97 : Index := 48#32
  ![v225.toNat, 48]
def k0_off253 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v229 : Index := Scalar.indexCast v212
  let c64_98 : Index := 64#32
  ![v229.toNat, 64]
def k0_off254 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v233 : Index := Scalar.indexCast v212
  let c80_99 : Index := 80#32
  ![v233.toNat, 80]
def k0_off255 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v237 : Index := Scalar.indexCast v212
  let c96_100 : Index := 96#32
  ![v237.toNat, 96]
def k0_off256 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v241 : Index := Scalar.indexCast v212
  let c112_101 : Index := 112#32
  ![v241.toNat, 112]
def k0_off257 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v245 : Index := Scalar.indexCast v212
  let c128_102 : Index := 128#32
  ![v245.toNat, 128]
def k0_off258 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v249 : Index := Scalar.indexCast v212
  let c144_103 : Index := 144#32
  ![v249.toNat, 144]
def k0_off259 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v253 : Index := Scalar.indexCast v212
  let c160_104 : Index := 160#32
  ![v253.toNat, 160]
def k0_off260 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v257 : Index := Scalar.indexCast v212
  let c176_105 : Index := 176#32
  ![v257.toNat, 176]
def k0_off261 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v261 : Index := Scalar.indexCast v212
  let c192_106 : Index := 192#32
  ![v261.toNat, 192]
def k0_off262 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v265 : Index := Scalar.indexCast v212
  let c208_107 : Index := 208#32
  ![v265.toNat, 208]
def k0_off263 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v269 : Index := Scalar.indexCast v212
  let c224_108 : Index := 224#32
  ![v269.toNat, 224]
def k0_off264 (v27 : BitVec 32) (v32 : BitVec 32) (k0_t13 : Fin (k0_t13_loop v27 v32).trips) (k0_t21 : Fin (k0_t21_loop v27 v32 k0_t13).trips) : Fin 2 → Nat :=
  let c2_i32_44 : BitVec 32 := 2#32
  let c0_i32_22 : BitVec 32 := 0#32
  let v33 : BitVec 32 := Scalar.subi v32 v27
  let c119_i32 : BitVec 32 := 119#32
  let v34 : BitVec 32 := Scalar.addi v33 c119_i32
  let c120_i32 : BitVec 32 := 120#32
  let v35 : BitVec 32 := Scalar.divsi v34 c120_i32
  let c1_i32_20 : BitVec 32 := 1#32
  let v41 : BitVec 32 := Scalar.addi v35 c1_i32_20
  let c2_i32_21 : BitVec 32 := 2#32
  let v42 : BitVec 32 := Scalar.divsi v41 c2_i32_21
  let v43 : BitVec 32 := Scalar.subi v42 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg17 : BitVec 32 := Scf.iv v47 c1_i32_25 k0_t13
  let v114 : BitVec 32 := Scalar.muli c2_i32_44 arg17
  let c1_i32_72 : BitVec 32 := 1#32
  let v169 : BitVec 32 := Scalar.addi v114 c1_i32_72
  let c120_i32_73 : BitVec 32 := 120#32
  let v170 : BitVec 32 := Scalar.muli v169 c120_i32_73
  let v171 : BitVec 32 := Scalar.addi v27 v170
  let c0_i32_75 : BitVec 32 := 0#32
  let v173 : BitVec 1 := Scalar.cmpi .sgt v171 c0_i32_75
  let v174 : BitVec 32 := Scalar.extui v173
  let c0_i32_76 : BitVec 32 := 0#32
  let v175 : BitVec 1 := Scalar.cmpi .slt v171 c0_i32_76
  let v176 : BitVec 32 := Scalar.extui v175
  let v177 : BitVec 32 := Scalar.subi v174 v176
  let c8_i32_74 : BitVec 32 := 8#32
  let c0_i32_77 : BitVec 32 := 0#32
  let v178 : BitVec 1 := Scalar.cmpi .sgt c8_i32_74 c0_i32_77
  let v179 : BitVec 32 := Scalar.extui v178
  let c0_i32_78 : BitVec 32 := 0#32
  let v180 : BitVec 1 := Scalar.cmpi .slt c8_i32_74 c0_i32_78
  let v181 : BitVec 32 := Scalar.extui v180
  let v182 : BitVec 32 := Scalar.subi v179 v181
  let v183 : BitVec 1 := Scalar.cmpi .ne v177 v182
  let v184 : BitVec 32 := Scalar.remsi v171 c8_i32_74
  let c0_i32_79 : BitVec 32 := 0#32
  let v185 : BitVec 1 := Scalar.cmpi .ne v184 c0_i32_79
  let v186 : BitVec 1 := Scalar.andi v183 v185
  let v172 : BitVec 32 := Scalar.divsi v171 c8_i32_74
  let c1_i32_80 : BitVec 32 := 1#32
  let v187 : BitVec 32 := Scalar.subi v172 c1_i32_80
  let v188 : BitVec 32 := Scalar.select v186 v187 v172
  let c8_i32_81 : BitVec 32 := 8#32
  let v189 : BitVec 32 := Scalar.muli v188 c8_i32_81
  let c49872_i32_82 : BitVec 32 := 49872#32
  let v190 : BitVec 32 := Scalar.minsi v189 c49872_i32_82
  let v191 : BitVec 32 := v190
  let v192 : BitVec 32 := Scalar.subi v171 v191
  let c4_i32_90 : BitVec 32 := 4#32
  let c120_i32_83 : BitVec 32 := 120#32
  let v193 : BitVec 32 := Scalar.subi v32 v171
  let v194 : BitVec 32 := Scalar.minsi c120_i32_83 v193
  let c0_i32_84 : BitVec 32 := 0#32
  let v195 : BitVec 32 := Scalar.maxsi v194 c0_i32_84
  let c2_i32_85 : BitVec 32 := 2#32
  let v196 : BitVec 32 := Scalar.shrsi v195 c2_i32_85
  let v204 : BitVec 32 := Scalar.muli c4_i32_90 v196
  let v205 : BitVec 32 := Scalar.subi v195 v204
  let c1_i32_91 : BitVec 32 := 1#32
  let v207 : BitVec 32 := Scalar.divsi v205 c1_i32_91
  let v208 : BitVec 32 := Scalar.muli v207 c1_i32_91
  let v209 : BitVec 32 := Scalar.addi v204 v208
  let c1_i32_93 : BitVec 32 := 1#32
  let arg50 : BitVec 32 := Scf.iv v209 c1_i32_93 k0_t21
  let v212 : BitVec 32 := Scalar.addi v192 arg50
  let v273 : Index := Scalar.indexCast v212
  let c240_109 : Index := 240#32
  ![v273.toNat, 240]

def k0_chk3_0 (v27 : BitVec 32) (v32 : BitVec 32) : Prop :=
  (∀ (k0_h1 : k0_cond1 v27 v32 = 1#1), 8 ∣ (k0_mult2 v27).toNat) ∧
  (∀ (k0_h1 : k0_cond1 v27 v32 = 1#1), ∀ a, (k0_off4 v27) a + S128x256.size a ≤ S50000x256.size a) ∧
  ((k0_t4_loop v27 v32).OK) ∧
  (∀ k0_t4 : Fin (k0_t4_loop v27 v32).trips, ∀ (k0_h2 : k0_cond2 v27 v32 k0_t4 = 1#1), 8 ∣ (k0_mult3 v27 v32 k0_t4).toNat) ∧
  (∀ k0_t4 : Fin (k0_t4_loop v27 v32).trips, ∀ (k0_h2 : k0_cond2 v27 v32 k0_t4 = 1#1), ∀ a, (k0_off5 v27 v32 k0_t4) a + S128x256.size a ≤ S50000x256.size a) ∧
  (∀ k0_t4 : Fin (k0_t4_loop v27 v32).trips, 8 ∣ (k0_mult4 v27 v32 k0_t4).toNat) ∧
  (∀ k0_t4 : Fin (k0_t4_loop v27 v32).trips, (k0_t5_loop v27 v32 k0_t4).OK) ∧
  (∀ (k0_t4 : Fin (k0_t4_loop v27 v32).trips) (k0_t5 : Fin (k0_t5_loop v27 v32 k0_t4).trips), ∀ (r : Fin 4), ∀ a, (k0_off6 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off7 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off8 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off9 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off10 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off11 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off12 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off13 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off14 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off15 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off16 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off17 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off18 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off19 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off20 v27 v32 k0_t4 k0_t5 (BitVec.ofNat 32 r.val)) a + S1x16.size a ≤ S128x256.size a) ∧
  (∀ (k0_t4 : Fin (k0_t4_loop v27 v32).trips) (k0_t5 : Fin (k0_t5_loop v27 v32 k0_t4).trips), ∀ (r : Fin 4), ∀ a, (k0_off21 v27 v32 k0_t4 k0_t5 (BitVec.ofNat 32 r.val)) a + S1x16.size a ≤ S128x256.size a) ∧
  (∀ k0_t4 : Fin (k0_t4_loop v27 v32).trips, (k0_t6_loop v27 v32 k0_t4).OK) ∧
  (∀ (k0_t4 : Fin (k0_t4_loop v27 v32).trips) (k0_t6 : Fin (k0_t6_loop v27 v32 k0_t4).trips), ∀ (r : Fin 4), ∀ a, (k0_off22 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off23 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off24 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off25 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off26 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off27 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off28 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off29 v27 v32 k0_t4 k0_t6 (BitVec.ofNat 32 r.val)) a + S1x16.size a ≤ S128x256.size a)
def k0_chk3_1 (v27 : BitVec 32) (v32 : BitVec 32) : Prop :=
  (∀ (k0_t4 : Fin (k0_t4_loop v27 v32).trips) (k0_t6 : Fin (k0_t6_loop v27 v32 k0_t4).trips), ∀ (r : Fin 4), ∀ a, (k0_off30 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off31 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off32 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off33 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off34 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off35 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off36 v27 v32 k0_t4 k0_t6 (BitVec.ofNat 32 r.val)) a + S1x16.size a ≤ S128x256.size a) ∧
  (∀ (k0_t4 : Fin (k0_t4_loop v27 v32).trips) (k0_t6 : Fin (k0_t6_loop v27 v32 k0_t4).trips), ∀ (r : Fin 4), ∀ a, (k0_off37 v27 v32 k0_t4 k0_t6 (BitVec.ofNat 32 r.val)) a + S1x16.size a ≤ S128x256.size a) ∧
  (∀ k0_t4 : Fin (k0_t4_loop v27 v32).trips, (k0_t7_loop v27 v32 k0_t4).OK) ∧
  (∀ (k0_t4 : Fin (k0_t4_loop v27 v32).trips) (k0_t7 : Fin (k0_t7_loop v27 v32 k0_t4).trips), ∀ a, (k0_off38 v27 v32 k0_t4 k0_t7) a + S1x16.size a ≤ S128x256.size a) ∧
  (∀ (k0_t4 : Fin (k0_t4_loop v27 v32).trips) (k0_t7 : Fin (k0_t7_loop v27 v32 k0_t4).trips), ∀ a, (k0_off39 v27 v32 k0_t4 k0_t7) a + S1x16.size a ≤ S128x256.size a) ∧
  (∀ (k0_t4 : Fin (k0_t4_loop v27 v32).trips) (k0_t7 : Fin (k0_t7_loop v27 v32 k0_t4).trips), ∀ a, (k0_off40 v27 v32 k0_t4 k0_t7) a + S1x16.size a ≤ S128x256.size a) ∧
  (∀ (k0_t4 : Fin (k0_t4_loop v27 v32).trips) (k0_t7 : Fin (k0_t7_loop v27 v32 k0_t4).trips), ∀ a, (k0_off41 v27 v32 k0_t4 k0_t7) a + S1x16.size a ≤ S128x256.size a) ∧
  (∀ (k0_t4 : Fin (k0_t4_loop v27 v32).trips) (k0_t7 : Fin (k0_t7_loop v27 v32 k0_t4).trips), ∀ a, (k0_off42 v27 v32 k0_t4 k0_t7) a + S1x16.size a ≤ S128x256.size a) ∧
  (∀ (k0_t4 : Fin (k0_t4_loop v27 v32).trips) (k0_t7 : Fin (k0_t7_loop v27 v32 k0_t4).trips), ∀ a, (k0_off43 v27 v32 k0_t4 k0_t7) a + S1x16.size a ≤ S128x256.size a) ∧
  (∀ (k0_t4 : Fin (k0_t4_loop v27 v32).trips) (k0_t7 : Fin (k0_t7_loop v27 v32 k0_t4).trips), ∀ a, (k0_off44 v27 v32 k0_t4 k0_t7) a + S1x16.size a ≤ S128x256.size a) ∧
  (∀ (k0_t4 : Fin (k0_t4_loop v27 v32).trips) (k0_t7 : Fin (k0_t7_loop v27 v32 k0_t4).trips), ∀ a, (k0_off45 v27 v32 k0_t4 k0_t7) a + S1x16.size a ≤ S128x256.size a) ∧
  (∀ (k0_t4 : Fin (k0_t4_loop v27 v32).trips) (k0_t7 : Fin (k0_t7_loop v27 v32 k0_t4).trips), ∀ a, (k0_off46 v27 v32 k0_t4 k0_t7) a + S1x16.size a ≤ S128x256.size a) ∧
  (∀ (k0_t4 : Fin (k0_t4_loop v27 v32).trips) (k0_t7 : Fin (k0_t7_loop v27 v32 k0_t4).trips), ∀ a, (k0_off47 v27 v32 k0_t4 k0_t7) a + S1x16.size a ≤ S128x256.size a) ∧
  (∀ (k0_t4 : Fin (k0_t4_loop v27 v32).trips) (k0_t7 : Fin (k0_t7_loop v27 v32 k0_t4).trips), ∀ a, (k0_off48 v27 v32 k0_t4 k0_t7) a + S1x16.size a ≤ S128x256.size a) ∧
  (∀ (k0_t4 : Fin (k0_t4_loop v27 v32).trips) (k0_t7 : Fin (k0_t7_loop v27 v32 k0_t4).trips), ∀ a, (k0_off49 v27 v32 k0_t4 k0_t7) a + S1x16.size a ≤ S128x256.size a) ∧
  (∀ (k0_t4 : Fin (k0_t4_loop v27 v32).trips) (k0_t7 : Fin (k0_t7_loop v27 v32 k0_t4).trips), ∀ a, (k0_off50 v27 v32 k0_t4 k0_t7) a + S1x16.size a ≤ S128x256.size a) ∧
  (∀ (k0_t4 : Fin (k0_t4_loop v27 v32).trips) (k0_t7 : Fin (k0_t7_loop v27 v32 k0_t4).trips), ∀ a, (k0_off51 v27 v32 k0_t4 k0_t7) a + S1x16.size a ≤ S128x256.size a) ∧
  (∀ (k0_t4 : Fin (k0_t4_loop v27 v32).trips) (k0_t7 : Fin (k0_t7_loop v27 v32 k0_t4).trips), ∀ a, (k0_off52 v27 v32 k0_t4 k0_t7) a + S1x16.size a ≤ S128x256.size a) ∧
  (∀ (k0_t4 : Fin (k0_t4_loop v27 v32).trips) (k0_t7 : Fin (k0_t7_loop v27 v32 k0_t4).trips), ∀ a, (k0_off53 v27 v32 k0_t4 k0_t7) a + S1x16.size a ≤ S128x256.size a) ∧
  (∀ k0_t4 : Fin (k0_t4_loop v27 v32).trips, (k0_t8_loop v27 v32 k0_t4).OK) ∧
  (∀ (k0_t4 : Fin (k0_t4_loop v27 v32).trips) (k0_t8 : Fin (k0_t8_loop v27 v32 k0_t4).trips), ∀ a, (k0_off54 v27 v32 k0_t4 k0_t8) a + S1x16.size a ≤ S128x256.size a) ∧
  (∀ (k0_t4 : Fin (k0_t4_loop v27 v32).trips) (k0_t8 : Fin (k0_t8_loop v27 v32 k0_t4).trips), ∀ a, (k0_off55 v27 v32 k0_t4 k0_t8) a + S1x16.size a ≤ S128x256.size a) ∧
  (∀ (k0_t4 : Fin (k0_t4_loop v27 v32).trips) (k0_t8 : Fin (k0_t8_loop v27 v32 k0_t4).trips), ∀ a, (k0_off56 v27 v32 k0_t4 k0_t8) a + S1x16.size a ≤ S128x256.size a) ∧
  (∀ (k0_t4 : Fin (k0_t4_loop v27 v32).trips) (k0_t8 : Fin (k0_t8_loop v27 v32 k0_t4).trips), ∀ a, (k0_off57 v27 v32 k0_t4 k0_t8) a + S1x16.size a ≤ S128x256.size a) ∧
  (∀ (k0_t4 : Fin (k0_t4_loop v27 v32).trips) (k0_t8 : Fin (k0_t8_loop v27 v32 k0_t4).trips), ∀ a, (k0_off58 v27 v32 k0_t4 k0_t8) a + S1x16.size a ≤ S128x256.size a) ∧
  (∀ (k0_t4 : Fin (k0_t4_loop v27 v32).trips) (k0_t8 : Fin (k0_t8_loop v27 v32 k0_t4).trips), ∀ a, (k0_off59 v27 v32 k0_t4 k0_t8) a + S1x16.size a ≤ S128x256.size a)
def k0_chk3_2 (v27 : BitVec 32) (v32 : BitVec 32) : Prop :=
  (∀ (k0_t4 : Fin (k0_t4_loop v27 v32).trips) (k0_t8 : Fin (k0_t8_loop v27 v32 k0_t4).trips), ∀ a, (k0_off60 v27 v32 k0_t4 k0_t8) a + S1x16.size a ≤ S128x256.size a) ∧
  (∀ (k0_t4 : Fin (k0_t4_loop v27 v32).trips) (k0_t8 : Fin (k0_t8_loop v27 v32 k0_t4).trips), ∀ a, (k0_off61 v27 v32 k0_t4 k0_t8) a + S1x16.size a ≤ S128x256.size a) ∧
  (∀ (k0_t4 : Fin (k0_t4_loop v27 v32).trips) (k0_t8 : Fin (k0_t8_loop v27 v32 k0_t4).trips), ∀ a, (k0_off62 v27 v32 k0_t4 k0_t8) a + S1x16.size a ≤ S128x256.size a) ∧
  (∀ (k0_t4 : Fin (k0_t4_loop v27 v32).trips) (k0_t8 : Fin (k0_t8_loop v27 v32 k0_t4).trips), ∀ a, (k0_off63 v27 v32 k0_t4 k0_t8) a + S1x16.size a ≤ S128x256.size a) ∧
  (∀ (k0_t4 : Fin (k0_t4_loop v27 v32).trips) (k0_t8 : Fin (k0_t8_loop v27 v32 k0_t4).trips), ∀ a, (k0_off64 v27 v32 k0_t4 k0_t8) a + S1x16.size a ≤ S128x256.size a) ∧
  (∀ (k0_t4 : Fin (k0_t4_loop v27 v32).trips) (k0_t8 : Fin (k0_t8_loop v27 v32 k0_t4).trips), ∀ a, (k0_off65 v27 v32 k0_t4 k0_t8) a + S1x16.size a ≤ S128x256.size a) ∧
  (∀ (k0_t4 : Fin (k0_t4_loop v27 v32).trips) (k0_t8 : Fin (k0_t8_loop v27 v32 k0_t4).trips), ∀ a, (k0_off66 v27 v32 k0_t4 k0_t8) a + S1x16.size a ≤ S128x256.size a) ∧
  (∀ (k0_t4 : Fin (k0_t4_loop v27 v32).trips) (k0_t8 : Fin (k0_t8_loop v27 v32 k0_t4).trips), ∀ a, (k0_off67 v27 v32 k0_t4 k0_t8) a + S1x16.size a ≤ S128x256.size a) ∧
  (∀ (k0_t4 : Fin (k0_t4_loop v27 v32).trips) (k0_t8 : Fin (k0_t8_loop v27 v32 k0_t4).trips), ∀ a, (k0_off68 v27 v32 k0_t4 k0_t8) a + S1x16.size a ≤ S128x256.size a) ∧
  (∀ (k0_t4 : Fin (k0_t4_loop v27 v32).trips) (k0_t8 : Fin (k0_t8_loop v27 v32 k0_t4).trips), ∀ a, (k0_off69 v27 v32 k0_t4 k0_t8) a + S1x16.size a ≤ S128x256.size a) ∧
  (∀ k0_t4 : Fin (k0_t4_loop v27 v32).trips, ∀ (k0_h4 : k0_cond4 v27 v32 k0_t4 = 1#1), 8 ∣ (k0_mult5 v27 v32 k0_t4).toNat) ∧
  (∀ k0_t4 : Fin (k0_t4_loop v27 v32).trips, ∀ (k0_h4 : k0_cond4 v27 v32 k0_t4 = 1#1), ∀ a, (k0_off70 v27 v32 k0_t4) a + S128x256.size a ≤ S50000x256.size a) ∧
  (∀ k0_t4 : Fin (k0_t4_loop v27 v32).trips, 8 ∣ (k0_mult6 v27 v32 k0_t4).toNat) ∧
  (∀ k0_t4 : Fin (k0_t4_loop v27 v32).trips, (k0_t9_loop v27 v32 k0_t4).OK) ∧
  (∀ (k0_t4 : Fin (k0_t4_loop v27 v32).trips) (k0_t9 : Fin (k0_t9_loop v27 v32 k0_t4).trips), ∀ (r : Fin 4), ∀ a, (k0_off71 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off72 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off73 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off74 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off75 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off76 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off77 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off78 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off79 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off80 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off81 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off82 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off83 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off84 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off85 v27 v32 k0_t4 k0_t9 (BitVec.ofNat 32 r.val)) a + S1x16.size a ≤ S128x256.size a) ∧
  (∀ (k0_t4 : Fin (k0_t4_loop v27 v32).trips) (k0_t9 : Fin (k0_t9_loop v27 v32 k0_t4).trips), ∀ (r : Fin 4), ∀ a, (k0_off86 v27 v32 k0_t4 k0_t9 (BitVec.ofNat 32 r.val)) a + S1x16.size a ≤ S128x256.size a) ∧
  (∀ k0_t4 : Fin (k0_t4_loop v27 v32).trips, (k0_t10_loop v27 v32 k0_t4).OK) ∧
  (∀ (k0_t4 : Fin (k0_t4_loop v27 v32).trips) (k0_t10 : Fin (k0_t10_loop v27 v32 k0_t4).trips), ∀ (r : Fin 4), ∀ a, (k0_off87 v27 v32 k0_t4 k0_t10 (BitVec.ofNat 32 r.val)) a + S1x16.size a ≤ S128x256.size a)
def k0_chk3_3 (v27 : BitVec 32) (v32 : BitVec 32) : Prop :=
  (∀ (k0_t4 : Fin (k0_t4_loop v27 v32).trips) (k0_t10 : Fin (k0_t10_loop v27 v32 k0_t4).trips), ∀ (r : Fin 4), ∀ a, (k0_off88 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off89 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off90 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off91 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off92 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off93 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off94 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off95 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off96 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off97 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off98 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off99 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off100 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off101 v27 v32 k0_t4 k0_t10 (BitVec.ofNat 32 r.val)) a + S1x16.size a ≤ S128x256.size a) ∧
  (∀ (k0_t4 : Fin (k0_t4_loop v27 v32).trips) (k0_t10 : Fin (k0_t10_loop v27 v32 k0_t4).trips), ∀ (r : Fin 4), ∀ a, (k0_off102 v27 v32 k0_t4 k0_t10 (BitVec.ofNat 32 r.val)) a + S1x16.size a ≤ S128x256.size a) ∧
  (∀ k0_t4 : Fin (k0_t4_loop v27 v32).trips, (k0_t11_loop v27 v32 k0_t4).OK) ∧
  (∀ (k0_t4 : Fin (k0_t4_loop v27 v32).trips) (k0_t11 : Fin (k0_t11_loop v27 v32 k0_t4).trips), ∀ a, (k0_off103 v27 v32 k0_t4 k0_t11) a + S1x16.size a ≤ S128x256.size a) ∧
  (∀ (k0_t4 : Fin (k0_t4_loop v27 v32).trips) (k0_t11 : Fin (k0_t11_loop v27 v32 k0_t4).trips), ∀ a, (k0_off104 v27 v32 k0_t4 k0_t11) a + S1x16.size a ≤ S128x256.size a) ∧
  (∀ (k0_t4 : Fin (k0_t4_loop v27 v32).trips) (k0_t11 : Fin (k0_t11_loop v27 v32 k0_t4).trips), ∀ a, (k0_off105 v27 v32 k0_t4 k0_t11) a + S1x16.size a ≤ S128x256.size a) ∧
  (∀ (k0_t4 : Fin (k0_t4_loop v27 v32).trips) (k0_t11 : Fin (k0_t11_loop v27 v32 k0_t4).trips), ∀ a, (k0_off106 v27 v32 k0_t4 k0_t11) a + S1x16.size a ≤ S128x256.size a) ∧
  (∀ (k0_t4 : Fin (k0_t4_loop v27 v32).trips) (k0_t11 : Fin (k0_t11_loop v27 v32 k0_t4).trips), ∀ a, (k0_off107 v27 v32 k0_t4 k0_t11) a + S1x16.size a ≤ S128x256.size a) ∧
  (∀ (k0_t4 : Fin (k0_t4_loop v27 v32).trips) (k0_t11 : Fin (k0_t11_loop v27 v32 k0_t4).trips), ∀ a, (k0_off108 v27 v32 k0_t4 k0_t11) a + S1x16.size a ≤ S128x256.size a) ∧
  (∀ (k0_t4 : Fin (k0_t4_loop v27 v32).trips) (k0_t11 : Fin (k0_t11_loop v27 v32 k0_t4).trips), ∀ a, (k0_off109 v27 v32 k0_t4 k0_t11) a + S1x16.size a ≤ S128x256.size a) ∧
  (∀ (k0_t4 : Fin (k0_t4_loop v27 v32).trips) (k0_t11 : Fin (k0_t11_loop v27 v32 k0_t4).trips), ∀ a, (k0_off110 v27 v32 k0_t4 k0_t11) a + S1x16.size a ≤ S128x256.size a) ∧
  (∀ (k0_t4 : Fin (k0_t4_loop v27 v32).trips) (k0_t11 : Fin (k0_t11_loop v27 v32 k0_t4).trips), ∀ a, (k0_off111 v27 v32 k0_t4 k0_t11) a + S1x16.size a ≤ S128x256.size a) ∧
  (∀ (k0_t4 : Fin (k0_t4_loop v27 v32).trips) (k0_t11 : Fin (k0_t11_loop v27 v32 k0_t4).trips), ∀ a, (k0_off112 v27 v32 k0_t4 k0_t11) a + S1x16.size a ≤ S128x256.size a) ∧
  (∀ (k0_t4 : Fin (k0_t4_loop v27 v32).trips) (k0_t11 : Fin (k0_t11_loop v27 v32 k0_t4).trips), ∀ a, (k0_off113 v27 v32 k0_t4 k0_t11) a + S1x16.size a ≤ S128x256.size a) ∧
  (∀ (k0_t4 : Fin (k0_t4_loop v27 v32).trips) (k0_t11 : Fin (k0_t11_loop v27 v32 k0_t4).trips), ∀ a, (k0_off114 v27 v32 k0_t4 k0_t11) a + S1x16.size a ≤ S128x256.size a) ∧
  (∀ (k0_t4 : Fin (k0_t4_loop v27 v32).trips) (k0_t11 : Fin (k0_t11_loop v27 v32 k0_t4).trips), ∀ a, (k0_off115 v27 v32 k0_t4 k0_t11) a + S1x16.size a ≤ S128x256.size a) ∧
  (∀ (k0_t4 : Fin (k0_t4_loop v27 v32).trips) (k0_t11 : Fin (k0_t11_loop v27 v32 k0_t4).trips), ∀ a, (k0_off116 v27 v32 k0_t4 k0_t11) a + S1x16.size a ≤ S128x256.size a) ∧
  (∀ (k0_t4 : Fin (k0_t4_loop v27 v32).trips) (k0_t11 : Fin (k0_t11_loop v27 v32 k0_t4).trips), ∀ a, (k0_off117 v27 v32 k0_t4 k0_t11) a + S1x16.size a ≤ S128x256.size a) ∧
  (∀ (k0_t4 : Fin (k0_t4_loop v27 v32).trips) (k0_t11 : Fin (k0_t11_loop v27 v32 k0_t4).trips), ∀ a, (k0_off118 v27 v32 k0_t4 k0_t11) a + S1x16.size a ≤ S128x256.size a)
def k0_chk3_4 (v27 : BitVec 32) (v32 : BitVec 32) : Prop :=
  (∀ k0_t4 : Fin (k0_t4_loop v27 v32).trips, (k0_t12_loop v27 v32 k0_t4).OK) ∧
  (∀ (k0_t4 : Fin (k0_t4_loop v27 v32).trips) (k0_t12 : Fin (k0_t12_loop v27 v32 k0_t4).trips), ∀ a, (k0_off119 v27 v32 k0_t4 k0_t12) a + S1x16.size a ≤ S128x256.size a) ∧
  (∀ (k0_t4 : Fin (k0_t4_loop v27 v32).trips) (k0_t12 : Fin (k0_t12_loop v27 v32 k0_t4).trips), ∀ a, (k0_off120 v27 v32 k0_t4 k0_t12) a + S1x16.size a ≤ S128x256.size a) ∧
  (∀ (k0_t4 : Fin (k0_t4_loop v27 v32).trips) (k0_t12 : Fin (k0_t12_loop v27 v32 k0_t4).trips), ∀ a, (k0_off121 v27 v32 k0_t4 k0_t12) a + S1x16.size a ≤ S128x256.size a) ∧
  (∀ (k0_t4 : Fin (k0_t4_loop v27 v32).trips) (k0_t12 : Fin (k0_t12_loop v27 v32 k0_t4).trips), ∀ a, (k0_off122 v27 v32 k0_t4 k0_t12) a + S1x16.size a ≤ S128x256.size a) ∧
  (∀ (k0_t4 : Fin (k0_t4_loop v27 v32).trips) (k0_t12 : Fin (k0_t12_loop v27 v32 k0_t4).trips), ∀ a, (k0_off123 v27 v32 k0_t4 k0_t12) a + S1x16.size a ≤ S128x256.size a) ∧
  (∀ (k0_t4 : Fin (k0_t4_loop v27 v32).trips) (k0_t12 : Fin (k0_t12_loop v27 v32 k0_t4).trips), ∀ a, (k0_off124 v27 v32 k0_t4 k0_t12) a + S1x16.size a ≤ S128x256.size a) ∧
  (∀ (k0_t4 : Fin (k0_t4_loop v27 v32).trips) (k0_t12 : Fin (k0_t12_loop v27 v32 k0_t4).trips), ∀ a, (k0_off125 v27 v32 k0_t4 k0_t12) a + S1x16.size a ≤ S128x256.size a) ∧
  (∀ (k0_t4 : Fin (k0_t4_loop v27 v32).trips) (k0_t12 : Fin (k0_t12_loop v27 v32 k0_t4).trips), ∀ a, (k0_off126 v27 v32 k0_t4 k0_t12) a + S1x16.size a ≤ S128x256.size a) ∧
  (∀ (k0_t4 : Fin (k0_t4_loop v27 v32).trips) (k0_t12 : Fin (k0_t12_loop v27 v32 k0_t4).trips), ∀ a, (k0_off127 v27 v32 k0_t4 k0_t12) a + S1x16.size a ≤ S128x256.size a) ∧
  (∀ (k0_t4 : Fin (k0_t4_loop v27 v32).trips) (k0_t12 : Fin (k0_t12_loop v27 v32 k0_t4).trips), ∀ a, (k0_off128 v27 v32 k0_t4 k0_t12) a + S1x16.size a ≤ S128x256.size a) ∧
  (∀ (k0_t4 : Fin (k0_t4_loop v27 v32).trips) (k0_t12 : Fin (k0_t12_loop v27 v32 k0_t4).trips), ∀ a, (k0_off129 v27 v32 k0_t4 k0_t12) a + S1x16.size a ≤ S128x256.size a) ∧
  (∀ (k0_t4 : Fin (k0_t4_loop v27 v32).trips) (k0_t12 : Fin (k0_t12_loop v27 v32 k0_t4).trips), ∀ a, (k0_off130 v27 v32 k0_t4 k0_t12) a + S1x16.size a ≤ S128x256.size a) ∧
  (∀ (k0_t4 : Fin (k0_t4_loop v27 v32).trips) (k0_t12 : Fin (k0_t12_loop v27 v32 k0_t4).trips), ∀ a, (k0_off131 v27 v32 k0_t4 k0_t12) a + S1x16.size a ≤ S128x256.size a) ∧
  (∀ (k0_t4 : Fin (k0_t4_loop v27 v32).trips) (k0_t12 : Fin (k0_t12_loop v27 v32 k0_t4).trips), ∀ a, (k0_off132 v27 v32 k0_t4 k0_t12) a + S1x16.size a ≤ S128x256.size a) ∧
  (∀ (k0_t4 : Fin (k0_t4_loop v27 v32).trips) (k0_t12 : Fin (k0_t12_loop v27 v32 k0_t4).trips), ∀ a, (k0_off133 v27 v32 k0_t4 k0_t12) a + S1x16.size a ≤ S128x256.size a) ∧
  (∀ (k0_t4 : Fin (k0_t4_loop v27 v32).trips) (k0_t12 : Fin (k0_t12_loop v27 v32 k0_t4).trips), ∀ a, (k0_off134 v27 v32 k0_t4 k0_t12) a + S1x16.size a ≤ S128x256.size a) ∧
  ((k0_t13_loop v27 v32).OK) ∧
  (∀ k0_t13 : Fin (k0_t13_loop v27 v32).trips, ∀ (k0_h5 : k0_cond5 v27 v32 k0_t13 = 1#1), 8 ∣ (k0_mult7 v27 v32 k0_t13).toNat) ∧
  (∀ k0_t13 : Fin (k0_t13_loop v27 v32).trips, ∀ (k0_h5 : k0_cond5 v27 v32 k0_t13 = 1#1), ∀ a, (k0_off135 v27 v32 k0_t13) a + S128x256.size a ≤ S50000x256.size a) ∧
  (∀ k0_t13 : Fin (k0_t13_loop v27 v32).trips, 8 ∣ (k0_mult8 v27 v32 k0_t13).toNat) ∧
  (∀ k0_t13 : Fin (k0_t13_loop v27 v32).trips, (k0_t14_loop v27 v32 k0_t13).OK) ∧
  (∀ (k0_t13 : Fin (k0_t13_loop v27 v32).trips) (k0_t14 : Fin (k0_t14_loop v27 v32 k0_t13).trips), ∀ (r : Fin 4), ∀ a, (k0_off136 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off137 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off138 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off139 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off140 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off141 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off142 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off143 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off144 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off145 v27 v32 k0_t13 k0_t14 (BitVec.ofNat 32 r.val)) a + S1x16.size a ≤ S128x256.size a)
def k0_chk3_5 (v27 : BitVec 32) (v32 : BitVec 32) : Prop :=
  (∀ (k0_t13 : Fin (k0_t13_loop v27 v32).trips) (k0_t14 : Fin (k0_t14_loop v27 v32 k0_t13).trips), ∀ (r : Fin 4), ∀ a, (k0_off146 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off147 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off148 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off149 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off150 v27 v32 k0_t13 k0_t14 (BitVec.ofNat 32 r.val)) a + S1x16.size a ≤ S128x256.size a) ∧
  (∀ (k0_t13 : Fin (k0_t13_loop v27 v32).trips) (k0_t14 : Fin (k0_t14_loop v27 v32 k0_t13).trips), ∀ (r : Fin 4), ∀ a, (k0_off151 v27 v32 k0_t13 k0_t14 (BitVec.ofNat 32 r.val)) a + S1x16.size a ≤ S128x256.size a) ∧
  (∀ k0_t13 : Fin (k0_t13_loop v27 v32).trips, (k0_t15_loop v27 v32 k0_t13).OK) ∧
  (∀ (k0_t13 : Fin (k0_t13_loop v27 v32).trips) (k0_t15 : Fin (k0_t15_loop v27 v32 k0_t13).trips), ∀ (r : Fin 4), ∀ a, (k0_off152 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off153 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off154 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off155 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off156 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off157 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off158 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off159 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off160 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off161 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off162 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off163 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off164 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off165 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off166 v27 v32 k0_t13 k0_t15 (BitVec.ofNat 32 r.val)) a + S1x16.size a ≤ S128x256.size a) ∧
  (∀ (k0_t13 : Fin (k0_t13_loop v27 v32).trips) (k0_t15 : Fin (k0_t15_loop v27 v32 k0_t13).trips), ∀ (r : Fin 4), ∀ a, (k0_off167 v27 v32 k0_t13 k0_t15 (BitVec.ofNat 32 r.val)) a + S1x16.size a ≤ S128x256.size a) ∧
  (∀ k0_t13 : Fin (k0_t13_loop v27 v32).trips, (k0_t16_loop v27 v32 k0_t13).OK) ∧
  (∀ (k0_t13 : Fin (k0_t13_loop v27 v32).trips) (k0_t16 : Fin (k0_t16_loop v27 v32 k0_t13).trips), ∀ a, (k0_off168 v27 v32 k0_t13 k0_t16) a + S1x16.size a ≤ S128x256.size a) ∧
  (∀ (k0_t13 : Fin (k0_t13_loop v27 v32).trips) (k0_t16 : Fin (k0_t16_loop v27 v32 k0_t13).trips), ∀ a, (k0_off169 v27 v32 k0_t13 k0_t16) a + S1x16.size a ≤ S128x256.size a) ∧
  (∀ (k0_t13 : Fin (k0_t13_loop v27 v32).trips) (k0_t16 : Fin (k0_t16_loop v27 v32 k0_t13).trips), ∀ a, (k0_off170 v27 v32 k0_t13 k0_t16) a + S1x16.size a ≤ S128x256.size a) ∧
  (∀ (k0_t13 : Fin (k0_t13_loop v27 v32).trips) (k0_t16 : Fin (k0_t16_loop v27 v32 k0_t13).trips), ∀ a, (k0_off171 v27 v32 k0_t13 k0_t16) a + S1x16.size a ≤ S128x256.size a) ∧
  (∀ (k0_t13 : Fin (k0_t13_loop v27 v32).trips) (k0_t16 : Fin (k0_t16_loop v27 v32 k0_t13).trips), ∀ a, (k0_off172 v27 v32 k0_t13 k0_t16) a + S1x16.size a ≤ S128x256.size a) ∧
  (∀ (k0_t13 : Fin (k0_t13_loop v27 v32).trips) (k0_t16 : Fin (k0_t16_loop v27 v32 k0_t13).trips), ∀ a, (k0_off173 v27 v32 k0_t13 k0_t16) a + S1x16.size a ≤ S128x256.size a) ∧
  (∀ (k0_t13 : Fin (k0_t13_loop v27 v32).trips) (k0_t16 : Fin (k0_t16_loop v27 v32 k0_t13).trips), ∀ a, (k0_off174 v27 v32 k0_t13 k0_t16) a + S1x16.size a ≤ S128x256.size a) ∧
  (∀ (k0_t13 : Fin (k0_t13_loop v27 v32).trips) (k0_t16 : Fin (k0_t16_loop v27 v32 k0_t13).trips), ∀ a, (k0_off175 v27 v32 k0_t13 k0_t16) a + S1x16.size a ≤ S128x256.size a)
def k0_chk3_6 (v27 : BitVec 32) (v32 : BitVec 32) : Prop :=
  (∀ (k0_t13 : Fin (k0_t13_loop v27 v32).trips) (k0_t16 : Fin (k0_t16_loop v27 v32 k0_t13).trips), ∀ a, (k0_off176 v27 v32 k0_t13 k0_t16) a + S1x16.size a ≤ S128x256.size a) ∧
  (∀ (k0_t13 : Fin (k0_t13_loop v27 v32).trips) (k0_t16 : Fin (k0_t16_loop v27 v32 k0_t13).trips), ∀ a, (k0_off177 v27 v32 k0_t13 k0_t16) a + S1x16.size a ≤ S128x256.size a) ∧
  (∀ (k0_t13 : Fin (k0_t13_loop v27 v32).trips) (k0_t16 : Fin (k0_t16_loop v27 v32 k0_t13).trips), ∀ a, (k0_off178 v27 v32 k0_t13 k0_t16) a + S1x16.size a ≤ S128x256.size a) ∧
  (∀ (k0_t13 : Fin (k0_t13_loop v27 v32).trips) (k0_t16 : Fin (k0_t16_loop v27 v32 k0_t13).trips), ∀ a, (k0_off179 v27 v32 k0_t13 k0_t16) a + S1x16.size a ≤ S128x256.size a) ∧
  (∀ (k0_t13 : Fin (k0_t13_loop v27 v32).trips) (k0_t16 : Fin (k0_t16_loop v27 v32 k0_t13).trips), ∀ a, (k0_off180 v27 v32 k0_t13 k0_t16) a + S1x16.size a ≤ S128x256.size a) ∧
  (∀ (k0_t13 : Fin (k0_t13_loop v27 v32).trips) (k0_t16 : Fin (k0_t16_loop v27 v32 k0_t13).trips), ∀ a, (k0_off181 v27 v32 k0_t13 k0_t16) a + S1x16.size a ≤ S128x256.size a) ∧
  (∀ (k0_t13 : Fin (k0_t13_loop v27 v32).trips) (k0_t16 : Fin (k0_t16_loop v27 v32 k0_t13).trips), ∀ a, (k0_off182 v27 v32 k0_t13 k0_t16) a + S1x16.size a ≤ S128x256.size a) ∧
  (∀ (k0_t13 : Fin (k0_t13_loop v27 v32).trips) (k0_t16 : Fin (k0_t16_loop v27 v32 k0_t13).trips), ∀ a, (k0_off183 v27 v32 k0_t13 k0_t16) a + S1x16.size a ≤ S128x256.size a) ∧
  (∀ k0_t13 : Fin (k0_t13_loop v27 v32).trips, (k0_t17_loop v27 v32 k0_t13).OK) ∧
  (∀ (k0_t13 : Fin (k0_t13_loop v27 v32).trips) (k0_t17 : Fin (k0_t17_loop v27 v32 k0_t13).trips), ∀ a, (k0_off184 v27 v32 k0_t13 k0_t17) a + S1x16.size a ≤ S128x256.size a) ∧
  (∀ (k0_t13 : Fin (k0_t13_loop v27 v32).trips) (k0_t17 : Fin (k0_t17_loop v27 v32 k0_t13).trips), ∀ a, (k0_off185 v27 v32 k0_t13 k0_t17) a + S1x16.size a ≤ S128x256.size a) ∧
  (∀ (k0_t13 : Fin (k0_t13_loop v27 v32).trips) (k0_t17 : Fin (k0_t17_loop v27 v32 k0_t13).trips), ∀ a, (k0_off186 v27 v32 k0_t13 k0_t17) a + S1x16.size a ≤ S128x256.size a) ∧
  (∀ (k0_t13 : Fin (k0_t13_loop v27 v32).trips) (k0_t17 : Fin (k0_t17_loop v27 v32 k0_t13).trips), ∀ a, (k0_off187 v27 v32 k0_t13 k0_t17) a + S1x16.size a ≤ S128x256.size a) ∧
  (∀ (k0_t13 : Fin (k0_t13_loop v27 v32).trips) (k0_t17 : Fin (k0_t17_loop v27 v32 k0_t13).trips), ∀ a, (k0_off188 v27 v32 k0_t13 k0_t17) a + S1x16.size a ≤ S128x256.size a) ∧
  (∀ (k0_t13 : Fin (k0_t13_loop v27 v32).trips) (k0_t17 : Fin (k0_t17_loop v27 v32 k0_t13).trips), ∀ a, (k0_off189 v27 v32 k0_t13 k0_t17) a + S1x16.size a ≤ S128x256.size a) ∧
  (∀ (k0_t13 : Fin (k0_t13_loop v27 v32).trips) (k0_t17 : Fin (k0_t17_loop v27 v32 k0_t13).trips), ∀ a, (k0_off190 v27 v32 k0_t13 k0_t17) a + S1x16.size a ≤ S128x256.size a) ∧
  (∀ (k0_t13 : Fin (k0_t13_loop v27 v32).trips) (k0_t17 : Fin (k0_t17_loop v27 v32 k0_t13).trips), ∀ a, (k0_off191 v27 v32 k0_t13 k0_t17) a + S1x16.size a ≤ S128x256.size a) ∧
  (∀ (k0_t13 : Fin (k0_t13_loop v27 v32).trips) (k0_t17 : Fin (k0_t17_loop v27 v32 k0_t13).trips), ∀ a, (k0_off192 v27 v32 k0_t13 k0_t17) a + S1x16.size a ≤ S128x256.size a) ∧
  (∀ (k0_t13 : Fin (k0_t13_loop v27 v32).trips) (k0_t17 : Fin (k0_t17_loop v27 v32 k0_t13).trips), ∀ a, (k0_off193 v27 v32 k0_t13 k0_t17) a + S1x16.size a ≤ S128x256.size a) ∧
  (∀ (k0_t13 : Fin (k0_t13_loop v27 v32).trips) (k0_t17 : Fin (k0_t17_loop v27 v32 k0_t13).trips), ∀ a, (k0_off194 v27 v32 k0_t13 k0_t17) a + S1x16.size a ≤ S128x256.size a) ∧
  (∀ (k0_t13 : Fin (k0_t13_loop v27 v32).trips) (k0_t17 : Fin (k0_t17_loop v27 v32 k0_t13).trips), ∀ a, (k0_off195 v27 v32 k0_t13 k0_t17) a + S1x16.size a ≤ S128x256.size a) ∧
  (∀ (k0_t13 : Fin (k0_t13_loop v27 v32).trips) (k0_t17 : Fin (k0_t17_loop v27 v32 k0_t13).trips), ∀ a, (k0_off196 v27 v32 k0_t13 k0_t17) a + S1x16.size a ≤ S128x256.size a) ∧
  (∀ (k0_t13 : Fin (k0_t13_loop v27 v32).trips) (k0_t17 : Fin (k0_t17_loop v27 v32 k0_t13).trips), ∀ a, (k0_off197 v27 v32 k0_t13 k0_t17) a + S1x16.size a ≤ S128x256.size a) ∧
  (∀ (k0_t13 : Fin (k0_t13_loop v27 v32).trips) (k0_t17 : Fin (k0_t17_loop v27 v32 k0_t13).trips), ∀ a, (k0_off198 v27 v32 k0_t13 k0_t17) a + S1x16.size a ≤ S128x256.size a) ∧
  (∀ (k0_t13 : Fin (k0_t13_loop v27 v32).trips) (k0_t17 : Fin (k0_t17_loop v27 v32 k0_t13).trips), ∀ a, (k0_off199 v27 v32 k0_t13 k0_t17) a + S1x16.size a ≤ S128x256.size a) ∧
  (∀ k0_t13 : Fin (k0_t13_loop v27 v32).trips, ∀ (k0_h7 : k0_cond7 v27 v32 k0_t13 = 1#1), 8 ∣ (k0_mult9 v27 v32 k0_t13).toNat) ∧
  (∀ k0_t13 : Fin (k0_t13_loop v27 v32).trips, ∀ (k0_h7 : k0_cond7 v27 v32 k0_t13 = 1#1), ∀ a, (k0_off200 v27 v32 k0_t13) a + S128x256.size a ≤ S50000x256.size a) ∧
  (∀ k0_t13 : Fin (k0_t13_loop v27 v32).trips, 8 ∣ (k0_mult10 v27 v32 k0_t13).toNat) ∧
  (∀ k0_t13 : Fin (k0_t13_loop v27 v32).trips, (k0_t18_loop v27 v32 k0_t13).OK) ∧
  (∀ (k0_t13 : Fin (k0_t13_loop v27 v32).trips) (k0_t18 : Fin (k0_t18_loop v27 v32 k0_t13).trips), ∀ (r : Fin 4), ∀ a, (k0_off201 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off202 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off203 v27 v32 k0_t13 k0_t18 (BitVec.ofNat 32 r.val)) a + S1x16.size a ≤ S128x256.size a)
def k0_chk3_7 (v27 : BitVec 32) (v32 : BitVec 32) : Prop :=
  (∀ (k0_t13 : Fin (k0_t13_loop v27 v32).trips) (k0_t18 : Fin (k0_t18_loop v27 v32 k0_t13).trips), ∀ (r : Fin 4), ∀ a, (k0_off204 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off205 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off206 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off207 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off208 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off209 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off210 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off211 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off212 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off213 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off214 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off215 v27 v32 k0_t13 k0_t18 (BitVec.ofNat 32 r.val)) a + S1x16.size a ≤ S128x256.size a) ∧
  (∀ (k0_t13 : Fin (k0_t13_loop v27 v32).trips) (k0_t18 : Fin (k0_t18_loop v27 v32 k0_t13).trips), ∀ (r : Fin 4), ∀ a, (k0_off216 v27 v32 k0_t13 k0_t18 (BitVec.ofNat 32 r.val)) a + S1x16.size a ≤ S128x256.size a) ∧
  (∀ k0_t13 : Fin (k0_t13_loop v27 v32).trips, (k0_t19_loop v27 v32 k0_t13).OK) ∧
  (∀ (k0_t13 : Fin (k0_t13_loop v27 v32).trips) (k0_t19 : Fin (k0_t19_loop v27 v32 k0_t13).trips), ∀ (r : Fin 4), ∀ a, (k0_off217 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off218 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off219 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off220 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off221 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off222 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off223 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off224 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off225 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off226 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off227 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off228 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off229 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off230 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off231 v27 v32 k0_t13 k0_t19 (BitVec.ofNat 32 r.val)) a + S1x16.size a ≤ S128x256.size a) ∧
  (∀ (k0_t13 : Fin (k0_t13_loop v27 v32).trips) (k0_t19 : Fin (k0_t19_loop v27 v32 k0_t13).trips), ∀ (r : Fin 4), ∀ a, (k0_off232 v27 v32 k0_t13 k0_t19 (BitVec.ofNat 32 r.val)) a + S1x16.size a ≤ S128x256.size a) ∧
  (∀ k0_t13 : Fin (k0_t13_loop v27 v32).trips, (k0_t20_loop v27 v32 k0_t13).OK) ∧
  (∀ (k0_t13 : Fin (k0_t13_loop v27 v32).trips) (k0_t20 : Fin (k0_t20_loop v27 v32 k0_t13).trips), ∀ a, (k0_off233 v27 v32 k0_t13 k0_t20) a + S1x16.size a ≤ S128x256.size a)
def k0_chk3_8 (v27 : BitVec 32) (v32 : BitVec 32) : Prop :=
  (∀ (k0_t13 : Fin (k0_t13_loop v27 v32).trips) (k0_t20 : Fin (k0_t20_loop v27 v32 k0_t13).trips), ∀ a, (k0_off234 v27 v32 k0_t13 k0_t20) a + S1x16.size a ≤ S128x256.size a) ∧
  (∀ (k0_t13 : Fin (k0_t13_loop v27 v32).trips) (k0_t20 : Fin (k0_t20_loop v27 v32 k0_t13).trips), ∀ a, (k0_off235 v27 v32 k0_t13 k0_t20) a + S1x16.size a ≤ S128x256.size a) ∧
  (∀ (k0_t13 : Fin (k0_t13_loop v27 v32).trips) (k0_t20 : Fin (k0_t20_loop v27 v32 k0_t13).trips), ∀ a, (k0_off236 v27 v32 k0_t13 k0_t20) a + S1x16.size a ≤ S128x256.size a) ∧
  (∀ (k0_t13 : Fin (k0_t13_loop v27 v32).trips) (k0_t20 : Fin (k0_t20_loop v27 v32 k0_t13).trips), ∀ a, (k0_off237 v27 v32 k0_t13 k0_t20) a + S1x16.size a ≤ S128x256.size a) ∧
  (∀ (k0_t13 : Fin (k0_t13_loop v27 v32).trips) (k0_t20 : Fin (k0_t20_loop v27 v32 k0_t13).trips), ∀ a, (k0_off238 v27 v32 k0_t13 k0_t20) a + S1x16.size a ≤ S128x256.size a) ∧
  (∀ (k0_t13 : Fin (k0_t13_loop v27 v32).trips) (k0_t20 : Fin (k0_t20_loop v27 v32 k0_t13).trips), ∀ a, (k0_off239 v27 v32 k0_t13 k0_t20) a + S1x16.size a ≤ S128x256.size a) ∧
  (∀ (k0_t13 : Fin (k0_t13_loop v27 v32).trips) (k0_t20 : Fin (k0_t20_loop v27 v32 k0_t13).trips), ∀ a, (k0_off240 v27 v32 k0_t13 k0_t20) a + S1x16.size a ≤ S128x256.size a) ∧
  (∀ (k0_t13 : Fin (k0_t13_loop v27 v32).trips) (k0_t20 : Fin (k0_t20_loop v27 v32 k0_t13).trips), ∀ a, (k0_off241 v27 v32 k0_t13 k0_t20) a + S1x16.size a ≤ S128x256.size a) ∧
  (∀ (k0_t13 : Fin (k0_t13_loop v27 v32).trips) (k0_t20 : Fin (k0_t20_loop v27 v32 k0_t13).trips), ∀ a, (k0_off242 v27 v32 k0_t13 k0_t20) a + S1x16.size a ≤ S128x256.size a) ∧
  (∀ (k0_t13 : Fin (k0_t13_loop v27 v32).trips) (k0_t20 : Fin (k0_t20_loop v27 v32 k0_t13).trips), ∀ a, (k0_off243 v27 v32 k0_t13 k0_t20) a + S1x16.size a ≤ S128x256.size a) ∧
  (∀ (k0_t13 : Fin (k0_t13_loop v27 v32).trips) (k0_t20 : Fin (k0_t20_loop v27 v32 k0_t13).trips), ∀ a, (k0_off244 v27 v32 k0_t13 k0_t20) a + S1x16.size a ≤ S128x256.size a) ∧
  (∀ (k0_t13 : Fin (k0_t13_loop v27 v32).trips) (k0_t20 : Fin (k0_t20_loop v27 v32 k0_t13).trips), ∀ a, (k0_off245 v27 v32 k0_t13 k0_t20) a + S1x16.size a ≤ S128x256.size a) ∧
  (∀ (k0_t13 : Fin (k0_t13_loop v27 v32).trips) (k0_t20 : Fin (k0_t20_loop v27 v32 k0_t13).trips), ∀ a, (k0_off246 v27 v32 k0_t13 k0_t20) a + S1x16.size a ≤ S128x256.size a) ∧
  (∀ (k0_t13 : Fin (k0_t13_loop v27 v32).trips) (k0_t20 : Fin (k0_t20_loop v27 v32 k0_t13).trips), ∀ a, (k0_off247 v27 v32 k0_t13 k0_t20) a + S1x16.size a ≤ S128x256.size a) ∧
  (∀ (k0_t13 : Fin (k0_t13_loop v27 v32).trips) (k0_t20 : Fin (k0_t20_loop v27 v32 k0_t13).trips), ∀ a, (k0_off248 v27 v32 k0_t13 k0_t20) a + S1x16.size a ≤ S128x256.size a) ∧
  (∀ k0_t13 : Fin (k0_t13_loop v27 v32).trips, (k0_t21_loop v27 v32 k0_t13).OK) ∧
  (∀ (k0_t13 : Fin (k0_t13_loop v27 v32).trips) (k0_t21 : Fin (k0_t21_loop v27 v32 k0_t13).trips), ∀ a, (k0_off249 v27 v32 k0_t13 k0_t21) a + S1x16.size a ≤ S128x256.size a) ∧
  (∀ (k0_t13 : Fin (k0_t13_loop v27 v32).trips) (k0_t21 : Fin (k0_t21_loop v27 v32 k0_t13).trips), ∀ a, (k0_off250 v27 v32 k0_t13 k0_t21) a + S1x16.size a ≤ S128x256.size a) ∧
  (∀ (k0_t13 : Fin (k0_t13_loop v27 v32).trips) (k0_t21 : Fin (k0_t21_loop v27 v32 k0_t13).trips), ∀ a, (k0_off251 v27 v32 k0_t13 k0_t21) a + S1x16.size a ≤ S128x256.size a) ∧
  (∀ (k0_t13 : Fin (k0_t13_loop v27 v32).trips) (k0_t21 : Fin (k0_t21_loop v27 v32 k0_t13).trips), ∀ a, (k0_off252 v27 v32 k0_t13 k0_t21) a + S1x16.size a ≤ S128x256.size a) ∧
  (∀ (k0_t13 : Fin (k0_t13_loop v27 v32).trips) (k0_t21 : Fin (k0_t21_loop v27 v32 k0_t13).trips), ∀ a, (k0_off253 v27 v32 k0_t13 k0_t21) a + S1x16.size a ≤ S128x256.size a) ∧
  (∀ (k0_t13 : Fin (k0_t13_loop v27 v32).trips) (k0_t21 : Fin (k0_t21_loop v27 v32 k0_t13).trips), ∀ a, (k0_off254 v27 v32 k0_t13 k0_t21) a + S1x16.size a ≤ S128x256.size a) ∧
  (∀ (k0_t13 : Fin (k0_t13_loop v27 v32).trips) (k0_t21 : Fin (k0_t21_loop v27 v32 k0_t13).trips), ∀ a, (k0_off255 v27 v32 k0_t13 k0_t21) a + S1x16.size a ≤ S128x256.size a) ∧
  (∀ (k0_t13 : Fin (k0_t13_loop v27 v32).trips) (k0_t21 : Fin (k0_t21_loop v27 v32 k0_t13).trips), ∀ a, (k0_off256 v27 v32 k0_t13 k0_t21) a + S1x16.size a ≤ S128x256.size a) ∧
  (∀ (k0_t13 : Fin (k0_t13_loop v27 v32).trips) (k0_t21 : Fin (k0_t21_loop v27 v32 k0_t13).trips), ∀ a, (k0_off257 v27 v32 k0_t13 k0_t21) a + S1x16.size a ≤ S128x256.size a) ∧
  (∀ (k0_t13 : Fin (k0_t13_loop v27 v32).trips) (k0_t21 : Fin (k0_t21_loop v27 v32 k0_t13).trips), ∀ a, (k0_off258 v27 v32 k0_t13 k0_t21) a + S1x16.size a ≤ S128x256.size a) ∧
  (∀ (k0_t13 : Fin (k0_t13_loop v27 v32).trips) (k0_t21 : Fin (k0_t21_loop v27 v32 k0_t13).trips), ∀ a, (k0_off259 v27 v32 k0_t13 k0_t21) a + S1x16.size a ≤ S128x256.size a) ∧
  (∀ (k0_t13 : Fin (k0_t13_loop v27 v32).trips) (k0_t21 : Fin (k0_t21_loop v27 v32 k0_t13).trips), ∀ a, (k0_off260 v27 v32 k0_t13 k0_t21) a + S1x16.size a ≤ S128x256.size a) ∧
  (∀ (k0_t13 : Fin (k0_t13_loop v27 v32).trips) (k0_t21 : Fin (k0_t21_loop v27 v32 k0_t13).trips), ∀ a, (k0_off261 v27 v32 k0_t13 k0_t21) a + S1x16.size a ≤ S128x256.size a) ∧
  (∀ (k0_t13 : Fin (k0_t13_loop v27 v32).trips) (k0_t21 : Fin (k0_t21_loop v27 v32 k0_t13).trips), ∀ a, (k0_off262 v27 v32 k0_t13 k0_t21) a + S1x16.size a ≤ S128x256.size a) ∧
  (∀ (k0_t13 : Fin (k0_t13_loop v27 v32).trips) (k0_t21 : Fin (k0_t21_loop v27 v32 k0_t13).trips), ∀ a, (k0_off263 v27 v32 k0_t13 k0_t21) a + S1x16.size a ≤ S128x256.size a) ∧
  (∀ (k0_t13 : Fin (k0_t13_loop v27 v32).trips) (k0_t21 : Fin (k0_t21_loop v27 v32 k0_t13).trips), ∀ a, (k0_off264 v27 v32 k0_t13 k0_t21) a + S1x16.size a ≤ S128x256.size a)
def k0_chk3 (v27 : BitVec 32) (v32 : BitVec 32) : Prop :=
  k0_chk3_0 v27 v32 ∧
  k0_chk3_1 v27 v32 ∧
  k0_chk3_2 v27 v32 ∧
  k0_chk3_3 v27 v32 ∧
  k0_chk3_4 v27 v32 ∧
  k0_chk3_5 v27 v32 ∧
  k0_chk3_6 v27 v32 ∧
  k0_chk3_7 v27 v32 ∧
  k0_chk3_8 v27 v32
theorem k0_mult2_dvd : ∀ (v27 : BitVec 32) (v32 : BitVec 32) (k0_hw3 : k0_chk3 v27 v32), ∀ (k0_h1 : k0_cond1 v27 v32 = 1#1), 8 ∣ (k0_mult2 v27).toNat := fun v27 v32 k0_hw3 k0_h1 => k0_hw3.1.1 k0_h1
theorem k0_off4_inb : ∀ (v27 : BitVec 32) (v32 : BitVec 32) (k0_hw3 : k0_chk3 v27 v32), ∀ (k0_h1 : k0_cond1 v27 v32 = 1#1), ∀ a, (k0_off4 v27) a + S128x256.size a ≤ S50000x256.size a := fun v27 v32 k0_hw3 k0_h1 => k0_hw3.1.2.1 k0_h1
theorem k0_t4_ok : ∀ (v27 : BitVec 32) (v32 : BitVec 32) (k0_hw3 : k0_chk3 v27 v32), (k0_t4_loop v27 v32).OK := fun v27 v32 k0_hw3 => k0_hw3.1.2.2.1
theorem k0_mult3_dvd : ∀ (v27 : BitVec 32) (v32 : BitVec 32) (k0_hw3 : k0_chk3 v27 v32) (k0_t4 : Fin (k0_t4_loop v27 v32).trips), ∀ (k0_h2 : k0_cond2 v27 v32 k0_t4 = 1#1), 8 ∣ (k0_mult3 v27 v32 k0_t4).toNat := fun v27 v32 k0_hw3 k0_t4 k0_h2 => k0_hw3.1.2.2.2.1 k0_t4 k0_h2
theorem k0_off5_inb : ∀ (v27 : BitVec 32) (v32 : BitVec 32) (k0_hw3 : k0_chk3 v27 v32) (k0_t4 : Fin (k0_t4_loop v27 v32).trips), ∀ (k0_h2 : k0_cond2 v27 v32 k0_t4 = 1#1), ∀ a, (k0_off5 v27 v32 k0_t4) a + S128x256.size a ≤ S50000x256.size a := fun v27 v32 k0_hw3 k0_t4 k0_h2 => k0_hw3.1.2.2.2.2.1 k0_t4 k0_h2
theorem k0_mult4_dvd : ∀ (v27 : BitVec 32) (v32 : BitVec 32) (k0_hw3 : k0_chk3 v27 v32) (k0_t4 : Fin (k0_t4_loop v27 v32).trips), 8 ∣ (k0_mult4 v27 v32 k0_t4).toNat := fun v27 v32 k0_hw3 k0_t4 => k0_hw3.1.2.2.2.2.2.1 k0_t4
theorem k0_t5_ok : ∀ (v27 : BitVec 32) (v32 : BitVec 32) (k0_hw3 : k0_chk3 v27 v32) (k0_t4 : Fin (k0_t4_loop v27 v32).trips), (k0_t5_loop v27 v32 k0_t4).OK := fun v27 v32 k0_hw3 k0_t4 => k0_hw3.1.2.2.2.2.2.2.1 k0_t4
theorem k0_off6_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off6 v27 v32 k0_t4 k0_t5 (BitVec.ofNat 32 r.val)) a + S1x16.size a ≤ S128x256.size a := fun v27 v32 k0_hw3 k0_t4 k0_t5 r => k0_hw3.1.2.2.2.2.2.2.2.1 k0_t4 k0_t5 r
theorem k0_off7_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off7 v27 v32 k0_t4 k0_t5 (BitVec.ofNat 32 r.val)) a + S1x16.size a ≤ S128x256.size a := fun v27 v32 k0_hw3 k0_t4 k0_t5 r => k0_hw3.1.2.2.2.2.2.2.2.2.1 k0_t4 k0_t5 r
theorem k0_off8_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off8 v27 v32 k0_t4 k0_t5 (BitVec.ofNat 32 r.val)) a + S1x16.size a ≤ S128x256.size a := fun v27 v32 k0_hw3 k0_t4 k0_t5 r => k0_hw3.1.2.2.2.2.2.2.2.2.2.1 k0_t4 k0_t5 r
theorem k0_off9_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off9 v27 v32 k0_t4 k0_t5 (BitVec.ofNat 32 r.val)) a + S1x16.size a ≤ S128x256.size a := fun v27 v32 k0_hw3 k0_t4 k0_t5 r => k0_hw3.1.2.2.2.2.2.2.2.2.2.2.1 k0_t4 k0_t5 r
theorem k0_off10_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off10 v27 v32 k0_t4 k0_t5 (BitVec.ofNat 32 r.val)) a + S1x16.size a ≤ S128x256.size a := fun v27 v32 k0_hw3 k0_t4 k0_t5 r => k0_hw3.1.2.2.2.2.2.2.2.2.2.2.2.1 k0_t4 k0_t5 r
theorem k0_off11_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off11 v27 v32 k0_t4 k0_t5 (BitVec.ofNat 32 r.val)) a + S1x16.size a ≤ S128x256.size a := fun v27 v32 k0_hw3 k0_t4 k0_t5 r => k0_hw3.1.2.2.2.2.2.2.2.2.2.2.2.2.1 k0_t4 k0_t5 r
theorem k0_off12_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off12 v27 v32 k0_t4 k0_t5 (BitVec.ofNat 32 r.val)) a + S1x16.size a ≤ S128x256.size a := fun v27 v32 k0_hw3 k0_t4 k0_t5 r => k0_hw3.1.2.2.2.2.2.2.2.2.2.2.2.2.2.1 k0_t4 k0_t5 r
theorem k0_off13_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off13 v27 v32 k0_t4 k0_t5 (BitVec.ofNat 32 r.val)) a + S1x16.size a ≤ S128x256.size a := fun v27 v32 k0_hw3 k0_t4 k0_t5 r => k0_hw3.1.2.2.2.2.2.2.2.2.2.2.2.2.2.2.1 k0_t4 k0_t5 r
theorem k0_off14_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off14 v27 v32 k0_t4 k0_t5 (BitVec.ofNat 32 r.val)) a + S1x16.size a ≤ S128x256.size a := fun v27 v32 k0_hw3 k0_t4 k0_t5 r => k0_hw3.1.2.2.2.2.2.2.2.2.2.2.2.2.2.2.2.1 k0_t4 k0_t5 r
theorem k0_off15_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off15 v27 v32 k0_t4 k0_t5 (BitVec.ofNat 32 r.val)) a + S1x16.size a ≤ S128x256.size a := fun v27 v32 k0_hw3 k0_t4 k0_t5 r => k0_hw3.1.2.2.2.2.2.2.2.2.2.2.2.2.2.2.2.2.1 k0_t4 k0_t5 r
theorem k0_off16_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off16 v27 v32 k0_t4 k0_t5 (BitVec.ofNat 32 r.val)) a + S1x16.size a ≤ S128x256.size a := fun v27 v32 k0_hw3 k0_t4 k0_t5 r => k0_hw3.1.2.2.2.2.2.2.2.2.2.2.2.2.2.2.2.2.2.1 k0_t4 k0_t5 r
theorem k0_off17_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off17 v27 v32 k0_t4 k0_t5 (BitVec.ofNat 32 r.val)) a + S1x16.size a ≤ S128x256.size a := fun v27 v32 k0_hw3 k0_t4 k0_t5 r => k0_hw3.1.2.2.2.2.2.2.2.2.2.2.2.2.2.2.2.2.2.2.1 k0_t4 k0_t5 r
theorem k0_off18_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off18 v27 v32 k0_t4 k0_t5 (BitVec.ofNat 32 r.val)) a + S1x16.size a ≤ S128x256.size a := fun v27 v32 k0_hw3 k0_t4 k0_t5 r => k0_hw3.1.2.2.2.2.2.2.2.2.2.2.2.2.2.2.2.2.2.2.2.1 k0_t4 k0_t5 r
theorem k0_off19_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off19 v27 v32 k0_t4 k0_t5 (BitVec.ofNat 32 r.val)) a + S1x16.size a ≤ S128x256.size a := fun v27 v32 k0_hw3 k0_t4 k0_t5 r => k0_hw3.1.2.2.2.2.2.2.2.2.2.2.2.2.2.2.2.2.2.2.2.2.1 k0_t4 k0_t5 r
theorem k0_off20_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off20 v27 v32 k0_t4 k0_t5 (BitVec.ofNat 32 r.val)) a + S1x16.size a ≤ S128x256.size a := fun v27 v32 k0_hw3 k0_t4 k0_t5 r => k0_hw3.1.2.2.2.2.2.2.2.2.2.2.2.2.2.2.2.2.2.2.2.2.2.1 k0_t4 k0_t5 r
theorem k0_off21_inb : ∀ (v27 : BitVec 32) (v32 : BitVec 32) (k0_hw3 : k0_chk3 v27 v32) (k0_t4 : Fin (k0_t4_loop v27 v32).trips) (k0_t5 : Fin (k0_t5_loop v27 v32 k0_t4).trips), ∀ (r : Fin 4), ∀ a, (k0_off21 v27 v32 k0_t4 k0_t5 (BitVec.ofNat 32 r.val)) a + S1x16.size a ≤ S128x256.size a := fun v27 v32 k0_hw3 k0_t4 k0_t5 r => k0_hw3.1.2.2.2.2.2.2.2.2.2.2.2.2.2.2.2.2.2.2.2.2.2.2.1 k0_t4 k0_t5 r
theorem k0_t6_ok : ∀ (v27 : BitVec 32) (v32 : BitVec 32) (k0_hw3 : k0_chk3 v27 v32) (k0_t4 : Fin (k0_t4_loop v27 v32).trips), (k0_t6_loop v27 v32 k0_t4).OK := fun v27 v32 k0_hw3 k0_t4 => k0_hw3.1.2.2.2.2.2.2.2.2.2.2.2.2.2.2.2.2.2.2.2.2.2.2.2.1 k0_t4
theorem k0_off22_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off22 v27 v32 k0_t4 k0_t6 (BitVec.ofNat 32 r.val)) a + S1x16.size a ≤ S128x256.size a := fun v27 v32 k0_hw3 k0_t4 k0_t6 r => k0_hw3.1.2.2.2.2.2.2.2.2.2.2.2.2.2.2.2.2.2.2.2.2.2.2.2.2.1 k0_t4 k0_t6 r
theorem k0_off23_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off23 v27 v32 k0_t4 k0_t6 (BitVec.ofNat 32 r.val)) a + S1x16.size a ≤ S128x256.size a := fun v27 v32 k0_hw3 k0_t4 k0_t6 r => k0_hw3.1.2.2.2.2.2.2.2.2.2.2.2.2.2.2.2.2.2.2.2.2.2.2.2.2.2.1 k0_t4 k0_t6 r
theorem k0_off24_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off24 v27 v32 k0_t4 k0_t6 (BitVec.ofNat 32 r.val)) a + S1x16.size a ≤ S128x256.size a := fun v27 v32 k0_hw3 k0_t4 k0_t6 r => k0_hw3.1.2.2.2.2.2.2.2.2.2.2.2.2.2.2.2.2.2.2.2.2.2.2.2.2.2.2.1 k0_t4 k0_t6 r
theorem k0_off25_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off25 v27 v32 k0_t4 k0_t6 (BitVec.ofNat 32 r.val)) a + S1x16.size a ≤ S128x256.size a := fun v27 v32 k0_hw3 k0_t4 k0_t6 r => k0_hw3.1.2.2.2.2.2.2.2.2.2.2.2.2.2.2.2.2.2.2.2.2.2.2.2.2.2.2.2.1 k0_t4 k0_t6 r
theorem k0_off26_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off26 v27 v32 k0_t4 k0_t6 (BitVec.ofNat 32 r.val)) a + S1x16.size a ≤ S128x256.size a := fun v27 v32 k0_hw3 k0_t4 k0_t6 r => k0_hw3.1.2.2.2.2.2.2.2.2.2.2.2.2.2.2.2.2.2.2.2.2.2.2.2.2.2.2.2.2.1 k0_t4 k0_t6 r
theorem k0_off27_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off27 v27 v32 k0_t4 k0_t6 (BitVec.ofNat 32 r.val)) a + S1x16.size a ≤ S128x256.size a := fun v27 v32 k0_hw3 k0_t4 k0_t6 r => k0_hw3.1.2.2.2.2.2.2.2.2.2.2.2.2.2.2.2.2.2.2.2.2.2.2.2.2.2.2.2.2.2.1 k0_t4 k0_t6 r
theorem k0_off28_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off28 v27 v32 k0_t4 k0_t6 (BitVec.ofNat 32 r.val)) a + S1x16.size a ≤ S128x256.size a := fun v27 v32 k0_hw3 k0_t4 k0_t6 r => k0_hw3.1.2.2.2.2.2.2.2.2.2.2.2.2.2.2.2.2.2.2.2.2.2.2.2.2.2.2.2.2.2.2.1 k0_t4 k0_t6 r
theorem k0_off29_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off29 v27 v32 k0_t4 k0_t6 (BitVec.ofNat 32 r.val)) a + S1x16.size a ≤ S128x256.size a := fun v27 v32 k0_hw3 k0_t4 k0_t6 r => k0_hw3.1.2.2.2.2.2.2.2.2.2.2.2.2.2.2.2.2.2.2.2.2.2.2.2.2.2.2.2.2.2.2.2 k0_t4 k0_t6 r
theorem k0_off30_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off30 v27 v32 k0_t4 k0_t6 (BitVec.ofNat 32 r.val)) a + S1x16.size a ≤ S128x256.size a := fun v27 v32 k0_hw3 k0_t4 k0_t6 r => k0_hw3.2.1.1 k0_t4 k0_t6 r
theorem k0_off31_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off31 v27 v32 k0_t4 k0_t6 (BitVec.ofNat 32 r.val)) a + S1x16.size a ≤ S128x256.size a := fun v27 v32 k0_hw3 k0_t4 k0_t6 r => k0_hw3.2.1.2.1 k0_t4 k0_t6 r
theorem k0_off32_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off32 v27 v32 k0_t4 k0_t6 (BitVec.ofNat 32 r.val)) a + S1x16.size a ≤ S128x256.size a := fun v27 v32 k0_hw3 k0_t4 k0_t6 r => k0_hw3.2.1.2.2.1 k0_t4 k0_t6 r
theorem k0_off33_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off33 v27 v32 k0_t4 k0_t6 (BitVec.ofNat 32 r.val)) a + S1x16.size a ≤ S128x256.size a := fun v27 v32 k0_hw3 k0_t4 k0_t6 r => k0_hw3.2.1.2.2.2.1 k0_t4 k0_t6 r
theorem k0_off34_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off34 v27 v32 k0_t4 k0_t6 (BitVec.ofNat 32 r.val)) a + S1x16.size a ≤ S128x256.size a := fun v27 v32 k0_hw3 k0_t4 k0_t6 r => k0_hw3.2.1.2.2.2.2.1 k0_t4 k0_t6 r
theorem k0_off35_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off35 v27 v32 k0_t4 k0_t6 (BitVec.ofNat 32 r.val)) a + S1x16.size a ≤ S128x256.size a := fun v27 v32 k0_hw3 k0_t4 k0_t6 r => k0_hw3.2.1.2.2.2.2.2.1 k0_t4 k0_t6 r
theorem k0_off36_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off36 v27 v32 k0_t4 k0_t6 (BitVec.ofNat 32 r.val)) a + S1x16.size a ≤ S128x256.size a := fun v27 v32 k0_hw3 k0_t4 k0_t6 r => k0_hw3.2.1.2.2.2.2.2.2.1 k0_t4 k0_t6 r
theorem k0_off37_inb : ∀ (v27 : BitVec 32) (v32 : BitVec 32) (k0_hw3 : k0_chk3 v27 v32) (k0_t4 : Fin (k0_t4_loop v27 v32).trips) (k0_t6 : Fin (k0_t6_loop v27 v32 k0_t4).trips), ∀ (r : Fin 4), ∀ a, (k0_off37 v27 v32 k0_t4 k0_t6 (BitVec.ofNat 32 r.val)) a + S1x16.size a ≤ S128x256.size a := fun v27 v32 k0_hw3 k0_t4 k0_t6 r => k0_hw3.2.1.2.2.2.2.2.2.2.1 k0_t4 k0_t6 r
theorem k0_t7_ok : ∀ (v27 : BitVec 32) (v32 : BitVec 32) (k0_hw3 : k0_chk3 v27 v32) (k0_t4 : Fin (k0_t4_loop v27 v32).trips), (k0_t7_loop v27 v32 k0_t4).OK := fun v27 v32 k0_hw3 k0_t4 => k0_hw3.2.1.2.2.2.2.2.2.2.2.1 k0_t4
theorem k0_off38_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off38 v27 v32 k0_t4 k0_t7) a + S1x16.size a ≤ S128x256.size a := fun v27 v32 k0_hw3 k0_t4 k0_t7 => k0_hw3.2.1.2.2.2.2.2.2.2.2.2.1 k0_t4 k0_t7
theorem k0_off39_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off39 v27 v32 k0_t4 k0_t7) a + S1x16.size a ≤ S128x256.size a := fun v27 v32 k0_hw3 k0_t4 k0_t7 => k0_hw3.2.1.2.2.2.2.2.2.2.2.2.2.1 k0_t4 k0_t7
theorem k0_off40_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off40 v27 v32 k0_t4 k0_t7) a + S1x16.size a ≤ S128x256.size a := fun v27 v32 k0_hw3 k0_t4 k0_t7 => k0_hw3.2.1.2.2.2.2.2.2.2.2.2.2.2.1 k0_t4 k0_t7
theorem k0_off41_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off41 v27 v32 k0_t4 k0_t7) a + S1x16.size a ≤ S128x256.size a := fun v27 v32 k0_hw3 k0_t4 k0_t7 => k0_hw3.2.1.2.2.2.2.2.2.2.2.2.2.2.2.1 k0_t4 k0_t7
theorem k0_off42_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off42 v27 v32 k0_t4 k0_t7) a + S1x16.size a ≤ S128x256.size a := fun v27 v32 k0_hw3 k0_t4 k0_t7 => k0_hw3.2.1.2.2.2.2.2.2.2.2.2.2.2.2.2.1 k0_t4 k0_t7
theorem k0_off43_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off43 v27 v32 k0_t4 k0_t7) a + S1x16.size a ≤ S128x256.size a := fun v27 v32 k0_hw3 k0_t4 k0_t7 => k0_hw3.2.1.2.2.2.2.2.2.2.2.2.2.2.2.2.2.1 k0_t4 k0_t7
theorem k0_off44_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off44 v27 v32 k0_t4 k0_t7) a + S1x16.size a ≤ S128x256.size a := fun v27 v32 k0_hw3 k0_t4 k0_t7 => k0_hw3.2.1.2.2.2.2.2.2.2.2.2.2.2.2.2.2.2.1 k0_t4 k0_t7
theorem k0_off45_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off45 v27 v32 k0_t4 k0_t7) a + S1x16.size a ≤ S128x256.size a := fun v27 v32 k0_hw3 k0_t4 k0_t7 => k0_hw3.2.1.2.2.2.2.2.2.2.2.2.2.2.2.2.2.2.2.1 k0_t4 k0_t7
theorem k0_off46_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off46 v27 v32 k0_t4 k0_t7) a + S1x16.size a ≤ S128x256.size a := fun v27 v32 k0_hw3 k0_t4 k0_t7 => k0_hw3.2.1.2.2.2.2.2.2.2.2.2.2.2.2.2.2.2.2.2.1 k0_t4 k0_t7
theorem k0_off47_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off47 v27 v32 k0_t4 k0_t7) a + S1x16.size a ≤ S128x256.size a := fun v27 v32 k0_hw3 k0_t4 k0_t7 => k0_hw3.2.1.2.2.2.2.2.2.2.2.2.2.2.2.2.2.2.2.2.2.1 k0_t4 k0_t7
theorem k0_off48_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off48 v27 v32 k0_t4 k0_t7) a + S1x16.size a ≤ S128x256.size a := fun v27 v32 k0_hw3 k0_t4 k0_t7 => k0_hw3.2.1.2.2.2.2.2.2.2.2.2.2.2.2.2.2.2.2.2.2.2.1 k0_t4 k0_t7
theorem k0_off49_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off49 v27 v32 k0_t4 k0_t7) a + S1x16.size a ≤ S128x256.size a := fun v27 v32 k0_hw3 k0_t4 k0_t7 => k0_hw3.2.1.2.2.2.2.2.2.2.2.2.2.2.2.2.2.2.2.2.2.2.2.1 k0_t4 k0_t7
theorem k0_off50_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off50 v27 v32 k0_t4 k0_t7) a + S1x16.size a ≤ S128x256.size a := fun v27 v32 k0_hw3 k0_t4 k0_t7 => k0_hw3.2.1.2.2.2.2.2.2.2.2.2.2.2.2.2.2.2.2.2.2.2.2.2.1 k0_t4 k0_t7
theorem k0_off51_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off51 v27 v32 k0_t4 k0_t7) a + S1x16.size a ≤ S128x256.size a := fun v27 v32 k0_hw3 k0_t4 k0_t7 => k0_hw3.2.1.2.2.2.2.2.2.2.2.2.2.2.2.2.2.2.2.2.2.2.2.2.2.1 k0_t4 k0_t7
theorem k0_off52_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off52 v27 v32 k0_t4 k0_t7) a + S1x16.size a ≤ S128x256.size a := fun v27 v32 k0_hw3 k0_t4 k0_t7 => k0_hw3.2.1.2.2.2.2.2.2.2.2.2.2.2.2.2.2.2.2.2.2.2.2.2.2.2.1 k0_t4 k0_t7
theorem k0_off53_inb : ∀ (v27 : BitVec 32) (v32 : BitVec 32) (k0_hw3 : k0_chk3 v27 v32) (k0_t4 : Fin (k0_t4_loop v27 v32).trips) (k0_t7 : Fin (k0_t7_loop v27 v32 k0_t4).trips), ∀ a, (k0_off53 v27 v32 k0_t4 k0_t7) a + S1x16.size a ≤ S128x256.size a := fun v27 v32 k0_hw3 k0_t4 k0_t7 => k0_hw3.2.1.2.2.2.2.2.2.2.2.2.2.2.2.2.2.2.2.2.2.2.2.2.2.2.2.1 k0_t4 k0_t7
theorem k0_t8_ok : ∀ (v27 : BitVec 32) (v32 : BitVec 32) (k0_hw3 : k0_chk3 v27 v32) (k0_t4 : Fin (k0_t4_loop v27 v32).trips), (k0_t8_loop v27 v32 k0_t4).OK := fun v27 v32 k0_hw3 k0_t4 => k0_hw3.2.1.2.2.2.2.2.2.2.2.2.2.2.2.2.2.2.2.2.2.2.2.2.2.2.2.2.1 k0_t4
theorem k0_off54_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off54 v27 v32 k0_t4 k0_t8) a + S1x16.size a ≤ S128x256.size a := fun v27 v32 k0_hw3 k0_t4 k0_t8 => k0_hw3.2.1.2.2.2.2.2.2.2.2.2.2.2.2.2.2.2.2.2.2.2.2.2.2.2.2.2.2.1 k0_t4 k0_t8
theorem k0_off55_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off55 v27 v32 k0_t4 k0_t8) a + S1x16.size a ≤ S128x256.size a := fun v27 v32 k0_hw3 k0_t4 k0_t8 => k0_hw3.2.1.2.2.2.2.2.2.2.2.2.2.2.2.2.2.2.2.2.2.2.2.2.2.2.2.2.2.2.1 k0_t4 k0_t8
theorem k0_off56_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off56 v27 v32 k0_t4 k0_t8) a + S1x16.size a ≤ S128x256.size a := fun v27 v32 k0_hw3 k0_t4 k0_t8 => k0_hw3.2.1.2.2.2.2.2.2.2.2.2.2.2.2.2.2.2.2.2.2.2.2.2.2.2.2.2.2.2.2.1 k0_t4 k0_t8
theorem k0_off57_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off57 v27 v32 k0_t4 k0_t8) a + S1x16.size a ≤ S128x256.size a := fun v27 v32 k0_hw3 k0_t4 k0_t8 => k0_hw3.2.1.2.2.2.2.2.2.2.2.2.2.2.2.2.2.2.2.2.2.2.2.2.2.2.2.2.2.2.2.2.1 k0_t4 k0_t8
theorem k0_off58_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off58 v27 v32 k0_t4 k0_t8) a + S1x16.size a ≤ S128x256.size a := fun v27 v32 k0_hw3 k0_t4 k0_t8 => k0_hw3.2.1.2.2.2.2.2.2.2.2.2.2.2.2.2.2.2.2.2.2.2.2.2.2.2.2.2.2.2.2.2.2.1 k0_t4 k0_t8
theorem k0_off59_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off59 v27 v32 k0_t4 k0_t8) a + S1x16.size a ≤ S128x256.size a := fun v27 v32 k0_hw3 k0_t4 k0_t8 => k0_hw3.2.1.2.2.2.2.2.2.2.2.2.2.2.2.2.2.2.2.2.2.2.2.2.2.2.2.2.2.2.2.2.2.2 k0_t4 k0_t8
theorem k0_off60_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off60 v27 v32 k0_t4 k0_t8) a + S1x16.size a ≤ S128x256.size a := fun v27 v32 k0_hw3 k0_t4 k0_t8 => k0_hw3.2.2.1.1 k0_t4 k0_t8
theorem k0_off61_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off61 v27 v32 k0_t4 k0_t8) a + S1x16.size a ≤ S128x256.size a := fun v27 v32 k0_hw3 k0_t4 k0_t8 => k0_hw3.2.2.1.2.1 k0_t4 k0_t8
theorem k0_off62_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off62 v27 v32 k0_t4 k0_t8) a + S1x16.size a ≤ S128x256.size a := fun v27 v32 k0_hw3 k0_t4 k0_t8 => k0_hw3.2.2.1.2.2.1 k0_t4 k0_t8
theorem k0_off63_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off63 v27 v32 k0_t4 k0_t8) a + S1x16.size a ≤ S128x256.size a := fun v27 v32 k0_hw3 k0_t4 k0_t8 => k0_hw3.2.2.1.2.2.2.1 k0_t4 k0_t8
theorem k0_off64_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off64 v27 v32 k0_t4 k0_t8) a + S1x16.size a ≤ S128x256.size a := fun v27 v32 k0_hw3 k0_t4 k0_t8 => k0_hw3.2.2.1.2.2.2.2.1 k0_t4 k0_t8
theorem k0_off65_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off65 v27 v32 k0_t4 k0_t8) a + S1x16.size a ≤ S128x256.size a := fun v27 v32 k0_hw3 k0_t4 k0_t8 => k0_hw3.2.2.1.2.2.2.2.2.1 k0_t4 k0_t8
theorem k0_off66_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off66 v27 v32 k0_t4 k0_t8) a + S1x16.size a ≤ S128x256.size a := fun v27 v32 k0_hw3 k0_t4 k0_t8 => k0_hw3.2.2.1.2.2.2.2.2.2.1 k0_t4 k0_t8
theorem k0_off67_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off67 v27 v32 k0_t4 k0_t8) a + S1x16.size a ≤ S128x256.size a := fun v27 v32 k0_hw3 k0_t4 k0_t8 => k0_hw3.2.2.1.2.2.2.2.2.2.2.1 k0_t4 k0_t8
theorem k0_off68_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off68 v27 v32 k0_t4 k0_t8) a + S1x16.size a ≤ S128x256.size a := fun v27 v32 k0_hw3 k0_t4 k0_t8 => k0_hw3.2.2.1.2.2.2.2.2.2.2.2.1 k0_t4 k0_t8
theorem k0_off69_inb : ∀ (v27 : BitVec 32) (v32 : BitVec 32) (k0_hw3 : k0_chk3 v27 v32) (k0_t4 : Fin (k0_t4_loop v27 v32).trips) (k0_t8 : Fin (k0_t8_loop v27 v32 k0_t4).trips), ∀ a, (k0_off69 v27 v32 k0_t4 k0_t8) a + S1x16.size a ≤ S128x256.size a := fun v27 v32 k0_hw3 k0_t4 k0_t8 => k0_hw3.2.2.1.2.2.2.2.2.2.2.2.2.1 k0_t4 k0_t8
theorem k0_mult5_dvd : ∀ (v27 : BitVec 32) (v32 : BitVec 32) (k0_hw3 : k0_chk3 v27 v32) (k0_t4 : Fin (k0_t4_loop v27 v32).trips), ∀ (k0_h4 : k0_cond4 v27 v32 k0_t4 = 1#1), 8 ∣ (k0_mult5 v27 v32 k0_t4).toNat := fun v27 v32 k0_hw3 k0_t4 k0_h4 => k0_hw3.2.2.1.2.2.2.2.2.2.2.2.2.2.1 k0_t4 k0_h4
theorem k0_off70_inb : ∀ (v27 : BitVec 32) (v32 : BitVec 32) (k0_hw3 : k0_chk3 v27 v32) (k0_t4 : Fin (k0_t4_loop v27 v32).trips), ∀ (k0_h4 : k0_cond4 v27 v32 k0_t4 = 1#1), ∀ a, (k0_off70 v27 v32 k0_t4) a + S128x256.size a ≤ S50000x256.size a := fun v27 v32 k0_hw3 k0_t4 k0_h4 => k0_hw3.2.2.1.2.2.2.2.2.2.2.2.2.2.2.1 k0_t4 k0_h4
theorem k0_mult6_dvd : ∀ (v27 : BitVec 32) (v32 : BitVec 32) (k0_hw3 : k0_chk3 v27 v32) (k0_t4 : Fin (k0_t4_loop v27 v32).trips), 8 ∣ (k0_mult6 v27 v32 k0_t4).toNat := fun v27 v32 k0_hw3 k0_t4 => k0_hw3.2.2.1.2.2.2.2.2.2.2.2.2.2.2.2.1 k0_t4
theorem k0_t9_ok : ∀ (v27 : BitVec 32) (v32 : BitVec 32) (k0_hw3 : k0_chk3 v27 v32) (k0_t4 : Fin (k0_t4_loop v27 v32).trips), (k0_t9_loop v27 v32 k0_t4).OK := fun v27 v32 k0_hw3 k0_t4 => k0_hw3.2.2.1.2.2.2.2.2.2.2.2.2.2.2.2.2.1 k0_t4
theorem k0_off71_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off71 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.1 k0_t4 k0_t9 r
theorem k0_off72_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off72 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.1 k0_t4 k0_t9 r
theorem k0_off73_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off73 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.1 k0_t4 k0_t9 r
theorem k0_off74_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off74 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.1 k0_t4 k0_t9 r
theorem k0_off75_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off75 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.1 k0_t4 k0_t9 r
theorem k0_off76_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off76 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.2.1 k0_t4 k0_t9 r
theorem k0_off77_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off77 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.2.2.1 k0_t4 k0_t9 r
theorem k0_off78_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off78 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.2.2.2.1 k0_t4 k0_t9 r
theorem k0_off79_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off79 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.2.2.2.2.1 k0_t4 k0_t9 r
theorem k0_off80_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off80 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.2.2.2.2.2.1 k0_t4 k0_t9 r
theorem k0_off81_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off81 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.2.2.2.2.2.2.1 k0_t4 k0_t9 r
theorem k0_off82_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off82 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.2.2.2.2.2.2.2.1 k0_t4 k0_t9 r
theorem k0_off83_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off83 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.2.2.2.2.2.2.2.2.1 k0_t4 k0_t9 r
theorem k0_off84_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off84 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.2.2.2.2.2.2.2.2.2.1 k0_t4 k0_t9 r
theorem k0_off85_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off85 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.2.2.2.2.2.2.2.2.2.2.1 k0_t4 k0_t9 r
theorem k0_off86_inb : ∀ (v27 : BitVec 32) (v32 : BitVec 32) (k0_hw3 : k0_chk3 v27 v32) (k0_t4 : Fin (k0_t4_loop v27 v32).trips) (k0_t9 : Fin (k0_t9_loop v27 v32 k0_t4).trips), ∀ (r : Fin 4), ∀ a, (k0_off86 v27 v32 k0_t4 k0_t9 (BitVec.ofNat 32 r.val)) a + S1x16.size a ≤ S128x256.size a := fun v27 v32 k0_hw3 k0_t4 k0_t9 r => k0_hw3.2.2.1.2.2.2.2.2.2.2.2.2.2.2.2.2.2.2.2.2.2.2.2.2.2.2.2.2.2.2.2.2.1 k0_t4 k0_t9 r
theorem k0_t10_ok : ∀ (v27 : BitVec 32) (v32 : BitVec 32) (k0_hw3 : k0_chk3 v27 v32) (k0_t4 : Fin (k0_t4_loop v27 v32).trips), (k0_t10_loop v27 v32 k0_t4).OK := fun v27 v32 k0_hw3 k0_t4 => k0_hw3.2.2.1.2.2.2.2.2.2.2.2.2.2.2.2.2.2.2.2.2.2.2.2.2.2.2.2.2.2.2.2.2.2.1 k0_t4
theorem k0_off87_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off87 v27 v32 k0_t4 k0_t10 (BitVec.ofNat 32 r.val)) a + S1x16.size a ≤ S128x256.size a := fun v27 v32 k0_hw3 k0_t4 k0_t10 r => k0_hw3.2.2.1.2.2.2.2.2.2.2.2.2.2.2.2.2.2.2.2.2.2.2.2.2.2.2.2.2.2.2.2.2.2.2 k0_t4 k0_t10 r
theorem k0_off88_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off88 v27 v32 k0_t4 k0_t10 (BitVec.ofNat 32 r.val)) a + S1x16.size a ≤ S128x256.size a := fun v27 v32 k0_hw3 k0_t4 k0_t10 r => k0_hw3.2.2.2.1.1 k0_t4 k0_t10 r
theorem k0_off89_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off89 v27 v32 k0_t4 k0_t10 (BitVec.ofNat 32 r.val)) a + S1x16.size a ≤ S128x256.size a := fun v27 v32 k0_hw3 k0_t4 k0_t10 r => k0_hw3.2.2.2.1.2.1 k0_t4 k0_t10 r
theorem k0_off90_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off90 v27 v32 k0_t4 k0_t10 (BitVec.ofNat 32 r.val)) a + S1x16.size a ≤ S128x256.size a := fun v27 v32 k0_hw3 k0_t4 k0_t10 r => k0_hw3.2.2.2.1.2.2.1 k0_t4 k0_t10 r
theorem k0_off91_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off91 v27 v32 k0_t4 k0_t10 (BitVec.ofNat 32 r.val)) a + S1x16.size a ≤ S128x256.size a := fun v27 v32 k0_hw3 k0_t4 k0_t10 r => k0_hw3.2.2.2.1.2.2.2.1 k0_t4 k0_t10 r
theorem k0_off92_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off92 v27 v32 k0_t4 k0_t10 (BitVec.ofNat 32 r.val)) a + S1x16.size a ≤ S128x256.size a := fun v27 v32 k0_hw3 k0_t4 k0_t10 r => k0_hw3.2.2.2.1.2.2.2.2.1 k0_t4 k0_t10 r
theorem k0_off93_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off93 v27 v32 k0_t4 k0_t10 (BitVec.ofNat 32 r.val)) a + S1x16.size a ≤ S128x256.size a := fun v27 v32 k0_hw3 k0_t4 k0_t10 r => k0_hw3.2.2.2.1.2.2.2.2.2.1 k0_t4 k0_t10 r
theorem k0_off94_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off94 v27 v32 k0_t4 k0_t10 (BitVec.ofNat 32 r.val)) a + S1x16.size a ≤ S128x256.size a := fun v27 v32 k0_hw3 k0_t4 k0_t10 r => k0_hw3.2.2.2.1.2.2.2.2.2.2.1 k0_t4 k0_t10 r
theorem k0_off95_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off95 v27 v32 k0_t4 k0_t10 (BitVec.ofNat 32 r.val)) a + S1x16.size a ≤ S128x256.size a := fun v27 v32 k0_hw3 k0_t4 k0_t10 r => k0_hw3.2.2.2.1.2.2.2.2.2.2.2.1 k0_t4 k0_t10 r
theorem k0_off96_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off96 v27 v32 k0_t4 k0_t10 (BitVec.ofNat 32 r.val)) a + S1x16.size a ≤ S128x256.size a := fun v27 v32 k0_hw3 k0_t4 k0_t10 r => k0_hw3.2.2.2.1.2.2.2.2.2.2.2.2.1 k0_t4 k0_t10 r
theorem k0_off97_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off97 v27 v32 k0_t4 k0_t10 (BitVec.ofNat 32 r.val)) a + S1x16.size a ≤ S128x256.size a := fun v27 v32 k0_hw3 k0_t4 k0_t10 r => k0_hw3.2.2.2.1.2.2.2.2.2.2.2.2.2.1 k0_t4 k0_t10 r
theorem k0_off98_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off98 v27 v32 k0_t4 k0_t10 (BitVec.ofNat 32 r.val)) a + S1x16.size a ≤ S128x256.size a := fun v27 v32 k0_hw3 k0_t4 k0_t10 r => k0_hw3.2.2.2.1.2.2.2.2.2.2.2.2.2.2.1 k0_t4 k0_t10 r
theorem k0_off99_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off99 v27 v32 k0_t4 k0_t10 (BitVec.ofNat 32 r.val)) a + S1x16.size a ≤ S128x256.size a := fun v27 v32 k0_hw3 k0_t4 k0_t10 r => k0_hw3.2.2.2.1.2.2.2.2.2.2.2.2.2.2.2.1 k0_t4 k0_t10 r
theorem k0_off100_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off100 v27 v32 k0_t4 k0_t10 (BitVec.ofNat 32 r.val)) a + S1x16.size a ≤ S128x256.size a := fun v27 v32 k0_hw3 k0_t4 k0_t10 r => k0_hw3.2.2.2.1.2.2.2.2.2.2.2.2.2.2.2.2.1 k0_t4 k0_t10 r
theorem k0_off101_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off101 v27 v32 k0_t4 k0_t10 (BitVec.ofNat 32 r.val)) a + S1x16.size a ≤ S128x256.size a := fun v27 v32 k0_hw3 k0_t4 k0_t10 r => k0_hw3.2.2.2.1.2.2.2.2.2.2.2.2.2.2.2.2.2.1 k0_t4 k0_t10 r
theorem k0_off102_inb : ∀ (v27 : BitVec 32) (v32 : BitVec 32) (k0_hw3 : k0_chk3 v27 v32) (k0_t4 : Fin (k0_t4_loop v27 v32).trips) (k0_t10 : Fin (k0_t10_loop v27 v32 k0_t4).trips), ∀ (r : Fin 4), ∀ a, (k0_off102 v27 v32 k0_t4 k0_t10 (BitVec.ofNat 32 r.val)) a + S1x16.size a ≤ S128x256.size a := fun v27 v32 k0_hw3 k0_t4 k0_t10 r => k0_hw3.2.2.2.1.2.2.2.2.2.2.2.2.2.2.2.2.2.2.1 k0_t4 k0_t10 r
theorem k0_t11_ok : ∀ (v27 : BitVec 32) (v32 : BitVec 32) (k0_hw3 : k0_chk3 v27 v32) (k0_t4 : Fin (k0_t4_loop v27 v32).trips), (k0_t11_loop v27 v32 k0_t4).OK := fun v27 v32 k0_hw3 k0_t4 => k0_hw3.2.2.2.1.2.2.2.2.2.2.2.2.2.2.2.2.2.2.2.1 k0_t4
theorem k0_off103_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off103 v27 v32 k0_t4 k0_t11) a + S1x16.size a ≤ S128x256.size a := fun v27 v32 k0_hw3 k0_t4 k0_t11 => k0_hw3.2.2.2.1.2.2.2.2.2.2.2.2.2.2.2.2.2.2.2.2.1 k0_t4 k0_t11
theorem k0_off104_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off104 v27 v32 k0_t4 k0_t11) a + S1x16.size a ≤ S128x256.size a := fun v27 v32 k0_hw3 k0_t4 k0_t11 => k0_hw3.2.2.2.1.2.2.2.2.2.2.2.2.2.2.2.2.2.2.2.2.2.1 k0_t4 k0_t11
theorem k0_off105_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off105 v27 v32 k0_t4 k0_t11) a + S1x16.size a ≤ S128x256.size a := fun v27 v32 k0_hw3 k0_t4 k0_t11 => k0_hw3.2.2.2.1.2.2.2.2.2.2.2.2.2.2.2.2.2.2.2.2.2.2.1 k0_t4 k0_t11
theorem k0_off106_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off106 v27 v32 k0_t4 k0_t11) a + S1x16.size a ≤ S128x256.size a := fun v27 v32 k0_hw3 k0_t4 k0_t11 => k0_hw3.2.2.2.1.2.2.2.2.2.2.2.2.2.2.2.2.2.2.2.2.2.2.2.1 k0_t4 k0_t11
theorem k0_off107_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off107 v27 v32 k0_t4 k0_t11) a + S1x16.size a ≤ S128x256.size a := fun v27 v32 k0_hw3 k0_t4 k0_t11 => k0_hw3.2.2.2.1.2.2.2.2.2.2.2.2.2.2.2.2.2.2.2.2.2.2.2.2.1 k0_t4 k0_t11
theorem k0_off108_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off108 v27 v32 k0_t4 k0_t11) a + S1x16.size a ≤ S128x256.size a := fun v27 v32 k0_hw3 k0_t4 k0_t11 => k0_hw3.2.2.2.1.2.2.2.2.2.2.2.2.2.2.2.2.2.2.2.2.2.2.2.2.2.1 k0_t4 k0_t11
theorem k0_off109_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off109 v27 v32 k0_t4 k0_t11) a + S1x16.size a ≤ S128x256.size a := fun v27 v32 k0_hw3 k0_t4 k0_t11 => k0_hw3.2.2.2.1.2.2.2.2.2.2.2.2.2.2.2.2.2.2.2.2.2.2.2.2.2.2.1 k0_t4 k0_t11
theorem k0_off110_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off110 v27 v32 k0_t4 k0_t11) a + S1x16.size a ≤ S128x256.size a := fun v27 v32 k0_hw3 k0_t4 k0_t11 => k0_hw3.2.2.2.1.2.2.2.2.2.2.2.2.2.2.2.2.2.2.2.2.2.2.2.2.2.2.2.1 k0_t4 k0_t11
theorem k0_off111_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off111 v27 v32 k0_t4 k0_t11) a + S1x16.size a ≤ S128x256.size a := fun v27 v32 k0_hw3 k0_t4 k0_t11 => k0_hw3.2.2.2.1.2.2.2.2.2.2.2.2.2.2.2.2.2.2.2.2.2.2.2.2.2.2.2.2.1 k0_t4 k0_t11
theorem k0_off112_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off112 v27 v32 k0_t4 k0_t11) a + S1x16.size a ≤ S128x256.size a := fun v27 v32 k0_hw3 k0_t4 k0_t11 => k0_hw3.2.2.2.1.2.2.2.2.2.2.2.2.2.2.2.2.2.2.2.2.2.2.2.2.2.2.2.2.2.1 k0_t4 k0_t11
theorem k0_off113_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off113 v27 v32 k0_t4 k0_t11) a + S1x16.size a ≤ S128x256.size a := fun v27 v32 k0_hw3 k0_t4 k0_t11 => k0_hw3.2.2.2.1.2.2.2.2.2.2.2.2.2.2.2.2.2.2.2.2.2.2.2.2.2.2.2.2.2.2.1 k0_t4 k0_t11
theorem k0_off114_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off114 v27 v32 k0_t4 k0_t11) a + S1x16.size a ≤ S128x256.size a := fun v27 v32 k0_hw3 k0_t4 k0_t11 => k0_hw3.2.2.2.1.2.2.2.2.2.2.2.2.2.2.2.2.2.2.2.2.2.2.2.2.2.2.2.2.2.2.2.1 k0_t4 k0_t11
theorem k0_off115_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off115 v27 v32 k0_t4 k0_t11) a + S1x16.size a ≤ S128x256.size a := fun v27 v32 k0_hw3 k0_t4 k0_t11 => k0_hw3.2.2.2.1.2.2.2.2.2.2.2.2.2.2.2.2.2.2.2.2.2.2.2.2.2.2.2.2.2.2.2.2.1 k0_t4 k0_t11
theorem k0_off116_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off116 v27 v32 k0_t4 k0_t11) a + S1x16.size a ≤ S128x256.size a := fun v27 v32 k0_hw3 k0_t4 k0_t11 => k0_hw3.2.2.2.1.2.2.2.2.2.2.2.2.2.2.2.2.2.2.2.2.2.2.2.2.2.2.2.2.2.2.2.2.2.1 k0_t4 k0_t11
theorem k0_off117_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off117 v27 v32 k0_t4 k0_t11) a + S1x16.size a ≤ S128x256.size a := fun v27 v32 k0_hw3 k0_t4 k0_t11 => k0_hw3.2.2.2.1.2.2.2.2.2.2.2.2.2.2.2.2.2.2.2.2.2.2.2.2.2.2.2.2.2.2.2.2.2.2.1 k0_t4 k0_t11
theorem k0_off118_inb : ∀ (v27 : BitVec 32) (v32 : BitVec 32) (k0_hw3 : k0_chk3 v27 v32) (k0_t4 : Fin (k0_t4_loop v27 v32).trips) (k0_t11 : Fin (k0_t11_loop v27 v32 k0_t4).trips), ∀ a, (k0_off118 v27 v32 k0_t4 k0_t11) a + S1x16.size a ≤ S128x256.size a := fun v27 v32 k0_hw3 k0_t4 k0_t11 => k0_hw3.2.2.2.1.2.2.2.2.2.2.2.2.2.2.2.2.2.2.2.2.2.2.2.2.2.2.2.2.2.2.2.2.2.2.2 k0_t4 k0_t11
theorem k0_t12_ok : ∀ (v27 : BitVec 32) (v32 : BitVec 32) (k0_hw3 : k0_chk3 v27 v32) (k0_t4 : Fin (k0_t4_loop v27 v32).trips), (k0_t12_loop v27 v32 k0_t4).OK := fun v27 v32 k0_hw3 k0_t4 => k0_hw3.2.2.2.2.1.1 k0_t4
theorem k0_off119_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off119 v27 v32 k0_t4 k0_t12) a + S1x16.size a ≤ S128x256.size a := fun v27 v32 k0_hw3 k0_t4 k0_t12 => k0_hw3.2.2.2.2.1.2.1 k0_t4 k0_t12
theorem k0_off120_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off120 v27 v32 k0_t4 k0_t12) a + S1x16.size a ≤ S128x256.size a := fun v27 v32 k0_hw3 k0_t4 k0_t12 => k0_hw3.2.2.2.2.1.2.2.1 k0_t4 k0_t12
theorem k0_off121_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off121 v27 v32 k0_t4 k0_t12) a + S1x16.size a ≤ S128x256.size a := fun v27 v32 k0_hw3 k0_t4 k0_t12 => k0_hw3.2.2.2.2.1.2.2.2.1 k0_t4 k0_t12
theorem k0_off122_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off122 v27 v32 k0_t4 k0_t12) a + S1x16.size a ≤ S128x256.size a := fun v27 v32 k0_hw3 k0_t4 k0_t12 => k0_hw3.2.2.2.2.1.2.2.2.2.1 k0_t4 k0_t12
theorem k0_off123_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off123 v27 v32 k0_t4 k0_t12) a + S1x16.size a ≤ S128x256.size a := fun v27 v32 k0_hw3 k0_t4 k0_t12 => k0_hw3.2.2.2.2.1.2.2.2.2.2.1 k0_t4 k0_t12
theorem k0_off124_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off124 v27 v32 k0_t4 k0_t12) a + S1x16.size a ≤ S128x256.size a := fun v27 v32 k0_hw3 k0_t4 k0_t12 => k0_hw3.2.2.2.2.1.2.2.2.2.2.2.1 k0_t4 k0_t12
theorem k0_off125_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off125 v27 v32 k0_t4 k0_t12) a + S1x16.size a ≤ S128x256.size a := fun v27 v32 k0_hw3 k0_t4 k0_t12 => k0_hw3.2.2.2.2.1.2.2.2.2.2.2.2.1 k0_t4 k0_t12
theorem k0_off126_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off126 v27 v32 k0_t4 k0_t12) a + S1x16.size a ≤ S128x256.size a := fun v27 v32 k0_hw3 k0_t4 k0_t12 => k0_hw3.2.2.2.2.1.2.2.2.2.2.2.2.2.1 k0_t4 k0_t12
theorem k0_off127_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off127 v27 v32 k0_t4 k0_t12) a + S1x16.size a ≤ S128x256.size a := fun v27 v32 k0_hw3 k0_t4 k0_t12 => k0_hw3.2.2.2.2.1.2.2.2.2.2.2.2.2.2.1 k0_t4 k0_t12
theorem k0_off128_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off128 v27 v32 k0_t4 k0_t12) a + S1x16.size a ≤ S128x256.size a := fun v27 v32 k0_hw3 k0_t4 k0_t12 => k0_hw3.2.2.2.2.1.2.2.2.2.2.2.2.2.2.2.1 k0_t4 k0_t12
theorem k0_off129_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off129 v27 v32 k0_t4 k0_t12) a + S1x16.size a ≤ S128x256.size a := fun v27 v32 k0_hw3 k0_t4 k0_t12 => k0_hw3.2.2.2.2.1.2.2.2.2.2.2.2.2.2.2.2.1 k0_t4 k0_t12
theorem k0_off130_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off130 v27 v32 k0_t4 k0_t12) a + S1x16.size a ≤ S128x256.size a := fun v27 v32 k0_hw3 k0_t4 k0_t12 => k0_hw3.2.2.2.2.1.2.2.2.2.2.2.2.2.2.2.2.2.1 k0_t4 k0_t12
theorem k0_off131_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off131 v27 v32 k0_t4 k0_t12) a + S1x16.size a ≤ S128x256.size a := fun v27 v32 k0_hw3 k0_t4 k0_t12 => k0_hw3.2.2.2.2.1.2.2.2.2.2.2.2.2.2.2.2.2.2.1 k0_t4 k0_t12
theorem k0_off132_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off132 v27 v32 k0_t4 k0_t12) a + S1x16.size a ≤ S128x256.size a := fun v27 v32 k0_hw3 k0_t4 k0_t12 => k0_hw3.2.2.2.2.1.2.2.2.2.2.2.2.2.2.2.2.2.2.2.1 k0_t4 k0_t12
theorem k0_off133_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off133 v27 v32 k0_t4 k0_t12) a + S1x16.size a ≤ S128x256.size a := fun v27 v32 k0_hw3 k0_t4 k0_t12 => k0_hw3.2.2.2.2.1.2.2.2.2.2.2.2.2.2.2.2.2.2.2.2.1 k0_t4 k0_t12
theorem k0_off134_inb : ∀ (v27 : BitVec 32) (v32 : BitVec 32) (k0_hw3 : k0_chk3 v27 v32) (k0_t4 : Fin (k0_t4_loop v27 v32).trips) (k0_t12 : Fin (k0_t12_loop v27 v32 k0_t4).trips), ∀ a, (k0_off134 v27 v32 k0_t4 k0_t12) a + S1x16.size a ≤ S128x256.size a := fun v27 v32 k0_hw3 k0_t4 k0_t12 => k0_hw3.2.2.2.2.1.2.2.2.2.2.2.2.2.2.2.2.2.2.2.2.2.1 k0_t4 k0_t12
theorem k0_t13_ok : ∀ (v27 : BitVec 32) (v32 : BitVec 32) (k0_hw3 : k0_chk3 v27 v32), (k0_t13_loop v27 v32).OK := fun v27 v32 k0_hw3 => k0_hw3.2.2.2.2.1.2.2.2.2.2.2.2.2.2.2.2.2.2.2.2.2.2.1
theorem k0_mult7_dvd : ∀ (v27 : BitVec 32) (v32 : BitVec 32) (k0_hw3 : k0_chk3 v27 v32) (k0_t13 : Fin (k0_t13_loop v27 v32).trips), ∀ (k0_h5 : k0_cond5 v27 v32 k0_t13 = 1#1), 8 ∣ (k0_mult7 v27 v32 k0_t13).toNat := fun v27 v32 k0_hw3 k0_t13 k0_h5 => k0_hw3.2.2.2.2.1.2.2.2.2.2.2.2.2.2.2.2.2.2.2.2.2.2.2.1 k0_t13 k0_h5
theorem k0_off135_inb : ∀ (v27 : BitVec 32) (v32 : BitVec 32) (k0_hw3 : k0_chk3 v27 v32) (k0_t13 : Fin (k0_t13_loop v27 v32).trips), ∀ (k0_h5 : k0_cond5 v27 v32 k0_t13 = 1#1), ∀ a, (k0_off135 v27 v32 k0_t13) a + S128x256.size a ≤ S50000x256.size a := fun v27 v32 k0_hw3 k0_t13 k0_h5 => k0_hw3.2.2.2.2.1.2.2.2.2.2.2.2.2.2.2.2.2.2.2.2.2.2.2.2.1 k0_t13 k0_h5
theorem k0_mult8_dvd : ∀ (v27 : BitVec 32) (v32 : BitVec 32) (k0_hw3 : k0_chk3 v27 v32) (k0_t13 : Fin (k0_t13_loop v27 v32).trips), 8 ∣ (k0_mult8 v27 v32 k0_t13).toNat := fun v27 v32 k0_hw3 k0_t13 => k0_hw3.2.2.2.2.1.2.2.2.2.2.2.2.2.2.2.2.2.2.2.2.2.2.2.2.2.1 k0_t13
theorem k0_t14_ok : ∀ (v27 : BitVec 32) (v32 : BitVec 32) (k0_hw3 : k0_chk3 v27 v32) (k0_t13 : Fin (k0_t13_loop v27 v32).trips), (k0_t14_loop v27 v32 k0_t13).OK := fun v27 v32 k0_hw3 k0_t13 => k0_hw3.2.2.2.2.1.2.2.2.2.2.2.2.2.2.2.2.2.2.2.2.2.2.2.2.2.2.1 k0_t13
theorem k0_off136_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off136 v27 v32 k0_t13 k0_t14 (BitVec.ofNat 32 r.val)) a + S1x16.size a ≤ S128x256.size a := fun v27 v32 k0_hw3 k0_t13 k0_t14 r => k0_hw3.2.2.2.2.1.2.2.2.2.2.2.2.2.2.2.2.2.2.2.2.2.2.2.2.2.2.2.1 k0_t13 k0_t14 r
theorem k0_off137_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off137 v27 v32 k0_t13 k0_t14 (BitVec.ofNat 32 r.val)) a + S1x16.size a ≤ S128x256.size a := fun v27 v32 k0_hw3 k0_t13 k0_t14 r => k0_hw3.2.2.2.2.1.2.2.2.2.2.2.2.2.2.2.2.2.2.2.2.2.2.2.2.2.2.2.2.1 k0_t13 k0_t14 r
theorem k0_off138_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off138 v27 v32 k0_t13 k0_t14 (BitVec.ofNat 32 r.val)) a + S1x16.size a ≤ S128x256.size a := fun v27 v32 k0_hw3 k0_t13 k0_t14 r => k0_hw3.2.2.2.2.1.2.2.2.2.2.2.2.2.2.2.2.2.2.2.2.2.2.2.2.2.2.2.2.2.1 k0_t13 k0_t14 r
theorem k0_off139_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off139 v27 v32 k0_t13 k0_t14 (BitVec.ofNat 32 r.val)) a + S1x16.size a ≤ S128x256.size a := fun v27 v32 k0_hw3 k0_t13 k0_t14 r => k0_hw3.2.2.2.2.1.2.2.2.2.2.2.2.2.2.2.2.2.2.2.2.2.2.2.2.2.2.2.2.2.2.1 k0_t13 k0_t14 r
theorem k0_off140_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off140 v27 v32 k0_t13 k0_t14 (BitVec.ofNat 32 r.val)) a + S1x16.size a ≤ S128x256.size a := fun v27 v32 k0_hw3 k0_t13 k0_t14 r => k0_hw3.2.2.2.2.1.2.2.2.2.2.2.2.2.2.2.2.2.2.2.2.2.2.2.2.2.2.2.2.2.2.2.1 k0_t13 k0_t14 r
theorem k0_off141_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off141 v27 v32 k0_t13 k0_t14 (BitVec.ofNat 32 r.val)) a + S1x16.size a ≤ S128x256.size a := fun v27 v32 k0_hw3 k0_t13 k0_t14 r => k0_hw3.2.2.2.2.1.2.2.2.2.2.2.2.2.2.2.2.2.2.2.2.2.2.2.2.2.2.2.2.2.2.2.2.1 k0_t13 k0_t14 r
theorem k0_off142_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off142 v27 v32 k0_t13 k0_t14 (BitVec.ofNat 32 r.val)) a + S1x16.size a ≤ S128x256.size a := fun v27 v32 k0_hw3 k0_t13 k0_t14 r => k0_hw3.2.2.2.2.1.2.2.2.2.2.2.2.2.2.2.2.2.2.2.2.2.2.2.2.2.2.2.2.2.2.2.2.2.1 k0_t13 k0_t14 r
theorem k0_off143_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off143 v27 v32 k0_t13 k0_t14 (BitVec.ofNat 32 r.val)) a + S1x16.size a ≤ S128x256.size a := fun v27 v32 k0_hw3 k0_t13 k0_t14 r => k0_hw3.2.2.2.2.1.2.2.2.2.2.2.2.2.2.2.2.2.2.2.2.2.2.2.2.2.2.2.2.2.2.2.2.2.2.1 k0_t13 k0_t14 r
theorem k0_off144_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off144 v27 v32 k0_t13 k0_t14 (BitVec.ofNat 32 r.val)) a + S1x16.size a ≤ S128x256.size a := fun v27 v32 k0_hw3 k0_t13 k0_t14 r => k0_hw3.2.2.2.2.1.2.2.2.2.2.2.2.2.2.2.2.2.2.2.2.2.2.2.2.2.2.2.2.2.2.2.2.2.2.2.1 k0_t13 k0_t14 r
theorem k0_off145_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off145 v27 v32 k0_t13 k0_t14 (BitVec.ofNat 32 r.val)) a + S1x16.size a ≤ S128x256.size a := fun v27 v32 k0_hw3 k0_t13 k0_t14 r => k0_hw3.2.2.2.2.1.2.2.2.2.2.2.2.2.2.2.2.2.2.2.2.2.2.2.2.2.2.2.2.2.2.2.2.2.2.2.2 k0_t13 k0_t14 r
theorem k0_off146_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off146 v27 v32 k0_t13 k0_t14 (BitVec.ofNat 32 r.val)) a + S1x16.size a ≤ S128x256.size a := fun v27 v32 k0_hw3 k0_t13 k0_t14 r => k0_hw3.2.2.2.2.2.1.1 k0_t13 k0_t14 r
theorem k0_off147_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off147 v27 v32 k0_t13 k0_t14 (BitVec.ofNat 32 r.val)) a + S1x16.size a ≤ S128x256.size a := fun v27 v32 k0_hw3 k0_t13 k0_t14 r => k0_hw3.2.2.2.2.2.1.2.1 k0_t13 k0_t14 r
theorem k0_off148_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off148 v27 v32 k0_t13 k0_t14 (BitVec.ofNat 32 r.val)) a + S1x16.size a ≤ S128x256.size a := fun v27 v32 k0_hw3 k0_t13 k0_t14 r => k0_hw3.2.2.2.2.2.1.2.2.1 k0_t13 k0_t14 r
theorem k0_off149_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off149 v27 v32 k0_t13 k0_t14 (BitVec.ofNat 32 r.val)) a + S1x16.size a ≤ S128x256.size a := fun v27 v32 k0_hw3 k0_t13 k0_t14 r => k0_hw3.2.2.2.2.2.1.2.2.2.1 k0_t13 k0_t14 r
theorem k0_off150_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off150 v27 v32 k0_t13 k0_t14 (BitVec.ofNat 32 r.val)) a + S1x16.size a ≤ S128x256.size a := fun v27 v32 k0_hw3 k0_t13 k0_t14 r => k0_hw3.2.2.2.2.2.1.2.2.2.2.1 k0_t13 k0_t14 r
theorem k0_off151_inb : ∀ (v27 : BitVec 32) (v32 : BitVec 32) (k0_hw3 : k0_chk3 v27 v32) (k0_t13 : Fin (k0_t13_loop v27 v32).trips) (k0_t14 : Fin (k0_t14_loop v27 v32 k0_t13).trips), ∀ (r : Fin 4), ∀ a, (k0_off151 v27 v32 k0_t13 k0_t14 (BitVec.ofNat 32 r.val)) a + S1x16.size a ≤ S128x256.size a := fun v27 v32 k0_hw3 k0_t13 k0_t14 r => k0_hw3.2.2.2.2.2.1.2.2.2.2.2.1 k0_t13 k0_t14 r
theorem k0_t15_ok : ∀ (v27 : BitVec 32) (v32 : BitVec 32) (k0_hw3 : k0_chk3 v27 v32) (k0_t13 : Fin (k0_t13_loop v27 v32).trips), (k0_t15_loop v27 v32 k0_t13).OK := fun v27 v32 k0_hw3 k0_t13 => k0_hw3.2.2.2.2.2.1.2.2.2.2.2.2.1 k0_t13
theorem k0_off152_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off152 v27 v32 k0_t13 k0_t15 (BitVec.ofNat 32 r.val)) a + S1x16.size a ≤ S128x256.size a := fun v27 v32 k0_hw3 k0_t13 k0_t15 r => k0_hw3.2.2.2.2.2.1.2.2.2.2.2.2.2.1 k0_t13 k0_t15 r
theorem k0_off153_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off153 v27 v32 k0_t13 k0_t15 (BitVec.ofNat 32 r.val)) a + S1x16.size a ≤ S128x256.size a := fun v27 v32 k0_hw3 k0_t13 k0_t15 r => k0_hw3.2.2.2.2.2.1.2.2.2.2.2.2.2.2.1 k0_t13 k0_t15 r
theorem k0_off154_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off154 v27 v32 k0_t13 k0_t15 (BitVec.ofNat 32 r.val)) a + S1x16.size a ≤ S128x256.size a := fun v27 v32 k0_hw3 k0_t13 k0_t15 r => k0_hw3.2.2.2.2.2.1.2.2.2.2.2.2.2.2.2.1 k0_t13 k0_t15 r
theorem k0_off155_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off155 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.1 k0_t13 k0_t15 r
theorem k0_off156_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off156 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.1 k0_t13 k0_t15 r
theorem k0_off157_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off157 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.2.1 k0_t13 k0_t15 r
theorem k0_off158_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off158 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.2.2.1 k0_t13 k0_t15 r
theorem k0_off159_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off159 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.2.2.2.1 k0_t13 k0_t15 r
theorem k0_off160_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off160 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.2.2.2.2.1 k0_t13 k0_t15 r
theorem k0_off161_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off161 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.2.2.2.2.2.1 k0_t13 k0_t15 r
theorem k0_off162_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off162 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.2.2.2.2.2.2.1 k0_t13 k0_t15 r
theorem k0_off163_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off163 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.2.2.2.2.2.2.2.1 k0_t13 k0_t15 r
theorem k0_off164_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off164 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.2.2.2.2.2.2.2.2.1 k0_t13 k0_t15 r
theorem k0_off165_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off165 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.2.2.2.2.2.2.2.2.2.1 k0_t13 k0_t15 r
theorem k0_off166_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off166 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.2.2.2.2.2.2.2.2.2.2.1 k0_t13 k0_t15 r
theorem k0_off167_inb : ∀ (v27 : BitVec 32) (v32 : BitVec 32) (k0_hw3 : k0_chk3 v27 v32) (k0_t13 : Fin (k0_t13_loop v27 v32).trips) (k0_t15 : Fin (k0_t15_loop v27 v32 k0_t13).trips), ∀ (r : Fin 4), ∀ a, (k0_off167 v27 v32 k0_t13 k0_t15 (BitVec.ofNat 32 r.val)) a + S1x16.size a ≤ S128x256.size a := fun v27 v32 k0_hw3 k0_t13 k0_t15 r => k0_hw3.2.2.2.2.2.1.2.2.2.2.2.2.2.2.2.2.2.2.2.2.2.2.2.2.2.2.2.2.1 k0_t13 k0_t15 r
theorem k0_t16_ok : ∀ (v27 : BitVec 32) (v32 : BitVec 32) (k0_hw3 : k0_chk3 v27 v32) (k0_t13 : Fin (k0_t13_loop v27 v32).trips), (k0_t16_loop v27 v32 k0_t13).OK := fun v27 v32 k0_hw3 k0_t13 => k0_hw3.2.2.2.2.2.1.2.2.2.2.2.2.2.2.2.2.2.2.2.2.2.2.2.2.2.2.2.2.2.1 k0_t13
theorem k0_off168_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off168 v27 v32 k0_t13 k0_t16) a + S1x16.size a ≤ S128x256.size a := fun v27 v32 k0_hw3 k0_t13 k0_t16 => k0_hw3.2.2.2.2.2.1.2.2.2.2.2.2.2.2.2.2.2.2.2.2.2.2.2.2.2.2.2.2.2.2.1 k0_t13 k0_t16
theorem k0_off169_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off169 v27 v32 k0_t13 k0_t16) a + S1x16.size a ≤ S128x256.size a := fun v27 v32 k0_hw3 k0_t13 k0_t16 => k0_hw3.2.2.2.2.2.1.2.2.2.2.2.2.2.2.2.2.2.2.2.2.2.2.2.2.2.2.2.2.2.2.2.1 k0_t13 k0_t16
theorem k0_off170_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off170 v27 v32 k0_t13 k0_t16) a + S1x16.size a ≤ S128x256.size a := fun v27 v32 k0_hw3 k0_t13 k0_t16 => k0_hw3.2.2.2.2.2.1.2.2.2.2.2.2.2.2.2.2.2.2.2.2.2.2.2.2.2.2.2.2.2.2.2.2.1 k0_t13 k0_t16
theorem k0_off171_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off171 v27 v32 k0_t13 k0_t16) a + S1x16.size a ≤ S128x256.size a := fun v27 v32 k0_hw3 k0_t13 k0_t16 => k0_hw3.2.2.2.2.2.1.2.2.2.2.2.2.2.2.2.2.2.2.2.2.2.2.2.2.2.2.2.2.2.2.2.2.2.1 k0_t13 k0_t16
theorem k0_off172_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off172 v27 v32 k0_t13 k0_t16) a + S1x16.size a ≤ S128x256.size a := fun v27 v32 k0_hw3 k0_t13 k0_t16 => k0_hw3.2.2.2.2.2.1.2.2.2.2.2.2.2.2.2.2.2.2.2.2.2.2.2.2.2.2.2.2.2.2.2.2.2.2.1 k0_t13 k0_t16
theorem k0_off173_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off173 v27 v32 k0_t13 k0_t16) a + S1x16.size a ≤ S128x256.size a := fun v27 v32 k0_hw3 k0_t13 k0_t16 => k0_hw3.2.2.2.2.2.1.2.2.2.2.2.2.2.2.2.2.2.2.2.2.2.2.2.2.2.2.2.2.2.2.2.2.2.2.2.1 k0_t13 k0_t16
theorem k0_off174_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off174 v27 v32 k0_t13 k0_t16) a + S1x16.size a ≤ S128x256.size a := fun v27 v32 k0_hw3 k0_t13 k0_t16 => k0_hw3.2.2.2.2.2.1.2.2.2.2.2.2.2.2.2.2.2.2.2.2.2.2.2.2.2.2.2.2.2.2.2.2.2.2.2.2.1 k0_t13 k0_t16
theorem k0_off175_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off175 v27 v32 k0_t13 k0_t16) a + S1x16.size a ≤ S128x256.size a := fun v27 v32 k0_hw3 k0_t13 k0_t16 => k0_hw3.2.2.2.2.2.1.2.2.2.2.2.2.2.2.2.2.2.2.2.2.2.2.2.2.2.2.2.2.2.2.2.2.2.2.2.2.2 k0_t13 k0_t16
theorem k0_off176_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off176 v27 v32 k0_t13 k0_t16) a + S1x16.size a ≤ S128x256.size a := fun v27 v32 k0_hw3 k0_t13 k0_t16 => k0_hw3.2.2.2.2.2.2.1.1 k0_t13 k0_t16
theorem k0_off177_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off177 v27 v32 k0_t13 k0_t16) a + S1x16.size a ≤ S128x256.size a := fun v27 v32 k0_hw3 k0_t13 k0_t16 => k0_hw3.2.2.2.2.2.2.1.2.1 k0_t13 k0_t16
theorem k0_off178_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off178 v27 v32 k0_t13 k0_t16) a + S1x16.size a ≤ S128x256.size a := fun v27 v32 k0_hw3 k0_t13 k0_t16 => k0_hw3.2.2.2.2.2.2.1.2.2.1 k0_t13 k0_t16
theorem k0_off179_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off179 v27 v32 k0_t13 k0_t16) a + S1x16.size a ≤ S128x256.size a := fun v27 v32 k0_hw3 k0_t13 k0_t16 => k0_hw3.2.2.2.2.2.2.1.2.2.2.1 k0_t13 k0_t16
theorem k0_off180_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off180 v27 v32 k0_t13 k0_t16) a + S1x16.size a ≤ S128x256.size a := fun v27 v32 k0_hw3 k0_t13 k0_t16 => k0_hw3.2.2.2.2.2.2.1.2.2.2.2.1 k0_t13 k0_t16
theorem k0_off181_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off181 v27 v32 k0_t13 k0_t16) a + S1x16.size a ≤ S128x256.size a := fun v27 v32 k0_hw3 k0_t13 k0_t16 => k0_hw3.2.2.2.2.2.2.1.2.2.2.2.2.1 k0_t13 k0_t16
theorem k0_off182_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off182 v27 v32 k0_t13 k0_t16) a + S1x16.size a ≤ S128x256.size a := fun v27 v32 k0_hw3 k0_t13 k0_t16 => k0_hw3.2.2.2.2.2.2.1.2.2.2.2.2.2.1 k0_t13 k0_t16
theorem k0_off183_inb : ∀ (v27 : BitVec 32) (v32 : BitVec 32) (k0_hw3 : k0_chk3 v27 v32) (k0_t13 : Fin (k0_t13_loop v27 v32).trips) (k0_t16 : Fin (k0_t16_loop v27 v32 k0_t13).trips), ∀ a, (k0_off183 v27 v32 k0_t13 k0_t16) a + S1x16.size a ≤ S128x256.size a := fun v27 v32 k0_hw3 k0_t13 k0_t16 => k0_hw3.2.2.2.2.2.2.1.2.2.2.2.2.2.2.1 k0_t13 k0_t16
theorem k0_t17_ok : ∀ (v27 : BitVec 32) (v32 : BitVec 32) (k0_hw3 : k0_chk3 v27 v32) (k0_t13 : Fin (k0_t13_loop v27 v32).trips), (k0_t17_loop v27 v32 k0_t13).OK := fun v27 v32 k0_hw3 k0_t13 => k0_hw3.2.2.2.2.2.2.1.2.2.2.2.2.2.2.2.1 k0_t13
theorem k0_off184_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off184 v27 v32 k0_t13 k0_t17) a + S1x16.size a ≤ S128x256.size a := fun v27 v32 k0_hw3 k0_t13 k0_t17 => k0_hw3.2.2.2.2.2.2.1.2.2.2.2.2.2.2.2.2.1 k0_t13 k0_t17
theorem k0_off185_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off185 v27 v32 k0_t13 k0_t17) a + S1x16.size a ≤ S128x256.size a := fun v27 v32 k0_hw3 k0_t13 k0_t17 => k0_hw3.2.2.2.2.2.2.1.2.2.2.2.2.2.2.2.2.2.1 k0_t13 k0_t17
theorem k0_off186_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off186 v27 v32 k0_t13 k0_t17) a + S1x16.size a ≤ S128x256.size a := fun v27 v32 k0_hw3 k0_t13 k0_t17 => k0_hw3.2.2.2.2.2.2.1.2.2.2.2.2.2.2.2.2.2.2.1 k0_t13 k0_t17
theorem k0_off187_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off187 v27 v32 k0_t13 k0_t17) a + S1x16.size a ≤ S128x256.size a := fun v27 v32 k0_hw3 k0_t13 k0_t17 => k0_hw3.2.2.2.2.2.2.1.2.2.2.2.2.2.2.2.2.2.2.2.1 k0_t13 k0_t17
theorem k0_off188_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off188 v27 v32 k0_t13 k0_t17) a + S1x16.size a ≤ S128x256.size a := fun v27 v32 k0_hw3 k0_t13 k0_t17 => k0_hw3.2.2.2.2.2.2.1.2.2.2.2.2.2.2.2.2.2.2.2.2.1 k0_t13 k0_t17
theorem k0_off189_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off189 v27 v32 k0_t13 k0_t17) a + S1x16.size a ≤ S128x256.size a := fun v27 v32 k0_hw3 k0_t13 k0_t17 => k0_hw3.2.2.2.2.2.2.1.2.2.2.2.2.2.2.2.2.2.2.2.2.2.1 k0_t13 k0_t17
theorem k0_off190_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off190 v27 v32 k0_t13 k0_t17) a + S1x16.size a ≤ S128x256.size a := fun v27 v32 k0_hw3 k0_t13 k0_t17 => k0_hw3.2.2.2.2.2.2.1.2.2.2.2.2.2.2.2.2.2.2.2.2.2.2.1 k0_t13 k0_t17
theorem k0_off191_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off191 v27 v32 k0_t13 k0_t17) a + S1x16.size a ≤ S128x256.size a := fun v27 v32 k0_hw3 k0_t13 k0_t17 => k0_hw3.2.2.2.2.2.2.1.2.2.2.2.2.2.2.2.2.2.2.2.2.2.2.2.1 k0_t13 k0_t17
theorem k0_off192_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off192 v27 v32 k0_t13 k0_t17) a + S1x16.size a ≤ S128x256.size a := fun v27 v32 k0_hw3 k0_t13 k0_t17 => k0_hw3.2.2.2.2.2.2.1.2.2.2.2.2.2.2.2.2.2.2.2.2.2.2.2.2.1 k0_t13 k0_t17
theorem k0_off193_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off193 v27 v32 k0_t13 k0_t17) a + S1x16.size a ≤ S128x256.size a := fun v27 v32 k0_hw3 k0_t13 k0_t17 => k0_hw3.2.2.2.2.2.2.1.2.2.2.2.2.2.2.2.2.2.2.2.2.2.2.2.2.2.1 k0_t13 k0_t17
theorem k0_off194_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off194 v27 v32 k0_t13 k0_t17) a + S1x16.size a ≤ S128x256.size a := fun v27 v32 k0_hw3 k0_t13 k0_t17 => k0_hw3.2.2.2.2.2.2.1.2.2.2.2.2.2.2.2.2.2.2.2.2.2.2.2.2.2.2.1 k0_t13 k0_t17
theorem k0_off195_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off195 v27 v32 k0_t13 k0_t17) a + S1x16.size a ≤ S128x256.size a := fun v27 v32 k0_hw3 k0_t13 k0_t17 => k0_hw3.2.2.2.2.2.2.1.2.2.2.2.2.2.2.2.2.2.2.2.2.2.2.2.2.2.2.2.1 k0_t13 k0_t17
theorem k0_off196_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off196 v27 v32 k0_t13 k0_t17) a + S1x16.size a ≤ S128x256.size a := fun v27 v32 k0_hw3 k0_t13 k0_t17 => k0_hw3.2.2.2.2.2.2.1.2.2.2.2.2.2.2.2.2.2.2.2.2.2.2.2.2.2.2.2.2.1 k0_t13 k0_t17
theorem k0_off197_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off197 v27 v32 k0_t13 k0_t17) a + S1x16.size a ≤ S128x256.size a := fun v27 v32 k0_hw3 k0_t13 k0_t17 => k0_hw3.2.2.2.2.2.2.1.2.2.2.2.2.2.2.2.2.2.2.2.2.2.2.2.2.2.2.2.2.2.1 k0_t13 k0_t17
theorem k0_off198_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off198 v27 v32 k0_t13 k0_t17) a + S1x16.size a ≤ S128x256.size a := fun v27 v32 k0_hw3 k0_t13 k0_t17 => k0_hw3.2.2.2.2.2.2.1.2.2.2.2.2.2.2.2.2.2.2.2.2.2.2.2.2.2.2.2.2.2.2.1 k0_t13 k0_t17
theorem k0_off199_inb : ∀ (v27 : BitVec 32) (v32 : BitVec 32) (k0_hw3 : k0_chk3 v27 v32) (k0_t13 : Fin (k0_t13_loop v27 v32).trips) (k0_t17 : Fin (k0_t17_loop v27 v32 k0_t13).trips), ∀ a, (k0_off199 v27 v32 k0_t13 k0_t17) a + S1x16.size a ≤ S128x256.size a := fun v27 v32 k0_hw3 k0_t13 k0_t17 => k0_hw3.2.2.2.2.2.2.1.2.2.2.2.2.2.2.2.2.2.2.2.2.2.2.2.2.2.2.2.2.2.2.2.1 k0_t13 k0_t17
theorem k0_mult9_dvd : ∀ (v27 : BitVec 32) (v32 : BitVec 32) (k0_hw3 : k0_chk3 v27 v32) (k0_t13 : Fin (k0_t13_loop v27 v32).trips), ∀ (k0_h7 : k0_cond7 v27 v32 k0_t13 = 1#1), 8 ∣ (k0_mult9 v27 v32 k0_t13).toNat := fun v27 v32 k0_hw3 k0_t13 k0_h7 => k0_hw3.2.2.2.2.2.2.1.2.2.2.2.2.2.2.2.2.2.2.2.2.2.2.2.2.2.2.2.2.2.2.2.2.1 k0_t13 k0_h7
theorem k0_off200_inb : ∀ (v27 : BitVec 32) (v32 : BitVec 32) (k0_hw3 : k0_chk3 v27 v32) (k0_t13 : Fin (k0_t13_loop v27 v32).trips), ∀ (k0_h7 : k0_cond7 v27 v32 k0_t13 = 1#1), ∀ a, (k0_off200 v27 v32 k0_t13) a + S128x256.size a ≤ S50000x256.size a := fun v27 v32 k0_hw3 k0_t13 k0_h7 => k0_hw3.2.2.2.2.2.2.1.2.2.2.2.2.2.2.2.2.2.2.2.2.2.2.2.2.2.2.2.2.2.2.2.2.2.1 k0_t13 k0_h7
theorem k0_mult10_dvd : ∀ (v27 : BitVec 32) (v32 : BitVec 32) (k0_hw3 : k0_chk3 v27 v32) (k0_t13 : Fin (k0_t13_loop v27 v32).trips), 8 ∣ (k0_mult10 v27 v32 k0_t13).toNat := fun v27 v32 k0_hw3 k0_t13 => k0_hw3.2.2.2.2.2.2.1.2.2.2.2.2.2.2.2.2.2.2.2.2.2.2.2.2.2.2.2.2.2.2.2.2.2.2.1 k0_t13
theorem k0_t18_ok : ∀ (v27 : BitVec 32) (v32 : BitVec 32) (k0_hw3 : k0_chk3 v27 v32) (k0_t13 : Fin (k0_t13_loop v27 v32).trips), (k0_t18_loop v27 v32 k0_t13).OK := fun v27 v32 k0_hw3 k0_t13 => k0_hw3.2.2.2.2.2.2.1.2.2.2.2.2.2.2.2.2.2.2.2.2.2.2.2.2.2.2.2.2.2.2.2.2.2.2.2.1 k0_t13
theorem k0_off201_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off201 v27 v32 k0_t13 k0_t18 (BitVec.ofNat 32 r.val)) a + S1x16.size a ≤ S128x256.size a := fun v27 v32 k0_hw3 k0_t13 k0_t18 r => k0_hw3.2.2.2.2.2.2.1.2.2.2.2.2.2.2.2.2.2.2.2.2.2.2.2.2.2.2.2.2.2.2.2.2.2.2.2.2.1 k0_t13 k0_t18 r
theorem k0_off202_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off202 v27 v32 k0_t13 k0_t18 (BitVec.ofNat 32 r.val)) a + S1x16.size a ≤ S128x256.size a := fun v27 v32 k0_hw3 k0_t13 k0_t18 r => k0_hw3.2.2.2.2.2.2.1.2.2.2.2.2.2.2.2.2.2.2.2.2.2.2.2.2.2.2.2.2.2.2.2.2.2.2.2.2.2.1 k0_t13 k0_t18 r
theorem k0_off203_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off203 v27 v32 k0_t13 k0_t18 (BitVec.ofNat 32 r.val)) a + S1x16.size a ≤ S128x256.size a := fun v27 v32 k0_hw3 k0_t13 k0_t18 r => k0_hw3.2.2.2.2.2.2.1.2.2.2.2.2.2.2.2.2.2.2.2.2.2.2.2.2.2.2.2.2.2.2.2.2.2.2.2.2.2.2 k0_t13 k0_t18 r
theorem k0_off204_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off204 v27 v32 k0_t13 k0_t18 (BitVec.ofNat 32 r.val)) a + S1x16.size a ≤ S128x256.size a := fun v27 v32 k0_hw3 k0_t13 k0_t18 r => k0_hw3.2.2.2.2.2.2.2.1.1 k0_t13 k0_t18 r
theorem k0_off205_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off205 v27 v32 k0_t13 k0_t18 (BitVec.ofNat 32 r.val)) a + S1x16.size a ≤ S128x256.size a := fun v27 v32 k0_hw3 k0_t13 k0_t18 r => k0_hw3.2.2.2.2.2.2.2.1.2.1 k0_t13 k0_t18 r
theorem k0_off206_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off206 v27 v32 k0_t13 k0_t18 (BitVec.ofNat 32 r.val)) a + S1x16.size a ≤ S128x256.size a := fun v27 v32 k0_hw3 k0_t13 k0_t18 r => k0_hw3.2.2.2.2.2.2.2.1.2.2.1 k0_t13 k0_t18 r
theorem k0_off207_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off207 v27 v32 k0_t13 k0_t18 (BitVec.ofNat 32 r.val)) a + S1x16.size a ≤ S128x256.size a := fun v27 v32 k0_hw3 k0_t13 k0_t18 r => k0_hw3.2.2.2.2.2.2.2.1.2.2.2.1 k0_t13 k0_t18 r
theorem k0_off208_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off208 v27 v32 k0_t13 k0_t18 (BitVec.ofNat 32 r.val)) a + S1x16.size a ≤ S128x256.size a := fun v27 v32 k0_hw3 k0_t13 k0_t18 r => k0_hw3.2.2.2.2.2.2.2.1.2.2.2.2.1 k0_t13 k0_t18 r
theorem k0_off209_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off209 v27 v32 k0_t13 k0_t18 (BitVec.ofNat 32 r.val)) a + S1x16.size a ≤ S128x256.size a := fun v27 v32 k0_hw3 k0_t13 k0_t18 r => k0_hw3.2.2.2.2.2.2.2.1.2.2.2.2.2.1 k0_t13 k0_t18 r
theorem k0_off210_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off210 v27 v32 k0_t13 k0_t18 (BitVec.ofNat 32 r.val)) a + S1x16.size a ≤ S128x256.size a := fun v27 v32 k0_hw3 k0_t13 k0_t18 r => k0_hw3.2.2.2.2.2.2.2.1.2.2.2.2.2.2.1 k0_t13 k0_t18 r
theorem k0_off211_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off211 v27 v32 k0_t13 k0_t18 (BitVec.ofNat 32 r.val)) a + S1x16.size a ≤ S128x256.size a := fun v27 v32 k0_hw3 k0_t13 k0_t18 r => k0_hw3.2.2.2.2.2.2.2.1.2.2.2.2.2.2.2.1 k0_t13 k0_t18 r
theorem k0_off212_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off212 v27 v32 k0_t13 k0_t18 (BitVec.ofNat 32 r.val)) a + S1x16.size a ≤ S128x256.size a := fun v27 v32 k0_hw3 k0_t13 k0_t18 r => k0_hw3.2.2.2.2.2.2.2.1.2.2.2.2.2.2.2.2.1 k0_t13 k0_t18 r
theorem k0_off213_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off213 v27 v32 k0_t13 k0_t18 (BitVec.ofNat 32 r.val)) a + S1x16.size a ≤ S128x256.size a := fun v27 v32 k0_hw3 k0_t13 k0_t18 r => k0_hw3.2.2.2.2.2.2.2.1.2.2.2.2.2.2.2.2.2.1 k0_t13 k0_t18 r
theorem k0_off214_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off214 v27 v32 k0_t13 k0_t18 (BitVec.ofNat 32 r.val)) a + S1x16.size a ≤ S128x256.size a := fun v27 v32 k0_hw3 k0_t13 k0_t18 r => k0_hw3.2.2.2.2.2.2.2.1.2.2.2.2.2.2.2.2.2.2.1 k0_t13 k0_t18 r
theorem k0_off215_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off215 v27 v32 k0_t13 k0_t18 (BitVec.ofNat 32 r.val)) a + S1x16.size a ≤ S128x256.size a := fun v27 v32 k0_hw3 k0_t13 k0_t18 r => k0_hw3.2.2.2.2.2.2.2.1.2.2.2.2.2.2.2.2.2.2.2.1 k0_t13 k0_t18 r
theorem k0_off216_inb : ∀ (v27 : BitVec 32) (v32 : BitVec 32) (k0_hw3 : k0_chk3 v27 v32) (k0_t13 : Fin (k0_t13_loop v27 v32).trips) (k0_t18 : Fin (k0_t18_loop v27 v32 k0_t13).trips), ∀ (r : Fin 4), ∀ a, (k0_off216 v27 v32 k0_t13 k0_t18 (BitVec.ofNat 32 r.val)) a + S1x16.size a ≤ S128x256.size a := fun v27 v32 k0_hw3 k0_t13 k0_t18 r => k0_hw3.2.2.2.2.2.2.2.1.2.2.2.2.2.2.2.2.2.2.2.2.1 k0_t13 k0_t18 r
theorem k0_t19_ok : ∀ (v27 : BitVec 32) (v32 : BitVec 32) (k0_hw3 : k0_chk3 v27 v32) (k0_t13 : Fin (k0_t13_loop v27 v32).trips), (k0_t19_loop v27 v32 k0_t13).OK := fun v27 v32 k0_hw3 k0_t13 => k0_hw3.2.2.2.2.2.2.2.1.2.2.2.2.2.2.2.2.2.2.2.2.2.1 k0_t13
theorem k0_off217_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off217 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.1 k0_t13 k0_t19 r
theorem k0_off218_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off218 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.1 k0_t13 k0_t19 r
theorem k0_off219_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off219 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.1 k0_t13 k0_t19 r
theorem k0_off220_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off220 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.1 k0_t13 k0_t19 r
theorem k0_off221_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off221 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.1 k0_t13 k0_t19 r
theorem k0_off222_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off222 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.2.1 k0_t13 k0_t19 r
theorem k0_off223_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off223 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.2.2.1 k0_t13 k0_t19 r
theorem k0_off224_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off224 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.2.2.2.1 k0_t13 k0_t19 r
theorem k0_off225_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off225 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.2.2.2.2.1 k0_t13 k0_t19 r
theorem k0_off226_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off226 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.2.2.2.2.2.1 k0_t13 k0_t19 r
theorem k0_off227_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off227 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.2.2.2.2.2.2.1 k0_t13 k0_t19 r
theorem k0_off228_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off228 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.2.2.2.2.2.2.2.1 k0_t13 k0_t19 r
theorem k0_off229_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off229 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.2.2.2.2.2.2.2.2.1 k0_t13 k0_t19 r
theorem k0_off230_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off230 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.2.2.2.2.2.2.2.2.2.1 k0_t13 k0_t19 r
theorem k0_off231_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off231 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.2.2.2.2.2.2.2.2.2.2.1 k0_t13 k0_t19 r
theorem k0_off232_inb : ∀ (v27 : BitVec 32) (v32 : BitVec 32) (k0_hw3 : k0_chk3 v27 v32) (k0_t13 : Fin (k0_t13_loop v27 v32).trips) (k0_t19 : Fin (k0_t19_loop v27 v32 k0_t13).trips), ∀ (r : Fin 4), ∀ a, (k0_off232 v27 v32 k0_t13 k0_t19 (BitVec.ofNat 32 r.val)) a + S1x16.size a ≤ S128x256.size a := fun v27 v32 k0_hw3 k0_t13 k0_t19 r => k0_hw3.2.2.2.2.2.2.2.1.2.2.2.2.2.2.2.2.2.2.2.2.2.2.2.2.2.2.2.2.2.2.2.2.2.2.2.2.2.1 k0_t13 k0_t19 r
theorem k0_t20_ok : ∀ (v27 : BitVec 32) (v32 : BitVec 32) (k0_hw3 : k0_chk3 v27 v32) (k0_t13 : Fin (k0_t13_loop v27 v32).trips), (k0_t20_loop v27 v32 k0_t13).OK := fun v27 v32 k0_hw3 k0_t13 => k0_hw3.2.2.2.2.2.2.2.1.2.2.2.2.2.2.2.2.2.2.2.2.2.2.2.2.2.2.2.2.2.2.2.2.2.2.2.2.2.2.1 k0_t13
theorem k0_off233_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off233 v27 v32 k0_t13 k0_t20) a + S1x16.size a ≤ S128x256.size a := fun v27 v32 k0_hw3 k0_t13 k0_t20 => k0_hw3.2.2.2.2.2.2.2.1.2.2.2.2.2.2.2.2.2.2.2.2.2.2.2.2.2.2.2.2.2.2.2.2.2.2.2.2.2.2.2 k0_t13 k0_t20
theorem k0_off234_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off234 v27 v32 k0_t13 k0_t20) a + S1x16.size a ≤ S128x256.size a := fun v27 v32 k0_hw3 k0_t13 k0_t20 => k0_hw3.2.2.2.2.2.2.2.2.1 k0_t13 k0_t20
theorem k0_off235_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off235 v27 v32 k0_t13 k0_t20) a + S1x16.size a ≤ S128x256.size a := fun v27 v32 k0_hw3 k0_t13 k0_t20 => k0_hw3.2.2.2.2.2.2.2.2.2.1 k0_t13 k0_t20
theorem k0_off236_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off236 v27 v32 k0_t13 k0_t20) a + S1x16.size a ≤ S128x256.size a := fun v27 v32 k0_hw3 k0_t13 k0_t20 => k0_hw3.2.2.2.2.2.2.2.2.2.2.1 k0_t13 k0_t20
theorem k0_off237_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off237 v27 v32 k0_t13 k0_t20) a + S1x16.size a ≤ S128x256.size a := fun v27 v32 k0_hw3 k0_t13 k0_t20 => k0_hw3.2.2.2.2.2.2.2.2.2.2.2.1 k0_t13 k0_t20
theorem k0_off238_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off238 v27 v32 k0_t13 k0_t20) a + S1x16.size a ≤ S128x256.size a := fun v27 v32 k0_hw3 k0_t13 k0_t20 => k0_hw3.2.2.2.2.2.2.2.2.2.2.2.2.1 k0_t13 k0_t20
theorem k0_off239_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off239 v27 v32 k0_t13 k0_t20) a + S1x16.size a ≤ S128x256.size a := fun v27 v32 k0_hw3 k0_t13 k0_t20 => k0_hw3.2.2.2.2.2.2.2.2.2.2.2.2.2.1 k0_t13 k0_t20
theorem k0_off240_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off240 v27 v32 k0_t13 k0_t20) a + S1x16.size a ≤ S128x256.size a := fun v27 v32 k0_hw3 k0_t13 k0_t20 => k0_hw3.2.2.2.2.2.2.2.2.2.2.2.2.2.2.1 k0_t13 k0_t20
theorem k0_off241_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off241 v27 v32 k0_t13 k0_t20) a + S1x16.size a ≤ S128x256.size a := fun v27 v32 k0_hw3 k0_t13 k0_t20 => k0_hw3.2.2.2.2.2.2.2.2.2.2.2.2.2.2.2.1 k0_t13 k0_t20
theorem k0_off242_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off242 v27 v32 k0_t13 k0_t20) a + S1x16.size a ≤ S128x256.size a := fun v27 v32 k0_hw3 k0_t13 k0_t20 => k0_hw3.2.2.2.2.2.2.2.2.2.2.2.2.2.2.2.2.1 k0_t13 k0_t20
theorem k0_off243_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off243 v27 v32 k0_t13 k0_t20) a + S1x16.size a ≤ S128x256.size a := fun v27 v32 k0_hw3 k0_t13 k0_t20 => k0_hw3.2.2.2.2.2.2.2.2.2.2.2.2.2.2.2.2.2.1 k0_t13 k0_t20
theorem k0_off244_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off244 v27 v32 k0_t13 k0_t20) a + S1x16.size a ≤ S128x256.size a := fun v27 v32 k0_hw3 k0_t13 k0_t20 => k0_hw3.2.2.2.2.2.2.2.2.2.2.2.2.2.2.2.2.2.2.1 k0_t13 k0_t20
theorem k0_off245_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off245 v27 v32 k0_t13 k0_t20) a + S1x16.size a ≤ S128x256.size a := fun v27 v32 k0_hw3 k0_t13 k0_t20 => k0_hw3.2.2.2.2.2.2.2.2.2.2.2.2.2.2.2.2.2.2.2.1 k0_t13 k0_t20
theorem k0_off246_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off246 v27 v32 k0_t13 k0_t20) a + S1x16.size a ≤ S128x256.size a := fun v27 v32 k0_hw3 k0_t13 k0_t20 => k0_hw3.2.2.2.2.2.2.2.2.2.2.2.2.2.2.2.2.2.2.2.2.1 k0_t13 k0_t20
theorem k0_off247_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off247 v27 v32 k0_t13 k0_t20) a + S1x16.size a ≤ S128x256.size a := fun v27 v32 k0_hw3 k0_t13 k0_t20 => k0_hw3.2.2.2.2.2.2.2.2.2.2.2.2.2.2.2.2.2.2.2.2.2.1 k0_t13 k0_t20
theorem k0_off248_inb : ∀ (v27 : BitVec 32) (v32 : BitVec 32) (k0_hw3 : k0_chk3 v27 v32) (k0_t13 : Fin (k0_t13_loop v27 v32).trips) (k0_t20 : Fin (k0_t20_loop v27 v32 k0_t13).trips), ∀ a, (k0_off248 v27 v32 k0_t13 k0_t20) a + S1x16.size a ≤ S128x256.size a := fun v27 v32 k0_hw3 k0_t13 k0_t20 => k0_hw3.2.2.2.2.2.2.2.2.2.2.2.2.2.2.2.2.2.2.2.2.2.2.1 k0_t13 k0_t20
theorem k0_t21_ok : ∀ (v27 : BitVec 32) (v32 : BitVec 32) (k0_hw3 : k0_chk3 v27 v32) (k0_t13 : Fin (k0_t13_loop v27 v32).trips), (k0_t21_loop v27 v32 k0_t13).OK := fun v27 v32 k0_hw3 k0_t13 => k0_hw3.2.2.2.2.2.2.2.2.2.2.2.2.2.2.2.2.2.2.2.2.2.2.2.1 k0_t13
theorem k0_off249_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off249 v27 v32 k0_t13 k0_t21) a + S1x16.size a ≤ S128x256.size a := fun v27 v32 k0_hw3 k0_t13 k0_t21 => k0_hw3.2.2.2.2.2.2.2.2.2.2.2.2.2.2.2.2.2.2.2.2.2.2.2.2.1 k0_t13 k0_t21
theorem k0_off250_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off250 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.1 k0_t13 k0_t21
theorem k0_off251_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off251 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.1 k0_t13 k0_t21
theorem k0_off252_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off252 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.1 k0_t13 k0_t21
theorem k0_off253_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off253 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.1 k0_t13 k0_t21
theorem k0_off254_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off254 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.2.1 k0_t13 k0_t21
theorem k0_off255_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off255 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.2.2.1 k0_t13 k0_t21
theorem k0_off256_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off256 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.2.2.2.1 k0_t13 k0_t21
theorem k0_off257_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off257 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.2.2.2.2.1 k0_t13 k0_t21
theorem k0_off258_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off258 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.2.2.2.2.2.1 k0_t13 k0_t21
theorem k0_off259_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off259 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.2.2.2.2.2.2.1 k0_t13 k0_t21
theorem k0_off260_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off260 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.2.2.2.2.2.2.2.1 k0_t13 k0_t21
theorem k0_off261_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off261 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.2.2.2.2.2.2.2.2.1 k0_t13 k0_t21
theorem k0_off262_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off262 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.2.2.2.2.2.2.2.2.2.1 k0_t13 k0_t21
theorem k0_off263_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off263 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.2.2.2.2.2.2.2.2.2.2.1 k0_t13 k0_t21
theorem k0_off264_inb : ∀ (v27 : BitVec 32) (v32 : BitVec 32) (k0_hw3 : k0_chk3 v27 v32) (k0_t13 : Fin (k0_t13_loop v27 v32).trips) (k0_t21 : Fin (k0_t21_loop v27 v32 k0_t13).trips), ∀ a, (k0_off264 v27 v32 k0_t13 k0_t21) a + S1x16.size a ≤ S128x256.size a := fun v27 v32 k0_hw3 k0_t13 k0_t21 => k0_hw3.2.2.2.2.2.2.2.2.2.2.2.2.2.2.2.2.2.2.2.2.2.2.2.2.2.2.2.2.2.2.2.2.2.2.2.2.2.2.2 k0_t13 k0_t21

def k0_off265 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v50 : Index := Scalar.indexCast arg16
  let c0_26 : Index := 0#32
  ![v50.toNat, 0]
def k0_off266 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v54 : Index := Scalar.indexCast arg16
  let c16_28 : Index := 16#32
  ![v54.toNat, 16]
def k0_off267 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v58 : Index := Scalar.indexCast arg16
  let c32 : Index := 32#32
  ![v58.toNat, 32]
def k0_off268 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v62 : Index := Scalar.indexCast arg16
  let c48 : Index := 48#32
  ![v62.toNat, 48]
def k0_off269 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v66 : Index := Scalar.indexCast arg16
  let c64 : Index := 64#32
  ![v66.toNat, 64]
def k0_off270 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v70 : Index := Scalar.indexCast arg16
  let c80 : Index := 80#32
  ![v70.toNat, 80]
def k0_off271 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v74 : Index := Scalar.indexCast arg16
  let c96 : Index := 96#32
  ![v74.toNat, 96]
def k0_off272 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v78 : Index := Scalar.indexCast arg16
  let c112 : Index := 112#32
  ![v78.toNat, 112]
def k0_off273 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v82 : Index := Scalar.indexCast arg16
  let c128 : Index := 128#32
  ![v82.toNat, 128]
def k0_off274 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v86 : Index := Scalar.indexCast arg16
  let c144 : Index := 144#32
  ![v86.toNat, 144]
def k0_off275 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v90 : Index := Scalar.indexCast arg16
  let c160 : Index := 160#32
  ![v90.toNat, 160]
def k0_off276 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v94 : Index := Scalar.indexCast arg16
  let c176 : Index := 176#32
  ![v94.toNat, 176]
def k0_off277 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v98 : Index := Scalar.indexCast arg16
  let c192 : Index := 192#32
  ![v98.toNat, 192]
def k0_off278 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v102 : Index := Scalar.indexCast arg16
  let c208 : Index := 208#32
  ![v102.toNat, 208]
def k0_off279 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v106 : Index := Scalar.indexCast arg16
  let c224 : Index := 224#32
  ![v106.toNat, 224]
def k0_off280 (k0_t3 : Fin k0_t3_loop.trips) : Fin 2 → Nat :=
  let c0_i32_12 : BitVec 32 := 0#32
  let c1_i32_14 : BitVec 32 := 1#32
  let arg16 : BitVec 32 := Scf.iv c0_i32_12 c1_i32_14 k0_t3
  let v110 : Index := Scalar.indexCast arg16
  let c240 : Index := 240#32
  ![v110.toNat, 240]
def k0_off281 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v3 : BitVec 32 := v2
  let c0_i32_16_r2 : BitVec 32 := 0#32
  ![v3.toNat, 0]
abbrev grid1 : Pipeline.Grid := .none

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S768x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S768x256 : Shape := ⟨2, ![768, 256]⟩
abbrev S256 : Shape := ⟨1, ![256]⟩
abbrev S_ : Shape := ⟨0, ![]⟩
abbrev S512x256 : Shape := ⟨2, ![512, 256]⟩
abbrev S50000x1 : Shape := ⟨2, ![50000, 1]⟩
abbrev S512x1 : Shape := ⟨2, ![512, 1]⟩
abbrev S512 : Shape := ⟨1, ![512]⟩
abbrev S1x512 : Shape := ⟨2, ![1, 512]⟩
abbrev S50000x512 : Shape := ⟨2, ![50000, 512]⟩
abbrev S50000x512x1 : Shape := ⟨3, ![50000, 512, 1]⟩
abbrev S50000x1x256 : Shape := ⟨3, ![50000, 1, 256]⟩
abbrev S50000x512x256 : Shape := ⟨3, ![50000, 512, 256]⟩
abbrev S512x768 : Shape := ⟨2, ![512, 768]⟩
abbrev S1x256 : Shape := ⟨2, ![1, 256]⟩

abbrev nBuf : Space → Nat
  | .hbm => 92
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S768x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S_, .f32⟩
  | .hbm, ⟨7, _⟩ => ⟨S512x256, .f32⟩
  | .hbm, ⟨8, _⟩ => ⟨S50000x1, .i32⟩
  | .hbm, ⟨9, _⟩ => ⟨S512x256, .f32⟩
  | .hbm, ⟨10, _⟩ => ⟨S_, .f32⟩
  | .hbm, ⟨11, _⟩ => ⟨S50000x1, .f32⟩
  | .hbm, ⟨12, _⟩ => ⟨S_, .f32⟩
  | .hbm, ⟨13, _⟩ => ⟨S512x1, .f32⟩
  | .hbm, ⟨14, _⟩ => ⟨S50000x1, .i32⟩
  | .hbm, ⟨15, _⟩ => ⟨S512x1, .f32⟩
  | .hbm, ⟨16, _⟩ => ⟨S_, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S512x256, .f32⟩
  | .hbm, ⟨21, _⟩ => ⟨S512x256, .f32⟩
  | .hbm, ⟨22, _⟩ => ⟨S50000x1, .i32⟩
  | .hbm, ⟨23, _⟩ => ⟨S512, .i32⟩
  | .hbm, ⟨24, _⟩ => ⟨S1x512, .i32⟩
  | .hbm, ⟨25, _⟩ => ⟨S50000x512, .i32⟩
  | .hbm, ⟨26, _⟩ => ⟨S50000x512, .i32⟩
  | .hbm, ⟨27, _⟩ => ⟨S50000x512, .i1⟩
  | .hbm, ⟨28, _⟩ => ⟨S50000x512x1, .i1⟩
  | .hbm, ⟨29, _⟩ => ⟨S50000x1x256, .f32⟩
  | .hbm, ⟨30, _⟩ => ⟨S_, .f32⟩
  | .hbm, ⟨31, _⟩ => ⟨S_, .f32⟩
  | .hbm, ⟨32, _⟩ => ⟨S50000x512x256, .i1⟩
  | .hbm, ⟨33, _⟩ => ⟨S50000x512x256, .f32⟩
  | .hbm, ⟨34, _⟩ => ⟨S50000x512x256, .f32⟩
  | .hbm, ⟨35, _⟩ => ⟨S50000x512x256, .f32⟩
  | .hbm, ⟨36, _⟩ => ⟨S_, .f32⟩
  | .hbm, ⟨37, _⟩ => ⟨S512x256, .f32⟩
  | .hbm, ⟨38, _⟩ => ⟨S_, .f32⟩
  | .hbm, ⟨39, _⟩ => ⟨S512x256, .f32⟩
  | .hbm, ⟨40, _⟩ => ⟨S512x256, .i1⟩
  | .hbm, ⟨41, _⟩ => ⟨S_, .f32⟩
  | .hbm, ⟨42, _⟩ => ⟨S_, .f32⟩
  | .hbm, ⟨43, _⟩ => ⟨S512x256, .f32⟩
  | .hbm, ⟨44, _⟩ => ⟨S512x256, .f32⟩
  | .hbm, ⟨45, _⟩ => ⟨S512x768, .f32⟩
  | .hbm, ⟨46, _⟩ => ⟨S512x256, .f32⟩
  | .hbm, ⟨47, _⟩ => ⟨S1x256, .f32⟩
  | .hbm, ⟨48, _⟩ => ⟨S512x256, .f32⟩
  | .hbm, ⟨49, _⟩ => ⟨S512x256, .f32⟩
  | .hbm, ⟨50, _⟩ => ⟨S_, .f32⟩
  | .hbm, ⟨51, _⟩ => ⟨S512, .f32⟩
  | .hbm, ⟨52, _⟩ => ⟨S512x1, .f32⟩
  | .hbm, ⟨53, _⟩ => ⟨S_, .f32⟩
  | .hbm, ⟨54, _⟩ => ⟨S512x1, .f32⟩
  | .hbm, ⟨55, _⟩ => ⟨S512x1, .f32⟩
  | .hbm, ⟨56, _⟩ => ⟨S512x256, .f32⟩
  | .hbm, ⟨57, _⟩ => ⟨S512x256, .f32⟩
  | .hbm, ⟨58, _⟩ => ⟨S512x256, .f32⟩
  | .hbm, ⟨59, _⟩ => ⟨S_, .f32⟩
  | .hbm, ⟨60, _⟩ => ⟨S512, .f32⟩
  | .hbm, ⟨61, _⟩ => ⟨S512x1, .f32⟩
  | .hbm, ⟨62, _⟩ => ⟨S_, .f32⟩
  | .hbm, ⟨63, _⟩ => ⟨S512x1, .f32⟩
  | .hbm, ⟨64, _⟩ => ⟨S512x1, .f32⟩
  | .hbm, ⟨65, _⟩ => ⟨S512x256, .f32⟩
  | .hbm, ⟨66, _⟩ => ⟨S512x256, .f32⟩
  | .hbm, ⟨67, _⟩ => ⟨S_, .f32⟩
  | .hbm, ⟨68, _⟩ => ⟨S512x1, .f32⟩
  | .hbm, ⟨69, _⟩ => ⟨S512x1, .f32⟩
  | .hbm, ⟨70, _⟩ => ⟨S512x1, .f32⟩
  | .hbm, ⟨71, _⟩ => ⟨S512x256, .f32⟩
  | .hbm, ⟨72, _⟩ => ⟨S512x256, .f32⟩
  | .hbm, ⟨73, _⟩ => ⟨S1x256, .f32⟩
  | .hbm, ⟨74, _⟩ => ⟨S512x256, .f32⟩
  | .hbm, ⟨75, _⟩ => ⟨S512x256, .f32⟩
  | .hbm, ⟨76, _⟩ => ⟨S1x256, .f32⟩
  | .hbm, ⟨77, _⟩ => ⟨S512x256, .f32⟩
  | .hbm, ⟨78, _⟩ => ⟨S512x256, .f32⟩
  | .hbm, ⟨79, _⟩ => ⟨S_, .f32⟩
  | .hbm, ⟨80, _⟩ => ⟨S512x256, .f32⟩
  | .hbm, ⟨81, _⟩ => ⟨S512x256, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S512x256, .f32⟩
  | .hbm, ⟨86, _⟩ => ⟨S512x256, .f32⟩
  | .hbm, ⟨87, _⟩ => ⟨S512x256, .f32⟩
  | .hbm, ⟨88, _⟩ => ⟨S_, .f32⟩
  | .hbm, ⟨89, _⟩ => ⟨S512x256, .f32⟩
  | .hbm, ⟨90, _⟩ => ⟨S512x256, .f32⟩
  | .hbm, ⟨91, _⟩ => ⟨S512x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_call2_v0 : Ref sig .tc := ⟨.hbm, 42, rfl⟩
abbrev main_call2_v1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_12 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]
-- ==== Proof.Common.lean ====
/-
  The setting every module of this proof shares: the program as the launch theorem of a SparseCore kernel sees it, the
  resource algebra its separation logic runs over, and the tile's threads and coordinates.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.LoopRemainder
public import Idealize.ShloMosaic.Lib.Affine
public import Idealize.ShloMosaic.Lib.ValueIdx
public import Idealize.ShloMosaic.Lib.Pipeline.Value
public import proofs.«01_k».proof.Proof.Gen.KernelIdeal
public import proofs.«01_k».proof.Proof.Gen.KernelIdeal.Skeleton

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program and the resource algebra -/

/-- The labels of the whole program: the kernels' own, with the TensorCore call's entry and body. -/
abbrev ΛP : Labels := Pipeline.Sig Λ₀ (Fin 1) fun p => (pcfgs (F := F) p).Adm
/-- The SparseCore call's launch configuration. -/
abbrev K : SparseCore.Cfg τ sig (ΛP (F := F)) 1 := sc (F := F)
/-- The program's definitions, its kernels' bodies lifted beside the TensorCore call's loop. -/
abbrev D [FloatOps F] : Defs nD τ sig (Elt F) (ΛP (F := F)) := Pipeline.defs pcfgs defs₀
/-- No recursion measure is needed below the call. -/
abbrev 𝒱₀ : Variants := Variants.none
abbrev 𝒱 : Variants := 𝒱₀.lift
abbrev v₀ : 𝒱.V := Sum.inl none

/-- The handshakes' rounds. -/
abbrev UH : Type := URounds (GSem nD τ sig) ℕ
/-- The rounds of the TensorCore call's own staging transfers. -/
abbrev UP : Type := URounds (GSem nD τ sig) Unit
/-- The handshakes' rounds, the staging transfers' rounds, and the counters of the tiles' transfers in flight. -/
abbrev UU : Type := UH × UP × Counters

/-- The tile with mesh coordinates `i`, on device `d`. -/
abbrev tileThr (d : Dev nD) (i : grid0.Coords) : Thread nD τ :=
  SparseCore.V d ((i 0).castLE hcore0) ((i 1).castLE hsub0)

end Cert.Proof.Pool
-- ==== Proof.Reads.lean ====
/-
  Programs that only read a buffer: `Reads R P a` says that `P`, run holding `R`, returns `a` and leaves `R`. It composes
  over sequencing, branches and counted loops, so that the value of a row loop is got without stepping its loads one by
  one in the proof mode. Also the row data: what a buffer's row reads as 16-lane vectors, the folds over rows, and the
  32-tuple of accumulators the kernel carries.
-/
module

public import proofs.«01_k».proof.Proof.Common

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

variable [FloatOps F]

/-! ## Reading programs -/

/-- `P`, run with `R` in hand, returns `a` and gives `R` back. -/
def Reads (thr : Thread nD τ) (R : sProp 𝕄) {α : Type} (P : Prog (TpuEff nD τ sig (Elt F) Λ₀ thr.2) α) (a : α) : Prop :=
  ∀ Q : α → sProp 𝕄, iprop(R ∗ (R -∗ Q a)) ⊢ wp frame (wpE (defs₀ (F := F)) 𝒱₀ thr none) Set.univ P Q

section Reads

variable {thr : Thread nD τ} {R : sProp (MT nD τ sig (HIx 1) (Elt F) ℕ UU ℕ)} {α β : Type}

theorem Reads.ret (a : α) : Reads (F := F) thr R (.ret a) a := by
  intro Q
  rw [wp_ret]
  iintro ⟨HR, HQ⟩
  imodintro
  iapply HQ; iexact HR

theorem Reads.pure (a : α) : Reads (F := F) thr R (Pure.pure a) a := Reads.ret a

theorem Reads.bind {P : Prog (TpuEff nD τ sig (Elt F) Λ₀ thr.2) α} {a : α} {k : α → Prog (TpuEff nD τ sig (Elt F) Λ₀ thr.2) β} {b : β}
    (hP : Reads thr R P a) (hk : Reads thr R (k a) b) : Reads thr R (P >>= k) b := by
  intro Q
  rw [wp_bind]
  refine .trans ?_ (hP _)
  iintro ⟨HR, HQ⟩
  isplitl [HR]; · iexact HR
  iintro HR
  iapply (hk Q)
  isplitl [HR] <;> iassumption

theorem Reads.congr {P : Prog (TpuEff nD τ sig (Elt F) Λ₀ thr.2) α} {a a' : α} (hP : Reads thr R P a) (h : a = a') : Reads thr R P a' := h ▸ hP

/-- At the head of a program, in the proof mode's form. -/
theorem Reads.use {P : Prog (TpuEff nD τ sig (Elt F) Λ₀ thr.2) α} {a : α} (hP : Reads thr R P a)
    {k : α → Prog (TpuEff nD τ sig (Elt F) Λ₀ thr.2) β} {Q : β → sProp 𝕄} :
    R ⊢ iprop((R -∗ wp frame (wpE (defs₀ (F := F)) 𝒱₀ thr none) Set.univ (k a) Q)
      -∗ wp frame (wpE (defs₀ (F := F)) 𝒱₀ thr none) Set.univ (P >>= k) Q) := by
  rw [wp_bind]
  iintro HR HQ
  iapply (hP _)
  isplitl [HR] <;> iassumption

/-- A load of any rectangle of a whole buffer reads its contents there. -/
theorem Reads.load {cs : CoreSpace} {s : Shape} {e : EltTy} {mr : Memref sig thr.2.kind cs s e} {r : LoadRect s} {hl : mr.view.LoadsAt r}
    {q : PosShare TreeShare} {f : Buf (Elt F) (mr.view.loc thr)} :
    Reads (F := F) thr (mr.view.loc thr ↦{q} f) (Prog.lift (.load mr r hl)) (mr.view.readAt (Elt F) r f) := by
  intro Q
  iintro ⟨HR, HQ⟩
  iapply (wp_load (defs := defs₀ (F := F)) 𝒱₀ thr none Set.univ (Q := Q) (m := mr) (r := r) (hl := hl) (k := .ret) (q := q) (f := f) (Finset.subset_univ _)) $$ HR
  iintro HR
  iapply (Reads.ret (thr := thr) (R := (mr.view.loc thr ↦{q} f)) _ Q)
  isplitl [HR] <;> iassumption

/-- A counted loop whose trip takes `A k` to `A (k+1)` takes `A 0` to `A` at its trip count. -/
theorem Reads.for' {l : Scf.Loop 32} {hok : l.OK} {σ : Type} {init : σ} {body : Fin l.trips → σ → Prog (TpuEff nD τ sig (Elt F) Λ₀ thr.2) σ}
    (A : ℕ → σ) (n : ℕ) (hn : l.trips = n) (h0 : init = A 0) (hbody : ∀ k : Fin l.trips, Reads thr R (body k (A k.val)) (A (k.val + 1))) :
    Reads (F := F) thr R (l.for hok init body) (A n) := by
  subst hn h0
  intro Q
  refine .trans ?_ (Scf.wp_for frame _ Set.univ l.lb l.ub l.st hok (A 0) body (fun k acc => iprop(⌜acc = A k⌝ ∗ R)) ?_)
  · iintro ⟨HR, HQ⟩
    isplitl [HR]
    · isplitr
      · ipureintro; rfl
      · iexact HR
    · iintro %acc ⟨%h, HR⟩
      subst h
      iapply HQ; iexact HR
  · intro k acc
    iintro ⟨%h, HR⟩
    subst h
    iapply (hbody k _)
    isplitl [HR]; · iexact HR
    iintro HR
    isplitr
    · ipureintro; rfl
    · iexact HR

/-- A loop of no trips returns what it starts from. -/
theorem Reads.for_zero {l : Scf.Loop 32} {hok : l.OK} {σ : Type} {init : σ} {body : Fin l.trips → σ → Prog (TpuEff nD τ sig (Elt F) Λ₀ thr.2) σ}
    (hn : l.trips = 0) : Reads (F := F) thr R (l.for hok init body) init :=
  Reads.for' (fun _ => init) 0 hn rfl fun k => absurd k.isLt (by omega)

end Reads

/-! ## Rows as sixteen vectors -/

/-- The accumulators as the kernel carries them: sixteen sums, then sixteen maxima. -/
def tup (S M : ℕ → FVec F S16 .f32) :=
  (S 0, S 1, S 2, S 3, S 4, S 5, S 6, S 7, S 8, S 9, S 10, S 11, S 12, S 13, S 14, S 15,
   M 0, M 1, M 2, M 3, M 4, M 5, M 6, M 7, M 8, M 9, M 10, M 11, M 12, M 13, M 14, M 15)

end Cert.Proof.Pool
-- ==== Proof.Rows.lean ====
/-
  Rows of the two chunk buffers as 16-lane vectors, and the folds of rows into the accumulators.
-/
module

public import proofs.«01_k».proof.Proof.Reads

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

variable [FloatOps F]

/-- Lanes `16h … 16h+15` of row `r` of a 128-row buffer, as a load gives them. -/
def ldv (f : FVec F S128x256 .f32) (r h : ℕ) : Vec F S1x16 .f32 :=
  fun x => f (ix2 ⟨r % 128, Nat.mod_lt _ (by decide)⟩ ⟨(16 * h + (x 1).val) % 256, Nat.mod_lt _ (by decide)⟩)

/-- The same as a 16-lane vector. -/
def rd (f : FVec F S128x256 .f32) (r h : ℕ) : FVec F S16 .f32 := shapeCast S16 (ldv f r h) shapeCasts_S1x16_S16

theorem idx_row (off : Fin 2 → ℕ) (inb : ∀ a, off a + S1x16.size a ≤ S128x256.size a) {r h : ℕ} (hr : off = ![r, 16 * h]) (x : S1x16.Idx) :
    (Rect.unit (s := S128x256) off S1x16.size inb).toLoadRect.idx x
      = ix2 ⟨r % 128, Nat.mod_lt _ (by decide)⟩ ⟨(16 * h + (x 1).val) % 256, Nat.mod_lt _ (by decide)⟩ := by
  subst hr
  have h0 := inb 0
  have h1 := inb 1
  have hx0 : (x 0).val < 1 := (x 0).isLt
  have hx1 : (x 1).val < 16 := (x 1).isLt
  simp at h0 h1
  funext a
  match a with
  | 0 => exact Fin.ext (by show r + 1 * (x 0).val = r % 128; omega)
  | 1 => exact Fin.ext (by show 16 * h + 1 * (x 1).val = (16 * h + (x 1).val) % 256; omega)

/-- A load of sixteen lanes of a row of buffer `a`. -/
theorem Reads.rowA {d : Dev nD} {i : grid0.Coords} {f : FVec F S128x256 .f32} {off : Fin 2 → ℕ} {inb : ∀ a, off a + S1x16.size a ≤ S128x256.size a}
    {hl} {r h : ℕ} (hr : off = ![r, 16 * h]) :
    Reads (tileThr d i) ((tileThr d i).loc cc0_scratch2 ↦{fullShare} f : sProp 𝕄)
      (Prog.lift (.load (Memref.whole cc0_scratch2) (Rect.unit (s := S128x256) off S1x16.size inb).toLoadRect hl)) (ldv f r h) :=
  (Reads.load (thr := tileThr d i) (mr := Memref.whole cc0_scratch2) (f := f)).congr (funext fun x => congrArg f (idx_row off inb hr x))

/-- A load of sixteen lanes of a row of buffer `b`. -/
theorem Reads.rowB {d : Dev nD} {i : grid0.Coords} {f : FVec F S128x256 .f32} {off : Fin 2 → ℕ} {inb : ∀ a, off a + S1x16.size a ≤ S128x256.size a}
    {hl} {r h : ℕ} (hr : off = ![r, 16 * h]) :
    Reads (tileThr d i) ((tileThr d i).loc cc0_scratch3 ↦{fullShare} f : sProp 𝕄)
      (Prog.lift (.load (Memref.whole cc0_scratch3) (Rect.unit (s := S128x256) off S1x16.size inb).toLoadRect hl)) (ldv f r h) :=
  (Reads.load (thr := tileThr d i) (mr := Memref.whole cc0_scratch3) (f := f)).congr (funext fun x => congrArg f (idx_row off inb hr x))

/-- Four rows of a buffer added to a 16-lane sum, in order. -/
def quadS (S : ℕ → FVec F S16 .f32) (f : FVec F S128x256 .f32) (r h : ℕ) : FVec F S16 .f32 :=
  addf (addf (addf (addf (S h) (rd f (r + 0) h)) (rd f (r + 1) h)) (rd f (r + 2) h)) (rd f (r + 3) h)
/-- Four rows of a buffer joined to a 16-lane maximum, in order. -/
def quadM (M : ℕ → FVec F S16 .f32) (f : FVec F S128x256 .f32) (r h : ℕ) : FVec F S16 .f32 :=
  maximumf (maximumf (maximumf (maximumf (M h) (rd f (r + 0) h)) (rd f (r + 1) h)) (rd f (r + 2) h)) (rd f (r + 3) h)

/-- One row of a buffer added to a 16-lane sum. -/
def rowS (S : ℕ → FVec F S16 .f32) (f : FVec F S128x256 .f32) (r h : ℕ) : FVec F S16 .f32 := addf (S h) (rd f r h)
/-- One row of a buffer joined to a 16-lane maximum. -/
def rowM (M : ℕ → FVec F S16 .f32) (f : FVec F S128x256 .f32) (r h : ℕ) : FVec F S16 .f32 := maximumf (M h) (rd f r h)

end Cert.Proof.Pool
-- ==== Proof.TripsA.lean ====
/-
  The row loops of buffer `a`: what each trip's loads and folds come to.
-/
module

public import proofs.«01_k».proof.Proof.Rows

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

variable [FloatOps F]

theorem part1_reads {d : Dev nD} {i : grid0.Coords} {v27 : BitVec 32} {v32 : BitVec 32} {k0_hw3 : k0_chk3 v27 v32} {k0_t4 : Fin (k0_t4_loop v27 v32).trips} {v143 : BitVec 32} {c0_i32_62 : BitVec 32} {c1_i32_64 : BitVec 32} {k0_t5 : Fin (k0_t5_loop v27 v32 k0_t4).trips} {arg51 arg52 arg53 arg54 arg55 arg56 arg57 arg58 arg59 arg67 arg68 arg69 arg70 arg71 arg72 arg73 arg74 arg75 : FVec F S16 .f32} {f : FVec F S128x256 .f32} {r : ℕ}
    (e0_0 : k0_off6 v27 v32 k0_t4 k0_t5 0#32 = ![r + 0, 16 * 0]) (e1_0 : k0_off7 v27 v32 k0_t4 k0_t5 0#32 = ![r + 0, 16 * 1]) (e2_0 : k0_off8 v27 v32 k0_t4 k0_t5 0#32 = ![r + 0, 16 * 2]) (e3_0 : k0_off9 v27 v32 k0_t4 k0_t5 0#32 = ![r + 0, 16 * 3]) (e4_0 : k0_off10 v27 v32 k0_t4 k0_t5 0#32 = ![r + 0, 16 * 4]) (e5_0 : k0_off11 v27 v32 k0_t4 k0_t5 0#32 = ![r + 0, 16 * 5]) (e6_0 : k0_off12 v27 v32 k0_t4 k0_t5 0#32 = ![r + 0, 16 * 6]) (e7_0 : k0_off13 v27 v32 k0_t4 k0_t5 0#32 = ![r + 0, 16 * 7]) (e8_0 : k0_off14 v27 v32 k0_t4 k0_t5 0#32 = ![r + 0, 16 * 8]) :
    Reads (tileThr d i) ((tileThr d i).loc cc0_scratch2 ↦{fullShare} f : sProp 𝕄) (k0_part1 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 v143 c0_i32_62 c1_i32_64 k0_t5 arg51 arg52 arg53 arg54 arg55 arg56 arg57 arg58 arg59 arg67 arg68 arg69 arg70 arg71 arg72 arg73 arg74 arg75)
      ⟨Scalar.addi v143 (Scalar.muli 4#32 (Scf.iv c0_i32_62 c1_i32_64 k0_t5)), Scalar.addi (Scalar.addi v143 (Scalar.muli 4#32 (Scf.iv c0_i32_62 c1_i32_64 k0_t5))) 0#32, addf arg51 (rd f (r + 0) 0), maximumf arg67 (rd f (r + 0) 0), addf arg52 (rd f (r + 0) 1), maximumf arg68 (rd f (r + 0) 1), addf arg53 (rd f (r + 0) 2), maximumf arg69 (rd f (r + 0) 2), addf arg54 (rd f (r + 0) 3), maximumf arg70 (rd f (r + 0) 3), addf arg55 (rd f (r + 0) 4), maximumf arg71 (rd f (r + 0) 4), addf arg56 (rd f (r + 0) 5), maximumf arg72 (rd f (r + 0) 5), addf arg57 (rd f (r + 0) 6), maximumf arg73 (rd f (r + 0) 6), addf arg58 (rd f (r + 0) 7), maximumf arg74 (rd f (r + 0) 7), addf arg59 (rd f (r + 0) 8), maximumf arg75 (rd f (r + 0) 8)⟩ := by
  rw [k0_part1_eq_skeleton]; unfold k0_part1_skel
  exact Reads.bind (Reads.rowA e0_0) <| Reads.bind (Reads.rowA e1_0) <| Reads.bind (Reads.rowA e2_0) <| Reads.bind (Reads.rowA e3_0) <| Reads.bind (Reads.rowA e4_0) <| Reads.bind (Reads.rowA e5_0) <| Reads.bind (Reads.rowA e6_0) <| Reads.bind (Reads.rowA e7_0) <| Reads.bind (Reads.rowA e8_0) <| Reads.pure _

theorem part2_reads {d : Dev nD} {i : grid0.Coords} {v27 : BitVec 32} {v32 : BitVec 32} {k0_hw3 : k0_chk3 v27 v32} {k0_t4 : Fin (k0_t4_loop v27 v32).trips} {k0_t5 : Fin (k0_t5_loop v27 v32 k0_t4).trips} {v213 : BitVec 32} {v214 : BitVec 32} {arg60 arg61 arg62 arg63 arg64 arg65 arg66 arg76 arg77 arg78 arg79 arg80 arg81 arg82 v217 v218 v221 v222 : FVec F S16 .f32} {f : FVec F S128x256 .f32} {r : ℕ}
    (e9_0 : k0_off15 v27 v32 k0_t4 k0_t5 0#32 = ![r + 0, 16 * 9]) (e10_0 : k0_off16 v27 v32 k0_t4 k0_t5 0#32 = ![r + 0, 16 * 10]) (e11_0 : k0_off17 v27 v32 k0_t4 k0_t5 0#32 = ![r + 0, 16 * 11]) (e12_0 : k0_off18 v27 v32 k0_t4 k0_t5 0#32 = ![r + 0, 16 * 12]) (e13_0 : k0_off19 v27 v32 k0_t4 k0_t5 0#32 = ![r + 0, 16 * 13]) (e14_0 : k0_off20 v27 v32 k0_t4 k0_t5 0#32 = ![r + 0, 16 * 14]) (e15_0 : k0_off21 v27 v32 k0_t4 k0_t5 0#32 = ![r + 0, 16 * 15]) (e0_1 : k0_off6 v27 v32 k0_t4 k0_t5 1#32 = ![r + 1, 16 * 0]) (e1_1 : k0_off7 v27 v32 k0_t4 k0_t5 1#32 = ![r + 1, 16 * 1]) (e2_1 : k0_off8 v27 v32 k0_t4 k0_t5 1#32 = ![r + 1, 16 * 2]) :
    Reads (tileThr d i) ((tileThr d i).loc cc0_scratch2 ↦{fullShare} f : sProp 𝕄) (k0_part2 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 k0_t5 arg60 arg61 arg62 arg63 arg64 arg65 arg66 arg76 arg77 arg78 arg79 arg80 arg81 arg82 v213 v214 v217 v218 v221 v222)
      ⟨addf arg60 (rd f (r + 0) 9), maximumf arg76 (rd f (r + 0) 9), addf arg61 (rd f (r + 0) 10), maximumf arg77 (rd f (r + 0) 10), addf arg62 (rd f (r + 0) 11), maximumf arg78 (rd f (r + 0) 11), addf arg63 (rd f (r + 0) 12), maximumf arg79 (rd f (r + 0) 12), addf arg64 (rd f (r + 0) 13), maximumf arg80 (rd f (r + 0) 13), addf arg65 (rd f (r + 0) 14), maximumf arg81 (rd f (r + 0) 14), addf arg66 (rd f (r + 0) 15), maximumf arg82 (rd f (r + 0) 15), Scalar.addi v213 1#32, addf v217 (rd f (r + 1) 0), maximumf v218 (rd f (r + 1) 0), addf v221 (rd f (r + 1) 1), maximumf v222 (rd f (r + 1) 1), (rd f (r + 1) 2)⟩ := by
  rw [k0_part2_eq_skeleton]; unfold k0_part2_skel
  exact Reads.bind (Reads.rowA e9_0) <| Reads.bind (Reads.rowA e10_0) <| Reads.bind (Reads.rowA e11_0) <| Reads.bind (Reads.rowA e12_0) <| Reads.bind (Reads.rowA e13_0) <| Reads.bind (Reads.rowA e14_0) <| Reads.bind (Reads.rowA e15_0) <| Reads.bind (Reads.rowA e0_1) <| Reads.bind (Reads.rowA e1_1) <| Reads.bind (Reads.rowA e2_1) <| Reads.pure _

theorem part3_reads {d : Dev nD} {i : grid0.Coords} {v27 : BitVec 32} {v32 : BitVec 32} {k0_hw3 : k0_chk3 v27 v32} {k0_t4 : Fin (k0_t4_loop v27 v32).trips} {k0_t5 : Fin (k0_t5_loop v27 v32 k0_t4).trips} {v279 : BitVec 32} {v289 : Vec F S16 .f32} {v225 v226 v229 v230 v233 v234 v237 v238 v241 v242 v245 v246 v249 v250 v253 v254 v257 v258 v261 v262 : FVec F S16 .f32} {f : FVec F S128x256 .f32} {r : ℕ}
    (e3_1 : k0_off9 v27 v32 k0_t4 k0_t5 1#32 = ![r + 1, 16 * 3]) (e4_1 : k0_off10 v27 v32 k0_t4 k0_t5 1#32 = ![r + 1, 16 * 4]) (e5_1 : k0_off11 v27 v32 k0_t4 k0_t5 1#32 = ![r + 1, 16 * 5]) (e6_1 : k0_off12 v27 v32 k0_t4 k0_t5 1#32 = ![r + 1, 16 * 6]) (e7_1 : k0_off13 v27 v32 k0_t4 k0_t5 1#32 = ![r + 1, 16 * 7]) (e8_1 : k0_off14 v27 v32 k0_t4 k0_t5 1#32 = ![r + 1, 16 * 8]) (e9_1 : k0_off15 v27 v32 k0_t4 k0_t5 1#32 = ![r + 1, 16 * 9]) (e10_1 : k0_off16 v27 v32 k0_t4 k0_t5 1#32 = ![r + 1, 16 * 10]) (e11_1 : k0_off17 v27 v32 k0_t4 k0_t5 1#32 = ![r + 1, 16 * 11]) (e12_1 : k0_off18 v27 v32 k0_t4 k0_t5 1#32 = ![r + 1, 16 * 12]) :
    Reads (tileThr d i) ((tileThr d i).loc cc0_scratch2 ↦{fullShare} f : sProp 𝕄) (k0_part3 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 k0_t5 v225 v226 v229 v230 v233 v234 v237 v238 v241 v242 v245 v246 v249 v250 v253 v254 v257 v258 v261 v262 v279 v289)
      ⟨addf v225 v289, maximumf v226 v289, addf v229 (rd f (r + 1) 3), maximumf v230 (rd f (r + 1) 3), addf v233 (rd f (r + 1) 4), maximumf v234 (rd f (r + 1) 4), addf v237 (rd f (r + 1) 5), maximumf v238 (rd f (r + 1) 5), addf v241 (rd f (r + 1) 6), maximumf v242 (rd f (r + 1) 6), addf v245 (rd f (r + 1) 7), maximumf v246 (rd f (r + 1) 7), addf v249 (rd f (r + 1) 8), maximumf v250 (rd f (r + 1) 8), addf v253 (rd f (r + 1) 9), maximumf v254 (rd f (r + 1) 9), addf v257 (rd f (r + 1) 10), maximumf v258 (rd f (r + 1) 10), addf v261 (rd f (r + 1) 11), maximumf v262 (rd f (r + 1) 11), (rd f (r + 1) 12)⟩ := by
  rw [k0_part3_eq_skeleton]; unfold k0_part3_skel
  exact Reads.bind (Reads.rowA e3_1) <| Reads.bind (Reads.rowA e4_1) <| Reads.bind (Reads.rowA e5_1) <| Reads.bind (Reads.rowA e6_1) <| Reads.bind (Reads.rowA e7_1) <| Reads.bind (Reads.rowA e8_1) <| Reads.bind (Reads.rowA e9_1) <| Reads.bind (Reads.rowA e10_1) <| Reads.bind (Reads.rowA e11_1) <| Reads.bind (Reads.rowA e12_1) <| Reads.pure _

theorem part4_reads {d : Dev nD} {i : grid0.Coords} {v27 : BitVec 32} {v32 : BitVec 32} {k0_hw3 : k0_chk3 v27 v32} {k0_t4 : Fin (k0_t4_loop v27 v32).trips} {k0_t5 : Fin (k0_t5_loop v27 v32 k0_t4).trips} {v213 : BitVec 32} {v279 : BitVec 32} {v329 : Vec F S16 .f32} {v265 v266 v269 v270 v273 v274 v277 v278 v282 v283 v286 v287 v290 v291 v294 v295 v298 v299 v302 v303 : FVec F S16 .f32} {f : FVec F S128x256 .f32} {r : ℕ}
    (e13_1 : k0_off19 v27 v32 k0_t4 k0_t5 1#32 = ![r + 1, 16 * 13]) (e14_1 : k0_off20 v27 v32 k0_t4 k0_t5 1#32 = ![r + 1, 16 * 14]) (e15_1 : k0_off21 v27 v32 k0_t4 k0_t5 1#32 = ![r + 1, 16 * 15]) (e0_2 : k0_off6 v27 v32 k0_t4 k0_t5 2#32 = ![r + 2, 16 * 0]) (e1_2 : k0_off7 v27 v32 k0_t4 k0_t5 2#32 = ![r + 2, 16 * 1]) (e2_2 : k0_off8 v27 v32 k0_t4 k0_t5 2#32 = ![r + 2, 16 * 2]) (e3_2 : k0_off9 v27 v32 k0_t4 k0_t5 2#32 = ![r + 2, 16 * 3]) (e4_2 : k0_off10 v27 v32 k0_t4 k0_t5 2#32 = ![r + 2, 16 * 4]) (e5_2 : k0_off11 v27 v32 k0_t4 k0_t5 2#32 = ![r + 2, 16 * 5]) :
    Reads (tileThr d i) ((tileThr d i).loc cc0_scratch2 ↦{fullShare} f : sProp 𝕄) (k0_part4 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 k0_t5 v213 v265 v266 v269 v270 v273 v274 v277 v278 v279 v282 v283 v286 v287 v290 v291 v294 v295 v298 v299 v302 v303 v329)
      ⟨addf v265 v329, maximumf v266 v329, addf v269 (rd f (r + 1) 13), maximumf v270 (rd f (r + 1) 13), addf v273 (rd f (r + 1) 14), maximumf v274 (rd f (r + 1) 14), addf v277 (rd f (r + 1) 15), maximumf v278 (rd f (r + 1) 15), Scalar.addi v213 2#32, addf v282 (rd f (r + 2) 0), maximumf v283 (rd f (r + 2) 0), addf v286 (rd f (r + 2) 1), maximumf v287 (rd f (r + 2) 1), addf v290 (rd f (r + 2) 2), maximumf v291 (rd f (r + 2) 2), addf v294 (rd f (r + 2) 3), maximumf v295 (rd f (r + 2) 3), addf v298 (rd f (r + 2) 4), maximumf v299 (rd f (r + 2) 4), addf v302 (rd f (r + 2) 5), maximumf v303 (rd f (r + 2) 5)⟩ := by
  rw [k0_part4_eq_skeleton]; unfold k0_part4_skel
  exact Reads.bind (Reads.rowA e13_1) <| Reads.bind (Reads.rowA e14_1) <| Reads.bind (Reads.rowA e15_1) <| Reads.bind (Reads.rowA e0_2) <| Reads.bind (Reads.rowA e1_2) <| Reads.bind (Reads.rowA e2_2) <| Reads.bind (Reads.rowA e3_2) <| Reads.bind (Reads.rowA e4_2) <| Reads.bind (Reads.rowA e5_2) <| Reads.pure _

theorem part5_reads {d : Dev nD} {i : grid0.Coords} {v27 : BitVec 32} {v32 : BitVec 32} {k0_hw3 : k0_chk3 v27 v32} {k0_t4 : Fin (k0_t4_loop v27 v32).trips} {k0_t5 : Fin (k0_t5_loop v27 v32 k0_t4).trips} {v213 : BitVec 32} {v344 : BitVec 32} {v306 v307 v310 v311 v314 v315 v318 v319 v322 v323 v326 v327 v330 v331 v334 v335 v338 v339 v342 v343 : FVec F S16 .f32} {f : FVec F S128x256 .f32} {r : ℕ}
    (e6_2 : k0_off12 v27 v32 k0_t4 k0_t5 2#32 = ![r + 2, 16 * 6]) (e7_2 : k0_off13 v27 v32 k0_t4 k0_t5 2#32 = ![r + 2, 16 * 7]) (e8_2 : k0_off14 v27 v32 k0_t4 k0_t5 2#32 = ![r + 2, 16 * 8]) (e9_2 : k0_off15 v27 v32 k0_t4 k0_t5 2#32 = ![r + 2, 16 * 9]) (e10_2 : k0_off16 v27 v32 k0_t4 k0_t5 2#32 = ![r + 2, 16 * 10]) (e11_2 : k0_off17 v27 v32 k0_t4 k0_t5 2#32 = ![r + 2, 16 * 11]) (e12_2 : k0_off18 v27 v32 k0_t4 k0_t5 2#32 = ![r + 2, 16 * 12]) (e13_2 : k0_off19 v27 v32 k0_t4 k0_t5 2#32 = ![r + 2, 16 * 13]) (e14_2 : k0_off20 v27 v32 k0_t4 k0_t5 2#32 = ![r + 2, 16 * 14]) (e15_2 : k0_off21 v27 v32 k0_t4 k0_t5 2#32 = ![r + 2, 16 * 15]) :
    Reads (tileThr d i) ((tileThr d i).loc cc0_scratch2 ↦{fullShare} f : sProp 𝕄) (k0_part5 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 k0_t5 v213 v306 v307 v310 v311 v314 v315 v318 v319 v322 v323 v326 v327 v330 v331 v334 v335 v338 v339 v342 v343 v344)
      ⟨addf v306 (rd f (r + 2) 6), maximumf v307 (rd f (r + 2) 6), addf v310 (rd f (r + 2) 7), maximumf v311 (rd f (r + 2) 7), addf v314 (rd f (r + 2) 8), maximumf v315 (rd f (r + 2) 8), addf v318 (rd f (r + 2) 9), maximumf v319 (rd f (r + 2) 9), addf v322 (rd f (r + 2) 10), maximumf v323 (rd f (r + 2) 10), addf v326 (rd f (r + 2) 11), maximumf v327 (rd f (r + 2) 11), addf v330 (rd f (r + 2) 12), maximumf v331 (rd f (r + 2) 12), addf v334 (rd f (r + 2) 13), maximumf v335 (rd f (r + 2) 13), addf v338 (rd f (r + 2) 14), maximumf v339 (rd f (r + 2) 14), addf v342 (rd f (r + 2) 15), maximumf v343 (rd f (r + 2) 15), Scalar.addi v213 3#32⟩ := by
  rw [k0_part5_eq_skeleton]; unfold k0_part5_skel
  exact Reads.bind (Reads.rowA e6_2) <| Reads.bind (Reads.rowA e7_2) <| Reads.bind (Reads.rowA e8_2) <| Reads.bind (Reads.rowA e9_2) <| Reads.bind (Reads.rowA e10_2) <| Reads.bind (Reads.rowA e11_2) <| Reads.bind (Reads.rowA e12_2) <| Reads.bind (Reads.rowA e13_2) <| Reads.bind (Reads.rowA e14_2) <| Reads.bind (Reads.rowA e15_2) <| Reads.pure _

theorem part6_reads {d : Dev nD} {i : grid0.Coords} {v27 : BitVec 32} {v32 : BitVec 32} {k0_hw3 : k0_chk3 v27 v32} {k0_t4 : Fin (k0_t4_loop v27 v32).trips} {k0_t5 : Fin (k0_t5_loop v27 v32 k0_t4).trips} {v409 : BitVec 32} {v347 v348 v351 v352 v355 v356 v359 v360 v363 v364 v367 v368 v371 v372 v375 v376 v379 v380 v383 v384 : FVec F S16 .f32} {f : FVec F S128x256 .f32} {r : ℕ}
    (e0_3 : k0_off6 v27 v32 k0_t4 k0_t5 3#32 = ![r + 3, 16 * 0]) (e1_3 : k0_off7 v27 v32 k0_t4 k0_t5 3#32 = ![r + 3, 16 * 1]) (e2_3 : k0_off8 v27 v32 k0_t4 k0_t5 3#32 = ![r + 3, 16 * 2]) (e3_3 : k0_off9 v27 v32 k0_t4 k0_t5 3#32 = ![r + 3, 16 * 3]) (e4_3 : k0_off10 v27 v32 k0_t4 k0_t5 3#32 = ![r + 3, 16 * 4]) (e5_3 : k0_off11 v27 v32 k0_t4 k0_t5 3#32 = ![r + 3, 16 * 5]) (e6_3 : k0_off12 v27 v32 k0_t4 k0_t5 3#32 = ![r + 3, 16 * 6]) (e7_3 : k0_off13 v27 v32 k0_t4 k0_t5 3#32 = ![r + 3, 16 * 7]) (e8_3 : k0_off14 v27 v32 k0_t4 k0_t5 3#32 = ![r + 3, 16 * 8]) (e9_3 : k0_off15 v27 v32 k0_t4 k0_t5 3#32 = ![r + 3, 16 * 9]) :
    Reads (tileThr d i) ((tileThr d i).loc cc0_scratch2 ↦{fullShare} f : sProp 𝕄) (k0_part6 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 k0_t5 v347 v348 v351 v352 v355 v356 v359 v360 v363 v364 v367 v368 v371 v372 v375 v376 v379 v380 v383 v384 v409)
      ⟨addf v347 (rd f (r + 3) 0), maximumf v348 (rd f (r + 3) 0), addf v351 (rd f (r + 3) 1), maximumf v352 (rd f (r + 3) 1), addf v355 (rd f (r + 3) 2), maximumf v356 (rd f (r + 3) 2), addf v359 (rd f (r + 3) 3), maximumf v360 (rd f (r + 3) 3), addf v363 (rd f (r + 3) 4), maximumf v364 (rd f (r + 3) 4), addf v367 (rd f (r + 3) 5), maximumf v368 (rd f (r + 3) 5), addf v371 (rd f (r + 3) 6), maximumf v372 (rd f (r + 3) 6), addf v375 (rd f (r + 3) 7), maximumf v376 (rd f (r + 3) 7), addf v379 (rd f (r + 3) 8), maximumf v380 (rd f (r + 3) 8), addf v383 (rd f (r + 3) 9), maximumf v384 (rd f (r + 3) 9)⟩ := by
  rw [k0_part6_eq_skeleton]; unfold k0_part6_skel
  exact Reads.bind (Reads.rowA e0_3) <| Reads.bind (Reads.rowA e1_3) <| Reads.bind (Reads.rowA e2_3) <| Reads.bind (Reads.rowA e3_3) <| Reads.bind (Reads.rowA e4_3) <| Reads.bind (Reads.rowA e5_3) <| Reads.bind (Reads.rowA e6_3) <| Reads.bind (Reads.rowA e7_3) <| Reads.bind (Reads.rowA e8_3) <| Reads.bind (Reads.rowA e9_3) <| Reads.pure _

/-- Four rows of buffer `a`, from row `r`, folded into the accumulators. -/
theorem t5_trip (d : Dev nD) (i : grid0.Coords) (v27 : BitVec 32) (v32 : BitVec 32) (k0_hw3 : k0_chk3 v27 v32) (v35 : BitVec 32) (k0_t4 : Fin (k0_t4_loop v27 v32).trips) (v114 : BitVec 32) (v116 : BitVec 1) (v143 : BitVec 32) (v146 : BitVec 32) (v147 : BitVec 32) (c0_i32_62 : BitVec 32) (v148 : BitVec 32) (arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 : FVec F S16 .f32) (k : Fin (k0_t5_loop v27 v32 k0_t4).trips) (f : FVec F S128x256 .f32) (r : ℕ)
    (hr0 : k0_off6 v27 v32 k0_t4 k 0#32 0 = r + 0) (hr1 : k0_off6 v27 v32 k0_t4 k 1#32 0 = r + 1) (hr2 : k0_off6 v27 v32 k0_t4 k 2#32 0 = r + 2) (hr3 : k0_off6 v27 v32 k0_t4 k 3#32 0 = r + 3) (S M : ℕ → FVec F S16 .f32) :
    Reads (tileThr d i) ((tileThr d i).loc cc0_scratch2 ↦{fullShare} f : sProp 𝕄) (k0_t5_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 v35 k0_t4 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 v114 v116 v143 v146 v147 c0_i32_62 v148 k (tup S M))
      (tup (quadS S f r) (quadM M f r)) := by
  have e0_0 : k0_off6 v27 v32 k0_t4 k 0#32 = ![r + 0, 16 * 0] := by rw [← hr0]; rfl
  have e0_1 : k0_off6 v27 v32 k0_t4 k 1#32 = ![r + 1, 16 * 0] := by rw [← hr1]; rfl
  have e0_2 : k0_off6 v27 v32 k0_t4 k 2#32 = ![r + 2, 16 * 0] := by rw [← hr2]; rfl
  have e0_3 : k0_off6 v27 v32 k0_t4 k 3#32 = ![r + 3, 16 * 0] := by rw [← hr3]; rfl
  have e1_0 : k0_off7 v27 v32 k0_t4 k 0#32 = ![r + 0, 16 * 1] := by rw [← hr0]; rfl
  have e1_1 : k0_off7 v27 v32 k0_t4 k 1#32 = ![r + 1, 16 * 1] := by rw [← hr1]; rfl
  have e1_2 : k0_off7 v27 v32 k0_t4 k 2#32 = ![r + 2, 16 * 1] := by rw [← hr2]; rfl
  have e1_3 : k0_off7 v27 v32 k0_t4 k 3#32 = ![r + 3, 16 * 1] := by rw [← hr3]; rfl
  have e2_0 : k0_off8 v27 v32 k0_t4 k 0#32 = ![r + 0, 16 * 2] := by rw [← hr0]; rfl
  have e2_1 : k0_off8 v27 v32 k0_t4 k 1#32 = ![r + 1, 16 * 2] := by rw [← hr1]; rfl
  have e2_2 : k0_off8 v27 v32 k0_t4 k 2#32 = ![r + 2, 16 * 2] := by rw [← hr2]; rfl
  have e2_3 : k0_off8 v27 v32 k0_t4 k 3#32 = ![r + 3, 16 * 2] := by rw [← hr3]; rfl
  have e3_0 : k0_off9 v27 v32 k0_t4 k 0#32 = ![r + 0, 16 * 3] := by rw [← hr0]; rfl
  have e3_1 : k0_off9 v27 v32 k0_t4 k 1#32 = ![r + 1, 16 * 3] := by rw [← hr1]; rfl
  have e3_2 : k0_off9 v27 v32 k0_t4 k 2#32 = ![r + 2, 16 * 3] := by rw [← hr2]; rfl
  have e3_3 : k0_off9 v27 v32 k0_t4 k 3#32 = ![r + 3, 16 * 3] := by rw [← hr3]; rfl
  have e4_0 : k0_off10 v27 v32 k0_t4 k 0#32 = ![r + 0, 16 * 4] := by rw [← hr0]; rfl
  have e4_1 : k0_off10 v27 v32 k0_t4 k 1#32 = ![r + 1, 16 * 4] := by rw [← hr1]; rfl
  have e4_2 : k0_off10 v27 v32 k0_t4 k 2#32 = ![r + 2, 16 * 4] := by rw [← hr2]; rfl
  have e4_3 : k0_off10 v27 v32 k0_t4 k 3#32 = ![r + 3, 16 * 4] := by rw [← hr3]; rfl
  have e5_0 : k0_off11 v27 v32 k0_t4 k 0#32 = ![r + 0, 16 * 5] := by rw [← hr0]; rfl
  have e5_1 : k0_off11 v27 v32 k0_t4 k 1#32 = ![r + 1, 16 * 5] := by rw [← hr1]; rfl
  have e5_2 : k0_off11 v27 v32 k0_t4 k 2#32 = ![r + 2, 16 * 5] := by rw [← hr2]; rfl
  have e5_3 : k0_off11 v27 v32 k0_t4 k 3#32 = ![r + 3, 16 * 5] := by rw [← hr3]; rfl
  have e6_0 : k0_off12 v27 v32 k0_t4 k 0#32 = ![r + 0, 16 * 6] := by rw [← hr0]; rfl
  have e6_1 : k0_off12 v27 v32 k0_t4 k 1#32 = ![r + 1, 16 * 6] := by rw [← hr1]; rfl
  have e6_2 : k0_off12 v27 v32 k0_t4 k 2#32 = ![r + 2, 16 * 6] := by rw [← hr2]; rfl
  have e6_3 : k0_off12 v27 v32 k0_t4 k 3#32 = ![r + 3, 16 * 6] := by rw [← hr3]; rfl
  have e7_0 : k0_off13 v27 v32 k0_t4 k 0#32 = ![r + 0, 16 * 7] := by rw [← hr0]; rfl
  have e7_1 : k0_off13 v27 v32 k0_t4 k 1#32 = ![r + 1, 16 * 7] := by rw [← hr1]; rfl
  have e7_2 : k0_off13 v27 v32 k0_t4 k 2#32 = ![r + 2, 16 * 7] := by rw [← hr2]; rfl
  have e7_3 : k0_off13 v27 v32 k0_t4 k 3#32 = ![r + 3, 16 * 7] := by rw [← hr3]; rfl
  have e8_0 : k0_off14 v27 v32 k0_t4 k 0#32 = ![r + 0, 16 * 8] := by rw [← hr0]; rfl
  have e8_1 : k0_off14 v27 v32 k0_t4 k 1#32 = ![r + 1, 16 * 8] := by rw [← hr1]; rfl
  have e8_2 : k0_off14 v27 v32 k0_t4 k 2#32 = ![r + 2, 16 * 8] := by rw [← hr2]; rfl
  have e8_3 : k0_off14 v27 v32 k0_t4 k 3#32 = ![r + 3, 16 * 8] := by rw [← hr3]; rfl
  have e9_0 : k0_off15 v27 v32 k0_t4 k 0#32 = ![r + 0, 16 * 9] := by rw [← hr0]; rfl
  have e9_1 : k0_off15 v27 v32 k0_t4 k 1#32 = ![r + 1, 16 * 9] := by rw [← hr1]; rfl
  have e9_2 : k0_off15 v27 v32 k0_t4 k 2#32 = ![r + 2, 16 * 9] := by rw [← hr2]; rfl
  have e9_3 : k0_off15 v27 v32 k0_t4 k 3#32 = ![r + 3, 16 * 9] := by rw [← hr3]; rfl
  have e10_0 : k0_off16 v27 v32 k0_t4 k 0#32 = ![r + 0, 16 * 10] := by rw [← hr0]; rfl
  have e10_1 : k0_off16 v27 v32 k0_t4 k 1#32 = ![r + 1, 16 * 10] := by rw [← hr1]; rfl
  have e10_2 : k0_off16 v27 v32 k0_t4 k 2#32 = ![r + 2, 16 * 10] := by rw [← hr2]; rfl
  have e10_3 : k0_off16 v27 v32 k0_t4 k 3#32 = ![r + 3, 16 * 10] := by rw [← hr3]; rfl
  have e11_0 : k0_off17 v27 v32 k0_t4 k 0#32 = ![r + 0, 16 * 11] := by rw [← hr0]; rfl
  have e11_1 : k0_off17 v27 v32 k0_t4 k 1#32 = ![r + 1, 16 * 11] := by rw [← hr1]; rfl
  have e11_2 : k0_off17 v27 v32 k0_t4 k 2#32 = ![r + 2, 16 * 11] := by rw [← hr2]; rfl
  have e11_3 : k0_off17 v27 v32 k0_t4 k 3#32 = ![r + 3, 16 * 11] := by rw [← hr3]; rfl
  have e12_0 : k0_off18 v27 v32 k0_t4 k 0#32 = ![r + 0, 16 * 12] := by rw [← hr0]; rfl
  have e12_1 : k0_off18 v27 v32 k0_t4 k 1#32 = ![r + 1, 16 * 12] := by rw [← hr1]; rfl
  have e12_2 : k0_off18 v27 v32 k0_t4 k 2#32 = ![r + 2, 16 * 12] := by rw [← hr2]; rfl
  have e12_3 : k0_off18 v27 v32 k0_t4 k 3#32 = ![r + 3, 16 * 12] := by rw [← hr3]; rfl
  have e13_0 : k0_off19 v27 v32 k0_t4 k 0#32 = ![r + 0, 16 * 13] := by rw [← hr0]; rfl
  have e13_1 : k0_off19 v27 v32 k0_t4 k 1#32 = ![r + 1, 16 * 13] := by rw [← hr1]; rfl
  have e13_2 : k0_off19 v27 v32 k0_t4 k 2#32 = ![r + 2, 16 * 13] := by rw [← hr2]; rfl
  have e13_3 : k0_off19 v27 v32 k0_t4 k 3#32 = ![r + 3, 16 * 13] := by rw [← hr3]; rfl
  have e14_0 : k0_off20 v27 v32 k0_t4 k 0#32 = ![r + 0, 16 * 14] := by rw [← hr0]; rfl
  have e14_1 : k0_off20 v27 v32 k0_t4 k 1#32 = ![r + 1, 16 * 14] := by rw [← hr1]; rfl
  have e14_2 : k0_off20 v27 v32 k0_t4 k 2#32 = ![r + 2, 16 * 14] := by rw [← hr2]; rfl
  have e14_3 : k0_off20 v27 v32 k0_t4 k 3#32 = ![r + 3, 16 * 14] := by rw [← hr3]; rfl
  have e15_0 : k0_off21 v27 v32 k0_t4 k 0#32 = ![r + 0, 16 * 15] := by rw [← hr0]; rfl
  have e15_1 : k0_off21 v27 v32 k0_t4 k 1#32 = ![r + 1, 16 * 15] := by rw [← hr1]; rfl
  have e15_2 : k0_off21 v27 v32 k0_t4 k 2#32 = ![r + 2, 16 * 15] := by rw [← hr2]; rfl
  have e15_3 : k0_off21 v27 v32 k0_t4 k 3#32 = ![r + 3, 16 * 15] := by rw [← hr3]; rfl
  unfold k0_t5_body
  exact Reads.bind (part1_reads e0_0 e1_0 e2_0 e3_0 e4_0 e5_0 e6_0 e7_0 e8_0) <|
    Reads.bind (part2_reads e9_0 e10_0 e11_0 e12_0 e13_0 e14_0 e15_0 e0_1 e1_1 e2_1) <|
    Reads.bind (part3_reads e3_1 e4_1 e5_1 e6_1 e7_1 e8_1 e9_1 e10_1 e11_1 e12_1) <|
    Reads.bind (part4_reads e13_1 e14_1 e15_1 e0_2 e1_2 e2_2 e3_2 e4_2 e5_2) <|
    Reads.bind (part5_reads e6_2 e7_2 e8_2 e9_2 e10_2 e11_2 e12_2 e13_2 e14_2 e15_2) <|
    Reads.bind (part6_reads e0_3 e1_3 e2_3 e3_3 e4_3 e5_3 e6_3 e7_3 e8_3 e9_3) <|
    Reads.bind (Reads.rowA e10_3) <|
    Reads.bind (Reads.rowA e11_3) <|
    Reads.bind (Reads.rowA e12_3) <|
    Reads.bind (Reads.rowA e13_3) <|
    Reads.bind (Reads.rowA e14_3) <|
    Reads.bind (Reads.rowA e15_3) <| Reads.pure _

theorem part13_reads {d : Dev nD} {i : grid0.Coords} {v27 : BitVec 32} {v32 : BitVec 32} {k0_hw3 : k0_chk3 v27 v32} {k0_t4 : Fin (k0_t4_loop v27 v32).trips} {v143 : BitVec 32} {v155 : BitVec 32} {c1_i32_67 : BitVec 32} {k0_t7 : Fin (k0_t7_loop v27 v32 k0_t4).trips} {arg51 arg52 arg53 arg54 arg55 arg56 arg57 arg58 arg59 arg67 arg68 arg69 arg70 arg71 arg72 arg73 arg74 arg75 : FVec F S16 .f32} {f : FVec F S128x256 .f32} {r : ℕ}
    (e0 : k0_off38 v27 v32 k0_t4 k0_t7 = ![r, 16 * 0]) (e1 : k0_off39 v27 v32 k0_t4 k0_t7 = ![r, 16 * 1]) (e2 : k0_off40 v27 v32 k0_t4 k0_t7 = ![r, 16 * 2]) (e3 : k0_off41 v27 v32 k0_t4 k0_t7 = ![r, 16 * 3]) (e4 : k0_off42 v27 v32 k0_t4 k0_t7 = ![r, 16 * 4]) (e5 : k0_off43 v27 v32 k0_t4 k0_t7 = ![r, 16 * 5]) (e6 : k0_off44 v27 v32 k0_t4 k0_t7 = ![r, 16 * 6]) (e7 : k0_off45 v27 v32 k0_t4 k0_t7 = ![r, 16 * 7]) (e8 : k0_off46 v27 v32 k0_t4 k0_t7 = ![r, 16 * 8]) (e9 : k0_off47 v27 v32 k0_t4 k0_t7 = ![r, 16 * 9]) :
    Reads (tileThr d i) ((tileThr d i).loc cc0_scratch2 ↦{fullShare} f : sProp 𝕄) (k0_part13 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 v143 v155 c1_i32_67 k0_t7 arg51 arg52 arg53 arg54 arg55 arg56 arg57 arg58 arg59 arg67 arg68 arg69 arg70 arg71 arg72 arg73 arg74 arg75)
      ⟨Scalar.addi v143 (Scf.iv v155 c1_i32_67 k0_t7), addf arg51 (rd f r 0), maximumf arg67 (rd f r 0), addf arg52 (rd f r 1), maximumf arg68 (rd f r 1), addf arg53 (rd f r 2), maximumf arg69 (rd f r 2), addf arg54 (rd f r 3), maximumf arg70 (rd f r 3), addf arg55 (rd f r 4), maximumf arg71 (rd f r 4), addf arg56 (rd f r 5), maximumf arg72 (rd f r 5), addf arg57 (rd f r 6), maximumf arg73 (rd f r 6), addf arg58 (rd f r 7), maximumf arg74 (rd f r 7), addf arg59 (rd f r 8), maximumf arg75 (rd f r 8), (rd f r 9)⟩ := by
  rw [k0_part13_eq_skeleton]; unfold k0_part13_skel
  exact Reads.bind (Reads.rowA e0) <| Reads.bind (Reads.rowA e1) <| Reads.bind (Reads.rowA e2) <| Reads.bind (Reads.rowA e3) <| Reads.bind (Reads.rowA e4) <| Reads.bind (Reads.rowA e5) <| Reads.bind (Reads.rowA e6) <| Reads.bind (Reads.rowA e7) <| Reads.bind (Reads.rowA e8) <| Reads.bind (Reads.rowA e9) <| Reads.pure _

/-- One row of buffer `a`, from row `r`, folded into the accumulators. -/
theorem t7_trip (d : Dev nD) (i : grid0.Coords) (v27 : BitVec 32) (v32 : BitVec 32) (k0_hw3 : k0_chk3 v27 v32) (v35 : BitVec 32) (k0_t4 : Fin (k0_t4_loop v27 v32).trips) (v114 : BitVec 32) (v116 : BitVec 1) (v143 : BitVec 32) (v146 : BitVec 32) (v147 : BitVec 32) (c0_i32_62 : BitVec 32) (v148 : BitVec 32) (v155 : BitVec 32) (arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 : FVec F S16 .f32) (k : Fin (k0_t7_loop v27 v32 k0_t4).trips) (f : FVec F S128x256 .f32) (r : ℕ)
    (hr : k0_off38 v27 v32 k0_t4 k 0 = r) (S M : ℕ → FVec F S16 .f32) :
    Reads (tileThr d i) ((tileThr d i).loc cc0_scratch2 ↦{fullShare} f : sProp 𝕄) (k0_t7_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 v35 k0_t4 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 v114 v116 v143 v146 v147 c0_i32_62 v148 v155 k (tup S M))
      (tup (rowS S f r) (rowM M f r)) := by
  have e0 : k0_off38 v27 v32 k0_t4 k = ![r, 16 * 0] := by rw [← hr]; rfl
  have e1 : k0_off39 v27 v32 k0_t4 k = ![r, 16 * 1] := by rw [← hr]; rfl
  have e2 : k0_off40 v27 v32 k0_t4 k = ![r, 16 * 2] := by rw [← hr]; rfl
  have e3 : k0_off41 v27 v32 k0_t4 k = ![r, 16 * 3] := by rw [← hr]; rfl
  have e4 : k0_off42 v27 v32 k0_t4 k = ![r, 16 * 4] := by rw [← hr]; rfl
  have e5 : k0_off43 v27 v32 k0_t4 k = ![r, 16 * 5] := by rw [← hr]; rfl
  have e6 : k0_off44 v27 v32 k0_t4 k = ![r, 16 * 6] := by rw [← hr]; rfl
  have e7 : k0_off45 v27 v32 k0_t4 k = ![r, 16 * 7] := by rw [← hr]; rfl
  have e8 : k0_off46 v27 v32 k0_t4 k = ![r, 16 * 8] := by rw [← hr]; rfl
  have e9 : k0_off47 v27 v32 k0_t4 k = ![r, 16 * 9] := by rw [← hr]; rfl
  have e10 : k0_off48 v27 v32 k0_t4 k = ![r, 16 * 10] := by rw [← hr]; rfl
  have e11 : k0_off49 v27 v32 k0_t4 k = ![r, 16 * 11] := by rw [← hr]; rfl
  have e12 : k0_off50 v27 v32 k0_t4 k = ![r, 16 * 12] := by rw [← hr]; rfl
  have e13 : k0_off51 v27 v32 k0_t4 k = ![r, 16 * 13] := by rw [← hr]; rfl
  have e14 : k0_off52 v27 v32 k0_t4 k = ![r, 16 * 14] := by rw [← hr]; rfl
  have e15 : k0_off53 v27 v32 k0_t4 k = ![r, 16 * 15] := by rw [← hr]; rfl
  unfold k0_t7_body
  exact Reads.bind (part13_reads e0 e1 e2 e3 e4 e5 e6 e7 e8 e9) <|
    Reads.bind (Reads.rowA e10) <|
    Reads.bind (Reads.rowA e11) <|
    Reads.bind (Reads.rowA e12) <|
    Reads.bind (Reads.rowA e13) <|
    Reads.bind (Reads.rowA e14) <|
    Reads.bind (Reads.rowA e15) <| Reads.pure _

end Cert.Proof.Pool
-- ==== Proof.TripsB.lean ====
/-
  The row loops of buffer `b`: what each trip's loads and folds come to.
-/
module

public import proofs.«01_k».proof.Proof.Rows

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

variable [FloatOps F]

theorem part15_reads {d : Dev nD} {i : grid0.Coords} {v27 : BitVec 32} {v32 : BitVec 32} {k0_hw3 : k0_chk3 v27 v32} {k0_t4 : Fin (k0_t4_loop v27 v32).trips} {v192 : BitVec 32} {c0_i32_86 : BitVec 32} {c1_i32_88 : BitVec 32} {k0_t9 : Fin (k0_t9_loop v27 v32 k0_t4).trips} {arg51 arg52 arg53 arg54 arg55 arg56 arg57 arg58 arg59 arg67 arg68 arg69 arg70 arg71 arg72 arg73 arg74 arg75 : FVec F S16 .f32} {f : FVec F S128x256 .f32} {r : ℕ}
    (e0_0 : k0_off71 v27 v32 k0_t4 k0_t9 0#32 = ![r + 0, 16 * 0]) (e1_0 : k0_off72 v27 v32 k0_t4 k0_t9 0#32 = ![r + 0, 16 * 1]) (e2_0 : k0_off73 v27 v32 k0_t4 k0_t9 0#32 = ![r + 0, 16 * 2]) (e3_0 : k0_off74 v27 v32 k0_t4 k0_t9 0#32 = ![r + 0, 16 * 3]) (e4_0 : k0_off75 v27 v32 k0_t4 k0_t9 0#32 = ![r + 0, 16 * 4]) (e5_0 : k0_off76 v27 v32 k0_t4 k0_t9 0#32 = ![r + 0, 16 * 5]) (e6_0 : k0_off77 v27 v32 k0_t4 k0_t9 0#32 = ![r + 0, 16 * 6]) (e7_0 : k0_off78 v27 v32 k0_t4 k0_t9 0#32 = ![r + 0, 16 * 7]) (e8_0 : k0_off79 v27 v32 k0_t4 k0_t9 0#32 = ![r + 0, 16 * 8]) :
    Reads (tileThr d i) ((tileThr d i).loc cc0_scratch3 ↦{fullShare} f : sProp 𝕄) (k0_part15 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 v192 c0_i32_86 c1_i32_88 k0_t9 arg51 arg52 arg53 arg54 arg55 arg56 arg57 arg58 arg59 arg67 arg68 arg69 arg70 arg71 arg72 arg73 arg74 arg75)
      ⟨Scalar.addi v192 (Scalar.muli 4#32 (Scf.iv c0_i32_86 c1_i32_88 k0_t9)), Scalar.addi (Scalar.addi v192 (Scalar.muli 4#32 (Scf.iv c0_i32_86 c1_i32_88 k0_t9))) 0#32, addf arg51 (rd f (r + 0) 0), maximumf arg67 (rd f (r + 0) 0), addf arg52 (rd f (r + 0) 1), maximumf arg68 (rd f (r + 0) 1), addf arg53 (rd f (r + 0) 2), maximumf arg69 (rd f (r + 0) 2), addf arg54 (rd f (r + 0) 3), maximumf arg70 (rd f (r + 0) 3), addf arg55 (rd f (r + 0) 4), maximumf arg71 (rd f (r + 0) 4), addf arg56 (rd f (r + 0) 5), maximumf arg72 (rd f (r + 0) 5), addf arg57 (rd f (r + 0) 6), maximumf arg73 (rd f (r + 0) 6), addf arg58 (rd f (r + 0) 7), maximumf arg74 (rd f (r + 0) 7), addf arg59 (rd f (r + 0) 8), maximumf arg75 (rd f (r + 0) 8)⟩ := by
  rw [k0_part15_eq_skeleton]; unfold k0_part15_skel
  exact Reads.bind (Reads.rowB e0_0) <| Reads.bind (Reads.rowB e1_0) <| Reads.bind (Reads.rowB e2_0) <| Reads.bind (Reads.rowB e3_0) <| Reads.bind (Reads.rowB e4_0) <| Reads.bind (Reads.rowB e5_0) <| Reads.bind (Reads.rowB e6_0) <| Reads.bind (Reads.rowB e7_0) <| Reads.bind (Reads.rowB e8_0) <| Reads.pure _

theorem part16_reads {d : Dev nD} {i : grid0.Coords} {v27 : BitVec 32} {v32 : BitVec 32} {k0_hw3 : k0_chk3 v27 v32} {k0_t4 : Fin (k0_t4_loop v27 v32).trips} {k0_t9 : Fin (k0_t9_loop v27 v32 k0_t4).trips} {v213 : BitVec 32} {v214 : BitVec 32} {arg60 arg61 arg62 arg63 arg64 arg65 arg66 arg76 arg77 arg78 arg79 arg80 arg81 arg82 v217 v218 v221 v222 : FVec F S16 .f32} {f : FVec F S128x256 .f32} {r : ℕ}
    (e9_0 : k0_off80 v27 v32 k0_t4 k0_t9 0#32 = ![r + 0, 16 * 9]) (e10_0 : k0_off81 v27 v32 k0_t4 k0_t9 0#32 = ![r + 0, 16 * 10]) (e11_0 : k0_off82 v27 v32 k0_t4 k0_t9 0#32 = ![r + 0, 16 * 11]) (e12_0 : k0_off83 v27 v32 k0_t4 k0_t9 0#32 = ![r + 0, 16 * 12]) (e13_0 : k0_off84 v27 v32 k0_t4 k0_t9 0#32 = ![r + 0, 16 * 13]) (e14_0 : k0_off85 v27 v32 k0_t4 k0_t9 0#32 = ![r + 0, 16 * 14]) (e15_0 : k0_off86 v27 v32 k0_t4 k0_t9 0#32 = ![r + 0, 16 * 15]) (e0_1 : k0_off71 v27 v32 k0_t4 k0_t9 1#32 = ![r + 1, 16 * 0]) (e1_1 : k0_off72 v27 v32 k0_t4 k0_t9 1#32 = ![r + 1, 16 * 1]) (e2_1 : k0_off73 v27 v32 k0_t4 k0_t9 1#32 = ![r + 1, 16 * 2]) :
    Reads (tileThr d i) ((tileThr d i).loc cc0_scratch3 ↦{fullShare} f : sProp 𝕄) (k0_part16 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 k0_t9 arg60 arg61 arg62 arg63 arg64 arg65 arg66 arg76 arg77 arg78 arg79 arg80 arg81 arg82 v213 v214 v217 v218 v221 v222)
      ⟨addf arg60 (rd f (r + 0) 9), maximumf arg76 (rd f (r + 0) 9), addf arg61 (rd f (r + 0) 10), maximumf arg77 (rd f (r + 0) 10), addf arg62 (rd f (r + 0) 11), maximumf arg78 (rd f (r + 0) 11), addf arg63 (rd f (r + 0) 12), maximumf arg79 (rd f (r + 0) 12), addf arg64 (rd f (r + 0) 13), maximumf arg80 (rd f (r + 0) 13), addf arg65 (rd f (r + 0) 14), maximumf arg81 (rd f (r + 0) 14), addf arg66 (rd f (r + 0) 15), maximumf arg82 (rd f (r + 0) 15), Scalar.addi v213 1#32, addf v217 (rd f (r + 1) 0), maximumf v218 (rd f (r + 1) 0), addf v221 (rd f (r + 1) 1), maximumf v222 (rd f (r + 1) 1), (rd f (r + 1) 2)⟩ := by
  rw [k0_part16_eq_skeleton]; unfold k0_part16_skel
  exact Reads.bind (Reads.rowB e9_0) <| Reads.bind (Reads.rowB e10_0) <| Reads.bind (Reads.rowB e11_0) <| Reads.bind (Reads.rowB e12_0) <| Reads.bind (Reads.rowB e13_0) <| Reads.bind (Reads.rowB e14_0) <| Reads.bind (Reads.rowB e15_0) <| Reads.bind (Reads.rowB e0_1) <| Reads.bind (Reads.rowB e1_1) <| Reads.bind (Reads.rowB e2_1) <| Reads.pure _

theorem part17_reads {d : Dev nD} {i : grid0.Coords} {v27 : BitVec 32} {v32 : BitVec 32} {k0_hw3 : k0_chk3 v27 v32} {k0_t4 : Fin (k0_t4_loop v27 v32).trips} {k0_t9 : Fin (k0_t9_loop v27 v32 k0_t4).trips} {v279 : BitVec 32} {v289 : Vec F S16 .f32} {v225 v226 v229 v230 v233 v234 v237 v238 v241 v242 v245 v246 v249 v250 v253 v254 v257 v258 v261 v262 : FVec F S16 .f32} {f : FVec F S128x256 .f32} {r : ℕ}
    (e3_1 : k0_off74 v27 v32 k0_t4 k0_t9 1#32 = ![r + 1, 16 * 3]) (e4_1 : k0_off75 v27 v32 k0_t4 k0_t9 1#32 = ![r + 1, 16 * 4]) (e5_1 : k0_off76 v27 v32 k0_t4 k0_t9 1#32 = ![r + 1, 16 * 5]) (e6_1 : k0_off77 v27 v32 k0_t4 k0_t9 1#32 = ![r + 1, 16 * 6]) (e7_1 : k0_off78 v27 v32 k0_t4 k0_t9 1#32 = ![r + 1, 16 * 7]) (e8_1 : k0_off79 v27 v32 k0_t4 k0_t9 1#32 = ![r + 1, 16 * 8]) (e9_1 : k0_off80 v27 v32 k0_t4 k0_t9 1#32 = ![r + 1, 16 * 9]) (e10_1 : k0_off81 v27 v32 k0_t4 k0_t9 1#32 = ![r + 1, 16 * 10]) (e11_1 : k0_off82 v27 v32 k0_t4 k0_t9 1#32 = ![r + 1, 16 * 11]) (e12_1 : k0_off83 v27 v32 k0_t4 k0_t9 1#32 = ![r + 1, 16 * 12]) :
    Reads (tileThr d i) ((tileThr d i).loc cc0_scratch3 ↦{fullShare} f : sProp 𝕄) (k0_part17 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 k0_t9 v225 v226 v229 v230 v233 v234 v237 v238 v241 v242 v245 v246 v249 v250 v253 v254 v257 v258 v261 v262 v279 v289)
      ⟨addf v225 v289, maximumf v226 v289, addf v229 (rd f (r + 1) 3), maximumf v230 (rd f (r + 1) 3), addf v233 (rd f (r + 1) 4), maximumf v234 (rd f (r + 1) 4), addf v237 (rd f (r + 1) 5), maximumf v238 (rd f (r + 1) 5), addf v241 (rd f (r + 1) 6), maximumf v242 (rd f (r + 1) 6), addf v245 (rd f (r + 1) 7), maximumf v246 (rd f (r + 1) 7), addf v249 (rd f (r + 1) 8), maximumf v250 (rd f (r + 1) 8), addf v253 (rd f (r + 1) 9), maximumf v254 (rd f (r + 1) 9), addf v257 (rd f (r + 1) 10), maximumf v258 (rd f (r + 1) 10), addf v261 (rd f (r + 1) 11), maximumf v262 (rd f (r + 1) 11), (rd f (r + 1) 12)⟩ := by
  rw [k0_part17_eq_skeleton]; unfold k0_part17_skel
  exact Reads.bind (Reads.rowB e3_1) <| Reads.bind (Reads.rowB e4_1) <| Reads.bind (Reads.rowB e5_1) <| Reads.bind (Reads.rowB e6_1) <| Reads.bind (Reads.rowB e7_1) <| Reads.bind (Reads.rowB e8_1) <| Reads.bind (Reads.rowB e9_1) <| Reads.bind (Reads.rowB e10_1) <| Reads.bind (Reads.rowB e11_1) <| Reads.bind (Reads.rowB e12_1) <| Reads.pure _

theorem part18_reads {d : Dev nD} {i : grid0.Coords} {v27 : BitVec 32} {v32 : BitVec 32} {k0_hw3 : k0_chk3 v27 v32} {k0_t4 : Fin (k0_t4_loop v27 v32).trips} {k0_t9 : Fin (k0_t9_loop v27 v32 k0_t4).trips} {v213 : BitVec 32} {v279 : BitVec 32} {v329 : Vec F S16 .f32} {v265 v266 v269 v270 v273 v274 v277 v278 v282 v283 v286 v287 v290 v291 v294 v295 v298 v299 v302 v303 : FVec F S16 .f32} {f : FVec F S128x256 .f32} {r : ℕ}
    (e13_1 : k0_off84 v27 v32 k0_t4 k0_t9 1#32 = ![r + 1, 16 * 13]) (e14_1 : k0_off85 v27 v32 k0_t4 k0_t9 1#32 = ![r + 1, 16 * 14]) (e15_1 : k0_off86 v27 v32 k0_t4 k0_t9 1#32 = ![r + 1, 16 * 15]) (e0_2 : k0_off71 v27 v32 k0_t4 k0_t9 2#32 = ![r + 2, 16 * 0]) (e1_2 : k0_off72 v27 v32 k0_t4 k0_t9 2#32 = ![r + 2, 16 * 1]) (e2_2 : k0_off73 v27 v32 k0_t4 k0_t9 2#32 = ![r + 2, 16 * 2]) (e3_2 : k0_off74 v27 v32 k0_t4 k0_t9 2#32 = ![r + 2, 16 * 3]) (e4_2 : k0_off75 v27 v32 k0_t4 k0_t9 2#32 = ![r + 2, 16 * 4]) (e5_2 : k0_off76 v27 v32 k0_t4 k0_t9 2#32 = ![r + 2, 16 * 5]) :
    Reads (tileThr d i) ((tileThr d i).loc cc0_scratch3 ↦{fullShare} f : sProp 𝕄) (k0_part18 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 k0_t9 v213 v265 v266 v269 v270 v273 v274 v277 v278 v279 v282 v283 v286 v287 v290 v291 v294 v295 v298 v299 v302 v303 v329)
      ⟨addf v265 v329, maximumf v266 v329, addf v269 (rd f (r + 1) 13), maximumf v270 (rd f (r + 1) 13), addf v273 (rd f (r + 1) 14), maximumf v274 (rd f (r + 1) 14), addf v277 (rd f (r + 1) 15), maximumf v278 (rd f (r + 1) 15), Scalar.addi v213 2#32, addf v282 (rd f (r + 2) 0), maximumf v283 (rd f (r + 2) 0), addf v286 (rd f (r + 2) 1), maximumf v287 (rd f (r + 2) 1), addf v290 (rd f (r + 2) 2), maximumf v291 (rd f (r + 2) 2), addf v294 (rd f (r + 2) 3), maximumf v295 (rd f (r + 2) 3), addf v298 (rd f (r + 2) 4), maximumf v299 (rd f (r + 2) 4), addf v302 (rd f (r + 2) 5), maximumf v303 (rd f (r + 2) 5)⟩ := by
  rw [k0_part18_eq_skeleton]; unfold k0_part18_skel
  exact Reads.bind (Reads.rowB e13_1) <| Reads.bind (Reads.rowB e14_1) <| Reads.bind (Reads.rowB e15_1) <| Reads.bind (Reads.rowB e0_2) <| Reads.bind (Reads.rowB e1_2) <| Reads.bind (Reads.rowB e2_2) <| Reads.bind (Reads.rowB e3_2) <| Reads.bind (Reads.rowB e4_2) <| Reads.bind (Reads.rowB e5_2) <| Reads.pure _

theorem part19_reads {d : Dev nD} {i : grid0.Coords} {v27 : BitVec 32} {v32 : BitVec 32} {k0_hw3 : k0_chk3 v27 v32} {k0_t4 : Fin (k0_t4_loop v27 v32).trips} {k0_t9 : Fin (k0_t9_loop v27 v32 k0_t4).trips} {v213 : BitVec 32} {v344 : BitVec 32} {v306 v307 v310 v311 v314 v315 v318 v319 v322 v323 v326 v327 v330 v331 v334 v335 v338 v339 v342 v343 : FVec F S16 .f32} {f : FVec F S128x256 .f32} {r : ℕ}
    (e6_2 : k0_off77 v27 v32 k0_t4 k0_t9 2#32 = ![r + 2, 16 * 6]) (e7_2 : k0_off78 v27 v32 k0_t4 k0_t9 2#32 = ![r + 2, 16 * 7]) (e8_2 : k0_off79 v27 v32 k0_t4 k0_t9 2#32 = ![r + 2, 16 * 8]) (e9_2 : k0_off80 v27 v32 k0_t4 k0_t9 2#32 = ![r + 2, 16 * 9]) (e10_2 : k0_off81 v27 v32 k0_t4 k0_t9 2#32 = ![r + 2, 16 * 10]) (e11_2 : k0_off82 v27 v32 k0_t4 k0_t9 2#32 = ![r + 2, 16 * 11]) (e12_2 : k0_off83 v27 v32 k0_t4 k0_t9 2#32 = ![r + 2, 16 * 12]) (e13_2 : k0_off84 v27 v32 k0_t4 k0_t9 2#32 = ![r + 2, 16 * 13]) (e14_2 : k0_off85 v27 v32 k0_t4 k0_t9 2#32 = ![r + 2, 16 * 14]) (e15_2 : k0_off86 v27 v32 k0_t4 k0_t9 2#32 = ![r + 2, 16 * 15]) :
    Reads (tileThr d i) ((tileThr d i).loc cc0_scratch3 ↦{fullShare} f : sProp 𝕄) (k0_part19 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 k0_t9 v213 v306 v307 v310 v311 v314 v315 v318 v319 v322 v323 v326 v327 v330 v331 v334 v335 v338 v339 v342 v343 v344)
      ⟨addf v306 (rd f (r + 2) 6), maximumf v307 (rd f (r + 2) 6), addf v310 (rd f (r + 2) 7), maximumf v311 (rd f (r + 2) 7), addf v314 (rd f (r + 2) 8), maximumf v315 (rd f (r + 2) 8), addf v318 (rd f (r + 2) 9), maximumf v319 (rd f (r + 2) 9), addf v322 (rd f (r + 2) 10), maximumf v323 (rd f (r + 2) 10), addf v326 (rd f (r + 2) 11), maximumf v327 (rd f (r + 2) 11), addf v330 (rd f (r + 2) 12), maximumf v331 (rd f (r + 2) 12), addf v334 (rd f (r + 2) 13), maximumf v335 (rd f (r + 2) 13), addf v338 (rd f (r + 2) 14), maximumf v339 (rd f (r + 2) 14), addf v342 (rd f (r + 2) 15), maximumf v343 (rd f (r + 2) 15), Scalar.addi v213 3#32⟩ := by
  rw [k0_part19_eq_skeleton]; unfold k0_part19_skel
  exact Reads.bind (Reads.rowB e6_2) <| Reads.bind (Reads.rowB e7_2) <| Reads.bind (Reads.rowB e8_2) <| Reads.bind (Reads.rowB e9_2) <| Reads.bind (Reads.rowB e10_2) <| Reads.bind (Reads.rowB e11_2) <| Reads.bind (Reads.rowB e12_2) <| Reads.bind (Reads.rowB e13_2) <| Reads.bind (Reads.rowB e14_2) <| Reads.bind (Reads.rowB e15_2) <| Reads.pure _

theorem part20_reads {d : Dev nD} {i : grid0.Coords} {v27 : BitVec 32} {v32 : BitVec 32} {k0_hw3 : k0_chk3 v27 v32} {k0_t4 : Fin (k0_t4_loop v27 v32).trips} {k0_t9 : Fin (k0_t9_loop v27 v32 k0_t4).trips} {v409 : BitVec 32} {v347 v348 v351 v352 v355 v356 v359 v360 v363 v364 v367 v368 v371 v372 v375 v376 v379 v380 v383 v384 : FVec F S16 .f32} {f : FVec F S128x256 .f32} {r : ℕ}
    (e0_3 : k0_off71 v27 v32 k0_t4 k0_t9 3#32 = ![r + 3, 16 * 0]) (e1_3 : k0_off72 v27 v32 k0_t4 k0_t9 3#32 = ![r + 3, 16 * 1]) (e2_3 : k0_off73 v27 v32 k0_t4 k0_t9 3#32 = ![r + 3, 16 * 2]) (e3_3 : k0_off74 v27 v32 k0_t4 k0_t9 3#32 = ![r + 3, 16 * 3]) (e4_3 : k0_off75 v27 v32 k0_t4 k0_t9 3#32 = ![r + 3, 16 * 4]) (e5_3 : k0_off76 v27 v32 k0_t4 k0_t9 3#32 = ![r + 3, 16 * 5]) (e6_3 : k0_off77 v27 v32 k0_t4 k0_t9 3#32 = ![r + 3, 16 * 6]) (e7_3 : k0_off78 v27 v32 k0_t4 k0_t9 3#32 = ![r + 3, 16 * 7]) (e8_3 : k0_off79 v27 v32 k0_t4 k0_t9 3#32 = ![r + 3, 16 * 8]) (e9_3 : k0_off80 v27 v32 k0_t4 k0_t9 3#32 = ![r + 3, 16 * 9]) :
    Reads (tileThr d i) ((tileThr d i).loc cc0_scratch3 ↦{fullShare} f : sProp 𝕄) (k0_part20 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 k0_t9 v347 v348 v351 v352 v355 v356 v359 v360 v363 v364 v367 v368 v371 v372 v375 v376 v379 v380 v383 v384 v409)
      ⟨addf v347 (rd f (r + 3) 0), maximumf v348 (rd f (r + 3) 0), addf v351 (rd f (r + 3) 1), maximumf v352 (rd f (r + 3) 1), addf v355 (rd f (r + 3) 2), maximumf v356 (rd f (r + 3) 2), addf v359 (rd f (r + 3) 3), maximumf v360 (rd f (r + 3) 3), addf v363 (rd f (r + 3) 4), maximumf v364 (rd f (r + 3) 4), addf v367 (rd f (r + 3) 5), maximumf v368 (rd f (r + 3) 5), addf v371 (rd f (r + 3) 6), maximumf v372 (rd f (r + 3) 6), addf v375 (rd f (r + 3) 7), maximumf v376 (rd f (r + 3) 7), addf v379 (rd f (r + 3) 8), maximumf v380 (rd f (r + 3) 8), addf v383 (rd f (r + 3) 9), maximumf v384 (rd f (r + 3) 9)⟩ := by
  rw [k0_part20_eq_skeleton]; unfold k0_part20_skel
  exact Reads.bind (Reads.rowB e0_3) <| Reads.bind (Reads.rowB e1_3) <| Reads.bind (Reads.rowB e2_3) <| Reads.bind (Reads.rowB e3_3) <| Reads.bind (Reads.rowB e4_3) <| Reads.bind (Reads.rowB e5_3) <| Reads.bind (Reads.rowB e6_3) <| Reads.bind (Reads.rowB e7_3) <| Reads.bind (Reads.rowB e8_3) <| Reads.bind (Reads.rowB e9_3) <| Reads.pure _

/-- Four rows of buffer `b`, from row `r`, folded into the accumulators. -/
theorem t9_trip (d : Dev nD) (i : grid0.Coords) (c0_i32_12 : BitVec 32) (c1_i32_14 : BitVec 32) (k0_t3 : Fin k0_t3_loop.trips) (v27 : BitVec 32) (v32 : BitVec 32) (k0_hw3 : k0_chk3 v27 v32) (k0_t4 : Fin (k0_t4_loop v27 v32).trips) (v192 : BitVec 32) (k : Fin (k0_t9_loop v27 v32 k0_t4).trips) (f : FVec F S128x256 .f32) (r : ℕ)
    (hr0 : k0_off71 v27 v32 k0_t4 k 0#32 0 = r + 0) (hr1 : k0_off71 v27 v32 k0_t4 k 1#32 0 = r + 1) (hr2 : k0_off71 v27 v32 k0_t4 k 2#32 0 = r + 2) (hr3 : k0_off71 v27 v32 k0_t4 k 3#32 0 = r + 3) (S M : ℕ → FVec F S16 .f32) :
    Reads (tileThr d i) ((tileThr d i).loc cc0_scratch3 ↦{fullShare} f : sProp 𝕄) (k0_t9_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0_i32_12 c1_i32_14 k0_t3 v27 v32 k0_hw3 k0_t4 v192 k (tup S M))
      (tup (quadS S f r) (quadM M f r)) := by
  have e0_0 : k0_off71 v27 v32 k0_t4 k 0#32 = ![r + 0, 16 * 0] := by rw [← hr0]; rfl
  have e0_1 : k0_off71 v27 v32 k0_t4 k 1#32 = ![r + 1, 16 * 0] := by rw [← hr1]; rfl
  have e0_2 : k0_off71 v27 v32 k0_t4 k 2#32 = ![r + 2, 16 * 0] := by rw [← hr2]; rfl
  have e0_3 : k0_off71 v27 v32 k0_t4 k 3#32 = ![r + 3, 16 * 0] := by rw [← hr3]; rfl
  have e1_0 : k0_off72 v27 v32 k0_t4 k 0#32 = ![r + 0, 16 * 1] := by rw [← hr0]; rfl
  have e1_1 : k0_off72 v27 v32 k0_t4 k 1#32 = ![r + 1, 16 * 1] := by rw [← hr1]; rfl
  have e1_2 : k0_off72 v27 v32 k0_t4 k 2#32 = ![r + 2, 16 * 1] := by rw [← hr2]; rfl
  have e1_3 : k0_off72 v27 v32 k0_t4 k 3#32 = ![r + 3, 16 * 1] := by rw [← hr3]; rfl
  have e2_0 : k0_off73 v27 v32 k0_t4 k 0#32 = ![r + 0, 16 * 2] := by rw [← hr0]; rfl
  have e2_1 : k0_off73 v27 v32 k0_t4 k 1#32 = ![r + 1, 16 * 2] := by rw [← hr1]; rfl
  have e2_2 : k0_off73 v27 v32 k0_t4 k 2#32 = ![r + 2, 16 * 2] := by rw [← hr2]; rfl
  have e2_3 : k0_off73 v27 v32 k0_t4 k 3#32 = ![r + 3, 16 * 2] := by rw [← hr3]; rfl
  have e3_0 : k0_off74 v27 v32 k0_t4 k 0#32 = ![r + 0, 16 * 3] := by rw [← hr0]; rfl
  have e3_1 : k0_off74 v27 v32 k0_t4 k 1#32 = ![r + 1, 16 * 3] := by rw [← hr1]; rfl
  have e3_2 : k0_off74 v27 v32 k0_t4 k 2#32 = ![r + 2, 16 * 3] := by rw [← hr2]; rfl
  have e3_3 : k0_off74 v27 v32 k0_t4 k 3#32 = ![r + 3, 16 * 3] := by rw [← hr3]; rfl
  have e4_0 : k0_off75 v27 v32 k0_t4 k 0#32 = ![r + 0, 16 * 4] := by rw [← hr0]; rfl
  have e4_1 : k0_off75 v27 v32 k0_t4 k 1#32 = ![r + 1, 16 * 4] := by rw [← hr1]; rfl
  have e4_2 : k0_off75 v27 v32 k0_t4 k 2#32 = ![r + 2, 16 * 4] := by rw [← hr2]; rfl
  have e4_3 : k0_off75 v27 v32 k0_t4 k 3#32 = ![r + 3, 16 * 4] := by rw [← hr3]; rfl
  have e5_0 : k0_off76 v27 v32 k0_t4 k 0#32 = ![r + 0, 16 * 5] := by rw [← hr0]; rfl
  have e5_1 : k0_off76 v27 v32 k0_t4 k 1#32 = ![r + 1, 16 * 5] := by rw [← hr1]; rfl
  have e5_2 : k0_off76 v27 v32 k0_t4 k 2#32 = ![r + 2, 16 * 5] := by rw [← hr2]; rfl
  have e5_3 : k0_off76 v27 v32 k0_t4 k 3#32 = ![r + 3, 16 * 5] := by rw [← hr3]; rfl
  have e6_0 : k0_off77 v27 v32 k0_t4 k 0#32 = ![r + 0, 16 * 6] := by rw [← hr0]; rfl
  have e6_1 : k0_off77 v27 v32 k0_t4 k 1#32 = ![r + 1, 16 * 6] := by rw [← hr1]; rfl
  have e6_2 : k0_off77 v27 v32 k0_t4 k 2#32 = ![r + 2, 16 * 6] := by rw [← hr2]; rfl
  have e6_3 : k0_off77 v27 v32 k0_t4 k 3#32 = ![r + 3, 16 * 6] := by rw [← hr3]; rfl
  have e7_0 : k0_off78 v27 v32 k0_t4 k 0#32 = ![r + 0, 16 * 7] := by rw [← hr0]; rfl
  have e7_1 : k0_off78 v27 v32 k0_t4 k 1#32 = ![r + 1, 16 * 7] := by rw [← hr1]; rfl
  have e7_2 : k0_off78 v27 v32 k0_t4 k 2#32 = ![r + 2, 16 * 7] := by rw [← hr2]; rfl
  have e7_3 : k0_off78 v27 v32 k0_t4 k 3#32 = ![r + 3, 16 * 7] := by rw [← hr3]; rfl
  have e8_0 : k0_off79 v27 v32 k0_t4 k 0#32 = ![r + 0, 16 * 8] := by rw [← hr0]; rfl
  have e8_1 : k0_off79 v27 v32 k0_t4 k 1#32 = ![r + 1, 16 * 8] := by rw [← hr1]; rfl
  have e8_2 : k0_off79 v27 v32 k0_t4 k 2#32 = ![r + 2, 16 * 8] := by rw [← hr2]; rfl
  have e8_3 : k0_off79 v27 v32 k0_t4 k 3#32 = ![r + 3, 16 * 8] := by rw [← hr3]; rfl
  have e9_0 : k0_off80 v27 v32 k0_t4 k 0#32 = ![r + 0, 16 * 9] := by rw [← hr0]; rfl
  have e9_1 : k0_off80 v27 v32 k0_t4 k 1#32 = ![r + 1, 16 * 9] := by rw [← hr1]; rfl
  have e9_2 : k0_off80 v27 v32 k0_t4 k 2#32 = ![r + 2, 16 * 9] := by rw [← hr2]; rfl
  have e9_3 : k0_off80 v27 v32 k0_t4 k 3#32 = ![r + 3, 16 * 9] := by rw [← hr3]; rfl
  have e10_0 : k0_off81 v27 v32 k0_t4 k 0#32 = ![r + 0, 16 * 10] := by rw [← hr0]; rfl
  have e10_1 : k0_off81 v27 v32 k0_t4 k 1#32 = ![r + 1, 16 * 10] := by rw [← hr1]; rfl
  have e10_2 : k0_off81 v27 v32 k0_t4 k 2#32 = ![r + 2, 16 * 10] := by rw [← hr2]; rfl
  have e10_3 : k0_off81 v27 v32 k0_t4 k 3#32 = ![r + 3, 16 * 10] := by rw [← hr3]; rfl
  have e11_0 : k0_off82 v27 v32 k0_t4 k 0#32 = ![r + 0, 16 * 11] := by rw [← hr0]; rfl
  have e11_1 : k0_off82 v27 v32 k0_t4 k 1#32 = ![r + 1, 16 * 11] := by rw [← hr1]; rfl
  have e11_2 : k0_off82 v27 v32 k0_t4 k 2#32 = ![r + 2, 16 * 11] := by rw [← hr2]; rfl
  have e11_3 : k0_off82 v27 v32 k0_t4 k 3#32 = ![r + 3, 16 * 11] := by rw [← hr3]; rfl
  have e12_0 : k0_off83 v27 v32 k0_t4 k 0#32 = ![r + 0, 16 * 12] := by rw [← hr0]; rfl
  have e12_1 : k0_off83 v27 v32 k0_t4 k 1#32 = ![r + 1, 16 * 12] := by rw [← hr1]; rfl
  have e12_2 : k0_off83 v27 v32 k0_t4 k 2#32 = ![r + 2, 16 * 12] := by rw [← hr2]; rfl
  have e12_3 : k0_off83 v27 v32 k0_t4 k 3#32 = ![r + 3, 16 * 12] := by rw [← hr3]; rfl
  have e13_0 : k0_off84 v27 v32 k0_t4 k 0#32 = ![r + 0, 16 * 13] := by rw [← hr0]; rfl
  have e13_1 : k0_off84 v27 v32 k0_t4 k 1#32 = ![r + 1, 16 * 13] := by rw [← hr1]; rfl
  have e13_2 : k0_off84 v27 v32 k0_t4 k 2#32 = ![r + 2, 16 * 13] := by rw [← hr2]; rfl
  have e13_3 : k0_off84 v27 v32 k0_t4 k 3#32 = ![r + 3, 16 * 13] := by rw [← hr3]; rfl
  have e14_0 : k0_off85 v27 v32 k0_t4 k 0#32 = ![r + 0, 16 * 14] := by rw [← hr0]; rfl
  have e14_1 : k0_off85 v27 v32 k0_t4 k 1#32 = ![r + 1, 16 * 14] := by rw [← hr1]; rfl
  have e14_2 : k0_off85 v27 v32 k0_t4 k 2#32 = ![r + 2, 16 * 14] := by rw [← hr2]; rfl
  have e14_3 : k0_off85 v27 v32 k0_t4 k 3#32 = ![r + 3, 16 * 14] := by rw [← hr3]; rfl
  have e15_0 : k0_off86 v27 v32 k0_t4 k 0#32 = ![r + 0, 16 * 15] := by rw [← hr0]; rfl
  have e15_1 : k0_off86 v27 v32 k0_t4 k 1#32 = ![r + 1, 16 * 15] := by rw [← hr1]; rfl
  have e15_2 : k0_off86 v27 v32 k0_t4 k 2#32 = ![r + 2, 16 * 15] := by rw [← hr2]; rfl
  have e15_3 : k0_off86 v27 v32 k0_t4 k 3#32 = ![r + 3, 16 * 15] := by rw [← hr3]; rfl
  unfold k0_t9_body
  exact Reads.bind (part15_reads e0_0 e1_0 e2_0 e3_0 e4_0 e5_0 e6_0 e7_0 e8_0) <|
    Reads.bind (part16_reads e9_0 e10_0 e11_0 e12_0 e13_0 e14_0 e15_0 e0_1 e1_1 e2_1) <|
    Reads.bind (part17_reads e3_1 e4_1 e5_1 e6_1 e7_1 e8_1 e9_1 e10_1 e11_1 e12_1) <|
    Reads.bind (part18_reads e13_1 e14_1 e15_1 e0_2 e1_2 e2_2 e3_2 e4_2 e5_2) <|
    Reads.bind (part19_reads e6_2 e7_2 e8_2 e9_2 e10_2 e11_2 e12_2 e13_2 e14_2 e15_2) <|
    Reads.bind (part20_reads e0_3 e1_3 e2_3 e3_3 e4_3 e5_3 e6_3 e7_3 e8_3 e9_3) <|
    Reads.bind (Reads.rowB e10_3) <|
    Reads.bind (Reads.rowB e11_3) <|
    Reads.bind (Reads.rowB e12_3) <|
    Reads.bind (Reads.rowB e13_3) <|
    Reads.bind (Reads.rowB e14_3) <|
    Reads.bind (Reads.rowB e15_3) <| Reads.pure _

theorem part27_reads {d : Dev nD} {i : grid0.Coords} {v27 : BitVec 32} {v32 : BitVec 32} {k0_hw3 : k0_chk3 v27 v32} {k0_t4 : Fin (k0_t4_loop v27 v32).trips} {v192 : BitVec 32} {v204 : BitVec 32} {c1_i32_92 : BitVec 32} {k0_t11 : Fin (k0_t11_loop v27 v32 k0_t4).trips} {arg51 arg52 arg53 arg54 arg55 arg56 arg57 arg58 arg59 arg67 arg68 arg69 arg70 arg71 arg72 arg73 arg74 arg75 : FVec F S16 .f32} {f : FVec F S128x256 .f32} {r : ℕ}
    (e0 : k0_off103 v27 v32 k0_t4 k0_t11 = ![r, 16 * 0]) (e1 : k0_off104 v27 v32 k0_t4 k0_t11 = ![r, 16 * 1]) (e2 : k0_off105 v27 v32 k0_t4 k0_t11 = ![r, 16 * 2]) (e3 : k0_off106 v27 v32 k0_t4 k0_t11 = ![r, 16 * 3]) (e4 : k0_off107 v27 v32 k0_t4 k0_t11 = ![r, 16 * 4]) (e5 : k0_off108 v27 v32 k0_t4 k0_t11 = ![r, 16 * 5]) (e6 : k0_off109 v27 v32 k0_t4 k0_t11 = ![r, 16 * 6]) (e7 : k0_off110 v27 v32 k0_t4 k0_t11 = ![r, 16 * 7]) (e8 : k0_off111 v27 v32 k0_t4 k0_t11 = ![r, 16 * 8]) (e9 : k0_off112 v27 v32 k0_t4 k0_t11 = ![r, 16 * 9]) :
    Reads (tileThr d i) ((tileThr d i).loc cc0_scratch3 ↦{fullShare} f : sProp 𝕄) (k0_part27 i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 k0_t4 v192 v204 c1_i32_92 k0_t11 arg51 arg52 arg53 arg54 arg55 arg56 arg57 arg58 arg59 arg67 arg68 arg69 arg70 arg71 arg72 arg73 arg74 arg75)
      ⟨Scalar.addi v192 (Scf.iv v204 c1_i32_92 k0_t11), addf arg51 (rd f r 0), maximumf arg67 (rd f r 0), addf arg52 (rd f r 1), maximumf arg68 (rd f r 1), addf arg53 (rd f r 2), maximumf arg69 (rd f r 2), addf arg54 (rd f r 3), maximumf arg70 (rd f r 3), addf arg55 (rd f r 4), maximumf arg71 (rd f r 4), addf arg56 (rd f r 5), maximumf arg72 (rd f r 5), addf arg57 (rd f r 6), maximumf arg73 (rd f r 6), addf arg58 (rd f r 7), maximumf arg74 (rd f r 7), addf arg59 (rd f r 8), maximumf arg75 (rd f r 8), (rd f r 9)⟩ := by
  rw [k0_part27_eq_skeleton]; unfold k0_part27_skel
  exact Reads.bind (Reads.rowB e0) <| Reads.bind (Reads.rowB e1) <| Reads.bind (Reads.rowB e2) <| Reads.bind (Reads.rowB e3) <| Reads.bind (Reads.rowB e4) <| Reads.bind (Reads.rowB e5) <| Reads.bind (Reads.rowB e6) <| Reads.bind (Reads.rowB e7) <| Reads.bind (Reads.rowB e8) <| Reads.bind (Reads.rowB e9) <| Reads.pure _

/-- One row of buffer `b`, from row `r`, folded into the accumulators. -/
theorem t11_trip (d : Dev nD) (i : grid0.Coords) (c0_i32_12 : BitVec 32) (c1_i32_14 : BitVec 32) (k0_t3 : Fin k0_t3_loop.trips) (v27 : BitVec 32) (v32 : BitVec 32) (k0_hw3 : k0_chk3 v27 v32) (k0_t4 : Fin (k0_t4_loop v27 v32).trips) (v192 : BitVec 32) (v204 : BitVec 32) (k : Fin (k0_t11_loop v27 v32 k0_t4).trips) (f : FVec F S128x256 .f32) (r : ℕ)
    (hr : k0_off103 v27 v32 k0_t4 k 0 = r) (S M : ℕ → FVec F S16 .f32) :
    Reads (tileThr d i) ((tileThr d i).loc cc0_scratch3 ↦{fullShare} f : sProp 𝕄) (k0_t11_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0_i32_12 c1_i32_14 k0_t3 v27 v32 k0_hw3 k0_t4 v192 v204 k (tup S M))
      (tup (rowS S f r) (rowM M f r)) := by
  have e0 : k0_off103 v27 v32 k0_t4 k = ![r, 16 * 0] := by rw [← hr]; rfl
  have e1 : k0_off104 v27 v32 k0_t4 k = ![r, 16 * 1] := by rw [← hr]; rfl
  have e2 : k0_off105 v27 v32 k0_t4 k = ![r, 16 * 2] := by rw [← hr]; rfl
  have e3 : k0_off106 v27 v32 k0_t4 k = ![r, 16 * 3] := by rw [← hr]; rfl
  have e4 : k0_off107 v27 v32 k0_t4 k = ![r, 16 * 4] := by rw [← hr]; rfl
  have e5 : k0_off108 v27 v32 k0_t4 k = ![r, 16 * 5] := by rw [← hr]; rfl
  have e6 : k0_off109 v27 v32 k0_t4 k = ![r, 16 * 6] := by rw [← hr]; rfl
  have e7 : k0_off110 v27 v32 k0_t4 k = ![r, 16 * 7] := by rw [← hr]; rfl
  have e8 : k0_off111 v27 v32 k0_t4 k = ![r, 16 * 8] := by rw [← hr]; rfl
  have e9 : k0_off112 v27 v32 k0_t4 k = ![r, 16 * 9] := by rw [← hr]; rfl
  have e10 : k0_off113 v27 v32 k0_t4 k = ![r, 16 * 10] := by rw [← hr]; rfl
  have e11 : k0_off114 v27 v32 k0_t4 k = ![r, 16 * 11] := by rw [← hr]; rfl
  have e12 : k0_off115 v27 v32 k0_t4 k = ![r, 16 * 12] := by rw [← hr]; rfl
  have e13 : k0_off116 v27 v32 k0_t4 k = ![r, 16 * 13] := by rw [← hr]; rfl
  have e14 : k0_off117 v27 v32 k0_t4 k = ![r, 16 * 14] := by rw [← hr]; rfl
  have e15 : k0_off118 v27 v32 k0_t4 k = ![r, 16 * 15] := by rw [← hr]; rfl
  unfold k0_t11_body
  exact Reads.bind (part27_reads e0 e1 e2 e3 e4 e5 e6 e7 e8 e9) <|
    Reads.bind (Reads.rowB e10) <|
    Reads.bind (Reads.rowB e11) <|
    Reads.bind (Reads.rowB e12) <|
    Reads.bind (Reads.rowB e13) <|
    Reads.bind (Reads.rowB e14) <|
    Reads.bind (Reads.rowB e15) <| Reads.pure _

end Cert.Proof.Pool
-- ==== Proof.Words.lean ====
/-
  The words of a segment's loops as natural numbers. A segment holds the rows `s … e-1` of `x`; its rows are fetched in
  chunks of 120, chunk `c` starting at row `R = s + 120 c`. The transfer of a chunk starts at the multiple of eight below
  `R`, or at row 49872 where 128 rows would leave the array (`bs R`); the chunk holds `cn e R` rows of the segment. From
  these, every trip count, every offset, and the program's own checks (`k0_chk3`).
-/
module

public import proofs.«01_k».proof.Proof.Common

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

open Idealize.ShloMosaic.Affine

/-- Chunks of a segment. -/
def nch (s e : ℕ) : ℕ := (e - s + 119) / 120
/-- First row a chunk's transfer fetches. -/
def bs (R : ℕ) : ℕ := min (R / 8 * 8) 49872
/-- Rows of the segment a chunk holds. -/
def cn (e R : ℕ) : ℕ := min 120 (e - R)

/-- The segment's two bounds, as the words the tile reads. -/
structure Seg (v27 v32 : BitVec 32) (s e : ℕ) : Prop where
  lo : IsInt v27 s
  hi : IsInt v32 e
  le : s ≤ e
  top : e ≤ 50000

/-! ## The words -/

def evenW (t : ℕ) : BitVec 32 := Scalar.muli 2#32 (Scf.iv 0#32 1#32 t)
def oddW (t : ℕ) : BitVec 32 := Scalar.addi (evenW t) 1#32
def nextW (t : ℕ) : BitVec 32 := Scalar.addi (evenW t) 2#32
def startW (v27 c : BitVec 32) : BitVec 32 := Scalar.addi v27 (Scalar.muli c 120#32)
def floorW (x : BitVec 32) : BitVec 32 :=
  Scalar.select (Scalar.andi (Scalar.cmpi .ne (Scalar.subi (Scalar.extui (Scalar.cmpi .sgt x 0#32)) (Scalar.extui (Scalar.cmpi .slt x 0#32)))
    (Scalar.subi (Scalar.extui (Scalar.cmpi .sgt 8#32 0#32)) (Scalar.extui (Scalar.cmpi .slt 8#32 0#32)))) (Scalar.cmpi .ne (Scalar.remsi x 8#32) 0#32))
    (Scalar.subi (Scalar.divsi x 8#32) 1#32) (Scalar.divsi x 8#32)
def baseW (x : BitVec 32) : BitVec 32 := Scalar.minsi (Scalar.muli (floorW x) 8#32) 49872#32
def cntW (v32 x : BitVec 32) : BitVec 32 := Scalar.maxsi (Scalar.minsi 120#32 (Scalar.subi v32 x)) 0#32
def quadW (v32 x : BitVec 32) : BitVec 32 := Scalar.shrsi (cntW v32 x) 2#32
def nchW (v27 v32 : BitVec 32) : BitVec 32 := Scalar.divsi (Scalar.addi (Scalar.subi v32 v27) 119#32) 120#32

theorem c_isInt (n : ℕ) (h : n < 2 ^ 31) : IsInt (BitVec.ofNat 32 n) (n : ℤ) := Affine.ofNat n ⟨rfl, h⟩

theorem evenW_isInt {t : ℕ} (h : t < 1000) : IsInt (evenW t) ((2 * t : ℕ) : ℤ) :=
  Affine.muli (c_isInt 2 (by decide)) (Affine.iv (e := (t : ℤ)) (c_isInt 0 (by decide)) (c_isInt 1 (by decide)) t ⟨by push_cast; omega, by omega, by omega⟩)
    ⟨by push_cast; omega, by omega, by omega⟩
theorem oddW_isInt {t : ℕ} (h : t < 1000) : IsInt (oddW t) ((2 * t + 1 : ℕ) : ℤ) :=
  Affine.addi (evenW_isInt h) (c_isInt 1 (by decide)) ⟨by push_cast; omega, by omega, by omega⟩
theorem nextW_isInt {t : ℕ} (h : t < 1000) : IsInt (nextW t) ((2 * t + 2 : ℕ) : ℤ) :=
  Affine.addi (evenW_isInt h) (c_isInt 2 (by decide)) ⟨by push_cast; omega, by omega, by omega⟩

theorem floorW_isInt {x : BitVec 32} {X : ℕ} (hx : IsInt x X) (hX : X < 2 ^ 30) : IsInt (floorW x) ((X / 8 : ℕ) : ℤ) := by
  have h8 : IsInt 8#32 (8 : ℤ) := c_isInt 8 (by decide)
  have h0 : IsInt 0#32 (0 : ℤ) := c_isInt 0 (by decide)
  have hd : IsInt (Scalar.divsi x 8#32) ((X / 8 : ℕ) : ℤ) := Affine.divsi hx h8 ⟨by push_cast; omega, by omega, by decide⟩
  have hd1 : IsInt (Scalar.subi (Scalar.divsi x 8#32) 1#32) (((X / 8 : ℕ) : ℤ) - 1) :=
    Affine.subi hd (c_isInt 1 (by decide)) ⟨by push_cast; omega, by omega, by omega⟩
  have hn : IsInt (Scalar.extui (Scalar.cmpi .slt x 0#32)) 0 := Affine.extui_fails (Affine.slt_fails hx h0 (by omega)) rfl
  refine Affine.select_fails ?_ hd1 hd rfl
  by_cases hz : X = 0
  · refine Affine.andi_fails_right trivial (Affine.ne_fails (Affine.remsi hx h8 ⟨rfl, by omega, by decide⟩) h0 (by subst hz; rfl))
  · refine Affine.andi_fails_left (Affine.ne_fails (eb := 1) (Affine.subi (e := 1) (Affine.extui_holds (Affine.sgt_holds hx h0 (by omega)) rfl) hn (by decide)) ?_ rfl) trivial
    exact Affine.subi (Affine.extui_holds (Affine.sgt_holds h8 h0 (by decide)) rfl) (Affine.extui_fails (Affine.slt_fails h8 h0 (by decide)) rfl) (by decide)

theorem baseW_isInt {x : BitVec 32} {X : ℕ} (hx : IsInt x X) (hX : X < 2 ^ 30) : IsInt (baseW x) ((bs X : ℕ) : ℤ) := by
  refine Affine.minsi (Affine.muli (floorW_isInt hx hX) (c_isInt 8 (by decide)) ⟨rfl, by push_cast; omega, by push_cast; omega⟩) (c_isInt 49872 (by decide)) ?_
  unfold bs; push_cast; rfl

theorem startW_isInt {v c : BitVec 32} {s C : ℕ} (hv : IsInt v s) (hc : IsInt c C) (h : s ≤ 50000) (hC : C < 10000) :
    IsInt (startW v c) ((s + 120 * C : ℕ) : ℤ) :=
  Affine.addi hv (Affine.muli (e := ((120 * C : ℕ) : ℤ)) hc (c_isInt 120 (by decide)) ⟨by push_cast; omega, by push_cast; omega, by push_cast; omega⟩)
    ⟨by push_cast; omega, by push_cast; omega, by push_cast; omega⟩

theorem cntW_isInt {v x : BitVec 32} {e X : ℕ} (hv : IsInt v e) (hx : IsInt x X) (h : e ≤ 50000) (hX : X < 2 ^ 30) : IsInt (cntW v x) ((cn e X : ℕ) : ℤ) := by
  refine Affine.maxsi (Affine.minsi (c_isInt 120 (by decide)) (Affine.subi hv hx ⟨rfl, by omega, by omega⟩) rfl) (c_isInt 0 (by decide)) ?_
  unfold cn; push_cast; omega

theorem quadW_isInt {v x : BitVec 32} {e X : ℕ} (hv : IsInt v e) (hx : IsInt x X) (h : e ≤ 50000) (hX : X < 2 ^ 30) : IsInt (quadW v x) ((cn e X / 4 : ℕ) : ℤ) :=
  Affine.shrsi (cntW_isInt hv hx h hX) (c_isInt 2 (by decide)) 2 4 (by decide) ⟨by push_cast; omega, by decide, by decide⟩

theorem nchW_isInt {v27 v32 : BitVec 32} {s e : ℕ} (S : Seg v27 v32 s e) : IsInt (nchW v27 v32) ((nch s e : ℕ) : ℤ) := by
  have h1 := S.le
  have h2 := S.top
  refine Affine.divsi (Affine.addi (e := ((e - s + 119 : ℕ) : ℤ)) (Affine.subi S.hi S.lo ⟨rfl, by omega, by omega⟩) (c_isInt 119 (by decide)) ⟨by push_cast; omega, by omega, by omega⟩)
    (c_isInt 120 (by decide)) ⟨?_, by omega, by decide⟩
  unfold nch; push_cast; omega

/-! ## Trip counts -/

/-- A loop from zero by ones to `q`. -/
theorem trips0 {q : BitVec 32} {Q : ℕ} (hq : IsInt q Q) (hQ : Q < 2 ^ 30) :
    Scf.trips 0#32 (Scalar.addi 0#32 (Scalar.muli (Scalar.divsi (Scalar.subi q 0#32) 1#32) 1#32)) 1#32 = Q
      ∧ Scf.OK 0#32 (Scalar.addi 0#32 (Scalar.muli (Scalar.divsi (Scalar.subi q 0#32) 1#32) 1#32)) 1#32 := by
  have hu : IsInt (Scalar.addi 0#32 (Scalar.muli (Scalar.divsi (Scalar.subi q 0#32) 1#32) 1#32)) (Q : ℤ) :=
    Affine.addi (c_isInt 0 (by decide)) (Affine.muli (Affine.divsi_one (Affine.subi hq (c_isInt 0 (by decide)) ⟨rfl, by push_cast; omega, by push_cast; omega⟩) (c_isInt 1 (by decide)) ⟨rfl, rfl⟩)
      (c_isInt 1 (by decide)) ⟨rfl, by push_cast; omega, by push_cast; omega⟩) ⟨by push_cast; omega, by omega, by omega⟩
  exact ⟨Affine.trips_eq (c_isInt 0 (by decide)) hu (c_isInt 1 (by decide)) Q ⟨by decide, by push_cast; omega⟩,
    Affine.ok (c_isInt 0 (by decide)) hu (c_isInt 1 (by decide)) ⟨by decide, by push_cast; omega⟩⟩

/-- A loop from `l` by ones, `c - l` times. -/
theorem tripsL {l c : BitVec 32} {A C : ℕ} (hl : IsInt l A) (hc : IsInt c C) (hAC : A ≤ C) (hC : C < 2 ^ 30) :
    Scf.trips l (Scalar.addi l (Scalar.muli (Scalar.divsi (Scalar.subi c l) 1#32) 1#32)) 1#32 = C - A
      ∧ Scf.OK l (Scalar.addi l (Scalar.muli (Scalar.divsi (Scalar.subi c l) 1#32) 1#32)) 1#32 := by
  have hu : IsInt (Scalar.addi l (Scalar.muli (Scalar.divsi (Scalar.subi c l) 1#32) 1#32)) (C : ℤ) :=
    Affine.addi hl (Affine.muli (Affine.divsi_one (Affine.subi hc hl ⟨rfl, by push_cast; omega, by push_cast; omega⟩) (c_isInt 1 (by decide)) ⟨rfl, rfl⟩)
      (c_isInt 1 (by decide)) ⟨rfl, by push_cast; omega, by push_cast; omega⟩) ⟨by push_cast; omega, by omega, by omega⟩
  exact ⟨Affine.trips_eq hl hu (c_isInt 1 (by decide)) (C - A) ⟨by decide, by push_cast; omega⟩,
    Affine.ok hl hu (c_isInt 1 (by decide)) ⟨by decide, by push_cast; omega⟩⟩

variable {v27 v32 : BitVec 32} {s e : ℕ}

theorem nch_le (S : Seg v27 v32 s e) : nch s e ≤ 417 := by
  have := S.top; unfold nch; omega

theorem t4_trips (S : Seg v27 v32 s e) : (k0_t4_loop v27 v32).trips = (nch s e + 1) / 2 ∧ (k0_t4_loop v27 v32).OK := by
  have h := nch_le S
  refine trips0 (q := Scalar.divsi (Scalar.addi (nchW v27 v32) 1#32) 2#32) ?_ (by omega)
  exact Affine.divsi (Affine.addi (e := ((nch s e + 1 : ℕ) : ℤ)) (nchW_isInt S) (c_isInt 1 (by decide)) ⟨by push_cast; omega, by omega, by omega⟩) (c_isInt 2 (by decide))
    ⟨by push_cast; omega, by omega, by decide⟩

theorem t4_lt (S : Seg v27 v32 s e) (t4 : Fin (k0_t4_loop v27 v32).trips) : 2 * t4.val + 1 ≤ nch s e ∧ t4.val < 1000 := by
  have h := lt_of_lt_of_eq t4.isLt (t4_trips S).1
  have := nch_le S
  omega

/-- Rows of the segment in chunk `c` all lie in the 128 fetched. -/
theorem chunk_fits {R : ℕ} (h : e ≤ 50000) : R - bs R + cn e R ≤ 128 ∨ cn e R = 0 := by unfold bs cn; omega
theorem bs_le (R : ℕ) : bs R ≤ R := by unfold bs; omega
theorem bs_top (R : ℕ) : bs R + 128 ≤ 50000 := by unfold bs; omega
theorem bs_dvd (R : ℕ) : 8 ∣ bs R := by unfold bs; omega

/-- First row of the even, the odd and the following chunk of pair `t`. -/
def evenR (s t : ℕ) : ℕ := s + 120 * (2 * t)
def oddR (s t : ℕ) : ℕ := s + 120 * (2 * t + 1)

theorem evenS (S : Seg v27 v32 s e) {t : ℕ} (h : t < 1000) : IsInt (startW v27 (evenW t)) ((evenR s t : ℕ) : ℤ) :=
  startW_isInt S.lo (evenW_isInt h) (S.le.trans S.top) (by omega)
theorem oddS (S : Seg v27 v32 s e) {t : ℕ} (h : t < 1000) : IsInt (startW v27 (oddW t)) ((oddR s t : ℕ) : ℤ) :=
  startW_isInt S.lo (oddW_isInt h) (S.le.trans S.top) (by omega)
theorem nextS (S : Seg v27 v32 s e) {t : ℕ} (h : t < 1000) : IsInt (startW v27 (nextW t)) ((evenR s (t + 1) : ℕ) : ℤ) :=
  startW_isInt S.lo (nextW_isInt h) (S.le.trans S.top) (by omega)
theorem evenR_lt (S : Seg v27 v32 s e) {t : ℕ} (h : t < 1000) : evenR s t < 2 ^ 30 := by have := S.top; have := S.le; unfold evenR; omega
theorem oddR_lt (S : Seg v27 v32 s e) {t : ℕ} (h : t < 1000) : oddR s t < 2 ^ 30 := by have := S.top; have := S.le; unfold oddR; omega

theorem t5_trips (S : Seg v27 v32 s e) (t4 : Fin (k0_t4_loop v27 v32).trips) :
    (k0_t5_loop v27 v32 t4).trips = cn e (evenR s t4) / 4 ∧ (k0_t5_loop v27 v32 t4).OK :=
  trips0 (q := quadW v32 (startW v27 (evenW t4))) (quadW_isInt S.hi (evenS S (t4_lt S t4).2) S.top (evenR_lt S (t4_lt S t4).2)) (by unfold cn; omega)

theorem t7_trips (S : Seg v27 v32 s e) (t4 : Fin (k0_t4_loop v27 v32).trips) :
    (k0_t7_loop v27 v32 t4).trips = cn e (evenR s t4) - 4 * (cn e (evenR s t4) / 4) ∧ (k0_t7_loop v27 v32 t4).OK :=
  tripsL (l := Scalar.muli 4#32 (quadW v32 (startW v27 (evenW t4)))) (c := cntW v32 (startW v27 (evenW t4)))
    (Affine.muli (c_isInt 4 (by decide)) (quadW_isInt S.hi (evenS S (t4_lt S t4).2) S.top (evenR_lt S (t4_lt S t4).2)) ⟨by push_cast; omega, by unfold cn; omega, by unfold cn; omega⟩)
    (cntW_isInt S.hi (evenS S (t4_lt S t4).2) S.top (evenR_lt S (t4_lt S t4).2)) (by omega) (by unfold cn; omega)

/-- The row of the buffer that step `j` of quad `k` of the even chunk reads. -/
theorem t5_row (S : Seg v27 v32 s e) (t4 : Fin (k0_t4_loop v27 v32).trips) (k : Fin (k0_t5_loop v27 v32 t4).trips) (j : ℕ) (hj : j < 4) :
    k0_off6 v27 v32 t4 k (BitVec.ofNat 32 j) 0 = evenR s t4 - bs (evenR s t4) + 4 * k.val + j := by
  have hk := lt_of_lt_of_eq k.isLt (t5_trips S t4).1
  have h1 := evenR_lt S (t4_lt S t4).2
  have h2 := bs_le (evenR s t4)
  have h3 : cn e (evenR s t4) ≤ 120 := by unfold cn; omega
  refine Affine.nat_eq (a := Scalar.addi (Scalar.addi (Scalar.subi (startW v27 (evenW t4)) (baseW (startW v27 (evenW t4)))) (Scalar.muli 4#32 (Scf.iv 0#32 1#32 k))) (BitVec.ofNat 32 j))
    (Affine.addi (Affine.addi (Affine.subi (evenS S (t4_lt S t4).2) (baseW_isInt (evenS S (t4_lt S t4).2) h1) ⟨rfl, by omega, by omega⟩)
      (Affine.muli (e := ((4 * k.val : ℕ) : ℤ)) (c_isInt 4 (by decide)) (Affine.iv (e := (k.val : ℤ)) (c_isInt 0 (by decide)) (c_isInt 1 (by decide)) k.val ⟨by push_cast; omega, by omega, by omega⟩) ⟨by push_cast; omega, by omega, by omega⟩)
      ⟨rfl, by omega, by omega⟩) (c_isInt j (by omega)) ⟨rfl, by omega, by omega⟩) _ (by omega)

/-- The row of the buffer that trip `k` of the row loop of the even chunk reads. -/
theorem t7_row (S : Seg v27 v32 s e) (t4 : Fin (k0_t4_loop v27 v32).trips) (k : Fin (k0_t7_loop v27 v32 t4).trips) :
    k0_off38 v27 v32 t4 k 0 = evenR s t4 - bs (evenR s t4) + (4 * (cn e (evenR s t4) / 4) + k.val) := by
  have hk := lt_of_lt_of_eq k.isLt (t7_trips S t4).1
  have h1 := evenR_lt S (t4_lt S t4).2
  have h2 := bs_le (evenR s t4)
  have h3 : cn e (evenR s t4) ≤ 120 := by unfold cn; omega
  refine Affine.nat_eq (a := Scalar.addi (Scalar.subi (startW v27 (evenW t4)) (baseW (startW v27 (evenW t4)))) (Scf.iv (Scalar.muli 4#32 (quadW v32 (startW v27 (evenW t4)))) 1#32 k))
    (Affine.addi (Affine.subi (evenS S (t4_lt S t4).2) (baseW_isInt (evenS S (t4_lt S t4).2) h1) ⟨rfl, by omega, by omega⟩)
      (Affine.iv (e := ((4 * (cn e (evenR s t4) / 4) + k.val : ℕ) : ℤ)) (Affine.muli (e := ((4 * (cn e (evenR s t4) / 4) : ℕ) : ℤ)) (c_isInt 4 (by decide)) (quadW_isInt S.hi (evenS S (t4_lt S t4).2) S.top h1) ⟨by push_cast; omega, by omega, by omega⟩)
        (c_isInt 1 (by decide)) k.val ⟨by push_cast; omega, by omega, by omega⟩)
      ⟨rfl, by omega, by omega⟩) _ (by omega)

theorem t5_fits (S : Seg v27 v32 s e) (t4 : Fin (k0_t4_loop v27 v32).trips) (k : Fin (k0_t5_loop v27 v32 t4).trips) :
    evenR s t4 - bs (evenR s t4) + 4 * k.val + 3 < 128 := by
  have hk := lt_of_lt_of_eq k.isLt (t5_trips S t4).1
  have := chunk_fits (R := evenR s t4) S.top
  omega

theorem t7_fits (S : Seg v27 v32 s e) (t4 : Fin (k0_t4_loop v27 v32).trips) (k : Fin (k0_t7_loop v27 v32 t4).trips) :
    evenR s t4 - bs (evenR s t4) + (4 * (cn e (evenR s t4) / 4) + k.val) < 128 := by
  have hk := lt_of_lt_of_eq k.isLt (t7_trips S t4).1
  have := chunk_fits (R := evenR s t4) S.top
  omega

theorem t5_inb (S : Seg v27 v32 s e) (t4 : Fin (k0_t4_loop v27 v32).trips) (k : Fin (k0_t5_loop v27 v32 t4).trips) (r : Fin 4) (c : ℕ) (hc : c ≤ 240)
    (off : Fin 2 → ℕ) (ho : off = ![k0_off6 v27 v32 t4 k (BitVec.ofNat 32 r.val) 0, c]) : ∀ a, off a + S1x16.size a ≤ S128x256.size a := by
  subst ho
  have h := t5_row S t4 k r.val r.isLt
  have h' := t5_fits S t4 k
  have hr := r.isLt
  intro a
  match a with
  | 0 => show k0_off6 v27 v32 t4 k (BitVec.ofNat 32 r.val) 0 + 1 ≤ 128; omega
  | 1 => show c + 16 ≤ 256; omega

theorem t7_inb (S : Seg v27 v32 s e) (t4 : Fin (k0_t4_loop v27 v32).trips) (k : Fin (k0_t7_loop v27 v32 t4).trips) (c : ℕ) (hc : c ≤ 240)
    (off : Fin 2 → ℕ) (ho : off = ![k0_off38 v27 v32 t4 k 0, c]) : ∀ a, off a + S1x16.size a ≤ S128x256.size a := by
  subst ho
  have h := t7_row S t4 k
  have h' := t7_fits S t4 k
  intro a
  match a with
  | 0 => show k0_off38 v27 v32 t4 k 0 + 1 ≤ 128; omega
  | 1 => show c + 16 ≤ 256; omega

theorem t9_trips (S : Seg v27 v32 s e) (t4 : Fin (k0_t4_loop v27 v32).trips) :
    (k0_t9_loop v27 v32 t4).trips = cn e (oddR s t4) / 4 ∧ (k0_t9_loop v27 v32 t4).OK :=
  trips0 (q := quadW v32 (startW v27 (oddW t4))) (quadW_isInt S.hi (oddS S (t4_lt S t4).2) S.top (oddR_lt S (t4_lt S t4).2)) (by unfold cn; omega)

theorem t11_trips (S : Seg v27 v32 s e) (t4 : Fin (k0_t4_loop v27 v32).trips) :
    (k0_t11_loop v27 v32 t4).trips = cn e (oddR s t4) - 4 * (cn e (oddR s t4) / 4) ∧ (k0_t11_loop v27 v32 t4).OK :=
  tripsL (l := Scalar.muli 4#32 (quadW v32 (startW v27 (oddW t4)))) (c := cntW v32 (startW v27 (oddW t4)))
    (Affine.muli (c_isInt 4 (by decide)) (quadW_isInt S.hi (oddS S (t4_lt S t4).2) S.top (oddR_lt S (t4_lt S t4).2)) ⟨by push_cast; omega, by unfold cn; omega, by unfold cn; omega⟩)
    (cntW_isInt S.hi (oddS S (t4_lt S t4).2) S.top (oddR_lt S (t4_lt S t4).2)) (by omega) (by unfold cn; omega)

/-- The row of the buffer that step `j` of quad `k` of the odd chunk reads. -/
theorem t9_row (S : Seg v27 v32 s e) (t4 : Fin (k0_t4_loop v27 v32).trips) (k : Fin (k0_t9_loop v27 v32 t4).trips) (j : ℕ) (hj : j < 4) :
    k0_off71 v27 v32 t4 k (BitVec.ofNat 32 j) 0 = oddR s t4 - bs (oddR s t4) + 4 * k.val + j := by
  have hk := lt_of_lt_of_eq k.isLt (t9_trips S t4).1
  have h1 := oddR_lt S (t4_lt S t4).2
  have h2 := bs_le (oddR s t4)
  have h3 : cn e (oddR s t4) ≤ 120 := by unfold cn; omega
  refine Affine.nat_eq (a := Scalar.addi (Scalar.addi (Scalar.subi (startW v27 (oddW t4)) (baseW (startW v27 (oddW t4)))) (Scalar.muli 4#32 (Scf.iv 0#32 1#32 k))) (BitVec.ofNat 32 j))
    (Affine.addi (Affine.addi (Affine.subi (oddS S (t4_lt S t4).2) (baseW_isInt (oddS S (t4_lt S t4).2) h1) ⟨rfl, by omega, by omega⟩)
      (Affine.muli (e := ((4 * k.val : ℕ) : ℤ)) (c_isInt 4 (by decide)) (Affine.iv (e := (k.val : ℤ)) (c_isInt 0 (by decide)) (c_isInt 1 (by decide)) k.val ⟨by push_cast; omega, by omega, by omega⟩) ⟨by push_cast; omega, by omega, by omega⟩)
      ⟨rfl, by omega, by omega⟩) (c_isInt j (by omega)) ⟨rfl, by omega, by omega⟩) _ (by omega)

/-- The row of the buffer that trip `k` of the row loop of the odd chunk reads. -/
theorem t11_row (S : Seg v27 v32 s e) (t4 : Fin (k0_t4_loop v27 v32).trips) (k : Fin (k0_t11_loop v27 v32 t4).trips) :
    k0_off103 v27 v32 t4 k 0 = oddR s t4 - bs (oddR s t4) + (4 * (cn e (oddR s t4) / 4) + k.val) := by
  have hk := lt_of_lt_of_eq k.isLt (t11_trips S t4).1
  have h1 := oddR_lt S (t4_lt S t4).2
  have h2 := bs_le (oddR s t4)
  have h3 : cn e (oddR s t4) ≤ 120 := by unfold cn; omega
  refine Affine.nat_eq (a := Scalar.addi (Scalar.subi (startW v27 (oddW t4)) (baseW (startW v27 (oddW t4)))) (Scf.iv (Scalar.muli 4#32 (quadW v32 (startW v27 (oddW t4)))) 1#32 k))
    (Affine.addi (Affine.subi (oddS S (t4_lt S t4).2) (baseW_isInt (oddS S (t4_lt S t4).2) h1) ⟨rfl, by omega, by omega⟩)
      (Affine.iv (e := ((4 * (cn e (oddR s t4) / 4) + k.val : ℕ) : ℤ)) (Affine.muli (e := ((4 * (cn e (oddR s t4) / 4) : ℕ) : ℤ)) (c_isInt 4 (by decide)) (quadW_isInt S.hi (oddS S (t4_lt S t4).2) S.top h1) ⟨by push_cast; omega, by omega, by omega⟩)
        (c_isInt 1 (by decide)) k.val ⟨by push_cast; omega, by omega, by omega⟩)
      ⟨rfl, by omega, by omega⟩) _ (by omega)

theorem t9_fits (S : Seg v27 v32 s e) (t4 : Fin (k0_t4_loop v27 v32).trips) (k : Fin (k0_t9_loop v27 v32 t4).trips) :
    oddR s t4 - bs (oddR s t4) + 4 * k.val + 3 < 128 := by
  have hk := lt_of_lt_of_eq k.isLt (t9_trips S t4).1
  have := chunk_fits (R := oddR s t4) S.top
  omega

theorem t11_fits (S : Seg v27 v32 s e) (t4 : Fin (k0_t4_loop v27 v32).trips) (k : Fin (k0_t11_loop v27 v32 t4).trips) :
    oddR s t4 - bs (oddR s t4) + (4 * (cn e (oddR s t4) / 4) + k.val) < 128 := by
  have hk := lt_of_lt_of_eq k.isLt (t11_trips S t4).1
  have := chunk_fits (R := oddR s t4) S.top
  omega

theorem t9_inb (S : Seg v27 v32 s e) (t4 : Fin (k0_t4_loop v27 v32).trips) (k : Fin (k0_t9_loop v27 v32 t4).trips) (r : Fin 4) (c : ℕ) (hc : c ≤ 240)
    (off : Fin 2 → ℕ) (ho : off = ![k0_off71 v27 v32 t4 k (BitVec.ofNat 32 r.val) 0, c]) : ∀ a, off a + S1x16.size a ≤ S128x256.size a := by
  subst ho
  have h := t9_row S t4 k r.val r.isLt
  have h' := t9_fits S t4 k
  have hr := r.isLt
  intro a
  match a with
  | 0 => show k0_off71 v27 v32 t4 k (BitVec.ofNat 32 r.val) 0 + 1 ≤ 128; omega
  | 1 => show c + 16 ≤ 256; omega

theorem t11_inb (S : Seg v27 v32 s e) (t4 : Fin (k0_t4_loop v27 v32).trips) (k : Fin (k0_t11_loop v27 v32 t4).trips) (c : ℕ) (hc : c ≤ 240)
    (off : Fin 2 → ℕ) (ho : off = ![k0_off103 v27 v32 t4 k 0, c]) : ∀ a, off a + S1x16.size a ≤ S128x256.size a := by
  subst ho
  have h := t11_row S t4 k
  have h' := t11_fits S t4 k
  intro a
  match a with
  | 0 => show k0_off103 v27 v32 t4 k 0 + 1 ≤ 128; omega
  | 1 => show c + 16 ≤ 256; omega

/-! ## The transfers' first rows -/

theorem off4_eq (S : Seg v27 v32 s e) : k0_off4 v27 = ![bs s, 0] := by
  have h : IsInt (Scalar.addi v27 0#32) (s : ℤ) := Affine.addi S.lo (c_isInt 0 (by decide)) ⟨by push_cast; omega, by have := S.le; have := S.top; omega, by have := S.le; have := S.top; omega⟩
  exact Affine.vec_cons (baseW_isInt h (by have := S.le; have := S.top; omega)) rfl rfl
theorem off5_eq (S : Seg v27 v32 s e) (t4 : Fin (k0_t4_loop v27 v32).trips) : k0_off5 v27 v32 t4 = ![bs (oddR s t4), 0] :=
  Affine.vec_cons (baseW_isInt (oddS S (t4_lt S t4).2) (oddR_lt S (t4_lt S t4).2)) rfl rfl
theorem off70_eq (S : Seg v27 v32 s e) (t4 : Fin (k0_t4_loop v27 v32).trips) : k0_off70 v27 v32 t4 = ![bs (evenR s (t4 + 1)), 0] :=
  Affine.vec_cons (baseW_isInt (nextS S (t4_lt S t4).2) (evenR_lt S (t := t4.val + 1) (by have := t4_lt S t4; have := nch_le S; omega))) rfl rfl

theorem slice_inb (R : ℕ) (off : Fin 2 → ℕ) (ho : off = ![bs R, 0]) : ∀ a, off a + S128x256.size a ≤ S50000x256.size a := by
  subst ho
  have := bs_top R
  intro a
  match a with
  | 0 => show bs R + 128 ≤ 50000; omega
  | 1 => show 0 + 256 ≤ 256; omega

/-! ## The conditions -/

theorem cmpW {c : BitVec 1} : Scalar.cmpi .ne (Scalar.extui c : BitVec 32) 0#32 = 1#1 ↔ c = 1#1 := by
  revert c; decide

theorem cond1_iff (S : Seg v27 v32 s e) : k0_cond1 v27 v32 = 1#1 ↔ 0 < nch s e := by
  refine cmpW.trans ?_
  by_cases h : 0 < nch s e
  · exact iff_of_true (Affine.sgt_holds (nchW_isInt S) (c_isInt 0 (by decide)) (by push_cast; omega)) h
  · exact iff_of_false (Affine.sgt_fails (nchW_isInt S) (c_isInt 0 (by decide)) (by push_cast; omega)) h
theorem cond2_iff (S : Seg v27 v32 s e) (t4 : Fin (k0_t4_loop v27 v32).trips) : k0_cond2 v27 v32 t4 = 1#1 ↔ 2 * t4.val + 1 < nch s e := by
  refine cmpW.trans ?_
  by_cases h : 2 * t4.val + 1 < nch s e
  · exact iff_of_true (Affine.slt_holds (oddW_isInt (t4_lt S t4).2) (nchW_isInt S) (by exact_mod_cast h)) h
  · exact iff_of_false (Affine.slt_fails (oddW_isInt (t4_lt S t4).2) (nchW_isInt S) (by exact_mod_cast h)) h
theorem cond4_iff (S : Seg v27 v32 s e) (t4 : Fin (k0_t4_loop v27 v32).trips) : k0_cond4 v27 v32 t4 = 1#1 ↔ 2 * (t4.val + 1) < nch s e := by
  refine cmpW.trans ?_
  by_cases h : 2 * (t4.val + 1) < nch s e
  · exact iff_of_true (Affine.slt_holds (nextW_isInt (t4_lt S t4).2) (nchW_isInt S) (by push_cast; omega)) h
  · exact iff_of_false (Affine.slt_fails (nextW_isInt (t4_lt S t4).2) (nchW_isInt S) (by push_cast; omega)) h

/-! ## The program's checks -/

theorem off4_dvd (S : Seg v27 v32 s e) : 8 ∣ (k0_mult2 v27).toNat := by
  have h := congrFun (off4_eq S) 0
  have h' : (k0_mult2 v27).toNat = bs s := h
  rw [h']; exact bs_dvd _

theorem mult_dvd3 (S : Seg v27 v32 s e) (t4 : Fin (k0_t4_loop v27 v32).trips) : 8 ∣ (k0_mult3 v27 v32 t4).toNat := by
  have h : (k0_mult3 v27 v32 t4).toNat = bs (oddR s t4) :=
    Affine.nat_eq (baseW_isInt (oddS S (t4_lt S t4).2) (oddR_lt S (t4_lt S t4).2)) _ rfl
  rw [h]; exact bs_dvd _

theorem mult_dvd4 (S : Seg v27 v32 s e) (t4 : Fin (k0_t4_loop v27 v32).trips) : 8 ∣ (k0_mult4 v27 v32 t4).toNat := by
  have h : (k0_mult4 v27 v32 t4).toNat = bs (evenR s t4) :=
    Affine.nat_eq (baseW_isInt (evenS S (t4_lt S t4).2) (evenR_lt S (t4_lt S t4).2)) _ rfl
  rw [h]; exact bs_dvd _

theorem mult_dvd5 (S : Seg v27 v32 s e) (t4 : Fin (k0_t4_loop v27 v32).trips) : 8 ∣ (k0_mult5 v27 v32 t4).toNat := by
  have h : (k0_mult5 v27 v32 t4).toNat = bs (evenR s (t4 + 1)) :=
    Affine.nat_eq (baseW_isInt (nextS S (t4_lt S t4).2) (evenR_lt S (t := t4.val + 1) (by have := t4_lt S t4; have := nch_le S; omega))) _ rfl
  rw [h]; exact bs_dvd _

theorem mult_dvd6 (S : Seg v27 v32 s e) (t4 : Fin (k0_t4_loop v27 v32).trips) : 8 ∣ (k0_mult6 v27 v32 t4).toNat := by
  have h : (k0_mult6 v27 v32 t4).toNat = bs (oddR s t4) :=
    Affine.nat_eq (baseW_isInt (oddS S (t4_lt S t4).2) (oddR_lt S (t4_lt S t4).2)) _ rfl
  rw [h]; exact bs_dvd _

theorem chk3_0 (S : Seg v27 v32 s e) : k0_chk3_0 v27 v32 :=
  ⟨fun _ => off4_dvd S,
   fun _ => slice_inb s _ (off4_eq S),
   (t4_trips S).2,
   fun t4 _ => mult_dvd3 S t4,
   fun t4 _ => slice_inb _ _ (off5_eq S t4),
   fun t4 => mult_dvd4 S t4,
   fun t4 => (t5_trips S t4).2,
   fun t4 k r => t5_inb S t4 k r 0 (by decide) _ rfl,
   fun t4 k r => t5_inb S t4 k r 16 (by decide) _ rfl,
   fun t4 k r => t5_inb S t4 k r 32 (by decide) _ rfl,
   fun t4 k r => t5_inb S t4 k r 48 (by decide) _ rfl,
   fun t4 k r => t5_inb S t4 k r 64 (by decide) _ rfl,
   fun t4 k r => t5_inb S t4 k r 80 (by decide) _ rfl,
   fun t4 k r => t5_inb S t4 k r 96 (by decide) _ rfl,
   fun t4 k r => t5_inb S t4 k r 112 (by decide) _ rfl,
   fun t4 k r => t5_inb S t4 k r 128 (by decide) _ rfl,
   fun t4 k r => t5_inb S t4 k r 144 (by decide) _ rfl,
   fun t4 k r => t5_inb S t4 k r 160 (by decide) _ rfl,
   fun t4 k r => t5_inb S t4 k r 176 (by decide) _ rfl,
   fun t4 k r => t5_inb S t4 k r 192 (by decide) _ rfl,
   fun t4 k r => t5_inb S t4 k r 208 (by decide) _ rfl,
   fun t4 k r => t5_inb S t4 k r 224 (by decide) _ rfl,
   fun t4 k r => t5_inb S t4 k r 240 (by decide) _ rfl,
   fun _ => Scf.rem_ok _ _,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim⟩

theorem chk3_1 (S : Seg v27 v32 s e) : k0_chk3_1 v27 v32 :=
  ⟨fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun t4 => (t7_trips S t4).2,
   fun t4 k => t7_inb S t4 k 0 (by decide) _ rfl,
   fun t4 k => t7_inb S t4 k 16 (by decide) _ rfl,
   fun t4 k => t7_inb S t4 k 32 (by decide) _ rfl,
   fun t4 k => t7_inb S t4 k 48 (by decide) _ rfl,
   fun t4 k => t7_inb S t4 k 64 (by decide) _ rfl,
   fun t4 k => t7_inb S t4 k 80 (by decide) _ rfl,
   fun t4 k => t7_inb S t4 k 96 (by decide) _ rfl,
   fun t4 k => t7_inb S t4 k 112 (by decide) _ rfl,
   fun t4 k => t7_inb S t4 k 128 (by decide) _ rfl,
   fun t4 k => t7_inb S t4 k 144 (by decide) _ rfl,
   fun t4 k => t7_inb S t4 k 160 (by decide) _ rfl,
   fun t4 k => t7_inb S t4 k 176 (by decide) _ rfl,
   fun t4 k => t7_inb S t4 k 192 (by decide) _ rfl,
   fun t4 k => t7_inb S t4 k 208 (by decide) _ rfl,
   fun t4 k => t7_inb S t4 k 224 (by decide) _ rfl,
   fun t4 k => t7_inb S t4 k 240 (by decide) _ rfl,
   fun _ => Scf.rem_ok _ _,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim⟩

theorem chk3_2 (S : Seg v27 v32 s e) : k0_chk3_2 v27 v32 :=
  ⟨fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun t4 _ => mult_dvd5 S t4,
   fun t4 _ => slice_inb _ _ (off70_eq S t4),
   fun t4 => mult_dvd6 S t4,
   fun t4 => (t9_trips S t4).2,
   fun t4 k r => t9_inb S t4 k r 0 (by decide) _ rfl,
   fun t4 k r => t9_inb S t4 k r 16 (by decide) _ rfl,
   fun t4 k r => t9_inb S t4 k r 32 (by decide) _ rfl,
   fun t4 k r => t9_inb S t4 k r 48 (by decide) _ rfl,
   fun t4 k r => t9_inb S t4 k r 64 (by decide) _ rfl,
   fun t4 k r => t9_inb S t4 k r 80 (by decide) _ rfl,
   fun t4 k r => t9_inb S t4 k r 96 (by decide) _ rfl,
   fun t4 k r => t9_inb S t4 k r 112 (by decide) _ rfl,
   fun t4 k r => t9_inb S t4 k r 128 (by decide) _ rfl,
   fun t4 k r => t9_inb S t4 k r 144 (by decide) _ rfl,
   fun t4 k r => t9_inb S t4 k r 160 (by decide) _ rfl,
   fun t4 k r => t9_inb S t4 k r 176 (by decide) _ rfl,
   fun t4 k r => t9_inb S t4 k r 192 (by decide) _ rfl,
   fun t4 k r => t9_inb S t4 k r 208 (by decide) _ rfl,
   fun t4 k r => t9_inb S t4 k r 224 (by decide) _ rfl,
   fun t4 k r => t9_inb S t4 k r 240 (by decide) _ rfl,
   fun _ => Scf.rem_ok _ _,
   fun _ k => (Scf.rem_no_trip _ _ k).elim⟩

theorem chk3_3 (S : Seg v27 v32 s e) : k0_chk3_3 v27 v32 :=
  ⟨fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun t4 => (t11_trips S t4).2,
   fun t4 k => t11_inb S t4 k 0 (by decide) _ rfl,
   fun t4 k => t11_inb S t4 k 16 (by decide) _ rfl,
   fun t4 k => t11_inb S t4 k 32 (by decide) _ rfl,
   fun t4 k => t11_inb S t4 k 48 (by decide) _ rfl,
   fun t4 k => t11_inb S t4 k 64 (by decide) _ rfl,
   fun t4 k => t11_inb S t4 k 80 (by decide) _ rfl,
   fun t4 k => t11_inb S t4 k 96 (by decide) _ rfl,
   fun t4 k => t11_inb S t4 k 112 (by decide) _ rfl,
   fun t4 k => t11_inb S t4 k 128 (by decide) _ rfl,
   fun t4 k => t11_inb S t4 k 144 (by decide) _ rfl,
   fun t4 k => t11_inb S t4 k 160 (by decide) _ rfl,
   fun t4 k => t11_inb S t4 k 176 (by decide) _ rfl,
   fun t4 k => t11_inb S t4 k 192 (by decide) _ rfl,
   fun t4 k => t11_inb S t4 k 208 (by decide) _ rfl,
   fun t4 k => t11_inb S t4 k 224 (by decide) _ rfl,
   fun t4 k => t11_inb S t4 k 240 (by decide) _ rfl⟩

theorem chk3_4 (S : Seg v27 v32 s e) : k0_chk3_4 v27 v32 :=
  ⟨fun _ => Scf.rem_ok _ _,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   fun _ k => (Scf.rem_no_trip _ _ k).elim,
   Scf.rem_ok _ _,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim⟩

theorem chk3_5 (S : Seg v27 v32 s e) : k0_chk3_5 v27 v32 :=
  ⟨fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim⟩

theorem chk3_6 (S : Seg v27 v32 s e) : k0_chk3_6 v27 v32 :=
  ⟨fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim⟩

theorem chk3_7 (S : Seg v27 v32 s e) : k0_chk3_7 v27 v32 :=
  ⟨fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim⟩

theorem chk3_8 (S : Seg v27 v32 s e) : k0_chk3_8 v27 v32 :=
  ⟨fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim,
   fun t => (Scf.rem_no_trip _ _ t).elim⟩

/-- The checks the program makes of a segment's bounds hold. -/
theorem chk3 (S : Seg v27 v32 s e) : k0_chk3 v27 v32 :=
  ⟨chk3_0 S, chk3_1 S, chk3_2 S, chk3_3 S, chk3_4 S, chk3_5 S, chk3_6 S, chk3_7 S, chk3_8 S⟩

end Cert.Proof.Pool
-- ==== Proof.Loops.lean ====
/-
  Folds of rows of `x` into the sixteen sums and the sixteen maxima, and the four row loops over a chunk as steps of
  those folds.
-/
module

public import proofs.«01_k».proof.Proof.TripsA
public import proofs.«01_k».proof.Proof.TripsB
public import proofs.«01_k».proof.Proof.Words

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

variable [FloatOps F]

/-- Lanes `16h … 16h+15` of row `R` of `x`. -/
def rowV (X : FVec F S50000x256 .f32) (R h : ℕ) : FVec F S16 .f32 :=
  shapeCast S16 (fun y : S1x16.Idx => X (ix2 ⟨R % 50000, Nat.mod_lt _ (by decide)⟩ ⟨(16 * h + (y 1).val) % 256, Nat.mod_lt _ (by decide)⟩) : FVec F S1x16 .f32) shapeCasts_S1x16_S16

/-- The sum, from zero, of rows `s … s+n-1` of `x`, in order. -/
def accS (X : FVec F S50000x256 .f32) (s : ℕ) : ℕ → ℕ → FVec F S16 .f32
  | 0, _ => k0_pay1771
  | n + 1, h => addf (accS X s n h) (rowV X (s + n) h)
/-- The maximum, from minus infinity, of rows `s … s+n-1` of `x`, in order. -/
def accM (X : FVec F S50000x256 .f32) (s : ℕ) : ℕ → ℕ → FVec F S16 .f32
  | 0, _ => k0_pay1772
  | n + 1, h => maximumf (accM X s n h) (rowV X (s + n) h)

/-- The accumulators after `n` rows. -/
def acc (X : FVec F S50000x256 .f32) (s n : ℕ) := tup (accS X s n) (accM X s n)

/-- A buffer holds the 128 rows of `x` from `B`. -/
def Agrees (f : FVec F S128x256 .f32) (X : FVec F S50000x256 .f32) (B : ℕ) : Prop :=
  ∀ r h, r < 128 → rd f r h = rowV X (B + r) h

variable {v27 v32 : BitVec 32} {s e : ℕ}

theorem quad_acc {f : FVec F S128x256 .f32} {X : FVec F S50000x256 .f32} {R N k : ℕ} (hf : Agrees f X (bs R)) (hN : s + N = R)
    (hb : R - bs R + 4 * k + 3 < 128) :
    tup (quadS (accS X s (N + 4 * k)) f (R - bs R + 4 * k)) (quadM (accM X s (N + 4 * k)) f (R - bs R + 4 * k)) = acc X s (N + 4 * (k + 1)) := by
  have hB := bs_le R
  have e (j : ℕ) (hj : j < 4) (h : ℕ) : rd f (R - bs R + 4 * k + j) h = rowV X (s + (N + 4 * k + j)) h := by
    rw [hf _ h (by omega)]; congr 1; omega
  have hS : quadS (accS X s (N + 4 * k)) f (R - bs R + 4 * k) = accS X s (N + 4 * (k + 1)) := by
    funext h; unfold quadS
    rw [e 0 (by omega), e 1 (by omega), e 2 (by omega), e 3 (by omega)]; rfl
  have hM : quadM (accM X s (N + 4 * k)) f (R - bs R + 4 * k) = accM X s (N + 4 * (k + 1)) := by
    funext h; unfold quadM
    rw [e 0 (by omega), e 1 (by omega), e 2 (by omega), e 3 (by omega)]; rfl
  rw [hS, hM]; rfl

theorem row_acc {f : FVec F S128x256 .f32} {X : FVec F S50000x256 .f32} {R N k : ℕ} (hf : Agrees f X (bs R)) (hN : s + N = R)
    (hb : R - bs R + k < 128) :
    tup (rowS (accS X s (N + k)) f (R - bs R + k)) (rowM (accM X s (N + k)) f (R - bs R + k)) = acc X s (N + (k + 1)) := by
  have hB := bs_le R
  have e (h : ℕ) : rd f (R - bs R + k) h = rowV X (s + (N + k)) h := by
    rw [hf _ h (by omega)]; congr 1; omega
  have hS : rowS (accS X s (N + k)) f (R - bs R + k) = accS X s (N + (k + 1)) := by
    funext h; unfold rowS; rw [e]; rfl
  have hM : rowM (accM X s (N + k)) f (R - bs R + k) = accM X s (N + (k + 1)) := by
    funext h; unfold rowM; rw [e]; rfl
  rw [hS, hM]; rfl

theorem t5_loop (S : Seg v27 v32 s e) {d : Dev nD} {i : grid0.Coords} {k0_hw3 : k0_chk3 v27 v32} {v35 : BitVec 32} {k0_t4 : Fin (k0_t4_loop v27 v32).trips} {v114 : BitVec 32} {v116 : BitVec 1} {v143 : BitVec 32} {v146 : BitVec 32} {v147 : BitVec 32} {c0_i32_62 : BitVec 32} {v148 : BitVec 32} {arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 : FVec F S16 .f32} {ok} {f : FVec F S128x256 .f32} {X : FVec F S50000x256 .f32} {N : ℕ}
    (hf : Agrees f X (bs (evenR s k0_t4))) (hN : 0 < cn e (evenR s k0_t4) → s + N = evenR s k0_t4) :
    Reads (tileThr d i) ((tileThr d i).loc cc0_scratch2 ↦{fullShare} f : sProp 𝕄)
      (Scf.Loop.for (k0_t5_loop v27 v32 k0_t4) ok (acc X s N) (k0_t5_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 v35 k0_t4 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 v114 v116 v143 v146 v147 c0_i32_62 v148)) (acc X s (N + 4 * (cn e (evenR s k0_t4) / 4))) :=
  Reads.for' (A := fun k => acc X s (N + 4 * k)) _ (t5_trips S k0_t4).1 rfl fun k =>
    have hk := lt_of_lt_of_eq k.isLt (t5_trips S k0_t4).1
    (t5_trip d i _ _ _ _ _ _ _ _ _ _ _ _ _ _ _ _ _ _ _ _ _ _ _ _ _ _ _ _ _ _ _ _ _ _ _ _ _ _ _ _ _ _ _ _ k f _ (t5_row S k0_t4 k 0 (by decide)) (t5_row S k0_t4 k 1 (by decide)) (t5_row S k0_t4 k 2 (by decide)) (t5_row S k0_t4 k 3 (by decide)) _ _).congr
      (quad_acc hf (hN (by omega)) (t5_fits S k0_t4 k))

theorem t7_loop (S : Seg v27 v32 s e) {d : Dev nD} {i : grid0.Coords} {k0_hw3 : k0_chk3 v27 v32} {v35 : BitVec 32} {k0_t4 : Fin (k0_t4_loop v27 v32).trips} {v114 : BitVec 32} {v116 : BitVec 1} {v143 : BitVec 32} {v146 : BitVec 32} {v147 : BitVec 32} {c0_i32_62 : BitVec 32} {v148 : BitVec 32} {v155 : BitVec 32} {arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 : FVec F S16 .f32} {ok} {f : FVec F S128x256 .f32} {X : FVec F S50000x256 .f32} {N : ℕ}
    (hf : Agrees f X (bs (evenR s k0_t4))) (hN : 0 < cn e (evenR s k0_t4) → s + N = evenR s k0_t4) :
    Reads (tileThr d i) ((tileThr d i).loc cc0_scratch2 ↦{fullShare} f : sProp 𝕄)
      (Scf.Loop.for (k0_t7_loop v27 v32 k0_t4) ok (acc X s (N + 4 * (cn e (evenR s k0_t4) / 4))) (k0_t7_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 v35 k0_t4 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 v114 v116 v143 v146 v147 c0_i32_62 v148 v155)) (acc X s (N + cn e (evenR s k0_t4))) :=
  (Reads.for' (A := fun k => acc X s (N + (4 * (cn e (evenR s k0_t4) / 4) + k))) _ (t7_trips S k0_t4).1 rfl fun k =>
    have hk := lt_of_lt_of_eq k.isLt (t7_trips S k0_t4).1
    (t7_trip d i _ _ _ _ _ _ _ _ _ _ _ _ _ _ _ _ _ _ _ _ _ _ _ _ _ _ _ _ _ _ _ _ _ _ _ _ _ _ _ _ _ _ _ _ _ k f _ (t7_row S k0_t4 k) _ _).congr
      (row_acc hf (hN (by omega)) (t7_fits S k0_t4 k))).congr (congrArg (acc X s) (by omega))

theorem t6_loop {d : Dev nD} {i : grid0.Coords} {v27 v32 : BitVec 32} {k0_hw3 : k0_chk3 v27 v32} {v35 : BitVec 32} {k0_t4 : Fin (k0_t4_loop v27 v32).trips} {v114 : BitVec 32} {v116 : BitVec 1} {v143 : BitVec 32} {v146 : BitVec 32} {v147 : BitVec 32} {c0_i32_62 : BitVec 32} {v148 : BitVec 32} {v152 : BitVec 32} {arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 : FVec F S16 .f32} {ok init} {R : sProp 𝕄} :
    Reads (F := F) (tileThr d i) R (Scf.Loop.for (k0_t6_loop v27 v32 k0_t4) ok init (k0_t6_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 v35 k0_t4 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 v114 v116 v143 v146 v147 c0_i32_62 v148 v152)) init :=
  Reads.for_zero (Scf.rem_trips _ _)

theorem t8_loop {d : Dev nD} {i : grid0.Coords} {v27 v32 : BitVec 32} {k0_hw3 : k0_chk3 v27 v32} {v35 : BitVec 32} {k0_t4 : Fin (k0_t4_loop v27 v32).trips} {v114 : BitVec 32} {v116 : BitVec 1} {v143 : BitVec 32} {v146 : BitVec 32} {v147 : BitVec 32} {c0_i32_62 : BitVec 32} {v148 : BitVec 32} {v160 : BitVec 32} {arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 : FVec F S16 .f32} {ok init} {R : sProp 𝕄} :
    Reads (F := F) (tileThr d i) R (Scf.Loop.for (k0_t8_loop v27 v32 k0_t4) ok init (k0_t8_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 k0_hw3 v35 k0_t4 arg18 arg19 arg20 arg21 arg22 arg23 arg24 arg25 arg26 arg27 arg28 arg29 arg30 arg31 arg32 arg33 arg34 arg35 arg36 arg37 arg38 arg39 arg40 arg41 arg42 arg43 arg44 arg45 arg46 arg47 arg48 arg49 v114 v116 v143 v146 v147 c0_i32_62 v148 v160)) init :=
  Reads.for_zero (Scf.rem_trips _ _)

theorem t9_loop (S : Seg v27 v32 s e) {d : Dev nD} {i : grid0.Coords} {c0_i32_12 : BitVec 32} {c1_i32_14 : BitVec 32} {k0_t3 : Fin k0_t3_loop.trips} {k0_hw3 : k0_chk3 v27 v32} {k0_t4 : Fin (k0_t4_loop v27 v32).trips} {v192 : BitVec 32} {ok} {f : FVec F S128x256 .f32} {X : FVec F S50000x256 .f32} {N : ℕ}
    (hf : Agrees f X (bs (oddR s k0_t4))) (hN : 0 < cn e (oddR s k0_t4) → s + N = oddR s k0_t4) :
    Reads (tileThr d i) ((tileThr d i).loc cc0_scratch3 ↦{fullShare} f : sProp 𝕄)
      (Scf.Loop.for (k0_t9_loop v27 v32 k0_t4) ok (acc X s N) (k0_t9_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0_i32_12 c1_i32_14 k0_t3 v27 v32 k0_hw3 k0_t4 v192)) (acc X s (N + 4 * (cn e (oddR s k0_t4) / 4))) :=
  Reads.for' (A := fun k => acc X s (N + 4 * k)) _ (t9_trips S k0_t4).1 rfl fun k =>
    have hk := lt_of_lt_of_eq k.isLt (t9_trips S k0_t4).1
    (t9_trip d i _ _ _ _ _ _ _ _ k f _ (t9_row S k0_t4 k 0 (by decide)) (t9_row S k0_t4 k 1 (by decide)) (t9_row S k0_t4 k 2 (by decide)) (t9_row S k0_t4 k 3 (by decide)) _ _).congr
      (quad_acc hf (hN (by omega)) (t9_fits S k0_t4 k))

theorem t11_loop (S : Seg v27 v32 s e) {d : Dev nD} {i : grid0.Coords} {c0_i32_12 : BitVec 32} {c1_i32_14 : BitVec 32} {k0_t3 : Fin k0_t3_loop.trips} {k0_hw3 : k0_chk3 v27 v32} {k0_t4 : Fin (k0_t4_loop v27 v32).trips} {v192 : BitVec 32} {v204 : BitVec 32} {ok} {f : FVec F S128x256 .f32} {X : FVec F S50000x256 .f32} {N : ℕ}
    (hf : Agrees f X (bs (oddR s k0_t4))) (hN : 0 < cn e (oddR s k0_t4) → s + N = oddR s k0_t4) :
    Reads (tileThr d i) ((tileThr d i).loc cc0_scratch3 ↦{fullShare} f : sProp 𝕄)
      (Scf.Loop.for (k0_t11_loop v27 v32 k0_t4) ok (acc X s (N + 4 * (cn e (oddR s k0_t4) / 4))) (k0_t11_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0_i32_12 c1_i32_14 k0_t3 v27 v32 k0_hw3 k0_t4 v192 v204)) (acc X s (N + cn e (oddR s k0_t4))) :=
  (Reads.for' (A := fun k => acc X s (N + (4 * (cn e (oddR s k0_t4) / 4) + k))) _ (t11_trips S k0_t4).1 rfl fun k =>
    have hk := lt_of_lt_of_eq k.isLt (t11_trips S k0_t4).1
    (t11_trip d i _ _ _ _ _ _ _ _ _ k f _ (t11_row S k0_t4 k) _ _).congr
      (row_acc hf (hN (by omega)) (t11_fits S k0_t4 k))).congr (congrArg (acc X s) (by omega))

theorem t10_loop {d : Dev nD} {i : grid0.Coords} {v27 v32 : BitVec 32} {c0_i32_12 : BitVec 32} {c1_i32_14 : BitVec 32} {k0_t3 : Fin k0_t3_loop.trips} {k0_hw3 : k0_chk3 v27 v32} {k0_t4 : Fin (k0_t4_loop v27 v32).trips} {v192 : BitVec 32} {v201 : BitVec 32} {ok init} {R : sProp 𝕄} :
    Reads (F := F) (tileThr d i) R (Scf.Loop.for (k0_t10_loop v27 v32 k0_t4) ok init (k0_t10_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0_i32_12 c1_i32_14 k0_t3 v27 v32 k0_hw3 k0_t4 v192 v201)) init :=
  Reads.for_zero (Scf.rem_trips _ _)

theorem t12_loop {d : Dev nD} {i : grid0.Coords} {v27 v32 : BitVec 32} {c0_i32_12 : BitVec 32} {c1_i32_14 : BitVec 32} {k0_t3 : Fin k0_t3_loop.trips} {k0_hw3 : k0_chk3 v27 v32} {k0_t4 : Fin (k0_t4_loop v27 v32).trips} {v192 : BitVec 32} {v209 : BitVec 32} {ok init} {R : sProp 𝕄} :
    Reads (F := F) (tileThr d i) R (Scf.Loop.for (k0_t12_loop v27 v32 k0_t4) ok init (k0_t12_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0_i32_12 c1_i32_14 k0_t3 v27 v32 k0_hw3 k0_t4 v192 v209)) init :=
  Reads.for_zero (Scf.rem_trips _ _)

end Cert.Proof.Pool
-- ==== Proof.Dma.lean ====
/-
  The double-buffered transfers of a chunk's rows: a transfer in flight as a resource that, waited for, delivers the
  buffer holding the 128 rows of `x`, with the share of `x` it read.
-/
module

public import proofs.«01_k».proof.Proof.Loops

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

variable [FloatOps F]

/-- What a flight delivers may be given more to deliver. -/
theorem Flight_frame {thr : Thread nD τ} {sm : SemLoc sig} {N : ℕ} {D R : sProp 𝕄} :
    iprop(Transfers.Flight countersEmb thr sm (default : HIx 1) N D ∗ R) ⊢ Transfers.Flight countersEmb thr sm (default : HIx 1) N iprop(D ∗ R) := by
  unfold Transfers.Flight
  iintro ⟨⟨⟨%R', HR', %hcap, %hpeek⟩, Hcred⟩, HR⟩
  isplitl [HR' HR]
  · iexists iprop(R' ∗ R)
    isplitl [HR' HR]; · isplitl [HR'] <;> iassumption
    isplit
    · ipureintro
      intro K
      refine .trans ?_ (hcap K)
      iintro ⟨⟨HR', HR⟩, HK⟩
      isplitl [HR']; · iexact HR'
      iintro ⟨Hv, HD⟩
      iapply HK
      isplitl [Hv]; · iexact Hv
      isplitl [HD] <;> iassumption
    · ipureintro
      intro K
      refine .trans ?_ (hpeek _)
      iintro ⟨⟨HR', HR⟩, HK⟩
      isplitl [HR']; · iexact HR'
      iintro HR'
      iapply HK
      isplitl [HR'] <;> iassumption
  · iexact Hcred

/-- The 128 rows of `x` from `B`, copied whole into a buffer, are the rows `Agrees` speaks of. -/
theorem agrees_of {f : FVec F S128x256 .f32} {X : FVec F S50000x256 .f32} {B : ℕ} (hB : B + 128 ≤ 50000)
    (h : ∀ (r : Fin 128) (c : Fin 256), f (ix2 r c) = X (ix2 ⟨B + r.val, by omega⟩ c)) : Agrees f X B := by
  intro r q hr
  unfold rd rowV
  congr 1
  funext y
  refine (h ⟨r % 128, _⟩ ⟨(16 * q + (y 1).val) % 256, _⟩).trans (congrArg X ?_)
  funext a
  match a with
  | 0 => exact Fin.ext (by show B + r % 128 = (B + r) % 50000; omega)
  | 1 => rfl

/-- The source of a chunk's transfer: 128 rows of `x`. -/
abbrev srcM (off : Fin 2 → ℕ) (inb : ∀ a, off a + S128x256.size a ≤ S50000x256.size a) (hst : ∀ a, (Rect.unit (s := S50000x256) off S128x256.size inb).stride a = 1) :
    Memref sig .scVector .hbm S128x256 .f32 :=
  (Memref.whole main_arg0_scv : Memref sig .scVector .hbm S50000x256 .f32).slice (Rect.unit (s := S50000x256) off S128x256.size inb) hst

theorem x_split {d : Dev nD} {i : grid0.Coords} {X : FVec F S50000x256 .f32} {q : PosShare TreeShare} (off : Fin 2 → ℕ) (inb) (hst) :
    ((tileThr d i).loc main_arg0_scv ↦{q} X : sProp 𝕄)
      ⊣⊢ iprop(((srcM off inb hst).view.loc (tileThr d i) ↦[(srcM off inb hst).view.set]{q} X) ∗ ((tileThr d i).loc main_arg0_scv ↦[Finset.univ \ (srcM off inb hst).view.set]{q} X)) :=
  pointsTo_split_subset (Finset.subset_univ (srcM off inb hst).view.set)

/-- The units a transfer into buffer `a` signals. -/
abbrev NA : ℕ := (Memref.whole cc0_scratch2 : Memref sig .scVector .vmem S128x256 .f32).view.dmaCredit

/-- What a transfer into buffer `a` delivers: the rows from `bs R`, and the share of `x` it read. -/
def GotA (d : Dev nD) (i : grid0.Coords) (X : FVec F S50000x256 .f32) (q : PosShare TreeShare) (R : ℕ) : sProp 𝕄 :=
  iprop(∃ f : FVec F S128x256 .f32, ⌜Agrees f X (bs R)⌝ ∗ ((tileThr d i).loc cc0_scratch2 ↦{fullShare} f) ∗ ((tileThr d i).loc main_arg0_scv ↦{q} X))

/-- A transfer into buffer `a` in flight. -/
def FlA (d : Dev nD) (i : grid0.Coords) (X : FVec F S50000x256 .f32) (q : PosShare TreeShare) (R : ℕ) : sProp 𝕄 :=
  Transfers.Flight countersEmb (tileThr d i) (.dma cc0_scratch7.sem) (default : HIx 1) NA (GotA d i X q R)

theorem startA {d : Dev nD} {i : grid0.Coords} {X : FVec F S50000x256 .f32} {q : PosShare TreeShare} {R : ℕ} {f0 : FVec F S128x256 .f32}
    {off : Fin 2 → ℕ} {inb : ∀ a, off a + S128x256.size a ≤ S50000x256.size a} (ho : off = ![bs R, 0]) {hst h1 h2 h3}
    {α : Type} {k : PUnit → Prog (TpuEff nD τ sig (Elt F) Λ₀ (tileThr d i).2) α} {Q : α → sProp 𝕄} :
    iprop(((tileThr d i).loc main_arg0_scv ↦{q} X) ∗ ((tileThr d i).loc cc0_scratch2 ↦{fullShare} f0) ∗ semVal (tileThr d i, .dma cc0_scratch7.sem) 0)
      ⊢ iprop((FlA d i X q R -∗ wp frame (wpE (defs₀ (F := F)) 𝒱₀ (tileThr d i) none) Set.univ (k ⟨⟩) Q)
        -∗ wp frame (wpE (defs₀ (F := F)) 𝒱₀ (tileThr d i) none) Set.univ
          (Prog.lift (.enqueueDma (srcM off inb hst)
            (.here (Memref.whole cc0_scratch2 : Memref sig .scVector .vmem S128x256 .f32)) (.dma cc0_scratch7.sem) h1 h2 h3) >>= k) Q) := by
  iintro ⟨Hx, Hb, Hv⟩ Hk
  ihave Hx := (x_split off inb hst).1 $$ Hx
  icases Hx with ⟨Hx, Hxr⟩
  iapply (Transfers.wp_dmaLocal countersEmb 𝒱₀ (tileThr d i) none (src := srcM off inb hst)
    (dst := (Memref.whole cc0_scratch2 : Memref sig .scVector .vmem S128x256 .f32))
    (default : HIx 1) NA (rfl : (Memref.whole cc0_scratch2 : Memref sig .scVector .vmem S128x256 .f32).view.amount (.dma cc0_scratch7.sem) = NA)
    (View.amount_pos _ (.dma cc0_scratch7.sem) (show 0 < S128x256.numel by decide)) (Finset.subset_univ _)) $$ [Hx Hb Hv]
  · isplitl [Hx]; · iexact Hx
    isplitl [Hb]; · iexact Hb
    iexact Hv
  iintro Hfl
  iapply Hk
  unfold FlA
  ihave Hfl := (Flight_frame (R := ((tileThr d i).loc main_arg0_scv ↦[Finset.univ \ (srcM off inb hst).view.set]{q} X : sProp 𝕄))) $$ [Hfl Hxr]
  · isplitl [Hfl]; · iexact Hfl
    iexact Hxr
  iapply (Transfers.Flight_mono countersEmb (tileThr d i) ?_) $$ Hfl
  unfold GotA
  iintro ⟨⟨Hb, Hx⟩, Hxr⟩
  iexists _
  isplitr
  rotate_left
  · isplitl [Hb]; · iexact Hb
    iapply (x_split off inb hst).2
    isplitl [Hx]; · iexact Hx
    iexact Hxr
  · ipureintro
    subst ho
    refine agrees_of (bs_top R) fun r c => ?_
    simp
    refine congrArg X ?_
    funext a
    match a with
    | 0 => exact Fin.ext (by show bs R + 1 * r.val = bs R + r.val; omega)
    | 1 => exact Fin.ext (by show 0 + 1 * c.val = c.val; omega)

theorem waitA {d : Dev nD} {i : grid0.Coords} {X : FVec F S50000x256 .f32} {q : PosShare TreeShare} {R : ℕ}
    {O : CellTallies nD τ sig (HIx 1)} {W : Waits sig (HIx 1)} {sr h1 h2}
    {α : Type} {k : PUnit → Prog (TpuEff nD τ sig (Elt F) Λ₀ (tileThr d i).2) α} {Q : α → sProp 𝕄} :
    iprop(FlA d i X q R ∗ owes (tileThr d i) O W ∗ Transfers.MayWaits (tileThr d i) (default : HIx 1) O)
      ⊢ iprop((iprop(GotA d i X q R ∗ semVal (tileThr d i, .dma cc0_scratch7.sem) 0 ∗ owes (tileThr d i) O (insert (SemLoc.dma cc0_scratch7.sem, (default : HIx 1)) W))
          -∗ wp frame (wpE (defs₀ (F := F)) 𝒱₀ (tileThr d i) none) Set.univ (k ⟨⟩) Q)
        -∗ wp frame (wpE (defs₀ (F := F)) 𝒱₀ (tileThr d i) none) Set.univ
          (Prog.lift (.waitDma2 cc0_scratch7.sem (sr : Memref sig .scVector .hbm S128x256 .f32) (Memref.whole cc0_scratch2 : Memref sig .scVector .vmem S128x256 .f32) h1 h2) >>= k) Q) := by
  iintro ⟨Hfl, HO, Hmw⟩ Hk
  unfold FlA
  iapply (Transfers.wp_waitLocalO countersEmb 𝒱₀ (tileThr d i) none (default : HIx 1)
    (rfl : (Memref.whole cc0_scratch2 : Memref sig .scVector .vmem S128x256 .f32).view.dmaCredit = NA)) $$ [Hfl HO Hmw]
  · isplitl [Hfl]; · iexact Hfl
    isplitl [HO]; · iexact HO
    iapply (Transfers.MayWaits.elim (SemLoc.dma cc0_scratch7.sem)) $$ Hmw
  iexact Hk

/-- The units a transfer into buffer `b` signals. -/
abbrev NB : ℕ := (Memref.whole cc0_scratch3 : Memref sig .scVector .vmem S128x256 .f32).view.dmaCredit

/-- What a transfer into buffer `b` delivers: the rows from `bs R`, and the share of `x` it read. -/
def GotB (d : Dev nD) (i : grid0.Coords) (X : FVec F S50000x256 .f32) (q : PosShare TreeShare) (R : ℕ) : sProp 𝕄 :=
  iprop(∃ f : FVec F S128x256 .f32, ⌜Agrees f X (bs R)⌝ ∗ ((tileThr d i).loc cc0_scratch3 ↦{fullShare} f) ∗ ((tileThr d i).loc main_arg0_scv ↦{q} X))

/-- A transfer into buffer `b` in flight. -/
def FlB (d : Dev nD) (i : grid0.Coords) (X : FVec F S50000x256 .f32) (q : PosShare TreeShare) (R : ℕ) : sProp 𝕄 :=
  Transfers.Flight countersEmb (tileThr d i) (.dma cc0_scratch8.sem) (default : HIx 1) NB (GotB d i X q R)

theorem startB {d : Dev nD} {i : grid0.Coords} {X : FVec F S50000x256 .f32} {q : PosShare TreeShare} {R : ℕ} {f0 : FVec F S128x256 .f32}
    {off : Fin 2 → ℕ} {inb : ∀ a, off a + S128x256.size a ≤ S50000x256.size a} (ho : off = ![bs R, 0]) {hst h1 h2 h3}
    {α : Type} {k : PUnit → Prog (TpuEff nD τ sig (Elt F) Λ₀ (tileThr d i).2) α} {Q : α → sProp 𝕄} :
    iprop(((tileThr d i).loc main_arg0_scv ↦{q} X) ∗ ((tileThr d i).loc cc0_scratch3 ↦{fullShare} f0) ∗ semVal (tileThr d i, .dma cc0_scratch8.sem) 0)
      ⊢ iprop((FlB d i X q R -∗ wp frame (wpE (defs₀ (F := F)) 𝒱₀ (tileThr d i) none) Set.univ (k ⟨⟩) Q)
        -∗ wp frame (wpE (defs₀ (F := F)) 𝒱₀ (tileThr d i) none) Set.univ
          (Prog.lift (.enqueueDma (srcM off inb hst)
            (.here (Memref.whole cc0_scratch3 : Memref sig .scVector .vmem S128x256 .f32)) (.dma cc0_scratch8.sem) h1 h2 h3) >>= k) Q) := by
  iintro ⟨Hx, Hb, Hv⟩ Hk
  ihave Hx := (x_split off inb hst).1 $$ Hx
  icases Hx with ⟨Hx, Hxr⟩
  iapply (Transfers.wp_dmaLocal countersEmb 𝒱₀ (tileThr d i) none (src := srcM off inb hst)
    (dst := (Memref.whole cc0_scratch3 : Memref sig .scVector .vmem S128x256 .f32))
    (default : HIx 1) NB (rfl : (Memref.whole cc0_scratch3 : Memref sig .scVector .vmem S128x256 .f32).view.amount (.dma cc0_scratch8.sem) = NB)
    (View.amount_pos _ (.dma cc0_scratch8.sem) (show 0 < S128x256.numel by decide)) (Finset.subset_univ _)) $$ [Hx Hb Hv]
  · isplitl [Hx]; · iexact Hx
    isplitl [Hb]; · iexact Hb
    iexact Hv
  iintro Hfl
  iapply Hk
  unfold FlB
  ihave Hfl := (Flight_frame (R := ((tileThr d i).loc main_arg0_scv ↦[Finset.univ \ (srcM off inb hst).view.set]{q} X : sProp 𝕄))) $$ [Hfl Hxr]
  · isplitl [Hfl]; · iexact Hfl
    iexact Hxr
  iapply (Transfers.Flight_mono countersEmb (tileThr d i) ?_) $$ Hfl
  unfold GotB
  iintro ⟨⟨Hb, Hx⟩, Hxr⟩
  iexists _
  isplitr
  rotate_left
  · isplitl [Hb]; · iexact Hb
    iapply (x_split off inb hst).2
    isplitl [Hx]; · iexact Hx
    iexact Hxr
  · ipureintro
    subst ho
    refine agrees_of (bs_top R) fun r c => ?_
    simp
    refine congrArg X ?_
    funext a
    match a with
    | 0 => exact Fin.ext (by show bs R + 1 * r.val = bs R + r.val; omega)
    | 1 => exact Fin.ext (by show 0 + 1 * c.val = c.val; omega)

theorem waitB {d : Dev nD} {i : grid0.Coords} {X : FVec F S50000x256 .f32} {q : PosShare TreeShare} {R : ℕ}
    {O : CellTallies nD τ sig (HIx 1)} {W : Waits sig (HIx 1)} {sr h1 h2}
    {α : Type} {k : PUnit → Prog (TpuEff nD τ sig (Elt F) Λ₀ (tileThr d i).2) α} {Q : α → sProp 𝕄} :
    iprop(FlB d i X q R ∗ owes (tileThr d i) O W ∗ Transfers.MayWaits (tileThr d i) (default : HIx 1) O)
      ⊢ iprop((iprop(GotB d i X q R ∗ semVal (tileThr d i, .dma cc0_scratch8.sem) 0 ∗ owes (tileThr d i) O (insert (SemLoc.dma cc0_scratch8.sem, (default : HIx 1)) W))
          -∗ wp frame (wpE (defs₀ (F := F)) 𝒱₀ (tileThr d i) none) Set.univ (k ⟨⟩) Q)
        -∗ wp frame (wpE (defs₀ (F := F)) 𝒱₀ (tileThr d i) none) Set.univ
          (Prog.lift (.waitDma2 cc0_scratch8.sem (sr : Memref sig .scVector .hbm S128x256 .f32) (Memref.whole cc0_scratch3 : Memref sig .scVector .vmem S128x256 .f32) h1 h2) >>= k) Q) := by
  iintro ⟨Hfl, HO, Hmw⟩ Hk
  unfold FlB
  iapply (Transfers.wp_waitLocalO countersEmb 𝒱₀ (tileThr d i) none (default : HIx 1)
    (rfl : (Memref.whole cc0_scratch3 : Memref sig .scVector .vmem S128x256 .f32).view.dmaCredit = NB)) $$ [Hfl HO Hmw]
  · isplitl [Hfl]; · iexact Hfl
    isplitl [HO]; · iexact HO
    iapply (Transfers.MayWaits.elim (SemLoc.dma cc0_scratch8.sem)) $$ Hmw
  iexact Hk

end Cert.Proof.Pool
-- ==== Proof.Pair.lean ====
/-
  One trip of the loop over pairs of chunks: wait for buffer `a`, start buffer `b`, fold the rows of `a`, wait for `b`,
  start the next `a`, fold the rows of `b`.
-/
module

public import proofs.«01_k».proof.Proof.Dma

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

variable [FloatOps F]

/-- What the tile owes, with the waits it has made recorded on top of `W`. -/
def Owed (d : Dev nD) (i : grid0.Coords) (O : CellTallies nD τ sig (HIx 1)) (W : Waits sig (HIx 1)) : sProp 𝕄 :=
  iprop(∃ W' : Waits sig (HIx 1), ⌜∀ p ∈ W', p ∈ W ∨ p.2 = none⌝ ∗ owes (tileThr d i) O W')

/-- Buffer `a` idle: its contents arbitrary, its cell at zero, its share of `x` at hand. -/
def IdleA (d : Dev nD) (i : grid0.Coords) (X : FVec F S50000x256 .f32) (q : PosShare TreeShare) : sProp 𝕄 :=
  iprop((∃ f : FVec F S128x256 .f32, (tileThr d i).loc cc0_scratch2 ↦{fullShare} f) ∗ semVal (tileThr d i, .dma cc0_scratch7.sem) 0 ∗ ((tileThr d i).loc main_arg0_scv ↦{q} X))

/-- Buffer `a` as a condition leaves it: a transfer of the rows from `bs R` in flight, or idle. -/
def MaybeA (d : Dev nD) (i : grid0.Coords) (X : FVec F S50000x256 .f32) (q : PosShare TreeShare) (c : Prop) [Decidable c] (R : ℕ) : sProp 𝕄 :=
  if c then FlA d i X q R else IdleA d i X q

theorem MaybeA_pos {d : Dev nD} {i : grid0.Coords} {X : FVec F S50000x256 .f32} {q : PosShare TreeShare} {c : Prop} [Decidable c] {R : ℕ} (h : c) :
    MaybeA d i X q c R ⊢ FlA d i X q R := by unfold MaybeA; rw [if_pos h]
theorem MaybeA_neg {d : Dev nD} {i : grid0.Coords} {X : FVec F S50000x256 .f32} {q : PosShare TreeShare} {c : Prop} [Decidable c] {R : ℕ} (h : ¬ c) :
    MaybeA d i X q c R ⊢ IdleA d i X q := by unfold MaybeA; rw [if_neg h]

theorem maybeWaitA {d : Dev nD} {i : grid0.Coords} {X : FVec F S50000x256 .f32} {q : PosShare TreeShare} {R : ℕ}
    {O : CellTallies nD τ sig (HIx 1)} {W : Waits sig (HIx 1)} {sr h1 h2}
    {α : Type} {k : PUnit → Prog (TpuEff nD τ sig (Elt F) Λ₀ (tileThr d i).2) α} {Q : α → sProp 𝕄} :
    iprop(FlA d i X q R ∗ Owed d i O W ∗ Transfers.MayWaits (tileThr d i) (default : HIx 1) O)
      ⊢ iprop((iprop(GotA d i X q R ∗ semVal (tileThr d i, .dma cc0_scratch7.sem) 0 ∗ Owed d i O W)
          -∗ wp frame (wpE (defs₀ (F := F)) 𝒱₀ (tileThr d i) none) Set.univ (k ⟨⟩) Q)
        -∗ wp frame (wpE (defs₀ (F := F)) 𝒱₀ (tileThr d i) none) Set.univ
          (Prog.lift (.waitDma2 cc0_scratch7.sem (sr : Memref sig .scVector .hbm S128x256 .f32) (Memref.whole cc0_scratch2 : Memref sig .scVector .vmem S128x256 .f32) h1 h2) >>= k) Q) := by
  unfold Owed
  iintro ⟨Hfl, ⟨%W', %hW', HO⟩, Hmw⟩ Hk
  iapply waitA $$ [Hfl HO Hmw]
  · isplitl [Hfl]; · iexact Hfl
    isplitl [HO] <;> iassumption
  iintro ⟨Hg, Hv, HO⟩
  iapply Hk
  isplitl [Hg]; · iexact Hg
  isplitl [Hv]; · iexact Hv
  iexists _
  isplitr
  rotate_left
  · iexact HO
  · ipureintro
    intro p hp
    rcases Finset.mem_insert.mp hp with rfl | hp
    · exact Or.inr rfl
    · exact hW' p hp

/-- Buffer `b` idle: its contents arbitrary, its cell at zero, its share of `x` at hand. -/
def IdleB (d : Dev nD) (i : grid0.Coords) (X : FVec F S50000x256 .f32) (q : PosShare TreeShare) : sProp 𝕄 :=
  iprop((∃ f : FVec F S128x256 .f32, (tileThr d i).loc cc0_scratch3 ↦{fullShare} f) ∗ semVal (tileThr d i, .dma cc0_scratch8.sem) 0 ∗ ((tileThr d i).loc main_arg0_scv ↦{q} X))

/-- Buffer `b` as a condition leaves it: a transfer of the rows from `bs R` in flight, or idle. -/
def MaybeB (d : Dev nD) (i : grid0.Coords) (X : FVec F S50000x256 .f32) (q : PosShare TreeShare) (c : Prop) [Decidable c] (R : ℕ) : sProp 𝕄 :=
  if c then FlB d i X q R else IdleB d i X q

theorem MaybeB_pos {d : Dev nD} {i : grid0.Coords} {X : FVec F S50000x256 .f32} {q : PosShare TreeShare} {c : Prop} [Decidable c] {R : ℕ} (h : c) :
    MaybeB d i X q c R ⊢ FlB d i X q R := by unfold MaybeB; rw [if_pos h]
theorem MaybeB_neg {d : Dev nD} {i : grid0.Coords} {X : FVec F S50000x256 .f32} {q : PosShare TreeShare} {c : Prop} [Decidable c] {R : ℕ} (h : ¬ c) :
    MaybeB d i X q c R ⊢ IdleB d i X q := by unfold MaybeB; rw [if_neg h]

theorem maybeWaitB {d : Dev nD} {i : grid0.Coords} {X : FVec F S50000x256 .f32} {q : PosShare TreeShare} {R : ℕ}
    {O : CellTallies nD τ sig (HIx 1)} {W : Waits sig (HIx 1)} {sr h1 h2}
    {α : Type} {k : PUnit → Prog (TpuEff nD τ sig (Elt F) Λ₀ (tileThr d i).2) α} {Q : α → sProp 𝕄} :
    iprop(FlB d i X q R ∗ Owed d i O W ∗ Transfers.MayWaits (tileThr d i) (default : HIx 1) O)
      ⊢ iprop((iprop(GotB d i X q R ∗ semVal (tileThr d i, .dma cc0_scratch8.sem) 0 ∗ Owed d i O W)
          -∗ wp frame (wpE (defs₀ (F := F)) 𝒱₀ (tileThr d i) none) Set.univ (k ⟨⟩) Q)
        -∗ wp frame (wpE (defs₀ (F := F)) 𝒱₀ (tileThr d i) none) Set.univ
          (Prog.lift (.waitDma2 cc0_scratch8.sem (sr : Memref sig .scVector .hbm S128x256 .f32) (Memref.whole cc0_scratch3 : Memref sig .scVector .vmem S128x256 .f32) h1 h2) >>= k) Q) := by
  unfold Owed
  iintro ⟨Hfl, ⟨%W', %hW', HO⟩, Hmw⟩ Hk
  iapply waitB $$ [Hfl HO Hmw]
  · isplitl [Hfl]; · iexact Hfl
    isplitl [HO] <;> iassumption
  iintro ⟨Hg, Hv, HO⟩
  iapply Hk
  isplitl [Hg]; · iexact Hg
  isplitl [Hv]; · iexact Hv
  iexists _
  isplitr
  rotate_left
  · iexact HO
  · ipureintro
    intro p hp
    rcases Finset.mem_insert.mp hp with rfl | hp
    · exact Or.inr rfl
    · exact hW' p hp

variable {v27 v32 : BitVec 32} {s e : ℕ}

theorem part29_wp (S : Seg v27 v32 s e) {hw3 : k0_chk3 v27 v32} (t4 : Fin (k0_t4_loop v27 v32).trips) {d : Dev nD} {i : grid0.Coords} {X : FVec F S50000x256 .f32} {qa qb : PosShare TreeShare}
    {O : CellTallies nD τ sig (HIx 1)} {W : Waits sig (HIx 1)} {α : Type} {k : _ → Prog (TpuEff nD τ sig (Elt F) Λ₀ (tileThr d i).2) α} {Q : α → sProp 𝕄} :
    iprop(Transfers.MayWaits (tileThr d i) (default : HIx 1) O ∗ FlA d i X qa (evenR s t4) ∗ IdleB d i X qb ∗ Owed d i O W)
      ⊢ iprop((iprop(GotA d i X qa (evenR s t4) ∗ semVal (tileThr d i, .dma cc0_scratch7.sem) 0 ∗ MaybeB d i X qb (2 * t4.val + 1 < nch s e) (oddR s t4) ∗ Owed d i O W)
          -∗ wp frame (wpE (defs₀ (F := F)) 𝒱₀ (tileThr d i) none) Set.univ (k ⟨evenW t4, Scalar.cmpi .slt (oddW t4) (nchW v27 v32),
            Scalar.subi (startW v27 (evenW t4)) (baseW (startW v27 (evenW t4))), cntW v32 (startW v27 (evenW t4)), quadW v32 (startW v27 (evenW t4)), 0#32, Scalar.subi (quadW v32 (startW v27 (evenW t4))) 0#32⟩) Q)
        -∗ wp frame (wpE (defs₀ (F := F)) 𝒱₀ (tileThr d i) none) Set.univ (k0_part29_skel i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 hw3 (nchW v27 v32) 0#32 1#32 t4 >>= k) Q) := by
  iintro ⟨#Hmw, Hfl, Hb, HO⟩ Hk
  unfold k0_part29_skel
  simp only [bind_assoc, pure_bind]
  iapply maybeWaitA $$ [Hfl HO]
  · isplitl [Hfl]; · iexact Hfl
    isplitl [HO]; · iexact HO
    iexact Hmw
  iintro ⟨Hg, Hv, HO⟩
  rcases Classical.em (k0_cond2 v27 v32 t4 = 1#1) with h | h
  · rw [dif_pos h]
    have hc := (cond2_iff S t4).mp h
    simp only [bind_assoc, pure_bind]
    unfold IdleB
    icases Hb with ⟨⟨%f, Hb⟩, Hvb, Hx⟩
    iapply (startB (off5_eq S t4)) $$ [Hb Hvb Hx]
    · isplitl [Hx]; · iexact Hx
      isplitl [Hb] <;> iassumption
    iintro Hflb
    iapply Hk
    isplitl [Hg]; · iexact Hg
    isplitl [Hv]; · iexact Hv
    isplitl [Hflb]
    · unfold MaybeB; rw [if_pos hc]; iexact Hflb
    · iexact HO
  · rw [dif_neg h]
    have hc := fun h' => h ((cond2_iff S t4).mpr h')
    simp only [bind_assoc, pure_bind]
    iapply Hk
    isplitl [Hg]; · iexact Hg
    isplitl [Hv]; · iexact Hv
    isplitl [Hb]
    · unfold MaybeB; rw [if_neg hc]; iexact Hb
    · iexact HO

theorem part30_wp (S : Seg v27 v32 s e) {hw3 : k0_chk3 v27 v32} (t4 : Fin (k0_t4_loop v27 v32).trips) {d : Dev nD} {i : grid0.Coords} {X : FVec F S50000x256 .f32} {qa qb : PosShare TreeShare}
    {O : CellTallies nD τ sig (HIx 1)} {W : Waits sig (HIx 1)} {v143 v146 v147 c0 v148 : BitVec 32} {N N' : ℕ} (hN : 0 < cn e (evenR s t4) → s + N = evenR s t4) (hN' : N' = N + cn e (evenR s t4))
    {α : Type} {k : _ → Prog (TpuEff nD τ sig (Elt F) Λ₀ (tileThr d i).2) α} {Q : α → sProp 𝕄} :
    iprop(Transfers.MayWaits (tileThr d i) (default : HIx 1) O ∗ GotA d i X qa (evenR s t4) ∗ semVal (tileThr d i, .dma cc0_scratch7.sem) 0
        ∗ MaybeB d i X qb (2 * t4.val + 1 < nch s e) (oddR s t4) ∗ Owed d i O W)
      ⊢ iprop((iprop(MaybeA d i X qa (2 * (t4.val + 1) < nch s e) (evenR s (t4 + 1)) ∗ (∃ f : FVec F S128x256 .f32, ⌜2 * t4.val + 1 < nch s e → Agrees f X (bs (oddR s t4))⌝ ∗ (tileThr d i).loc cc0_scratch3 ↦{fullShare} f)
            ∗ semVal (tileThr d i, .dma cc0_scratch8.sem) 0 ∗ ((tileThr d i).loc main_arg0_scv ↦{qb} X) ∗ Owed d i O W)
          -∗ wp frame (wpE (defs₀ (F := F)) 𝒱₀ (tileThr d i) none) Set.univ (k ⟨accS X s N' 0, accS X s N' 1, accS X s N' 2, accS X s N' 3, accS X s N' 4, accS X s N' 5, accS X s N' 6, accS X s N' 7, accS X s N' 8, accS X s N' 9, accS X s N' 10, accS X s N' 11, accS X s N' 12, accS X s N' 13, accS X s N' 14, accS X s N' 15, accM X s N' 0, accM X s N' 1, accM X s N' 2, accM X s N' 3, accM X s N' 4, accM X s N' 5, accM X s N' 6, accM X s N' 7, accM X s N' 8, accM X s N' 9, accM X s N' 10, accM X s N' 11, accM X s N' 12, accM X s N' 13, accM X s N' 14, accM X s N' 15, startW v27 (oddW t4), floorW (startW v27 (oddW t4))⟩) Q)
        -∗ wp frame (wpE (defs₀ (F := F)) 𝒱₀ (tileThr d i) none) Set.univ (k0_part30_skel i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 v27 v32 hw3 (nchW v27 v32) t4 (accS X s N 0) (accS X s N 1) (accS X s N 2) (accS X s N 3) (accS X s N 4) (accS X s N 5) (accS X s N 6) (accS X s N 7) (accS X s N 8) (accS X s N 9) (accS X s N 10) (accS X s N 11) (accS X s N 12) (accS X s N 13) (accS X s N 14) (accS X s N 15) (accM X s N 0) (accM X s N 1) (accM X s N 2) (accM X s N 3) (accM X s N 4) (accM X s N 5) (accM X s N 6) (accM X s N 7) (accM X s N 8) (accM X s N 9) (accM X s N 10) (accM X s N 11) (accM X s N 12) (accM X s N 13) (accM X s N 14) (accM X s N 15) (evenW t4) (Scalar.cmpi .slt (oddW t4) (nchW v27 v32)) v143 v146 v147 c0 v148 >>= k) Q) := by
  subst hN'
  iintro ⟨#Hmw, Hg, Hv, Hb, HO⟩ Hk
  unfold GotA
  icases Hg with ⟨%f, %hf, Hf, Hx⟩
  unfold k0_part30_skel
  simp only [bind_assoc, pure_bind]
  iapply (Reads.use (t5_loop S hf hN)) $$ Hf
  iintro Hf
  dsimp only [acc, tup]
  iapply (Reads.use t6_loop) $$ Hf
  iintro Hf
  dsimp only
  iapply (Reads.use (t7_loop S hf hN)) $$ Hf
  iintro Hf
  dsimp only [acc, tup]
  iapply (Reads.use t8_loop) $$ Hf
  iintro Hf
  dsimp only
  rcases Classical.em (k0_cond2 v27 v32 t4 = 1#1) with h | h
  · have hc := (cond2_iff S t4).mp h
    rw [if_pos (show Scalar.cmpi .ne (Scalar.extui (Scalar.cmpi .slt (oddW t4) (nchW v27 v32))) 0#32 = 1#1 from h)]
    simp only [bind_assoc, pure_bind]
    ihave Hb := MaybeB_pos hc $$ Hb
    iapply maybeWaitB $$ [Hb HO]
    · isplitl [Hb]; · iexact Hb
      isplitl [HO]; · iexact HO
      iexact Hmw
    unfold GotB
    iintro ⟨⟨%g, %hg, Hb, Hxb⟩, Hvb, HO⟩
    rcases Classical.em (k0_cond4 v27 v32 t4 = 1#1) with h4 | h4
    · rw [dif_pos h4]
      have hc4 := (cond4_iff S t4).mp h4
      simp only [bind_assoc, pure_bind]
      iapply (startA (off70_eq S t4)) $$ [Hx Hf Hv]
      · isplitl [Hx]; · iexact Hx
        isplitl [Hf] <;> iassumption
      iintro Hfla
      iapply Hk
      isplitl [Hfla]
      · unfold MaybeA; rw [if_pos hc4]; iexact Hfla
      isplitl [Hb]
      · iexists g
        isplitr
        · ipureintro; exact fun _ => hg
        · iexact Hb
      isplitl [Hvb]; · iexact Hvb
      isplitl [Hxb]; · iexact Hxb
      iexact HO
    · rw [dif_neg h4]
      have hc4 := fun h' => h4 ((cond4_iff S t4).mpr h')
      simp only [bind_assoc, pure_bind]
      iapply Hk
      isplitl [Hx Hf Hv]
      · unfold MaybeA; rw [if_neg hc4]; unfold IdleA
        isplitl [Hf]; · iexists f; iexact Hf
        isplitl [Hv] <;> iassumption
      isplitl [Hb]
      · iexists g
        isplitr
        · ipureintro; exact fun _ => hg
        · iexact Hb
      isplitl [Hvb]; · iexact Hvb
      isplitl [Hxb]; · iexact Hxb
      iexact HO
  · have hc := fun h' => h ((cond2_iff S t4).mpr h')
    rw [if_neg (show ¬ Scalar.cmpi .ne (Scalar.extui (Scalar.cmpi .slt (oddW t4) (nchW v27 v32))) 0#32 = 1#1 from h)]
    ihave Hb := MaybeB_neg hc $$ Hb
    unfold IdleB
    icases Hb with ⟨⟨%g, Hb⟩, Hvb, Hxb⟩
    rcases Classical.em (k0_cond4 v27 v32 t4 = 1#1) with h4 | h4
    · rw [dif_pos h4]
      have hc4 := (cond4_iff S t4).mp h4
      simp only [bind_assoc, pure_bind]
      iapply (startA (off70_eq S t4)) $$ [Hx Hf Hv]
      · isplitl [Hx]; · iexact Hx
        isplitl [Hf] <;> iassumption
      iintro Hfla
      iapply Hk
      isplitl [Hfla]
      · unfold MaybeA; rw [if_pos hc4]; iexact Hfla
      isplitl [Hb]
      · iexists g
        isplitr
        · ipureintro; exact fun h' => absurd h' hc
        · iexact Hb
      isplitl [Hvb]; · iexact Hvb
      isplitl [Hxb]; · iexact Hxb
      iexact HO
    · rw [dif_neg h4]
      have hc4 := fun h' => h4 ((cond4_iff S t4).mpr h')
      simp only [bind_assoc, pure_bind]
      iapply Hk
      isplitl [Hx Hf Hv]
      · unfold MaybeA; rw [if_neg hc4]; unfold IdleA
        isplitl [Hf]; · iexists f; iexact Hf
        isplitl [Hv] <;> iassumption
      isplitl [Hb]
      · iexists g
        isplitr
        · ipureintro; exact fun h' => absurd h' hc
        · iexact Hb
      isplitl [Hvb]; · iexact Hvb
      isplitl [Hxb]; · iexact Hxb
      iexact HO

/-- Rows of the segment folded in before chunk `c`. -/
def done (s e c : ℕ) : ℕ := min (120 * c) (e - s)

theorem done_even (s e t : ℕ) (hse : s ≤ e) : (0 < cn e (evenR s t) → s + done s e (2 * t) = evenR s t) ∧ done s e (2 * t + 1) = done s e (2 * t) + cn e (evenR s t) := by
  unfold done cn evenR; omega
theorem done_odd (s e t : ℕ) (hse : s ≤ e) : (0 < cn e (oddR s t) → s + done s e (2 * t + 1) = oddR s t) ∧ done s e (2 * (t + 1)) = done s e (2 * t + 1) + cn e (oddR s t) := by
  unfold done cn oddR; omega
theorem odd_none {s e t : ℕ} (h : ¬ 2 * t + 1 < nch s e) : cn e (oddR s t) = 0 := by
  unfold nch at h; unfold cn oddR; omega

theorem t4_wp (S : Seg v27 v32 s e) {hw3 : k0_chk3 v27 v32} (t4 : Fin (k0_t4_loop v27 v32).trips) {d : Dev nD} {i : grid0.Coords} {X : FVec F S50000x256 .f32} {qa qb : PosShare TreeShare}
    {O : CellTallies nD τ sig (HIx 1)} {W : Waits sig (HIx 1)} {c0 c1 : BitVec 32} {t3 : Fin k0_t3_loop.trips} {Q : _ → sProp 𝕄} :
    iprop(Transfers.MayWaits (tileThr d i) (default : HIx 1) O ∗ MaybeA d i X qa (2 * t4.val < nch s e) (evenR s t4) ∗ IdleB d i X qb ∗ Owed d i O W)
      ⊢ iprop((iprop(MaybeA d i X qa (2 * (t4.val + 1) < nch s e) (evenR s (t4 + 1)) ∗ IdleB d i X qb ∗ Owed d i O W) -∗ Q (acc X s (done s e (2 * (t4.val + 1)))))
        -∗ wp frame (wpE (defs₀ (F := F)) 𝒱₀ (tileThr d i) none) Set.univ (k0_t4_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0 c1 t3 v27 v32 hw3 (nchW v27 v32) t4 (acc X s (done s e (2 * t4.val)))) Q) := by
  iintro ⟨#Hmw, Ha, Hb, HO⟩ Hk
  have ht := t4_lt S t4
  unfold k0_t4_body
  dsimp only [acc, tup]
  simp only [k0_part29_eq_skeleton, k0_part30_eq_skeleton]
  ihave Ha := MaybeA_pos (show 2 * t4.val < nch s e by omega) $$ Ha
  iapply (part29_wp S t4) $$ [Ha Hb HO]
  · isplitr; · iexact Hmw
    isplitl [Ha]; · iexact Ha
    isplitl [Hb] <;> iassumption
  iintro ⟨Hg, Hv, Hb, HO⟩
  dsimp only
  iapply (part30_wp S t4 (done_even s e t4 S.le).1 (done_even s e t4 S.le).2) $$ [Hg Hv Hb HO]
  · isplitr; · iexact Hmw
    isplitl [Hg]; · iexact Hg
    isplitl [Hv]; · iexact Hv
    isplitl [Hb] <;> iassumption
  iintro ⟨Ha, ⟨%g, %hg, Hb⟩, Hvb, Hxb, HO⟩
  dsimp only
  have hgo : Agrees g X (bs (oddR s t4)) ∨ cn e (oddR s t4) = 0 := by
    rcases Classical.em (2 * t4.val + 1 < nch s e) with h | h
    · exact Or.inl (hg h)
    · exact Or.inr (odd_none h)
  rcases hgo with hgo | h0
  · iapply (Reads.use (t9_loop S hgo (done_odd s e t4 S.le).1)) $$ Hb
    iintro Hb
    dsimp only [acc, tup]
    iapply (Reads.use t10_loop) $$ Hb
    iintro Hb
    dsimp only
    iapply (Reads.use (t11_loop S hgo (done_odd s e t4 S.le).1)) $$ Hb
    iintro Hb
    dsimp only [acc, tup]
    iapply (Reads.use t12_loop) $$ Hb
    iintro Hb
    dsimp only
    rw [wp_pure]
    imodintro
    rw [(done_odd s e t4 S.le).2]
    iapply Hk
    isplitl [Ha]; · iexact Ha
    unfold IdleB
    isplitl [Hb Hvb Hxb]
    · isplitl [Hb]; · iexists g; iexact Hb
      isplitl [Hvb] <;> iassumption
    · iexact HO
  · iapply (Reads.use (Reads.for_zero (by rw [(t9_trips S t4).1, h0]))) $$ Hb
    iintro Hb
    dsimp only
    iapply (Reads.use t10_loop) $$ Hb
    iintro Hb
    dsimp only
    iapply (Reads.use (Reads.for_zero (by rw [(t11_trips S t4).1, h0]))) $$ Hb
    iintro Hb
    dsimp only
    iapply (Reads.use t12_loop) $$ Hb
    iintro Hb
    dsimp only
    rw [wp_pure]
    imodintro
    rw [(done_odd s e t4 S.le).2, h0]
    iapply Hk
    isplitl [Ha]; · iexact Ha
    unfold IdleB
    isplitl [Hb Hvb Hxb]
    · isplitl [Hb]; · iexists g; iexact Hb
      isplitl [Hvb] <;> iassumption
    · iexact HO

end Cert.Proof.Pool
-- ==== Proof.Store.lean ====
/-
  A tile's rows of results, stored sixteen lanes at a time, and one segment of the tile: its two bounds read, its chunks
  folded, its sums and its maxima stored to their row; then the loop over the tile's sixteen segments.
-/
module

public import proofs.«01_k».proof.Proof.Pair

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

variable [FloatOps F]

/-- The segment rows written so far: all of those before row `t`, and of row `t` the first `n` groups of sixteen lanes. -/
def Rows (f : FVec F S16x256 .f32) (P : ℕ → ℕ → FVec F S16 .f32) (t n : ℕ) : Prop :=
  ∀ (r : Fin 16) (c : Fin 256), (r.val < t ∨ r.val = t ∧ c.val < 16 * n) → f (ix2 r c) = P r.val (c.val / 16) (ix1 ⟨c.val % 16, Nat.mod_lt _ (by decide)⟩)

theorem Rows.next {f : FVec F S16x256 .f32} {P : ℕ → ℕ → FVec F S16 .f32} {t : ℕ} (h : Rows f P t 16) : Rows f P (t + 1) 0 := fun r c hr =>
  h r c (by have := c.isLt; omega)

theorem Rows.put {f g : FVec F S16x256 .f32} {P : ℕ → ℕ → FVec F S16 .f32} {t n : ℕ} (h : Rows f P t n) (ht : t < 16) (hn : n < 16)
    (hin : ∀ l : Fin 16, g (ix2 ⟨t, ht⟩ ⟨16 * n + l.val, by omega⟩) = P t n (ix1 l))
    (hout : ∀ (r : Fin 16) (c : Fin 256), ¬ (r.val = t ∧ 16 * n ≤ c.val ∧ c.val < 16 * n + 16) → g (ix2 r c) = f (ix2 r c)) : Rows g P t (n + 1) := by
  intro r c hr
  by_cases hx : r.val = t ∧ 16 * n ≤ c.val ∧ c.val < 16 * n + 16
  · obtain ⟨h1, h2, h3⟩ := hx
    have hl := hin ⟨c.val - 16 * n, by omega⟩
    have e1 : r = ⟨t, ht⟩ := Fin.ext h1
    have e2 : c = ⟨16 * n + (c.val - 16 * n), by omega⟩ := Fin.ext (show c.val = 16 * n + (c.val - 16 * n) by omega)
    have e3 : c.val / 16 = n := by omega
    have e4 : (⟨c.val % 16, Nat.mod_lt _ (by decide)⟩ : Fin 16) = ⟨c.val - 16 * n, by omega⟩ := Fin.ext (show c.val % 16 = c.val - 16 * n by omega)
    rw [e4, e3, h1, ← hl, e1]
    exact congrArg (fun c' => g (ix2 ⟨t, ht⟩ c')) e2
  · rw [hout r c hx]
    exact h r c (by omega)

theorem acc_idx (off : Fin 2 → ℕ) (inb : ∀ a, off a + S1x16.size a ≤ S16x256.size a) {t n : ℕ} (ho : off = ![t, 16 * n]) (x : S1x16.Idx) :
    ((Rect.unit (s := S16x256) off S1x16.size inb).toLoadRect.idx x 0).val = t ∧ ((Rect.unit (s := S16x256) off S1x16.size inb).toLoadRect.idx x 1).val = 16 * n + (x 1).val := by
  subst ho
  have hx0 : (x 0).val < 1 := (x 0).isLt
  exact ⟨by show t + 1 * (x 0).val = t; omega, by show 16 * n + 1 * (x 1).val = _; omega⟩

/-- The tile's sums as far as they are written. -/
def PutS (d : Dev nD) (i : grid0.Coords) (P : ℕ → ℕ → FVec F S16 .f32) (t n : ℕ) : sProp 𝕄 :=
  iprop(∃ f : FVec F S16x256 .f32, ⌜Rows f P t n⌝ ∗ (tileThr d i).loc cc0_scratch4 ↦{fullShare} f)

theorem PutS.next {d : Dev nD} {i : grid0.Coords} {P : ℕ → ℕ → FVec F S16 .f32} {t : ℕ} : PutS d i P t 16 ⊢ PutS d i P (t + 1) 0 := by
  unfold PutS
  iintro ⟨%f, %h, Hf⟩
  iexists f
  isplitr
  · ipureintro; exact h.next
  · iexact Hf

theorem PutS.store {d : Dev nD} {i : grid0.Coords} {P : ℕ → ℕ → FVec F S16 .f32} {t n : ℕ} {off : Fin 2 → ℕ} {inb : ∀ a, off a + S1x16.size a ≤ S16x256.size a}
    {w : FVec F S16 .f32} {h1 h2} (ho : off = ![t, 16 * n]) (ht : t < 16) (hn : n < 16) (hw : w = P t n)
    {α : Type} {k : PUnit → Prog (TpuEff nD τ sig (Elt F) Λ₀ (tileThr d i).2) α} {Q : α → sProp 𝕄} :
    PutS d i P t n ⊢ iprop((PutS d i P t (n + 1) -∗ wp frame (wpE (defs₀ (F := F)) 𝒱₀ (tileThr d i) none) Set.univ (k ⟨⟩) Q)
      -∗ wp frame (wpE (defs₀ (F := F)) 𝒱₀ (tileThr d i) none) Set.univ
        (Prog.lift (.store (Memref.whole cc0_scratch4 : Memref sig .scVector .vmem S16x256 .f32) (Rect.unit (s := S16x256) off S1x16.size inb) (shapeCast S1x16 w shapeCasts_S16_S1x16) Finset.univ h1 h2) >>= k) Q) := by
  unfold PutS
  iintro ⟨%f, %hf, Hf⟩ Hk
  iapply (wp_store (defs := defs₀ (F := F)) 𝒱₀ (tileThr d i) none Set.univ (m := Memref.whole cc0_scratch4) (r := Rect.unit (s := S16x256) off S1x16.size inb) (Mk := Finset.univ) (f := f) (Finset.subset_univ _)) $$ Hf
  iintro Hf
  iapply Hk
  iexists _
  isplitr
  rotate_left
  · iexact Hf
  · ipureintro
    refine hf.put ht hn (fun l => ?_) (fun r c hx => ?_)
    · have e : (ix2 ⟨t, ht⟩ ⟨16 * n + l.val, by omega⟩ : S16x256.Idx) = ((Memref.whole cc0_scratch4 : Memref sig .scVector .vmem S16x256 .f32).access (Rect.unit (s := S16x256) off S1x16.size inb)).emb (ix2 0 l : S1x16.Idx) := by
        have h := acc_idx off inb ho (ix2 0 l)
        funext a
        match a with
        | 0 => exact Fin.ext h.1.symm
        | 1 => exact Fin.ext h.2.symm
      rw [e]
      refine (View.write_emb_of_mem _ _ (Finset.mem_univ _)).trans ?_
      subst hw
      refine (shapeCast_addUnit_apply ![16] (P t n) shapeCasts_S16_S1x16 (ix2 0 l : S1x16.Idx)).trans (congrArg (P t n) ?_)
      funext a
      match a with
      | 0 => rfl
    · refine View.write_of_not_mem _ _ _ fun hm => hx ?_
      obtain ⟨x, -, hx'⟩ := Finset.mem_map.mp hm
      have h := acc_idx off inb ho x
      have h16 : (x 1).val < 16 := (x 1).isLt
      have e0 : r.val = t := (congrArg (fun j : S16x256.Idx => (j 0).val) hx').symm.trans h.1
      have e1 : c.val = 16 * n + (x 1).val := (congrArg (fun j : S16x256.Idx => (j 1).val) hx').symm.trans h.2
      omega

theorem PutS.load {d : Dev nD} {i : grid0.Coords} {P : ℕ → ℕ → FVec F S16 .f32} {t n : ℕ} {r hl}
    {α : Type} {k : _ → Prog (TpuEff nD τ sig (Elt F) Λ₀ (tileThr d i).2) α} {Q : α → sProp 𝕄} :
    PutS d i P t n ⊢ iprop((∀ v, PutS d i P t n -∗ wp frame (wpE (defs₀ (F := F)) 𝒱₀ (tileThr d i) none) Set.univ (k v) Q)
      -∗ wp frame (wpE (defs₀ (F := F)) 𝒱₀ (tileThr d i) none) Set.univ
        (Prog.lift (.load (Memref.whole cc0_scratch4 : Memref sig .scVector .vmem S16x256 .f32) r hl) >>= k) Q) := by
  unfold PutS
  iintro ⟨%f, %hf, Hf⟩ Hk
  iapply (Reads.use (Reads.load (thr := tileThr d i) (mr := Memref.whole cc0_scratch4) (f := f))) $$ Hf
  iintro Hf
  iapply Hk
  iexists f
  isplitr
  · ipureintro; exact hf
  · iexact Hf

/-- The tile's maxima as far as they are written. -/
def PutM (d : Dev nD) (i : grid0.Coords) (P : ℕ → ℕ → FVec F S16 .f32) (t n : ℕ) : sProp 𝕄 :=
  iprop(∃ f : FVec F S16x256 .f32, ⌜Rows f P t n⌝ ∗ (tileThr d i).loc cc0_scratch5 ↦{fullShare} f)

theorem PutM.next {d : Dev nD} {i : grid0.Coords} {P : ℕ → ℕ → FVec F S16 .f32} {t : ℕ} : PutM d i P t 16 ⊢ PutM d i P (t + 1) 0 := by
  unfold PutM
  iintro ⟨%f, %h, Hf⟩
  iexists f
  isplitr
  · ipureintro; exact h.next
  · iexact Hf

theorem PutM.store {d : Dev nD} {i : grid0.Coords} {P : ℕ → ℕ → FVec F S16 .f32} {t n : ℕ} {off : Fin 2 → ℕ} {inb : ∀ a, off a + S1x16.size a ≤ S16x256.size a}
    {w : FVec F S16 .f32} {h1 h2} (ho : off = ![t, 16 * n]) (ht : t < 16) (hn : n < 16) (hw : w = P t n)
    {α : Type} {k : PUnit → Prog (TpuEff nD τ sig (Elt F) Λ₀ (tileThr d i).2) α} {Q : α → sProp 𝕄} :
    PutM d i P t n ⊢ iprop((PutM d i P t (n + 1) -∗ wp frame (wpE (defs₀ (F := F)) 𝒱₀ (tileThr d i) none) Set.univ (k ⟨⟩) Q)
      -∗ wp frame (wpE (defs₀ (F := F)) 𝒱₀ (tileThr d i) none) Set.univ
        (Prog.lift (.store (Memref.whole cc0_scratch5 : Memref sig .scVector .vmem S16x256 .f32) (Rect.unit (s := S16x256) off S1x16.size inb) (shapeCast S1x16 w shapeCasts_S16_S1x16) Finset.univ h1 h2) >>= k) Q) := by
  unfold PutM
  iintro ⟨%f, %hf, Hf⟩ Hk
  iapply (wp_store (defs := defs₀ (F := F)) 𝒱₀ (tileThr d i) none Set.univ (m := Memref.whole cc0_scratch5) (r := Rect.unit (s := S16x256) off S1x16.size inb) (Mk := Finset.univ) (f := f) (Finset.subset_univ _)) $$ Hf
  iintro Hf
  iapply Hk
  iexists _
  isplitr
  rotate_left
  · iexact Hf
  · ipureintro
    refine hf.put ht hn (fun l => ?_) (fun r c hx => ?_)
    · have e : (ix2 ⟨t, ht⟩ ⟨16 * n + l.val, by omega⟩ : S16x256.Idx) = ((Memref.whole cc0_scratch5 : Memref sig .scVector .vmem S16x256 .f32).access (Rect.unit (s := S16x256) off S1x16.size inb)).emb (ix2 0 l : S1x16.Idx) := by
        have h := acc_idx off inb ho (ix2 0 l)
        funext a
        match a with
        | 0 => exact Fin.ext h.1.symm
        | 1 => exact Fin.ext h.2.symm
      rw [e]
      refine (View.write_emb_of_mem _ _ (Finset.mem_univ _)).trans ?_
      subst hw
      refine (shapeCast_addUnit_apply ![16] (P t n) shapeCasts_S16_S1x16 (ix2 0 l : S1x16.Idx)).trans (congrArg (P t n) ?_)
      funext a
      match a with
      | 0 => rfl
    · refine View.write_of_not_mem _ _ _ fun hm => hx ?_
      obtain ⟨x, -, hx'⟩ := Finset.mem_map.mp hm
      have h := acc_idx off inb ho x
      have h16 : (x 1).val < 16 := (x 1).isLt
      have e0 : r.val = t := (congrArg (fun j : S16x256.Idx => (j 0).val) hx').symm.trans h.1
      have e1 : c.val = 16 * n + (x 1).val := (congrArg (fun j : S16x256.Idx => (j 1).val) hx').symm.trans h.2
      omega

theorem PutM.load {d : Dev nD} {i : grid0.Coords} {P : ℕ → ℕ → FVec F S16 .f32} {t n : ℕ} {r hl}
    {α : Type} {k : _ → Prog (TpuEff nD τ sig (Elt F) Λ₀ (tileThr d i).2) α} {Q : α → sProp 𝕄} :
    PutM d i P t n ⊢ iprop((∀ v, PutM d i P t n -∗ wp frame (wpE (defs₀ (F := F)) 𝒱₀ (tileThr d i) none) Set.univ (k v) Q)
      -∗ wp frame (wpE (defs₀ (F := F)) 𝒱₀ (tileThr d i) none) Set.univ
        (Prog.lift (.load (Memref.whole cc0_scratch5 : Memref sig .scVector .vmem S16x256 .f32) r hl) >>= k) Q) := by
  unfold PutM
  iintro ⟨%f, %hf, Hf⟩ Hk
  iapply (Reads.use (Reads.load (thr := tileThr d i) (mr := Memref.whole cc0_scratch5) (f := f))) $$ Hf
  iintro Hf
  iapply Hk
  iexists f
  isplitr
  · ipureintro; exact hf
  · iexact Hf

end Cert.Proof.Pool
-- ==== Proof.Seg.lean ====
/-
  One segment of a tile: its two bounds read, its chunks folded, its sums and its maxima stored to their row; then the
  loop over the tile's sixteen segments.
-/
module

public import proofs.«01_k».proof.Proof.Store

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

open Idealize.ShloMosaic.Affine (IsInt)
variable [FloatOps F]

/-- Word `n` of the bounds buffer. -/
def gv (g : IVec S48 32) (n : ℕ) : BitVec 32 := g (ix1 ⟨n % 48, Nat.mod_lt _ (by decide)⟩)

/-- A counted loop at the head of a program, with an invariant. -/
theorem for_wp {thr : Thread nD τ} {l : Scf.Loop 32} {hok : l.OK} {σ α : Type} {init : σ} {body : Fin l.trips → σ → Prog (TpuEff nD τ sig (Elt F) Λ₀ thr.2) σ}
    (I : ℕ → σ → sProp 𝕄) (hbody : ∀ (n : Fin l.trips) a, I n.val a ⊢ wp frame (wpE (defs₀ (F := F)) 𝒱₀ thr none) Set.univ (body n a) (I (n.val + 1)))
    {k : σ → Prog (TpuEff nD τ sig (Elt F) Λ₀ thr.2) α} {Q : α → sProp 𝕄} :
    I 0 init ⊢ iprop((∀ a, I l.trips a -∗ wp frame (wpE (defs₀ (F := F)) 𝒱₀ thr none) Set.univ (k a) Q)
      -∗ wp frame (wpE (defs₀ (F := F)) 𝒱₀ thr none) Set.univ (l.for hok init body >>= k) Q) := by
  rw [wp_bind]
  iintro HI Hk
  iapply (Scf.wp_for frame _ Set.univ l.lb l.ub l.st hok init body I hbody)
  isplitl [HI]; · iexact HI
  iexact Hk

/-- A counted loop at the head of a program whose trip `n` takes `A n` to `A (n + 1)` with an invariant. -/
theorem steps_wp {thr : Thread nD τ} {l : Scf.Loop 32} {hok : l.OK} {σ α : Type} {init : σ} {body : Fin l.trips → σ → Prog (TpuEff nD τ sig (Elt F) Λ₀ thr.2) σ}
    (A : ℕ → σ) (I : ℕ → sProp 𝕄) (h0 : init = A 0) {m : ℕ} (hm : l.trips = m) {b : σ} (hb : A m = b)
    (hbody : ∀ (n : Fin l.trips) (Q : σ → sProp 𝕄), I n.val ⊢ iprop((I (n.val + 1) -∗ Q (A (n.val + 1))) -∗ wp frame (wpE (defs₀ (F := F)) 𝒱₀ thr none) Set.univ (body n (A n.val)) Q))
    {k : σ → Prog (TpuEff nD τ sig (Elt F) Λ₀ thr.2) α} {Q : α → sProp 𝕄} :
    I 0 ⊢ iprop((I m -∗ wp frame (wpE (defs₀ (F := F)) 𝒱₀ thr none) Set.univ (k b) Q)
      -∗ wp frame (wpE (defs₀ (F := F)) 𝒱₀ thr none) Set.univ (l.for hok init body >>= k) Q) := by
  subst hm hb h0
  iintro HI Hk
  iapply (for_wp (l := l) (hok := hok) (body := body) (fun n a => iprop(⌜a = A n⌝ ∗ I n)) ?_) $$ [HI]
  · intro n a
    iintro ⟨%ha, HI⟩
    subst ha
    iapply (hbody n _) $$ HI
    iintro HI
    isplitr; · ipureintro; rfl
    iexact HI
  · isplitr; · ipureintro; rfl
    iexact HI
  · iintro %a ⟨%ha, HI⟩
    subst ha
    iapply Hk; iexact HI

/-- An assumption at the head of a program, where it holds. -/
theorem assume_wp {thr : Thread nD τ} {P : Prop} {dec : Decidable P} (h : P) {α : Type} {k : PLift P → Prog (TpuEff nD τ sig (Elt F) Λ₀ thr.2) α} {Q : α → sProp 𝕄} :
    wp frame (wpE (defs₀ (F := F)) 𝒱₀ thr none) Set.univ (k ⟨h⟩) Q ⊢ wp frame (wpE (defs₀ (F := F)) 𝒱₀ thr none) Set.univ (Prog.lift (.assume P dec) >>= k) Q :=
  wp_assume 𝒱₀ thr none Set.univ h

theorem t3_word (t3 : Fin k0_t3_loop.trips) : t3.val < 16 ∧ IsInt (Scf.iv 0#32 1#32 t3.val) ((t3.val : ℕ) : ℤ) := by
  have h : t3.val < 16 := t3.isLt
  exact ⟨h, Affine.iv (c_isInt 0 (by decide)) (c_isInt 1 (by decide)) t3.val ⟨by push_cast; omega, by omega, by omega⟩⟩

theorem off2_eq (t3 : Fin k0_t3_loop.trips) : k0_off2 t3 = ![t3.val] := Affine.vec_cons (t3_word t3).2 rfl rfl
theorem off3_eq (t3 : Fin k0_t3_loop.trips) : k0_off3 t3 = ![16 + t3.val] := by
  have h := t3_word t3
  exact Affine.vec_cons (Affine.addi (e := ((16 + t3.val : ℕ) : ℤ)) (c_isInt 16 (by decide)) h.2 ⟨by push_cast; omega, by omega, by omega⟩) rfl rfl
theorem row0 (t3 : Fin k0_t3_loop.trips) : k0_off265 t3 = ![t3.val, 16 * 0] := Affine.vec_cons (t3_word t3).2 rfl rfl
theorem row1 (t3 : Fin k0_t3_loop.trips) : k0_off266 t3 = ![t3.val, 16 * 1] := Affine.vec_cons (t3_word t3).2 rfl rfl
theorem row2 (t3 : Fin k0_t3_loop.trips) : k0_off267 t3 = ![t3.val, 16 * 2] := Affine.vec_cons (t3_word t3).2 rfl rfl
theorem row3 (t3 : Fin k0_t3_loop.trips) : k0_off268 t3 = ![t3.val, 16 * 3] := Affine.vec_cons (t3_word t3).2 rfl rfl
theorem row4 (t3 : Fin k0_t3_loop.trips) : k0_off269 t3 = ![t3.val, 16 * 4] := Affine.vec_cons (t3_word t3).2 rfl rfl
theorem row5 (t3 : Fin k0_t3_loop.trips) : k0_off270 t3 = ![t3.val, 16 * 5] := Affine.vec_cons (t3_word t3).2 rfl rfl
theorem row6 (t3 : Fin k0_t3_loop.trips) : k0_off271 t3 = ![t3.val, 16 * 6] := Affine.vec_cons (t3_word t3).2 rfl rfl
theorem row7 (t3 : Fin k0_t3_loop.trips) : k0_off272 t3 = ![t3.val, 16 * 7] := Affine.vec_cons (t3_word t3).2 rfl rfl
theorem row8 (t3 : Fin k0_t3_loop.trips) : k0_off273 t3 = ![t3.val, 16 * 8] := Affine.vec_cons (t3_word t3).2 rfl rfl
theorem row9 (t3 : Fin k0_t3_loop.trips) : k0_off274 t3 = ![t3.val, 16 * 9] := Affine.vec_cons (t3_word t3).2 rfl rfl
theorem row10 (t3 : Fin k0_t3_loop.trips) : k0_off275 t3 = ![t3.val, 16 * 10] := Affine.vec_cons (t3_word t3).2 rfl rfl
theorem row11 (t3 : Fin k0_t3_loop.trips) : k0_off276 t3 = ![t3.val, 16 * 11] := Affine.vec_cons (t3_word t3).2 rfl rfl
theorem row12 (t3 : Fin k0_t3_loop.trips) : k0_off277 t3 = ![t3.val, 16 * 12] := Affine.vec_cons (t3_word t3).2 rfl rfl
theorem row13 (t3 : Fin k0_t3_loop.trips) : k0_off278 t3 = ![t3.val, 16 * 13] := Affine.vec_cons (t3_word t3).2 rfl rfl
theorem row14 (t3 : Fin k0_t3_loop.trips) : k0_off279 t3 = ![t3.val, 16 * 14] := Affine.vec_cons (t3_word t3).2 rfl rfl
theorem row15 (t3 : Fin k0_t3_loop.trips) : k0_off280 t3 = ![t3.val, 16 * 15] := Affine.vec_cons (t3_word t3).2 rfl rfl

theorem bound_lo {g : IVec S48 32} {off : Fin 1 → ℕ} {inb : ∀ a, off a + S16.size a ≤ S48.size a} {n : ℕ} (ho : off = ![n]) :
    extractAt ![0] (k0_pay1769 (F := F) ((Memref.whole cc0_scratch1 : Memref sig .scVector .vmem S48 .i32).view.readAt (Elt F) (Rect.unit (s := S48) off S16.size inb).toLoadRect g)) inpos_S1_p0 = gv g n := by
  subst ho
  have h := inb 0
  simp at h
  refine congrArg g ?_
  funext a
  match a with
  | 0 => exact Fin.ext (show n + 1 * (0 + 1 * 0) = n % 48 by omega)
theorem bound_hi {g : IVec S48 32} {off : Fin 1 → ℕ} {inb : ∀ a, off a + S16.size a ≤ S48.size a} {n : ℕ} (ho : off = ![n]) :
    extractAt ![0] (k0_pay1770 (F := F) ((Memref.whole cc0_scratch1 : Memref sig .scVector .vmem S48 .i32).view.readAt (Elt F) (Rect.unit (s := S48) off S16.size inb).toLoadRect g)) inpos_S1_p0 = gv g n := bound_lo ho

variable {v27 v32 : BitVec 32} {s e : ℕ}

theorem t4_loop_wp (S : Seg v27 v32 s e) {hw3 : k0_chk3 v27 v32} {ok} {d : Dev nD} {i : grid0.Coords} {X : FVec F S50000x256 .f32} {qa qb : PosShare TreeShare}
    {O : CellTallies nD τ sig (HIx 1)} {W : Waits sig (HIx 1)} {c0 c1 : BitVec 32} {t3 : Fin k0_t3_loop.trips}
    {α : Type} {k : _ → Prog (TpuEff nD τ sig (Elt F) Λ₀ (tileThr d i).2) α} {Q : α → sProp 𝕄} :
    iprop(Transfers.MayWaits (tileThr d i) (default : HIx 1) O ∗ MaybeA d i X qa (2 * 0 < nch s e) (evenR s 0) ∗ IdleB d i X qb ∗ Owed d i O W)
      ⊢ iprop((iprop(IdleA d i X qa ∗ IdleB d i X qb ∗ Owed d i O W)
          -∗ wp frame (wpE (defs₀ (F := F)) 𝒱₀ (tileThr d i) none) Set.univ (k (acc X s (e - s))) Q)
        -∗ wp frame (wpE (defs₀ (F := F)) 𝒱₀ (tileThr d i) none) Set.univ
          (Scf.Loop.for (k0_t4_loop v27 v32) ok (k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F)) (k0_t4_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0 c1 t3 v27 v32 hw3 (nchW v27 v32)) >>= k) Q) := by
  have hn : nch s e = (e - s + 119) / 120 := rfl
  have h0 : (k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1771 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F), k0_pay1772 (F := F)) = acc X s (done s e (2 * 0)) := by
    have h : done s e (2 * 0) = 0 := by unfold done; omega
    rw [h]; rfl
  have ht := (t4_trips S).1
  have hdone : done s e (2 * ((nch s e + 1) / 2)) = e - s := by unfold done; omega
  have hlast : ¬ 2 * ((nch s e + 1) / 2) < nch s e := by omega
  refine .trans ?_ ((steps_wp (thr := tileThr d i) (l := k0_t4_loop v27 v32) (hok := ok) (body := k0_t4_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0 c1 t3 v27 v32 hw3 (nchW v27 v32)) (k := k) (Q := Q) (fun n => acc X s (done s e (2 * n)))
    (fun n => iprop(Transfers.MayWaits (tileThr d i) (default : HIx 1) O ∗ MaybeA d i X qa (2 * n < nch s e) (evenR s n) ∗ IdleB d i X qb ∗ Owed d i O W)) h0 ht
      (congrArg (acc X s) hdone) ?_).trans ?_)
  · exact .rfl
  · intro t4 Q
    iintro ⟨#Hmw, Ha, Hb, HO⟩ Hk
    iapply (t4_wp S t4) $$ [Ha Hb HO]
    · isplitr; · iexact Hmw
      isplitl [Ha]; · iexact Ha
      isplitl [Hb] <;> iassumption
    iintro ⟨Ha, Hb, HO⟩
    iapply Hk
    isplitr; · iexact Hmw
    isplitl [Ha]; · iexact Ha
    isplitl [Hb] <;> iassumption
  iintro Hw Hk
  iapply Hw
  iintro ⟨-, Ha, Hb, HO⟩
  iapply Hk
  isplitl [Ha]
  · iapply (MaybeA_neg hlast) $$ Ha
  isplitl [Hb] <;> iassumption

theorem t13_loop {d : Dev nD} {i : grid0.Coords} {c0 c1 : BitVec 32} {t3 : Fin k0_t3_loop.trips} {v27 v32 : BitVec 32} {hw3 : k0_chk3 v27 v32} {v35 v47 : BitVec 32} {ok init} {R : sProp 𝕄} :
    Reads (F := F) (tileThr d i) R (Scf.Loop.for (k0_t13_loop v27 v32) ok init (k0_t13_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0 c1 t3 v27 v32 hw3 v35 v47)) init :=
  Reads.for_zero (Scf.rem_trips _ _)

theorem IdleA.elim {d : Dev nD} {i : grid0.Coords} {X : FVec F S50000x256 .f32} {q : PosShare TreeShare} :
    IdleA d i X q ⊢ iprop((∃ f : FVec F S128x256 .f32, (tileThr d i).loc cc0_scratch2 ↦{fullShare} f) ∗ semVal (tileThr d i, .dma cc0_scratch7.sem) 0 ∗ ((tileThr d i).loc main_arg0_scv ↦{q} X)) := .rfl

theorem part61_wp' {g : IVec S48 32} {t3 : Fin k0_t3_loop.trips} (S : Seg (gv g t3) (gv g (16 + t3)) s e) {d : Dev nD} {i : grid0.Coords} {X : FVec F S50000x256 .f32} {qa qb : PosShare TreeShare}
    {O : CellTallies nD τ sig (HIx 1)} {W : Waits sig (HIx 1)} {c0 c1 : BitVec 32} {N : ℕ} (hN : N = e - s) {PS PM : ℕ → ℕ → FVec F S16 .f32}
    (hS : ∀ h, PS t3 h = accS X s N h) (hM : ∀ h, PM t3 h = accM X s N h)
    {Q : _ → sProp 𝕄} :
    iprop(Transfers.MayWaits (tileThr d i) (default : HIx 1) O ∗ ((tileThr d i).loc cc0_scratch1 ↦{fullShare} g) ∗ IdleA d i X qa ∗ IdleB d i X qb ∗ Owed d i O W ∗ PutS d i PS t3 0 ∗ PutM d i PM t3 0)
      ⊢ iprop((∀ ld, iprop(((tileThr d i).loc cc0_scratch1 ↦{fullShare} g) ∗ IdleA d i X qa ∗ IdleB d i X qb ∗ Owed d i O W ∗ PutS d i PS t3 2 ∗ PutM d i PM t3 1)
          -∗ Q ⟨Scf.iv c0 c1 t3.val, accS X s N 2, accS X s N 3, accS X s N 4, accS X s N 5, accS X s N 6, accS X s N 7, accS X s N 8, accS X s N 9, accS X s N 10, accS X s N 11, accS X s N 12, accS X s N 13, accS X s N 14, accS X s N 15, accM X s N 1, accM X s N 2, accM X s N 3, accM X s N 4, accM X s N 5, accM X s N 6, accM X s N 7, accM X s N 8, accM X s N 9, accM X s N 10, accM X s N 11, accM X s N 12, accM X s N 13, accM X s N 14, accM X s N 15, ld⟩)
        -∗ wp frame (wpE (defs₀ (F := F)) 𝒱₀ (tileThr d i) none) Set.univ (k0_part61_skel i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0 c1 t3) Q) := by
  have t3l := (t3_word t3).1
  subst hN
  have S' := (bound_lo (F := F) (g := g) (inb := k0_off2_inb t3) (off2_eq t3)).symm ▸ (bound_hi (F := F) (g := g) (inb := k0_off3_inb t3) (off3_eq t3)).symm ▸ S
  iintro ⟨#Hmw, Hg, Ha, Hb, HO, HS, HM⟩ Hk
  unfold k0_part61_skel
  simp only [bind_assoc, pure_bind]
  iapply (Reads.use (Reads.load (thr := tileThr d i) (mr := Memref.whole cc0_scratch1) (f := g))) $$ Hg
  iintro Hg
  iapply (Reads.use (Reads.load (thr := tileThr d i) (mr := Memref.whole cc0_scratch1) (f := g))) $$ Hg
  iintro Hg
  iapply (assume_wp (chk3 S'))
  ihave Ha := IdleA.elim $$ Ha
  icases Ha with ⟨⟨%f0, Ha⟩, Hva, Hxa⟩
  rcases Classical.em (k0_cond1 (extractAt ![0] (k0_pay1769 (F := F) ((Memref.whole cc0_scratch1 : Memref sig .scVector .vmem S48 .i32).view.readAt (Elt F) (Rect.unit (s := S48) (k0_off2 t3) S16.size (k0_off2_inb t3)).toLoadRect g)) inpos_S1_p0) (extractAt ![0] (k0_pay1770 (F := F) ((Memref.whole cc0_scratch1 : Memref sig .scVector .vmem S48 .i32).view.readAt (Elt F) (Rect.unit (s := S48) (k0_off3 t3) S16.size (k0_off3_inb t3)).toLoadRect g)) inpos_S1_p0) = 1#1) with h | h
  · have hc := (cond1_iff S').mp h
    rw [dif_pos h]
    simp only [bind_assoc, pure_bind]
    iapply (startA (R := evenR s 0) ((off4_eq S').trans (by unfold evenR; simp))) $$ [Hxa Ha Hva]
    · isplitl [Hxa]; · iexact Hxa
      isplitl [Ha] <;> iassumption
    iintro Hfl
    iapply (t4_loop_wp S') $$ [Hfl Hb HO]
    · isplitr; · iexact Hmw
      isplitl [Hfl]
      · unfold MaybeA; rw [if_pos (by omega)]; iexact Hfl
      isplitl [Hb] <;> iassumption
    iintro ⟨Ha, Hb, HO⟩
    dsimp only [acc, tup]
    iapply (Reads.use t13_loop) $$ Hg
    iintro Hg
    dsimp only
    iapply (PutS.load) $$ HS
    iintro %_ HS
    iapply (PutS.store (n := 0) (row0 t3) t3l (by decide) (hS 0).symm) $$ HS
    iintro HS
    iapply (PutM.load) $$ HM
    iintro %_ HM
    iapply (PutM.store (n := 0) (row0 t3) t3l (by decide) (hM 0).symm) $$ HM
    iintro HM
    iapply (PutS.load) $$ HS
    iintro %_ HS
    iapply (PutS.store (n := 1) (row1 t3) t3l (by decide) (hS 1).symm) $$ HS
    iintro HS
    iapply (PutM.load) $$ HM
    iintro %ld HM
    rw [wp_pure]
    imodintro
    ispecialize Hk $$ %ld
    iapply Hk
    isplitl [Hg]; · iexact Hg
    isplitl [Ha]; · iexact Ha
    isplitl [Hb]; · iexact Hb
    isplitl [HO]; · iexact HO
    isplitl [HS] <;> iassumption
  · have hc := fun h' => h ((cond1_iff S').mpr h')
    rw [dif_neg h]
    iapply (t4_loop_wp S') $$ [Ha Hva Hxa Hb HO]
    · isplitr; · iexact Hmw
      isplitl [Ha Hva Hxa]
      · unfold MaybeA; rw [if_neg (by omega)]; unfold IdleA
        isplitl [Ha]; · iexists f0; iexact Ha
        isplitl [Hva] <;> iassumption
      isplitl [Hb] <;> iassumption
    iintro ⟨Ha, Hb, HO⟩
    dsimp only [acc, tup]
    iapply (Reads.use t13_loop) $$ Hg
    iintro Hg
    dsimp only
    iapply (PutS.load) $$ HS
    iintro %_ HS
    iapply (PutS.store (n := 0) (row0 t3) t3l (by decide) (hS 0).symm) $$ HS
    iintro HS
    iapply (PutM.load) $$ HM
    iintro %_ HM
    iapply (PutM.store (n := 0) (row0 t3) t3l (by decide) (hM 0).symm) $$ HM
    iintro HM
    iapply (PutS.load) $$ HS
    iintro %_ HS
    iapply (PutS.store (n := 1) (row1 t3) t3l (by decide) (hS 1).symm) $$ HS
    iintro HS
    iapply (PutM.load) $$ HM
    iintro %ld HM
    rw [wp_pure]
    imodintro
    ispecialize Hk $$ %ld
    iapply Hk
    isplitl [Hg]; · iexact Hg
    isplitl [Ha]; · iexact Ha
    isplitl [Hb]; · iexact Hb
    isplitl [HO]; · iexact HO
    isplitl [HS] <;> iassumption

theorem part61_wp {g : IVec S48 32} {t3 : Fin k0_t3_loop.trips} (S : Seg (gv g t3) (gv g (16 + t3)) s e) {d : Dev nD} {i : grid0.Coords} {X : FVec F S50000x256 .f32} {qa qb : PosShare TreeShare}
    {O : CellTallies nD τ sig (HIx 1)} {W : Waits sig (HIx 1)} {c0 c1 : BitVec 32} {N : ℕ} (hN : N = e - s) {PS PM : ℕ → ℕ → FVec F S16 .f32}
    (hS : ∀ h, PS t3 h = accS X s N h) (hM : ∀ h, PM t3 h = accM X s N h)
    {α : Type} {k : _ → Prog (TpuEff nD τ sig (Elt F) Λ₀ (tileThr d i).2) α} {Q : α → sProp 𝕄} :
    iprop(Transfers.MayWaits (tileThr d i) (default : HIx 1) O ∗ ((tileThr d i).loc cc0_scratch1 ↦{fullShare} g) ∗ IdleA d i X qa ∗ IdleB d i X qb ∗ Owed d i O W ∗ PutS d i PS t3 0 ∗ PutM d i PM t3 0)
      ⊢ iprop((∀ ld, iprop(((tileThr d i).loc cc0_scratch1 ↦{fullShare} g) ∗ IdleA d i X qa ∗ IdleB d i X qb ∗ Owed d i O W ∗ PutS d i PS t3 2 ∗ PutM d i PM t3 1)
          -∗ wp frame (wpE (defs₀ (F := F)) 𝒱₀ (tileThr d i) none) Set.univ (k ⟨Scf.iv c0 c1 t3.val, accS X s N 2, accS X s N 3, accS X s N 4, accS X s N 5, accS X s N 6, accS X s N 7, accS X s N 8, accS X s N 9, accS X s N 10, accS X s N 11, accS X s N 12, accS X s N 13, accS X s N 14, accS X s N 15, accM X s N 1, accM X s N 2, accM X s N 3, accM X s N 4, accM X s N 5, accM X s N 6, accM X s N 7, accM X s N 8, accM X s N 9, accM X s N 10, accM X s N 11, accM X s N 12, accM X s N 13, accM X s N 14, accM X s N 15, ld⟩) Q)
        -∗ wp frame (wpE (defs₀ (F := F)) 𝒱₀ (tileThr d i) none) Set.univ (k0_part61_skel i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 c0 c1 t3 >>= k) Q) := by
  rw [wp_bind]
  exact part61_wp' (d := d) (i := i) (c0 := c0) (c1 := c1) (Q := fun r => wp frame (wpE (defs₀ (F := F)) 𝒱₀ (tileThr d i) none) Set.univ (k r) Q) S hN hS hM

theorem part62_wp {t3 : Fin k0_t3_loop.trips} {d : Dev nD} {i : grid0.Coords} {X : FVec F S50000x256 .f32}
    {w16 : BitVec 32} {ld : Vec F S1x16 .f32} {N : ℕ} {PS PM : ℕ → ℕ → FVec F S16 .f32}
    (hS : ∀ h, PS t3 h = accS X s N h) (hM : ∀ h, PM t3 h = accM X s N h)
    {α : Type} {k : _ → Prog (TpuEff nD τ sig (Elt F) Λ₀ (tileThr d i).2) α} {Q : α → sProp 𝕄} :
    iprop(PutS d i PS t3 2 ∗ PutM d i PM t3 1)
      ⊢ iprop((∀ ld, iprop(PutS d i PS t3 8 ∗ PutM d i PM t3 7) -∗ wp frame (wpE (defs₀ (F := F)) 𝒱₀ (tileThr d i) none) Set.univ (k ld) Q)
        -∗ wp frame (wpE (defs₀ (F := F)) 𝒱₀ (tileThr d i) none) Set.univ (k0_part62_skel i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 t3 w16 (accS X s N 2) (accS X s N 3) (accS X s N 4) (accS X s N 5) (accS X s N 6) (accS X s N 7) (accM X s N 1) (accM X s N 2) (accM X s N 3) (accM X s N 4) (accM X s N 5) (accM X s N 6) ld >>= k) Q) := by
  have t3l := (t3_word t3).1
  iintro ⟨HS, HM⟩ Hk
  unfold k0_part62_skel
  simp only [bind_assoc, pure_bind]
  iapply (PutM.store (n := 1) (row1 t3) t3l (by decide) (hM 1).symm) $$ HM
  iintro HM
  iapply (PutS.load) $$ HS
  iintro %_ HS
  iapply (PutS.store (n := 2) (row2 t3) t3l (by decide) (hS 2).symm) $$ HS
  iintro HS
  iapply (PutM.load) $$ HM
  iintro %_ HM
  iapply (PutM.store (n := 2) (row2 t3) t3l (by decide) (hM 2).symm) $$ HM
  iintro HM
  iapply (PutS.load) $$ HS
  iintro %_ HS
  iapply (PutS.store (n := 3) (row3 t3) t3l (by decide) (hS 3).symm) $$ HS
  iintro HS
  iapply (PutM.load) $$ HM
  iintro %_ HM
  iapply (PutM.store (n := 3) (row3 t3) t3l (by decide) (hM 3).symm) $$ HM
  iintro HM
  iapply (PutS.load) $$ HS
  iintro %_ HS
  iapply (PutS.store (n := 4) (row4 t3) t3l (by decide) (hS 4).symm) $$ HS
  iintro HS
  iapply (PutM.load) $$ HM
  iintro %_ HM
  iapply (PutM.store (n := 4) (row4 t3) t3l (by decide) (hM 4).symm) $$ HM
  iintro HM
  iapply (PutS.load) $$ HS
  iintro %_ HS
  iapply (PutS.store (n := 5) (row5 t3) t3l (by decide) (hS 5).symm) $$ HS
  iintro HS
  iapply (PutM.load) $$ HM
  iintro %_ HM
  iapply (PutM.store (n := 5) (row5 t3) t3l (by decide) (hM 5).symm) $$ HM
  iintro HM
  iapply (PutS.load) $$ HS
  iintro %_ HS
  iapply (PutS.store (n := 6) (row6 t3) t3l (by decide) (hS 6).symm) $$ HS
  iintro HS
  iapply (PutM.load) $$ HM
  iintro %_ HM
  iapply (PutM.store (n := 6) (row6 t3) t3l (by decide) (hM 6).symm) $$ HM
  iintro HM
  iapply (PutS.load) $$ HS
  iintro %_ HS
  iapply (PutS.store (n := 7) (row7 t3) t3l (by decide) (hS 7).symm) $$ HS
  iintro HS
  iapply (PutM.load) $$ HM
  iintro %ld HM
  ispecialize Hk $$ %ld
  iapply Hk
  isplitl [HS] <;> iassumption

theorem part63_wp {t3 : Fin k0_t3_loop.trips} {d : Dev nD} {i : grid0.Coords} {X : FVec F S50000x256 .f32}
    {w16 : BitVec 32} {ld : Vec F S1x16 .f32} {N : ℕ} {PS PM : ℕ → ℕ → FVec F S16 .f32}
    (hS : ∀ h, PS t3 h = accS X s N h) (hM : ∀ h, PM t3 h = accM X s N h)
    {α : Type} {k : _ → Prog (TpuEff nD τ sig (Elt F) Λ₀ (tileThr d i).2) α} {Q : α → sProp 𝕄} :
    iprop(PutS d i PS t3 8 ∗ PutM d i PM t3 7)
      ⊢ iprop((∀ ld, iprop(PutS d i PS t3 14 ∗ PutM d i PM t3 13) -∗ wp frame (wpE (defs₀ (F := F)) 𝒱₀ (tileThr d i) none) Set.univ (k ld) Q)
        -∗ wp frame (wpE (defs₀ (F := F)) 𝒱₀ (tileThr d i) none) Set.univ (k0_part63_skel i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 t3 w16 (accS X s N 8) (accS X s N 9) (accS X s N 10) (accS X s N 11) (accS X s N 12) (accS X s N 13) (accM X s N 7) (accM X s N 8) (accM X s N 9) (accM X s N 10) (accM X s N 11) (accM X s N 12) ld >>= k) Q) := by
  have t3l := (t3_word t3).1
  iintro ⟨HS, HM⟩ Hk
  unfold k0_part63_skel
  simp only [bind_assoc, pure_bind]
  iapply (PutM.store (n := 7) (row7 t3) t3l (by decide) (hM 7).symm) $$ HM
  iintro HM
  iapply (PutS.load) $$ HS
  iintro %_ HS
  iapply (PutS.store (n := 8) (row8 t3) t3l (by decide) (hS 8).symm) $$ HS
  iintro HS
  iapply (PutM.load) $$ HM
  iintro %_ HM
  iapply (PutM.store (n := 8) (row8 t3) t3l (by decide) (hM 8).symm) $$ HM
  iintro HM
  iapply (PutS.load) $$ HS
  iintro %_ HS
  iapply (PutS.store (n := 9) (row9 t3) t3l (by decide) (hS 9).symm) $$ HS
  iintro HS
  iapply (PutM.load) $$ HM
  iintro %_ HM
  iapply (PutM.store (n := 9) (row9 t3) t3l (by decide) (hM 9).symm) $$ HM
  iintro HM
  iapply (PutS.load) $$ HS
  iintro %_ HS
  iapply (PutS.store (n := 10) (row10 t3) t3l (by decide) (hS 10).symm) $$ HS
  iintro HS
  iapply (PutM.load) $$ HM
  iintro %_ HM
  iapply (PutM.store (n := 10) (row10 t3) t3l (by decide) (hM 10).symm) $$ HM
  iintro HM
  iapply (PutS.load) $$ HS
  iintro %_ HS
  iapply (PutS.store (n := 11) (row11 t3) t3l (by decide) (hS 11).symm) $$ HS
  iintro HS
  iapply (PutM.load) $$ HM
  iintro %_ HM
  iapply (PutM.store (n := 11) (row11 t3) t3l (by decide) (hM 11).symm) $$ HM
  iintro HM
  iapply (PutS.load) $$ HS
  iintro %_ HS
  iapply (PutS.store (n := 12) (row12 t3) t3l (by decide) (hS 12).symm) $$ HS
  iintro HS
  iapply (PutM.load) $$ HM
  iintro %_ HM
  iapply (PutM.store (n := 12) (row12 t3) t3l (by decide) (hM 12).symm) $$ HM
  iintro HM
  iapply (PutS.load) $$ HS
  iintro %_ HS
  iapply (PutS.store (n := 13) (row13 t3) t3l (by decide) (hS 13).symm) $$ HS
  iintro HS
  iapply (PutM.load) $$ HM
  iintro %ld HM
  ispecialize Hk $$ %ld
  iapply Hk
  isplitl [HS] <;> iassumption

/-- The sums of the segments `lo t … hi t`. -/
def sumsOf (X : FVec F S50000x256 .f32) (lo hi : ℕ → ℕ) (t h : ℕ) : FVec F S16 .f32 := accS X (lo t) (hi t - lo t) h
/-- The maxima of the segments `lo t … hi t`. -/
def maxsOf (X : FVec F S50000x256 .f32) (lo hi : ℕ → ℕ) (t h : ℕ) : FVec F S16 .f32 := accM X (lo t) (hi t - lo t) h

/-- What the loop over segments holds before segment `t`. -/
def SegInv (d : Dev nD) (i : grid0.Coords) (X : FVec F S50000x256 .f32) (qa qb : PosShare TreeShare) (O : CellTallies nD τ sig (HIx 1)) (W : Waits sig (HIx 1))
    (g : IVec S48 32) (lo hi : ℕ → ℕ) (t : ℕ) : sProp 𝕄 :=
  iprop(Transfers.MayWaits (tileThr d i) (default : HIx 1) O ∗ ((tileThr d i).loc cc0_scratch1 ↦{fullShare} g) ∗ IdleA d i X qa ∗ IdleB d i X qb ∗ Owed d i O W
    ∗ PutS d i (sumsOf X lo hi) t 0 ∗ PutM d i (maxsOf X lo hi) t 0)

theorem t3_wp {g : IVec S48 32} {lo hi : ℕ → ℕ} (t3 : Fin k0_t3_loop.trips) (S : Seg (gv g t3) (gv g (16 + t3)) (lo t3) (hi t3)) {d : Dev nD} {i : grid0.Coords} {X : FVec F S50000x256 .f32} {qa qb : PosShare TreeShare}
    {O : CellTallies nD τ sig (HIx 1)} {W : Waits sig (HIx 1)} {Q : Unit → sProp 𝕄} :
    SegInv d i X qa qb O W g lo hi t3
      ⊢ iprop((SegInv d i X qa qb O W g lo hi (t3 + 1) -∗ Q ())
        -∗ wp frame (wpE (defs₀ (F := F)) 𝒱₀ (tileThr d i) none) Set.univ (k0_t3_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 t3 ()) Q) := by
  have t3l := (t3_word t3).1
  have hS : ∀ h, sumsOf X lo hi t3 h = accS X (lo t3) (hi t3 - lo t3) h := fun _ => rfl
  have hM : ∀ h, maxsOf X lo hi t3 h = accM X (lo t3) (hi t3 - lo t3) h := fun _ => rfl
  unfold SegInv
  iintro ⟨#Hmw, Hg, Ha, Hb, HO, HS, HM⟩ Hk
  unfold k0_t3_body
  simp only [k0_part61_eq_skeleton, k0_part62_eq_skeleton, k0_part63_eq_skeleton]
  iapply (part61_wp S rfl hS hM) $$ [Hg Ha Hb HO HS HM]
  · isplitr; · iexact Hmw
    isplitl [Hg]; · iexact Hg
    isplitl [Ha]; · iexact Ha
    isplitl [Hb]; · iexact Hb
    isplitl [HO]; · iexact HO
    isplitl [HS] <;> iassumption
  iintro %ld ⟨Hg, Ha, Hb, HO, HS, HM⟩
  dsimp only
  iapply (part62_wp hS hM) $$ [HS HM]
  · isplitl [HS] <;> iassumption
  iintro %ld ⟨HS, HM⟩
  iapply (part63_wp hS hM) $$ [HS HM]
  · isplitl [HS] <;> iassumption
  iintro %ld ⟨HS, HM⟩
  iapply (PutM.store (n := 13) (row13 t3) t3l (by decide) (hM 13).symm) $$ HM
  iintro HM
  iapply (PutS.load) $$ HS
  iintro %_ HS
  iapply (PutS.store (n := 14) (row14 t3) t3l (by decide) (hS 14).symm) $$ HS
  iintro HS
  iapply (PutM.load) $$ HM
  iintro %_ HM
  iapply (PutM.store (n := 14) (row14 t3) t3l (by decide) (hM 14).symm) $$ HM
  iintro HM
  iapply (PutS.load) $$ HS
  iintro %_ HS
  iapply (PutS.store (n := 15) (row15 t3) t3l (by decide) (hS 15).symm) $$ HS
  iintro HS
  iapply (PutM.load) $$ HM
  iintro %_ HM
  iapply (PutM.store (n := 15) (row15 t3) t3l (by decide) (hM 15).symm) $$ HM
  iintro HM
  rw [wp_pure]
  imodintro
  iapply Hk
  isplitr; · iexact Hmw
  isplitl [Hg]; · iexact Hg
  isplitl [Ha]; · iexact Ha
  isplitl [Hb]; · iexact Hb
  isplitl [HO]; · iexact HO
  isplitl [HS]
  · iapply PutS.next $$ HS
  · iapply PutM.next $$ HM

/-- All sixteen segments of a tile. -/
theorem t3_loop_wp {g : IVec S48 32} {lo hi : ℕ → ℕ} (S : ∀ t < 16, Seg (gv g t) (gv g (16 + t)) (lo t) (hi t)) {ok} {d : Dev nD} {i : grid0.Coords} {X : FVec F S50000x256 .f32} {qa qb : PosShare TreeShare}
    {O : CellTallies nD τ sig (HIx 1)} {W : Waits sig (HIx 1)} {α : Type} {k : Unit → Prog (TpuEff nD τ sig (Elt F) Λ₀ (tileThr d i).2) α} {Q : α → sProp 𝕄} :
    SegInv d i X qa qb O W g lo hi 0
      ⊢ iprop((SegInv d i X qa qb O W g lo hi 16 -∗ wp frame (wpE (defs₀ (F := F)) 𝒱₀ (tileThr d i) none) Set.univ (k ()) Q)
        -∗ wp frame (wpE (defs₀ (F := F)) 𝒱₀ (tileThr d i) none) Set.univ (Scf.Loop.for k0_t3_loop ok () (k0_t3_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3) >>= k) Q) :=
  steps_wp (thr := tileThr d i) (l := k0_t3_loop) (hok := ok) (body := k0_t3_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3) (k := k) (Q := Q) (fun _ => ()) (SegInv d i X qa qb O W g lo hi) rfl
    (show k0_t3_loop.trips = 16 by decide) rfl (fun t3 Q => t3_wp t3 (S t3 (t3_word t3).1))

end Cert.Proof.Pool
-- ==== Proof.Search.lean ====
/-
  The two searches of a tile. Sixteen lanes at once look for the first row whose segment number is at least the lane's
  target; sixteen halvings of 50000 rows leave one place, which of ascending ids is the first not below the target.
-/
module

public import proofs.«01_k».proof.Proof.Seg

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

open Idealize.ShloMosaic.Affine (IsInt)
variable [FloatOps F]

/-- The padded ids: numbers in the first 50000 places, 512 after. -/
structure Ids (ids : IVec S50184 32) (b : ℕ → ℕ) : Prop where
  word : ∀ n : Fin 50184, IsInt (ids (ix1 n)) (b n)
  pad : ∀ n, 50000 ≤ n → b n = 512

/-- Where `k` halvings between `A` and `C` end. -/
def bis (b : ℕ → ℕ) (g : ℕ) : ℕ → ℕ → ℕ → ℕ
  | 0, A, _ => A
  | k + 1, A, C => if b ((A + C) / 2) < g then bis b g k ((A + C) / 2 + 1) C else bis b g k A ((A + C) / 2)

/-- The place the bisection for `g` finds: of ascending ids the first row whose id is at least `g`. -/
@[irreducible] def lb (b : ℕ → ℕ) (g : ℕ) : ℕ := bis b g 16 0 50000

theorem lb_eq (b : ℕ → ℕ) (g : ℕ) : lb b g = bis b g 16 0 50000 := by unfold lb; rfl

/-- The halvings end between their bounds, if the upper one is not below the id looked for. -/
theorem bis_mem {b : ℕ → ℕ} {g : ℕ} : ∀ k A C, A ≤ C → g ≤ b C → A ≤ bis b g k A C ∧ bis b g k A C ≤ C
  | 0, A, C, h, _ => ⟨le_rfl, h⟩
  | k + 1, A, C, h, hC => by
    rw [bis]
    split_ifs with hb
    · have hne : (A + C) / 2 ≠ C := fun e => by rw [e] at hb; omega
      have := bis_mem k ((A + C) / 2 + 1) C (by omega) hC
      omega
    · have := bis_mem k A ((A + C) / 2) (by omega) (not_lt.mp hb)
      omega

/-- Looking for less ends no later, whatever the ids are: the first step that differs parts the two. -/
theorem bis_mono {b : ℕ → ℕ} {g' g : ℕ} (hg : g' ≤ g) : ∀ k A C, A ≤ C → g ≤ b C → bis b g' k A C ≤ bis b g k A C
  | 0, _, _, _, _ => le_rfl
  | k + 1, A, C, h, hC => by
    rw [bis, bis]
    by_cases hb : b ((A + C) / 2) < g
    · have hne : (A + C) / 2 ≠ C := fun e => by rw [e] at hb; omega
      rw [if_pos hb]
      split_ifs with hb'
      · exact bis_mono hg k _ C (by omega) hC
      · have h1 := bis_mem (b := b) (g := g') k A ((A + C) / 2) (by omega) (not_lt.mp hb')
        have h2 := bis_mem (b := b) (g := g) k ((A + C) / 2 + 1) C (by omega) hC
        omega
    · rw [if_neg hb, if_neg (by omega)]
      exact bis_mono hg k A _ (by omega) (not_lt.mp hb)

/-- Of ascending ids enough halvings find the first place with an id not below the one looked for. -/
theorem bis_spec {b : ℕ → ℕ} {g : ℕ} (hm : ∀ m n, m ≤ n → b m ≤ b n) :
    ∀ k A C, A ≤ C → g ≤ b C → (∀ n < A, b n < g) → C - A < 2 ^ k → (∀ n < bis b g k A C, b n < g) ∧ g ≤ b (bis b g k A C)
  | 0, A, C, h, hC, hA, hk => by
    have e : A = C := by rw [pow_zero] at hk; omega
    rw [bis]
    exact ⟨hA, e ▸ hC⟩
  | k + 1, A, C, h, hC, hA, hk => by
    rw [pow_succ] at hk
    rw [bis]
    split_ifs with hb
    · have hne : (A + C) / 2 ≠ C := fun e => by rw [e] at hb; omega
      refine bis_spec hm k _ C (by omega) hC (fun n hn => ?_) (by omega)
      have := hm n ((A + C) / 2) (by omega)
      omega
    · exact bis_spec hm k A _ (by omega) (not_lt.mp hb) hA (by omega)

section Lb
variable {ids : IVec S50184 32} {b : ℕ → ℕ} (I : Ids ids b) {g : ℕ} (hg : g ≤ 512)
include I hg

theorem le_last : g ≤ b 50000 := by rw [I.pad 50000 le_rfl]; exact hg

theorem lb_le : lb b g ≤ 50000 := by
  rw [lb_eq]
  exact (bis_mem 16 0 50000 (Nat.zero_le _) (le_last I hg)).2

theorem lb_mono {g' : ℕ} (h : g' ≤ g) : lb b g' ≤ lb b g := by
  rw [lb_eq, lb_eq]
  exact bis_mono h 16 0 50000 (Nat.zero_le _) (le_last I hg)

theorem lt_lb (hm : ∀ m n, m ≤ n → b m ≤ b n) {n : ℕ} : n < lb b g ↔ b n < g := by
  have h := bis_spec (g := g) hm 16 0 50000 (Nat.zero_le _) (le_last I hg) (fun n hn => absurd hn (Nat.not_lt_zero n)) (by norm_num)
  rw [← lb_eq] at h
  constructor
  · exact fun hn => h.1 n hn
  · intro hn
    by_contra hc
    have := hm _ _ (not_lt.mp hc)
    omega

end Lb

/-- Number of a tile among the 32. -/
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

def segW (i : grid0.Coords) : BitVec 32 :=
  Scalar.muli (Scalar.addi (Scalar.muli (BitVec.ofNat 32 (i 1).val) 2#32) (BitVec.ofNat 32 (i 0).val)) 16#32

theorem segW_isInt (i : grid0.Coords) : IsInt (segW i) ((16 * wid i : ℕ) : ℤ) := by
  have h0 : (i 0).val < 2 := (i 0).isLt
  have h1 : (i 1).val < 16 := (i 1).isLt
  refine Affine.muli (ea := ((wid i : ℕ) : ℤ)) (Affine.addi (ea := ((2 * (i 1).val : ℕ) : ℤ)) (Affine.muli (c_isInt _ (by omega)) (c_isInt 2 (by decide)) ?_) (c_isInt _ (by omega)) ?_)
    (c_isInt 16 (by decide)) ?_ <;> (try unfold wid) <;> exact ⟨by push_cast; omega, by push_cast; omega, by push_cast; omega⟩

theorem segW_toNat (i : grid0.Coords) : (segW i).toNat = 16 * wid i := Affine.nat_eq (segW_isInt i) _ rfl

theorem tgt1_isInt (i : grid0.Coords) (l : Fin 16) : IsInt (Scalar.addi (segW i) (BitVec.ofNat 32 (0 * 16 + l.val))) ((16 * wid i + l.val : ℕ) : ℤ) := by
  have h := wid_lt i
  exact Affine.addi (segW_isInt i) (c_isInt _ (by omega)) ⟨by push_cast; omega, by push_cast; omega, by push_cast; omega⟩

theorem tgt2_isInt (i : grid0.Coords) (l : Fin 16) :
    IsInt (Scalar.addi (Scalar.addi (segW i) 1#32) (BitVec.ofNat 32 (0 * 16 + l.val))) ((16 * wid i + l.val + 1 : ℕ) : ℤ) := by
  have h := wid_lt i
  refine Affine.addi (ea := ((16 * wid i + 1 : ℕ) : ℤ)) (Affine.addi (segW_isInt i) (c_isInt 1 (by decide)) ⟨by push_cast; omega, by push_cast; omega, by push_cast; omega⟩) (c_isInt _ (by omega))
    ⟨by push_cast; omega, by push_cast; omega, by push_cast; omega⟩

/-- The lane's two bounds after `k` halvings: the halvings left lead from them to the place looked for. -/
def Lane (b : ℕ → ℕ) (g k : ℕ) (lo hi : BitVec 32) : Prop :=
  ∃ A C : ℕ, IsInt lo A ∧ IsInt hi C ∧ A ≤ C ∧ C ≤ 50000 ∧ g ≤ b C ∧ bis b g (16 - k) A C = lb b g

theorem Lane.zero {b : ℕ → ℕ} {g : ℕ} (h : g ≤ b 50000) : Lane b g 0 0#32 50000#32 :=
  ⟨0, 50000, c_isInt 0 (by decide), c_isInt 50000 (by decide), Nat.zero_le _, le_rfl, h, (lb_eq b g).symm⟩

def midW (lo hi : BitVec 32) : BitVec 32 := Scalar.shrsi (Scalar.addi lo hi) 1#32

theorem mid_isInt {lo hi : BitVec 32} {A C : ℕ} (ha : IsInt lo A) (hc : IsInt hi C) (hA : A ≤ 50000) (hC : C ≤ 50000) : IsInt (midW lo hi) (((A + C) / 2 : ℕ) : ℤ) :=
  Affine.shrsi (Affine.addi (e := ((A + C : ℕ) : ℤ)) ha hc ⟨by push_cast; omega, by omega, by omega⟩) (c_isInt 1 (by decide)) 1 2 (by decide) ⟨by push_cast; omega, by decide, by decide⟩

theorem Lane.mid_lt {b : ℕ → ℕ} {g k : ℕ} {lo hi : BitVec 32} (h : Lane b g k lo hi) : (midW lo hi).toNat < 50184 := by
  obtain ⟨A, C, ha, hc, h1, h2, h3, h4⟩ := h
  rw [Affine.nat_eq (mid_isInt ha hc (by omega) h2) _ rfl]; omega

theorem Lane.next {ids : IVec S50184 32} {b : ℕ → ℕ} (I : Ids ids b) {g k : ℕ} (hk : k < 16) {lo hi t : BitVec 32} (h : Lane b g k lo hi) (ht : IsInt t g)
    (hm : (midW lo hi).toNat < 50184) :
    Lane b g (k + 1) (Scalar.select (Scalar.cmpi .slt (ids (ix1 ⟨(midW lo hi).toNat, hm⟩)) t) (Scalar.addi (midW lo hi) 1#32) lo)
      (Scalar.select (Scalar.cmpi .slt (ids (ix1 ⟨(midW lo hi).toNat, hm⟩)) t) hi (midW lo hi)) := by
  obtain ⟨A, C, ha, hc, h1, h2, h3, h4⟩ := h
  have hw := mid_isInt ha hc (by omega) h2
  have hn := Affine.nat_eq hw _ rfl
  have hv := I.word ⟨(midW lo hi).toNat, hm⟩
  replace hv : IsInt (ids (ix1 ⟨(midW lo hi).toNat, hm⟩)) ((b ((A + C) / 2) : ℕ) : ℤ) := hn ▸ hv
  have hw1 : IsInt (Scalar.addi (midW lo hi) 1#32) (((A + C) / 2 + 1 : ℕ) : ℤ) := Affine.addi hw (c_isInt 1 (by decide)) ⟨by push_cast; omega, by omega, by omega⟩
  rw [show 16 - k = (16 - (k + 1)) + 1 by omega, bis] at h4
  rcases Nat.lt_or_ge (b ((A + C) / 2)) g with hb | hb
  · have hne : (A + C) / 2 ≠ C := fun e => by rw [e] at hb; omega
    have hs := Affine.slt_holds hv ht (by omega)
    rw [if_pos hb] at h4
    exact ⟨(A + C) / 2 + 1, C, Affine.select_holds hs hw1 ha rfl, Affine.select_holds hs hc hw rfl, by omega, h2, h3, h4⟩
  · have hs := Affine.slt_fails hv ht (by omega)
    rw [if_neg (not_lt.mpr hb)] at h4
    exact ⟨A, (A + C) / 2, Affine.select_fails hs hw1 ha rfl, Affine.select_fails hs hc hw rfl, by omega, by omega, hb, h4⟩

/-- The gathered lane. -/
theorem gather_at (ids : IVec S50184 32) (v : IVec S16 32) (h : ∀ a x, ((![v] : Fin 1 → IVec S16 32) a x).toNat < S50184.size a) (l : Fin 16) (hm : (v (ix1 l)).toNat < 50184) :
    loadIdx (F := F) (e := .i32) ids ![v] h (ix1 l) = ids (ix1 ⟨(v (ix1 l)).toNat, hm⟩) := by
  unfold loadIdx
  congr 1
  rw [eq_ix1 (idxAt _ _ _)]
  rfl

theorem Lane.last {b : ℕ → ℕ} {g : ℕ} {lo hi : BitVec 32} (h : Lane b g 16 lo hi) : IsInt lo (lb b g) := by
  obtain ⟨A, C, ha, hc, h1, h2, h3, h4⟩ := h
  rw [Nat.sub_self, bis] at h4
  exact h4 ▸ ha

theorem k0_pay1927_at (lo hi : IVec S16 32) (l : Fin 16) : k0_pay1927 lo hi (ix1 l) = midW (lo (ix1 l)) (hi (ix1 l)) := rfl

theorem k0_pay1929_at (i : grid0.Coords) (lo v : IVec S16 32) (w : Vec F S16 .i32) (l : Fin 16) :
    k0_pay1929 (F := F) i lo v w (ix1 l) = Scalar.select (Scalar.cmpi .slt (w (ix1 l)) (Scalar.addi (segW i) (BitVec.ofNat 32 (0 * 16 + l.val)))) (Scalar.addi (v (ix1 l)) 1#32) (lo (ix1 l)) := rfl

theorem k0_pay1930_at (i : grid0.Coords) (hi v : IVec S16 32) (w : Vec F S16 .i32) (l : Fin 16) :
    k0_pay1930 (F := F) i hi v w (ix1 l) = Scalar.select (Scalar.cmpi .slt (w (ix1 l)) (Scalar.addi (segW i) (BitVec.ofNat 32 (0 * 16 + l.val)))) (hi (ix1 l)) (v (ix1 l)) := rfl

theorem t1_body_wp {ids : IVec S50184 32} {b : ℕ → ℕ} (I : Ids ids b) {d : Dev nD} {i : grid0.Coords} (n : Fin k0_t1_loop.trips) (a : IVec S16 32 × IVec S16 32) :
    iprop(⌜∀ l : Fin 16, Lane b (16 * wid i + l.val) n.val (a.1 (ix1 l)) (a.2 (ix1 l))⌝ ∗ ((tileThr d i).loc cc0_scratch0 ↦{fullShare} ids : sProp 𝕄))
      ⊢ wp frame (wpE (defs₀ (F := F)) 𝒱₀ (tileThr d i) none) Set.univ (k0_t1_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 n a)
        fun a => iprop(⌜∀ l : Fin 16, Lane b (16 * wid i + l.val) (n.val + 1) (a.1 (ix1 l)) (a.2 (ix1 l))⌝ ∗ (tileThr d i).loc cc0_scratch0 ↦{fullShare} ids) := by
  obtain ⟨lo, hi⟩ := a
  have hwid := wid_lt i
  iintro ⟨%h, H⟩
  have hm : ∀ l : Fin 16, (midW (lo (ix1 l)) (hi (ix1 l))).toNat < 50184 := fun l => (h l).mid_lt
  have hchk : k0_chk1 (k0_pay1927 lo hi) := by
    intro a x
    obtain ⟨l, rfl⟩ : ∃ l : Fin 16, x = ix1 l := ⟨x 0, eq_ix1 x⟩
    match a with | 0 => exact hm l
  unfold k0_t1_body
  dsimp only
  iapply (assume_wp hchk)
  iapply (SparseCore.wp_vectorLoadIdx 𝒱₀ (tileThr d i) none Set.univ (base := Memref.whole cc0_scratch0) (Finset.subset_univ _)) $$ H
  iintro H
  rw [Memref.read_access_whole]
  rw [wp_pure]; imodintro
  isplitr [H]
  · ipureintro
    intro l
    dsimp only
    rw [k0_pay1929_at, k0_pay1930_at, gather_at ids (k0_pay1927 lo hi) _ l (hm l)]
    exact (h l).next I (lt_of_lt_of_eq n.isLt (by decide)) (tgt1_isInt i l) (hm l)
  · iexact H

theorem t1_loop_wp {ids : IVec S50184 32} {b : ℕ → ℕ} (I : Ids ids b) {ok} {d : Dev nD} {i : grid0.Coords} {α : Type} {k : IVec S16 32 × IVec S16 32 → Prog (TpuEff nD τ sig (Elt F) Λ₀ (tileThr d i).2) α} {Q : α → sProp 𝕄} :
    ((tileThr d i).loc cc0_scratch0 ↦{fullShare} ids : sProp 𝕄)
      ⊢ iprop((∀ a : IVec S16 32 × IVec S16 32, ⌜∀ l : Fin 16, IsInt (a.1 (ix1 l)) ((lb b (16 * wid i + l.val) : ℕ) : ℤ)⌝ -∗ ((tileThr d i).loc cc0_scratch0 ↦{fullShare} ids : sProp 𝕄)
          -∗ wp frame (wpE (defs₀ (F := F)) 𝒱₀ (tileThr d i) none) Set.univ (k a) Q)
        -∗ wp frame (wpE (defs₀ (F := F)) 𝒱₀ (tileThr d i) none) Set.univ (Scf.Loop.for k0_t1_loop ok (k0_pay1925, k0_pay1926) (k0_t1_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3) >>= k) Q) := by
  have hwid := wid_lt i
  iintro H Hk
  iapply (for_wp (thr := tileThr d i) (l := k0_t1_loop) (hok := ok) (body := (k0_t1_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3))
    (fun n a => iprop(⌜∀ l : Fin 16, Lane b (16 * wid i + l.val) n (a.1 (ix1 l)) (a.2 (ix1 l))⌝ ∗ ((tileThr d i).loc cc0_scratch0 ↦{fullShare} ids : sProp 𝕄)))
    (fun n a => t1_body_wp I n a)) $$ [H]
  · isplitr; · ipureintro; exact fun l => Lane.zero (le_last I (by omega))
    iexact H
  · iintro %a ⟨%h, H⟩
    iapply Hk $$ %a %(fun l => (h l).last)
    iexact H

theorem k0_pay1933_at (lo hi : IVec S16 32) (l : Fin 16) : k0_pay1933 lo hi (ix1 l) = midW (lo (ix1 l)) (hi (ix1 l)) := rfl

theorem k0_pay1935_at (i : grid0.Coords) (lo v : IVec S16 32) (w : Vec F S16 .i32) (l : Fin 16) :
    k0_pay1935 (F := F) i lo v w (ix1 l) = Scalar.select (Scalar.cmpi .slt (w (ix1 l)) (Scalar.addi (Scalar.addi (segW i) 1#32) (BitVec.ofNat 32 (0 * 16 + l.val)))) (Scalar.addi (v (ix1 l)) 1#32) (lo (ix1 l)) := rfl

theorem k0_pay1936_at (i : grid0.Coords) (hi v : IVec S16 32) (w : Vec F S16 .i32) (l : Fin 16) :
    k0_pay1936 (F := F) i hi v w (ix1 l) = Scalar.select (Scalar.cmpi .slt (w (ix1 l)) (Scalar.addi (Scalar.addi (segW i) 1#32) (BitVec.ofNat 32 (0 * 16 + l.val)))) (hi (ix1 l)) (v (ix1 l)) := rfl

theorem t2_body_wp {ids : IVec S50184 32} {b : ℕ → ℕ} (I : Ids ids b) {d : Dev nD} {i : grid0.Coords} (n : Fin k0_t2_loop.trips) (a : IVec S16 32 × IVec S16 32) :
    iprop(⌜∀ l : Fin 16, Lane b (16 * wid i + l.val + 1) n.val (a.1 (ix1 l)) (a.2 (ix1 l))⌝ ∗ ((tileThr d i).loc cc0_scratch0 ↦{fullShare} ids : sProp 𝕄))
      ⊢ wp frame (wpE (defs₀ (F := F)) 𝒱₀ (tileThr d i) none) Set.univ (k0_t2_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3 n a)
        fun a => iprop(⌜∀ l : Fin 16, Lane b (16 * wid i + l.val + 1) (n.val + 1) (a.1 (ix1 l)) (a.2 (ix1 l))⌝ ∗ (tileThr d i).loc cc0_scratch0 ↦{fullShare} ids) := by
  obtain ⟨lo, hi⟩ := a
  have hwid := wid_lt i
  iintro ⟨%h, H⟩
  have hm : ∀ l : Fin 16, (midW (lo (ix1 l)) (hi (ix1 l))).toNat < 50184 := fun l => (h l).mid_lt
  have hchk : k0_chk2 (k0_pay1933 lo hi) := by
    intro a x
    obtain ⟨l, rfl⟩ : ∃ l : Fin 16, x = ix1 l := ⟨x 0, eq_ix1 x⟩
    match a with | 0 => exact hm l
  unfold k0_t2_body
  dsimp only
  iapply (assume_wp hchk)
  iapply (SparseCore.wp_vectorLoadIdx 𝒱₀ (tileThr d i) none Set.univ (base := Memref.whole cc0_scratch0) (Finset.subset_univ _)) $$ H
  iintro H
  rw [Memref.read_access_whole]
  rw [wp_pure]; imodintro
  isplitr [H]
  · ipureintro
    intro l
    dsimp only
    rw [k0_pay1935_at, k0_pay1936_at, gather_at ids (k0_pay1933 lo hi) _ l (hm l)]
    exact (h l).next I (lt_of_lt_of_eq n.isLt (by decide)) (tgt2_isInt i l) (hm l)
  · iexact H

theorem t2_loop_wp {ids : IVec S50184 32} {b : ℕ → ℕ} (I : Ids ids b) {ok} {d : Dev nD} {i : grid0.Coords} {α : Type} {k : IVec S16 32 × IVec S16 32 → Prog (TpuEff nD τ sig (Elt F) Λ₀ (tileThr d i).2) α} {Q : α → sProp 𝕄} :
    ((tileThr d i).loc cc0_scratch0 ↦{fullShare} ids : sProp 𝕄)
      ⊢ iprop((∀ a : IVec S16 32 × IVec S16 32, ⌜∀ l : Fin 16, IsInt (a.1 (ix1 l)) ((lb b (16 * wid i + l.val + 1) : ℕ) : ℤ)⌝ -∗ ((tileThr d i).loc cc0_scratch0 ↦{fullShare} ids : sProp 𝕄)
          -∗ wp frame (wpE (defs₀ (F := F)) 𝒱₀ (tileThr d i) none) Set.univ (k a) Q)
        -∗ wp frame (wpE (defs₀ (F := F)) 𝒱₀ (tileThr d i) none) Set.univ (Scf.Loop.for k0_t2_loop ok (k0_pay1931, k0_pay1932) (k0_t2_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3) >>= k) Q) := by
  have hwid := wid_lt i
  iintro H Hk
  iapply (for_wp (thr := tileThr d i) (l := k0_t2_loop) (hok := ok) (body := (k0_t2_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3))
    (fun n a => iprop(⌜∀ l : Fin 16, Lane b (16 * wid i + l.val + 1) n (a.1 (ix1 l)) (a.2 (ix1 l))⌝ ∗ ((tileThr d i).loc cc0_scratch0 ↦{fullShare} ids : sProp 𝕄)))
    (fun n a => t2_body_wp I n a)) $$ [H]
  · isplitr; · ipureintro; exact fun l => Lane.zero (le_last I (by omega))
    iexact H
  · iintro %a ⟨%h, H⟩
    iapply Hk $$ %a %(fun l => (h l).last)
    iexact H

end Cert.Proof.Pool
-- ==== Proof.Rest.lean ====
/-
  What a tile writes: its rows of the segment sums and maxima, its segments' sizes; its bounds buffer read back; and a
  copy started and waited for at once.
-/
module

public import proofs.«01_k».proof.Proof.Search

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

open Idealize.ShloMosaic.Affine (IsInt)
variable [FloatOps F]

/-- A copy started and waited for at once. -/
theorem sync_wp {thr : Thread nD τ} {sp sp' : Space} {s : Shape} {e : EltTy} {src : Memref sig thr.2.kind sp s e} {dst : Memref sig thr.2.kind sp' s e} {sm : DmaSem sig}
    {h1 : src.view.WordExact} {h2 : dst.view.WordExact} {h3 : DmaTarget.Typed (nD := nD) sp (SemLoc.dma sm) (.here dst)} {h4 h5}
    {q : PosShare TreeShare} {fs : Buf (Elt F) (src.view.loc thr)} {fd : Buf (Elt F) (dst.view.loc thr)} (hs : 0 < s.numel)
    {O : CellTallies nD τ sig (HIx 1)} {W : Waits sig (HIx 1)}
    {α : Type} {k : PUnit → Prog (TpuEff nD τ sig (Elt F) Λ₀ thr.2) α} {Q : α → sProp 𝕄} :
    iprop((src.view.loc thr ↦[src.view.set]{q} fs) ∗ (dst.view.loc thr ↦[dst.view.set]{fullShare} fd) ∗ semVal (thr, .dma sm) 0 ∗ owes thr O W
        ∗ Transfers.MayWaits thr (default : HIx 1) O)
      ⊢ iprop((iprop((dst.view.loc thr ↦[dst.view.set]{fullShare} (dst.view.write (Elt F) fd (src.view.read (Elt F) fs) Finset.univ)) ∗ (src.view.loc thr ↦[src.view.set]{q} fs)
            ∗ semVal (thr, .dma sm) 0 ∗ owes thr O (insert (SemLoc.dma sm, (default : HIx 1)) W))
          -∗ wp frame (wpE (defs₀ (F := F)) 𝒱₀ thr none) Set.univ (k ⟨⟩) Q)
        -∗ wp frame (wpE (defs₀ (F := F)) 𝒱₀ thr none) Set.univ
          (Prog.lift (.enqueueDma src (.here dst) (.dma sm) h1 h2 h3) >>= fun _ => Prog.lift (.waitDma2 sm src dst h4 h5) >>= k) Q) := by
  iintro ⟨Hs, Hd, Hv, HO, Hmw⟩ Hk
  iapply (Transfers.wp_dmaLocal countersEmb 𝒱₀ thr none (src := src) (dst := dst) (default : HIx 1) _ rfl (View.amount_pos _ (.dma sm) hs) subset_rfl) $$ [Hs Hd Hv]
  · isplitl [Hs]; · iexact Hs
    isplitl [Hd]; · iexact Hd
    iexact Hv
  iintro Hfl
  iapply (Transfers.wp_waitLocalO countersEmb 𝒱₀ thr none (default : HIx 1) rfl) $$ [Hfl HO Hmw]
  · isplitl [Hfl]; · iexact Hfl
    isplitl [HO]; · iexact HO
    iapply (Transfers.MayWaits.elim (SemLoc.dma sm)) $$ Hmw
  iintro ⟨⟨Hd, Hs⟩, Hv, HO⟩
  iapply Hk
  isplitl [Hd]; · iexact Hd
  isplitl [Hs]; · iexact Hs
  isplitl [Hv]; · iexact Hv
  iexact HO

/-! ## What a tile writes -/

/-- First row of segment `g`, and one past its last. -/
def sLo (b : ℕ → ℕ) (g : ℕ) : ℕ := lb b g
def sHi (b : ℕ → ℕ) (g : ℕ) : ℕ := lb b (g + 1)

/-- Segment sums and maxima, one row per segment. -/
def sumArr (X : FVec F S50000x256 .f32) (b : ℕ → ℕ) : FVec F S512x256 .f32 := fun j =>
  sumsOf X (sLo b) (sHi b) (j 0).val ((j 1).val / 16) (ix1 ⟨(j 1).val % 16, Nat.mod_lt _ (by decide)⟩)
def maxArr (X : FVec F S50000x256 .f32) (b : ℕ → ℕ) : FVec F S512x256 .f32 := fun j =>
  maxsOf X (sLo b) (sHi b) (j 0).val ((j 1).val / 16) (ix1 ⟨(j 1).val % 16, Nat.mod_lt _ (by decide)⟩)
/-- Segment sizes. -/
def cntArr (b : ℕ → ℕ) : FVec F S512 .f32 := sitofp .f32 (fun j : S512.Idx => BitVec.ofNat 32 (sHi b (j 0).val - sLo b (j 0).val))

abbrev sumM (i : grid0.Coords) : Memref sig .scVector .hbm S16x256 .f32 :=
  (Memref.whole main_v2_0_scv : Memref sig .scVector .hbm S512x256 .f32).slice (Rect.unit (s := S512x256) (k0_off281 i) S16x256.size (k0_off281_inb i)) (fun _ => rfl)
abbrev maxM (i : grid0.Coords) : Memref sig .scVector .hbm S16x256 .f32 :=
  (Memref.whole main_v2_1_scv : Memref sig .scVector .hbm S512x256 .f32).slice (Rect.unit (s := S512x256) (k0_off281 i) S16x256.size (k0_off281_inb i)) (fun _ => rfl)
abbrev cntM (i : grid0.Coords) : Memref sig .scVector .hbm S16 .f32 :=
  (Memref.whole main_v2_2_scv : Memref sig .scVector .hbm S512 .f32).slice (Rect.unit (s := S512) (k0_off1 i) S16.size (k0_off1_inb i)) (fun _ => rfl)

/-- What a tile is handed and hands back: shares of `x` and of the padded ids, and its rows of the three results. -/
def TilePay (d : Dev nD) (i : grid0.Coords) (X : FVec F S50000x256 .f32) (ids : IVec S50184 32) (qa qb qi : PosShare TreeShare)
    (fS fM : FVec F S512x256 .f32) (fC : FVec F S512 .f32) : sProp 𝕄 :=
  iprop(((tileThr d i).loc main_arg0_scv ↦{qa} X) ∗ ((tileThr d i).loc main_arg0_scv ↦{qb} X) ∗ ((tileThr d i).loc main_v1_scv ↦{qi} ids)
    ∗ ((tileThr d i).loc main_v2_0_scv ↦[(sumM i).view.set]{fullShare} fS) ∗ ((tileThr d i).loc main_v2_1_scv ↦[(maxM i).view.set]{fullShare} fM)
    ∗ ((tileThr d i).loc main_v2_2_scv ↦[(cntM i).view.set]{fullShare} fC))

/-- A tile's scratch buffers, and its semaphores at zero. -/
def TileScratch (d : Dev nD) (i : grid0.Coords) : sProp 𝕄 :=
  iprop((∃ f, (tileThr d i).loc cc0_scratch0 ↦{fullShare} f) ∗ (∃ f, (tileThr d i).loc cc0_scratch1 ↦{fullShare} f) ∗ (∃ f, (tileThr d i).loc cc0_scratch2 ↦{fullShare} f)
    ∗ (∃ f, (tileThr d i).loc cc0_scratch3 ↦{fullShare} f) ∗ (∃ f, (tileThr d i).loc cc0_scratch4 ↦{fullShare} f) ∗ (∃ f, (tileThr d i).loc cc0_scratch5 ↦{fullShare} f)
    ∗ (∃ f, (tileThr d i).loc cc0_scratch6 ↦{fullShare} f))
def TileSems (d : Dev nD) (i : grid0.Coords) : sProp 𝕄 :=
  iprop(semVal (tileThr d i, .dma cc0_scratch7.sem) 0 ∗ semVal (tileThr d i, .dma cc0_scratch8.sem) 0 ∗ semVal (tileThr d i, .dma cc0_scoped0.sem) 0
    ∗ semVal (tileThr d i, .dma cc0_scoped1.sem) 0 ∗ semVal (tileThr d i, .dma cc0_scoped2.sem) 0 ∗ semVal (tileThr d i, .dma cc0_scoped3.sem) 0)

theorem base_eq (i : grid0.Coords) : 32 * (i 1).val + 16 * (i 0).val = 16 * wid i := by unfold wid; omega

theorem rows_at (i : grid0.Coords) (y : S16x256.Idx) :
    ((Rect.unit (s := S512x256) (k0_off281 i) S16x256.size (k0_off281_inb i)).toLoadRect.idx y 0).val = 16 * wid i + (y 0).val
      ∧ ((Rect.unit (s := S512x256) (k0_off281 i) S16x256.size (k0_off281_inb i)).toLoadRect.idx y 1).val = (y 1).val := by
  have h := k0_off281_eq i
  have hb := base_eq i
  constructor
  · rw [LoadRect.idx_apply]
    show k0_off281 i 0 + 1 * (y 0).val = _
    rw [h]; show 32 * (i 1).val + 16 * (i 0).val + 1 * (y 0).val = _
    omega
  · rw [LoadRect.idx_apply]
    show k0_off281 i 1 + 1 * (y 1).val = _
    rw [h]; show 0 + 1 * (y 1).val = _
    omega

theorem cnt_at (i : grid0.Coords) (y : S16.Idx) :
    ((Rect.unit (s := S512) (k0_off1 i) S16.size (k0_off1_inb i)).toLoadRect.idx y 0).val = 16 * wid i + (y 0).val := by
  have h := k0_off1_eq i
  have hb := base_eq i
  rw [LoadRect.idx_apply]
  show k0_off1 i 0 + 1 * (y 0).val = _
  rw [h]; show 32 * (i 1).val + 16 * (i 0).val + 1 * (y 0).val = _
  omega

theorem sum_lands {i : grid0.Coords} {X : FVec F S50000x256 .f32} {b : ℕ → ℕ} {f : FVec F S16x256 .f32}
    (hf : Rows f (sumsOf X (fun t => sLo b (16 * wid i + t)) (fun t => sHi b (16 * wid i + t))) 16 0) (fd : FVec F S512x256 .f32) :
    ∀ j ∈ (sumM i).view.set, (sumM i).view.write (Elt F) fd f Finset.univ j = sumArr X b j := by
  intro j hj
  obtain ⟨y, -, rfl⟩ := Finset.mem_map.mp hj
  refine (View.write_emb_of_mem _ _ (Finset.mem_univ _)).trans ?_
  have h := rows_at i y
  have h1 := hf (y 0) (y 1) (Or.inl (y 0).isLt)
  refine (congrArg f (eq_ix2 y)).trans (h1.trans ?_)
  unfold sumArr
  have e0 : (((sumM i).view.emb y) 0).val = 16 * wid i + (y 0).val := h.1
  have e1 : (((sumM i).view.emb y) 1).val = (y 1).val := h.2
  rw [e0]
  simp only [e1]
  rfl

theorem max_lands {i : grid0.Coords} {X : FVec F S50000x256 .f32} {b : ℕ → ℕ} {f : FVec F S16x256 .f32}
    (hf : Rows f (maxsOf X (fun t => sLo b (16 * wid i + t)) (fun t => sHi b (16 * wid i + t))) 16 0) (fd : FVec F S512x256 .f32) :
    ∀ j ∈ (maxM i).view.set, (maxM i).view.write (Elt F) fd f Finset.univ j = maxArr X b j := by
  intro j hj
  obtain ⟨y, -, rfl⟩ := Finset.mem_map.mp hj
  refine (View.write_emb_of_mem _ _ (Finset.mem_univ _)).trans ?_
  have h := rows_at i y
  have h1 := hf (y 0) (y 1) (Or.inl (y 0).isLt)
  refine (congrArg f (eq_ix2 y)).trans (h1.trans ?_)
  unfold maxArr
  have e0 : (((maxM i).view.emb y) 0).val = 16 * wid i + (y 0).val := h.1
  have e1 : (((maxM i).view.emb y) 1).val = (y 1).val := h.2
  rw [e0]
  simp only [e1]
  rfl

theorem cnt_lands {i : grid0.Coords} {ids : IVec S50184 32} {b : ℕ → ℕ} (I : Ids ids b) {a c : IVec S16 32}
    (ha : ∀ l : Fin 16, IsInt (a (ix1 l)) ((lb b (16 * wid i + l.val) : ℕ) : ℤ)) (hc : ∀ l : Fin 16, IsInt (c (ix1 l)) ((lb b (16 * wid i + l.val + 1) : ℕ) : ℤ)) (fd : FVec F S512 .f32) :
    ∀ j ∈ (cntM i).view.set, (cntM i).view.write (Elt F) fd (k0_pay1937 (F := F) a c) Finset.univ j = cntArr b j := by
  intro j hj
  obtain ⟨y, -, rfl⟩ := Finset.mem_map.mp hj
  refine (View.write_emb_of_mem _ _ (Finset.mem_univ _)).trans ?_
  have h : (((cntM i).view.emb y) 0).val = 16 * wid i + (y 0).val := cnt_at i y
  have hw := wid_lt i
  have hy : (y 0).val < 16 := (y 0).isLt
  obtain ⟨l, rfl⟩ : ∃ l : Fin 16, y = ix1 l := ⟨y 0, eq_ix1 y⟩
  have hl : l.val < 16 := l.isLt
  have hle := lb_le I (g := 16 * wid i + l.val + 1) (by omega)
  have hm := lb_mono I (g := 16 * wid i + l.val + 1) (by omega) (g' := 16 * wid i + l.val) (by omega)
  have hsub : IsInt (Scalar.subi (c (ix1 l)) (a (ix1 l))) ((lb b (16 * wid i + l.val + 1) - lb b (16 * wid i + l.val) : ℕ) : ℤ) :=
    Affine.subi (hc l) (ha l) ⟨by omega, by omega, by omega⟩
  have hword := Affine.eq_of hsub _ rfl
  show FloatOps.sitofp .f32 (Scalar.subi (c (ix1 l)) (a (ix1 l))) = FloatOps.sitofp .f32 (BitVec.ofNat 32 (sHi b (((cntM i).view.emb (ix1 l)) 0).val - sLo b (((cntM i).view.emb (ix1 l)) 0).val))
  rw [hword, h]
  rfl

/-! ## The bounds buffer -/

theorem offs_emb (o : Fin 1 → ℕ) (n : ℕ) (inb : ∀ a, o a + S16.size a ≤ S48.size a) (ho : o = ![n]) (l : Fin 16) (hn : n + l.val < 48) :
    ((Memref.whole cc0_scratch1 : Memref sig .scVector .vmem S48 .i32).access (Rect.unit (s := S48) o S16.size inb)).emb (ix1 l) = (ix1 ⟨n + l.val, hn⟩ : S48.Idx) := by
  subst ho
  funext a
  match a with
  | 0 => exact Fin.ext (by show n + 1 * l.val = n + l.val; omega)

theorem offs_read {g : IVec S48 32} {u v : IVec S16 32} {h0 h1} :
    (∀ t < 16, gv ((((Memref.whole cc0_scratch1 : Memref sig .scVector .vmem S48 .i32).access (Rect.unit (s := S48) ![16] S16.size h1)).write (Elt F)
        (((Memref.whole cc0_scratch1 : Memref sig .scVector .vmem S48 .i32).access (Rect.unit (s := S48) ![0] S16.size h0)).write (Elt F) g u Finset.univ) v Finset.univ)) t = u (ix1 ⟨t % 16, Nat.mod_lt _ (by decide)⟩))
    ∧ ∀ t < 16, gv ((((Memref.whole cc0_scratch1 : Memref sig .scVector .vmem S48 .i32).access (Rect.unit (s := S48) ![16] S16.size h1)).write (Elt F)
        (((Memref.whole cc0_scratch1 : Memref sig .scVector .vmem S48 .i32).access (Rect.unit (s := S48) ![0] S16.size h0)).write (Elt F) g u Finset.univ) v Finset.univ)) (16 + t) = v (ix1 ⟨t % 16, Nat.mod_lt _ (by decide)⟩) := by
  constructor
  · intro t ht
    unfold gv
    have e : (ix1 ⟨t % 48, Nat.mod_lt _ (by decide)⟩ : S48.Idx) = ((Memref.whole cc0_scratch1 : Memref sig .scVector .vmem S48 .i32).access (Rect.unit (s := S48) ![0] S16.size h0)).emb (ix1 ⟨t % 16, Nat.mod_lt _ (by decide)⟩) := by
      rw [offs_emb ![0] 0 h0 rfl _ (by show 0 + t % 16 < 48; omega)]
      congr 1; exact Fin.ext (by show t % 48 = 0 + t % 16; omega)
    refine (View.write_of_not_mem _ _ _ fun hm => ?_).trans ?_
    · obtain ⟨x, -, hx⟩ := Finset.mem_map.mp hm
      obtain ⟨l, rfl⟩ : ∃ l : Fin 16, x = ix1 l := ⟨x 0, eq_ix1 x⟩
      rw [offs_emb ![16] 16 h1 rfl l (by omega)] at hx
      have := congrArg (fun j : S48.Idx => (j 0).val) hx
      have h2 : 16 + l.val = t % 48 := this
      omega
    · rw [e]
      exact View.write_emb_of_mem _ _ (Finset.mem_univ _)
  · intro t ht
    unfold gv
    have e : (ix1 ⟨(16 + t) % 48, Nat.mod_lt _ (by decide)⟩ : S48.Idx) = ((Memref.whole cc0_scratch1 : Memref sig .scVector .vmem S48 .i32).access (Rect.unit (s := S48) ![16] S16.size h1)).emb (ix1 ⟨t % 16, Nat.mod_lt _ (by decide)⟩) := by
      rw [offs_emb ![16] 16 h1 rfl _ (by show 16 + t % 16 < 48; omega)]
      congr 1; exact Fin.ext (by show (16 + t) % 48 = 16 + t % 16; omega)
    rw [e]
    exact View.write_emb_of_mem _ _ (Finset.mem_univ _)

/-- The bounds a tile stores are its segments'. -/
theorem segs_of {i : grid0.Coords} {ids : IVec S50184 32} {b : ℕ → ℕ} (I : Ids ids b) {u v : IVec S16 32} {g : IVec S48 32}
    (hg : (∀ t < 16, gv g t = u (ix1 ⟨t % 16, Nat.mod_lt _ (by decide)⟩)) ∧ ∀ t < 16, gv g (16 + t) = v (ix1 ⟨t % 16, Nat.mod_lt _ (by decide)⟩))
    (hu : ∀ l : Fin 16, IsInt (u (ix1 l)) ((lb b (16 * wid i + l.val) : ℕ) : ℤ)) (hv : ∀ l : Fin 16, IsInt (v (ix1 l)) ((lb b (16 * wid i + l.val + 1) : ℕ) : ℤ)) :
    ∀ t < 16, Seg (gv g t) (gv g (16 + t)) (sLo b (16 * wid i + t)) (sHi b (16 * wid i + t)) := by
  intro t ht
  have hw := wid_lt i
  have hm : t % 16 = t := Nat.mod_eq_of_lt ht
  have h1 := hu ⟨t % 16, Nat.mod_lt _ (by decide)⟩
  have h2 := hv ⟨t % 16, Nat.mod_lt _ (by decide)⟩
  rw [← hg.1 t ht] at h1
  rw [← hg.2 t ht] at h2
  simp only [hm] at h1 h2
  exact ⟨h1, h2, lb_mono I (by omega) (by omega), lb_le I (by omega)⟩

theorem Rows.zero {f : FVec F S16x256 .f32} {P : ℕ → ℕ → FVec F S16 .f32} : Rows f P 0 0 := fun r c h => by omega

theorem PutS.start {d : Dev nD} {i : grid0.Coords} {P : ℕ → ℕ → FVec F S16 .f32} : (iprop(∃ f, (tileThr d i).loc cc0_scratch4 ↦{fullShare} f) : sProp 𝕄) ⊢ PutS d i P 0 0 := by
  unfold PutS
  iintro ⟨%f, H⟩
  iexists f
  isplitr; · ipureintro; exact Rows.zero
  iexact H
theorem PutM.start {d : Dev nD} {i : grid0.Coords} {P : ℕ → ℕ → FVec F S16 .f32} : (iprop(∃ f, (tileThr d i).loc cc0_scratch5 ↦{fullShare} f) : sProp 𝕄) ⊢ PutM d i P 0 0 := by
  unfold PutM
  iintro ⟨%f, H⟩
  iexists f
  isplitr; · ipureintro; exact Rows.zero
  iexact H
theorem PutS.elim {d : Dev nD} {i : grid0.Coords} {P : ℕ → ℕ → FVec F S16 .f32} {t n : ℕ} : PutS d i P t n ⊢ iprop(∃ f : FVec F S16x256 .f32, ⌜Rows f P t n⌝ ∗ (tileThr d i).loc cc0_scratch4 ↦{fullShare} f) := by
  unfold PutS; exact .rfl
theorem PutM.elim {d : Dev nD} {i : grid0.Coords} {P : ℕ → ℕ → FVec F S16 .f32} {t n : ℕ} : PutM d i P t n ⊢ iprop(∃ f : FVec F S16x256 .f32, ⌜Rows f P t n⌝ ∗ (tileThr d i).loc cc0_scratch5 ↦{fullShare} f) := by
  unfold PutM; exact .rfl
theorem SegInv.elim {d : Dev nD} {i : grid0.Coords} {X : FVec F S50000x256 .f32} {qa qb : PosShare TreeShare} {O : CellTallies nD τ sig (HIx 1)} {W : Waits sig (HIx 1)} {g : IVec S48 32} {lo hi : ℕ → ℕ} {t : ℕ} :
    SegInv d i X qa qb O W g lo hi t ⊢ iprop(Transfers.MayWaits (tileThr d i) (default : HIx 1) O ∗ ((tileThr d i).loc cc0_scratch1 ↦{fullShare} g) ∗ IdleA d i X qa ∗ IdleB d i X qb ∗ Owed d i O W
      ∗ PutS d i (sumsOf X lo hi) t 0 ∗ PutM d i (maxsOf X lo hi) t 0) := by unfold SegInv; exact .rfl
theorem SegInv.intro {d : Dev nD} {i : grid0.Coords} {X : FVec F S50000x256 .f32} {qa qb : PosShare TreeShare} {O : CellTallies nD τ sig (HIx 1)} {W : Waits sig (HIx 1)} {g : IVec S48 32} {lo hi : ℕ → ℕ} {t : ℕ} :
    iprop(Transfers.MayWaits (tileThr d i) (default : HIx 1) O ∗ ((tileThr d i).loc cc0_scratch1 ↦{fullShare} g) ∗ IdleA d i X qa ∗ IdleB d i X qb ∗ Owed d i O W
      ∗ PutS d i (sumsOf X lo hi) t 0 ∗ PutM d i (maxsOf X lo hi) t 0) ⊢ SegInv d i X qa qb O W g lo hi t := by unfold SegInv; exact .rfl

end Cert.Proof.Pool
-- ==== Proof.Tile.lean ====
/-
  The whole body of a tile: the ids copied in, the two searches, the bounds and the counts stored, the sixteen segments
  reduced, and the tile's rows of the three results copied out.
-/
module

public import proofs.«01_k».proof.Proof.Rest

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ

open Idealize.ShloMosaic.Affine (IsInt)
variable [FloatOps F]

theorem w_insert {sm : SemLoc sig} {W W' : Waits sig (HIx 1)} (h : ∀ p ∈ W', p ∈ W ∨ p.2 = none) : ∀ p ∈ insert (sm, (default : HIx 1)) W', p ∈ W ∨ p.2 = none := by
  intro p hp
  rcases Finset.mem_insert.mp hp with rfl | hp
  · exact Or.inr rfl
  · exact h p hp

/-- The counts buffer, stored whole. -/
theorem cnt_store {f w : FVec F S16 .f32} {h0} :
    ((Memref.whole cc0_scratch6 : Memref sig .scVector .vmem S16 .f32).access (Rect.unit (s := S16) ![0] S16.size h0)).write (Elt F) f w Finset.univ = w := by
  funext x
  obtain ⟨l, rfl⟩ : ∃ l : Fin 16, x = ix1 l := ⟨x 0, eq_ix1 x⟩
  have e : (ix1 l : S16.Idx) = ((Memref.whole cc0_scratch6 : Memref sig .scVector .vmem S16 .f32).access (Rect.unit (s := S16) ![0] S16.size h0)).emb (ix1 l) := by
    funext a
    match a with
    | 0 => exact Fin.ext (by show l.val = 0 + 1 * l.val; omega)
  refine (congrArg _ e).trans ?_
  exact View.write_emb_of_mem _ _ (Finset.mem_univ _)

theorem tile_wp {d : Dev nD} {i : grid0.Coords} {X : FVec F S50000x256 .f32} {ids : IVec S50184 32} {b : ℕ → ℕ} (I : Ids ids b) {qa qb qi : PosShare TreeShare}
    {fS fM : FVec F S512x256 .f32} {fC : FVec F S512 .f32} {O : CellTallies nD τ sig (HIx 1)} {W : Waits sig (HIx 1)} :
    iprop(Transfers.MayWaits (tileThr d i) (default : HIx 1) O ∗ TilePay d i X ids qa qb qi fS fM fC ∗ TileScratch d i ∗ TileSems d i ∗ owes (tileThr d i) O W)
      ⊢ wp frame (wpE (defs₀ (F := F)) 𝒱₀ (tileThr d i) none) Set.univ (cc0__sc_pool_body i (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3)
        fun _ => iprop(TilePay d i X ids qa qb qi (sumArr X b) (maxArr X b) (cntArr b) ∗ TileScratch d i ∗ TileSems d i ∗ Owed d i O W) := by
  rw [cc0__sc_pool_body_eq_skeleton]
  unfold cc0__sc_pool_body_skel
  rw [k0_part64_eq_skeleton]
  unfold k0_part64_skel
  simp only [bind_assoc, pure_bind]
  unfold TilePay TileScratch TileSems
  iintro ⟨#Hmw, ⟨Hxa, Hxb, Hi, HS, HM, HC⟩, ⟨⟨%f0, H0⟩, ⟨%f1, H1⟩, H2, H3, H4, H5, ⟨%f6, H6⟩⟩, ⟨V7, V8, R0, R1, R2, R3⟩, HO⟩
  iapply (sync_wp (thr := tileThr d i) (src := (Memref.whole main_v1_scv : Memref sig .scVector .hbm S50184 .i32)) (dst := (Memref.whole cc0_scratch0 : Memref sig .scVector .vmem S50184 .i32))
    (q := qi) (fs := ids) (fd := f0) (by decide)) $$ [Hi H0 R0 HO]
  · simp only [Memref.view_whole, View.set_whole]
    isplitl [Hi]; · iexact Hi
    isplitl [H0]; · iexact H0
    isplitl [R0]; · iexact R0
    isplitl [HO]; · iexact HO
    iexact Hmw
  simp only [Memref.view_whole, View.set_whole, View.write_whole_univ, View.read_whole]
  iintro ⟨H0, Hi, R0, HO⟩
  iapply (t1_loop_wp I) $$ H0
  iintro %u %hu H0
  iapply (t2_loop_wp I) $$ H0
  iintro %v %hv H0
  iapply (Reads.use (Reads.load (thr := tileThr d i) (mr := Memref.whole cc0_scratch1) (f := f1))) $$ H1
  iintro H1
  iapply (wp_store (defs := defs₀ (F := F)) 𝒱₀ (tileThr d i) none Set.univ (m := Memref.whole cc0_scratch1) (r := Rect.unit (s := S48) ![0] S16.size inb_S48_S16_0) (Mk := Finset.univ) (f := f1) (Finset.subset_univ _)) $$ H1
  iintro H1
  iapply (Reads.use (Reads.load (thr := tileThr d i) (mr := Memref.whole cc0_scratch1))) $$ H1
  iintro H1
  iapply (wp_store (defs := defs₀ (F := F)) 𝒱₀ (tileThr d i) none Set.univ (m := Memref.whole cc0_scratch1) (r := Rect.unit (s := S48) ![16] S16.size inb_S48_S16_16) (Mk := Finset.univ) (Finset.subset_univ _)) $$ H1
  iintro H1
  iapply (Reads.use (Reads.load (thr := tileThr d i) (mr := Memref.whole cc0_scratch6) (f := f6))) $$ H6
  iintro H6
  iapply (wp_store (defs := defs₀ (F := F)) 𝒱₀ (tileThr d i) none Set.univ (m := Memref.whole cc0_scratch6) (r := Rect.unit (s := S16) ![0] S16.size inb_S16_S16_0) (Mk := Finset.univ) (f := f6) (Finset.subset_univ _)) $$ H6
  iintro H6
  ihave H6 := (Entails.of_eq (congrArg (fun f => ((tileThr d i).loc cc0_scratch6 ↦{fullShare} f : sProp 𝕄)) (cnt_store (f := f6) (w := k0_pay1937 (F := F) u.1 v.1)))) $$ H6
  iapply (sync_wp (thr := tileThr d i) (src := (Memref.whole cc0_scratch6 : Memref sig .scVector .vmem S16 .f32)) (dst := cntM i)
    (q := fullShare) (fs := k0_pay1937 (F := F) u.1 v.1) (fd := fC) (by decide)) $$ [HC H6 R1 HO]
  · simp only [Memref.view_whole, View.set_whole]
    isplitl [H6]; · iexact H6
    isplitl [HC]; · iexact HC
    isplitl [R1]; · iexact R1
    isplitl [HO]; · iexact HO
    iexact Hmw
  simp only [Memref.view_whole, View.set_whole, View.read_whole]
  iintro ⟨HC, H6, R1, HO⟩
  ihave HC := (Entails.of_eq (pointsTo_congr (cnt_lands I hu hv fC))) $$ HC
  ihave H4 := (PutS.start (P := sumsOf X (fun t => sLo b (16 * wid i + t)) (fun t => sHi b (16 * wid i + t)))) $$ H4
  ihave H5 := (PutM.start (P := maxsOf X (fun t => sLo b (16 * wid i + t)) (fun t => sHi b (16 * wid i + t)))) $$ H5
  have hseg := segs_of I (offs_read (F := F) (g := f1) (u := u.1) (v := v.1) (h0 := inb_S48_S16_0) (h1 := inb_S48_S16_16)) hu hv
  iapply (t3_loop_wp hseg) $$ [H1 H2 H3 H4 H5 HO V7 V8 Hxa Hxb]
  · iapply (SegInv.intro (W := W))
    isplitr; · iexact Hmw
    isplitl [H1]; · iexact H1
    unfold IdleA IdleB Owed
    isplitl [H2 V7 Hxa]
    · isplitl [H2]; · iexact H2
      isplitl [V7]; · iexact V7
      iexact Hxa
    isplitl [H3 V8 Hxb]
    · isplitl [H3]; · iexact H3
      isplitl [V8]; · iexact V8
      iexact Hxb
    isplitl [HO]
    · iexists _
      isplitr
      rotate_left
      · iexact HO
      · ipureintro; exact w_insert (w_insert fun p h => Or.inl h)
    isplitl [H4]; · iexact H4
    iexact H5
  iintro Hinv
  ihave Hinv := SegInv.elim $$ Hinv
  icases Hinv with ⟨-, H1, HA, HB, HO, H4, H5⟩
  unfold IdleA IdleB Owed
  icases HA with ⟨H2, V7, Hxa⟩
  icases HB with ⟨H3, V8, Hxb⟩
  icases HO with ⟨%W', %hW, HO⟩
  ihave H4 := PutS.elim $$ H4
  icases H4 with ⟨%g4, %h4, H4⟩
  ihave H5 := PutM.elim $$ H5
  icases H5 with ⟨%g5, %h5, H5⟩
  iapply (sync_wp (thr := tileThr d i) (src := (Memref.whole cc0_scratch4 : Memref sig .scVector .vmem S16x256 .f32)) (dst := sumM i)
    (q := fullShare) (fs := g4) (fd := fS) (by decide)) $$ [HS H4 R2 HO]
  · simp only [Memref.view_whole, View.set_whole]
    isplitl [H4]; · iexact H4
    isplitl [HS]; · iexact HS
    isplitl [R2]; · iexact R2
    isplitl [HO]; · iexact HO
    iexact Hmw
  simp only [Memref.view_whole, View.set_whole, View.read_whole]
  iintro ⟨HS, H4, R2, HO⟩
  ihave HS := (Entails.of_eq (pointsTo_congr (sum_lands h4 fS))) $$ HS
  iapply (sync_wp (thr := tileThr d i) (src := (Memref.whole cc0_scratch5 : Memref sig .scVector .vmem S16x256 .f32)) (dst := maxM i)
    (q := fullShare) (fs := g5) (fd := fM) (by decide)) $$ [HM H5 R3 HO]
  · simp only [Memref.view_whole, View.set_whole]
    isplitl [H5]; · iexact H5
    isplitl [HM]; · iexact HM
    isplitl [R3]; · iexact R3
    isplitl [HO]; · iexact HO
    iexact Hmw
  simp only [Memref.view_whole, View.set_whole, View.read_whole]
  iintro ⟨HM, H5, R3, HO⟩
  ihave HM := (Entails.of_eq (pointsTo_congr (max_lands h5 fM))) $$ HM
  rw [wp_pure]; imodintro
  isplitl [Hxa Hxb Hi HS HM HC]
  · isplitl [Hxa]; · iexact Hxa
    isplitl [Hxb]; · iexact Hxb
    isplitl [Hi]; · iexact Hi
    isplitl [HS]; · iexact HS
    isplitl [HM]; · iexact HM
    iexact HC
  isplitl [H0 H1 H2 H3 H4 H5 H6]
  · isplitl [H0]; · iexists _; iexact H0
    isplitl [H1]; · iexists _; iexact H1
    isplitl [H2]; · iexact H2
    isplitl [H3]; · iexact H3
    isplitl [H4]; · iexists _; iexact H4
    isplitl [H5]; · iexists _; iexact H5
    iexists _; iexact H6
  isplitl [V7 V8 R0 R1 R2 R3]
  · isplitl [V7]; · iexact V7
    isplitl [V8]; · iexact V8
    isplitl [R0]; · iexact R0
    isplitl [R1]; · iexact R1
    isplitl [R2]; · iexact R2
    iexact R3
  iexists _
  isplitr
  rotate_left
  · iexact HO
  · ipureintro; exact w_insert (w_insert hW)

end Cert.Proof.Pool
-- ==== Proof.Finish.lean ====
module

public import proofs.«01_k».proof.Proof.Tile
public import proofs.«01_k».proof.Proof.Gen.KernelIdeal.Launch
public import proofs.«01_k».proof.Proof.Gen.KernelIdeal.Points
public import Idealize.ShloMosaic.Lib.Pipeline.RegionsLoop

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ
variable [FloatOps F]
open Idealize.ShloMosaic.Pipeline (Dat Cfg Window BodyObligation cellOf)
open Idealize.ShloMosaic.TcCoe

/-! ## The TensorCore call: mean, maximum and sum through the dense layer, the normalisation and the activation -/

/-- The 256 rows of the dense layer's weights from row `o` on. -/
def wRows (W : FVec F S768x256 .f32) (o : ℕ) (h : ∀ a, (![o, 0] : Fin 2 → ℕ) a + S256x256.size a ≤ S768x256.size a) : Vec F S256x256 .f32 :=
  fun j => W ((Rect.unit (s := S768x256) ![o, 0] S256x256.size h).emb j)

/-- What the call writes, from the arrays it reads. -/
def finV (s mx : Vec F S512x256 .f32) (n : Vec F S512x1 .f32) (W : Vec F S768x256 .f32) (b g be : Vec F S1x256 .f32) : FVec F S512x256 .f32 :=
  k1_pay1
    (k1_pay2 s mx n (wRows W 0 inb_S768x256_S256x256_0_0) (wRows W 256 inb_S768x256_S256x256_256_0) (wRows W 512 inb_S768x256_S256x256_512_0) b)
    (k1_pay3 s mx n (wRows W 0 inb_S768x256_S256x256_0_0) (wRows W 256 inb_S768x256_S256x256_256_0) (wRows W 512 inb_S768x256_S256x256_512_0) b)
    (k1_pay4 s mx n (wRows W 0 inb_S768x256_S256x256_0_0) (wRows W 256 inb_S768x256_S256x256_256_0) (wRows W 512 inb_S768x256_S256x256_512_0) b)
    k1_pay5 g be

/-- A memref's buffer contents on core `c`, and the buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

omit [FloatOps F] in
theorem unit_emb {S : Shape} {off : Fin S.rank → ℕ} (h : ∀ a, off a + S.size a ≤ S.size a) (j : S.Idx) :
    (Rect.unit (s := S) off S.size h).emb j = j := by
  funext a; apply Fin.ext
  have h1 := h a
  show off a + 1 * (j a).val = (j a).val
  omega

omit [FloatOps F] in
theorem rd0 (f : Vec F S512x256 .f32) :
    View.readAt (Elt F) (Memref.whole cc1_stg0_0 : Memref sig .tc .vmem S512x256 .f32).view (Rect.unit (s := S512x256) ![0, 0] ![512, 256] inb_S512x256_S512x256_0_0).toLoadRect f = f :=
  funext fun j => congrArg f (unit_emb (S := S512x256) inb_S512x256_S512x256_0_0 j)
omit [FloatOps F] in
theorem rd1 (f : Vec F S512x256 .f32) :
    View.readAt (Elt F) (Memref.whole cc1_stg1_0 : Memref sig .tc .vmem S512x256 .f32).view (Rect.unit (s := S512x256) ![0, 0] ![512, 256] inb_S512x256_S512x256_0_0).toLoadRect f = f :=
  funext fun j => congrArg f (unit_emb (S := S512x256) inb_S512x256_S512x256_0_0 j)
omit [FloatOps F] in
theorem rd2 (f : Vec F S512x1 .f32) :
    View.readAt (Elt F) (Memref.whole cc1_stg2_0 : Memref sig .tc .vmem S512x1 .f32).view (Rect.unit (s := S512x1) ![0, 0] ![512, 1] inb_S512x1_S512x1_0_0).toLoadRect f = f :=
  funext fun j => congrArg f (unit_emb (S := S512x1) inb_S512x1_S512x1_0_0 j)
omit [FloatOps F] in
theorem rd4 (f : Vec F S1x256 .f32) :
    View.readAt (Elt F) (Memref.whole cc1_stg4_0 : Memref sig .tc .vmem S1x256 .f32).view (Rect.unit (s := S1x256) ![0, 0] ![1, 256] inb_S1x256_S1x256_0_0).toLoadRect f = f :=
  funext fun j => congrArg f (unit_emb (S := S1x256) inb_S1x256_S1x256_0_0 j)
omit [FloatOps F] in
theorem rd5 (f : Vec F S1x256 .f32) :
    View.readAt (Elt F) (Memref.whole cc1_stg5_0 : Memref sig .tc .vmem S1x256 .f32).view (Rect.unit (s := S1x256) ![0, 0] ![1, 256] inb_S1x256_S1x256_0_0).toLoadRect f = f :=
  funext fun j => congrArg f (unit_emb (S := S1x256) inb_S1x256_S1x256_0_0 j)
omit [FloatOps F] in
theorem rd6 (f : Vec F S1x256 .f32) :
    View.readAt (Elt F) (Memref.whole cc1_stg6_0 : Memref sig .tc .vmem S1x256 .f32).view (Rect.unit (s := S1x256) ![0, 0] ![1, 256] inb_S1x256_S1x256_0_0).toLoadRect f = f :=
  funext fun j => congrArg f (unit_emb (S := S1x256) inb_S1x256_S1x256_0_0 j)
omit [FloatOps F] in
theorem rd3 (f : Vec F S768x256 .f32) (o : ℕ) (h : ∀ a, (![o, 0] : Fin 2 → ℕ) a + S256x256.size a ≤ S768x256.size a) :
    View.readAt (Elt F) (Memref.whole cc1_stg3_0 : Memref sig .tc .vmem S768x256 .f32).view (Rect.unit (s := S768x256) ![o, 0] ![256, 256] h).toLoadRect f = wRows f o h := rfl
/-- A store over the whole of a view is read back. -/
theorem read_stored {κ : Kind} {sp : Space} {s : Shape} {e : EltTy} {Val : EltTy → Type} (v : View sig κ sp s e) (f : v.ty.Contents Val)
    {off : Fin s.rank → ℕ} (h : ∀ a, off a + s.size a ≤ s.size a) (w : s.Idx → Val e) :
    v.read Val (v.writes Val f [⟨Rect.unit off s.size h, w⟩]) = w := by
  funext i
  have hr := View.read_writes_cons_emb (v := v) (f := f) (Rect.unit off s.size h) w [] i
  rwa [unit_emb (S := s) h i] at hr

/-- The call's body, from its eight staging buffers held whole: the seven it reads come back as they were, the eighth
    at `finV` of them. -/
theorem body_wp (c : Dev nD) (f0 : Vec F S512x256 .f32) (f1 : Vec F S512x256 .f32) (f2 : Vec F S512x1 .f32) (f3 : Vec F S768x256 .f32) (f4 : Vec F S1x256 .f32) (f5 : Vec F S1x256 .f32) (f6 : Vec F S1x256 .f32) (f7 : Vec F S512x256 .f32) (E : Set ℕ) (Q : PUnit → sProp 𝕄) :
    iprop(pt c (Memref.whole cc1_stg0_0 : Memref sig .tc .vmem S512x256 .f32) f0 ∗ pt c (Memref.whole cc1_stg1_0 : Memref sig .tc .vmem S512x256 .f32) f1 ∗ pt c (Memref.whole cc1_stg2_0 : Memref sig .tc .vmem S512x1 .f32) f2 ∗ pt c (Memref.whole cc1_stg3_0 : Memref sig .tc .vmem S768x256 .f32) f3 ∗ pt c (Memref.whole cc1_stg4_0 : Memref sig .tc .vmem S1x256 .f32) f4 ∗ pt c (Memref.whole cc1_stg5_0 : Memref sig .tc .vmem S1x256 .f32) f5 ∗ pt c (Memref.whole cc1_stg6_0 : Memref sig .tc .vmem S1x256 .f32) f6 ∗ pt c (Memref.whole cc1_stg7_0 : Memref sig .tc .vmem S512x256 .f32) f7
        ∗ (iprop(pt c (Memref.whole cc1_stg0_0 : Memref sig .tc .vmem S512x256 .f32) f0 ∗ pt c (Memref.whole cc1_stg1_0 : Memref sig .tc .vmem S512x256 .f32) f1 ∗ pt c (Memref.whole cc1_stg2_0 : Memref sig .tc .vmem S512x1 .f32) f2 ∗ pt c (Memref.whole cc1_stg3_0 : Memref sig .tc .vmem S768x256 .f32) f3 ∗ pt c (Memref.whole cc1_stg4_0 : Memref sig .tc .vmem S1x256 .f32) f4 ∗ pt c (Memref.whole cc1_stg5_0 : Memref sig .tc .vmem S1x256 .f32) f5 ∗ pt c (Memref.whole cc1_stg6_0 : Memref sig .tc .vmem S1x256 .f32) f6 ∗ pt c (Memref.whole cc1_stg7_0 : Memref sig .tc .vmem S512x256 .f32) (finV f0 f1 f2 f3 f4 f5 f6)) -∗ Q ⟨⟩))
      ⊢ wp frame (wpE (defs₀ (F := F)) Variants.none c none) E (cc1__finalize_body (Memref.whole cc1_stg0_0 : Memref sig .tc .vmem S512x256 .f32) (hstage1_0 0) (Memref.whole cc1_stg1_0 : Memref sig .tc .vmem S512x256 .f32) (hstage1_1 0) (Memref.whole cc1_stg2_0 : Memref sig .tc .vmem S512x1 .f32) (hstage1_2 0) (Memref.whole cc1_stg3_0 : Memref sig .tc .vmem S768x256 .f32) (hstage1_3 0) (Memref.whole cc1_stg4_0 : Memref sig .tc .vmem S1x256 .f32) (hstage1_4 0) (Memref.whole cc1_stg5_0 : Memref sig .tc .vmem S1x256 .f32) (hstage1_5 0) (Memref.whole cc1_stg6_0 : Memref sig .tc .vmem S1x256 .f32) (hstage1_6 0) (Memref.whole cc1_stg7_0 : Memref sig .tc .vmem S512x256 .f32) (hstage1_7 0)) Q := by
  rw [cc1__finalize_body_eq_skeleton]; unfold cc1__finalize_body_skel
  rw [k1_part1_eq_skeleton]; unfold k1_part1_skel
  simp only [bind_assoc, pure_bind]
  iintro ⟨H0, H1, H2, H3, H4, H5, H6, H7, Hk⟩
  sl_exec!
  sl_step
  iapply Hk
  have e : (Memref.whole cc1_stg7_0 : Memref sig .tc .vmem S512x256 .f32).view.writes (Elt F) (Memref.whole cc1_stg7_0 : Memref sig .tc .vmem S512x256 .f32).view.junk
      (body_wp.sl.H7_1 f0 f1 f2 f3 f4 f5 f6) = finV f0 f1 f2 f3 f4 f5 f6 := by
    unfold body_wp.sl.H7_1
    rw [rd0 f0, rd1 f1, rd2 f2, rd3 f3 0, rd3 f3 256, rd3 f3 512, rd4 f4, rd5 f5, rd6 f6]
    refine Eq.trans (read_stored (Val := Elt F) (Memref.whole cc1_stg7_0 : Memref sig .tc .vmem S512x256 .f32).view _ inb_S512x256_S512x256_0_0 _) ?_
    rfl
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (Entails.of_eq (congrArg (fun f : Vec F S512x256 .f32 => pt (F := F) c (Memref.whole cc1_stg7_0 : Memref sig .tc .vmem S512x256 .f32) f) e)) $$ H7

end Cert.Proof.Pool

end
-- ==== Proof.Region.lean ====
module

public import proofs.«01_k».proof.Proof.Finish

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ
variable [FloatOps F]
open Idealize.ShloMosaic.Pipeline (Dat Cfg Window BodyObligation cellOf)
open Idealize.ShloMosaic.TcCoe

/-! ## The TensorCore call as a region of the program -/

abbrev adm : (p : Fin 1) → (pcfgs (F := F) p).Adm := fun p => (cfgs p).toPCfg_adm

/-- The handshakes' rounds and the staging transfers' rounds, each in its place of the resource algebra. -/
abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

variable (V : (c : Dev nD) → (b : Ref sig .tc) → Buf (Elt F) ((c : Thread nD τ).loc b))

/-- The result at a valuation of the arrays. -/
def finAt (c : Dev nD) : Vec F S512x256 .f32 :=
  finV (V c main_v2_0) (V c main_v2_1) (V c main_v3) (V c main_arg2) (V c main_v4) (V c main_v5) (V c main_v6)

/-- The region's data at a valuation: the arrays read come back as they were, the result is `finAt`. -/
def dat (c : Dev nD) : Dat τ (Elt F) (HIx 1) ℕ UU ℕ cfg1 c where
  A w := V c (Pipeline.arrRef spec1 w)
  after w _ := match w with
    | ⟨0, _⟩ => V c main_v2_0
    | ⟨1, _⟩ => V c main_v2_1
    | ⟨2, _⟩ => V c main_v3
    | ⟨3, _⟩ => V c main_arg2
    | ⟨4, _⟩ => V c main_v4
    | ⟨5, _⟩ => V c main_v5
    | ⟨6, _⟩ => V c main_v6
    | ⟨7, _⟩ => finAt V c
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ 8}

def pdats : (p : Fin 1) → (c : Dev nD) → Dat τ (Elt F) (HIx 1) ℕ UU ℕ (Pipeline.pin (pcfgs (F := F)) adm p) c
  | ⟨0, _⟩ => fun c => dat V c

theorem before_0 (c : Dev nD) (d : (cfg1.win 0).block.Idx → Elt F (cfg1.win 0).elt) : (dat V c).before 0 t1_0 d = V c main_v2_0 := by
  unfold Dat.before; rw [if_pos (fetch1_0 _)]
  refine (show _ = ((cfg1.win 0).blk t1_0).view.read (Elt F) (V c main_v2_0) from rfl).trans (funext fun j => ?_)
  exact congrArg (V c main_v2_0) (funext fun a => Fin.ext (show 0 * _ + 1 * (j a).val = (j a).val by omega))
theorem before_1 (c : Dev nD) (d : (cfg1.win 1).block.Idx → Elt F (cfg1.win 1).elt) : (dat V c).before 1 t1_0 d = V c main_v2_1 := by
  unfold Dat.before; rw [if_pos (fetch1_1 _)]
  refine (show _ = ((cfg1.win 1).blk t1_0).view.read (Elt F) (V c main_v2_1) from rfl).trans (funext fun j => ?_)
  exact congrArg (V c main_v2_1) (funext fun a => Fin.ext (show 0 * _ + 1 * (j a).val = (j a).val by omega))
theorem before_2 (c : Dev nD) (d : (cfg1.win 2).block.Idx → Elt F (cfg1.win 2).elt) : (dat V c).before 2 t1_0 d = V c main_v3 := by
  unfold Dat.before; rw [if_pos (fetch1_2 _)]
  refine (show _ = ((cfg1.win 2).blk t1_0).view.read (Elt F) (V c main_v3) from rfl).trans (funext fun j => ?_)
  exact congrArg (V c main_v3) (funext fun a => Fin.ext (show 0 * _ + 1 * (j a).val = (j a).val by omega))
theorem before_3 (c : Dev nD) (d : (cfg1.win 3).block.Idx → Elt F (cfg1.win 3).elt) : (dat V c).before 3 t1_0 d = V c main_arg2 := by
  unfold Dat.before; rw [if_pos (fetch1_3 _)]
  refine (show _ = ((cfg1.win 3).blk t1_0).view.read (Elt F) (V c main_arg2) from rfl).trans (funext fun j => ?_)
  exact congrArg (V c main_arg2) (funext fun a => Fin.ext (show 0 * _ + 1 * (j a).val = (j a).val by omega))
theorem before_4 (c : Dev nD) (d : (cfg1.win 4).block.Idx → Elt F (cfg1.win 4).elt) : (dat V c).before 4 t1_0 d = V c main_v4 := by
  unfold Dat.before; rw [if_pos (fetch1_4 _)]
  refine (show _ = ((cfg1.win 4).blk t1_0).view.read (Elt F) (V c main_v4) from rfl).trans (funext fun j => ?_)
  exact congrArg (V c main_v4) (funext fun a => Fin.ext (show 0 * _ + 1 * (j a).val = (j a).val by omega))
theorem before_5 (c : Dev nD) (d : (cfg1.win 5).block.Idx → Elt F (cfg1.win 5).elt) : (dat V c).before 5 t1_0 d = V c main_v5 := by
  unfold Dat.before; rw [if_pos (fetch1_5 _)]
  refine (show _ = ((cfg1.win 5).blk t1_0).view.read (Elt F) (V c main_v5) from rfl).trans (funext fun j => ?_)
  exact congrArg (V c main_v5) (funext fun a => Fin.ext (show 0 * _ + 1 * (j a).val = (j a).val by omega))
theorem before_6 (c : Dev nD) (d : (cfg1.win 6).block.Idx → Elt F (cfg1.win 6).elt) : (dat V c).before 6 t1_0 d = V c main_v6 := by
  unfold Dat.before; rw [if_pos (fetch1_6 _)]
  refine (show _ = ((cfg1.win 6).blk t1_0).view.read (Elt F) (V c main_v6) from rfl).trans (funext fun j => ?_)
  exact congrArg (V c main_v6) (funext fun a => Fin.ext (show 0 * _ + 1 * (j a).val = (j a).val by omega))

/-- The body's obligation: from the eight staging buffers to the same, the last at the result. -/
theorem body_obligation (c : Dev nD) : BodyObligation (dat V c) (defs₀ (F := F)) 𝒱₀ (none : HIx 1) Set.univ := fun t => by
  obtain rfl := fin_N1 t
  rw [bigSep_W1, bigSep_W1]
  simp only [owns_whole_eq]
  rw [show (dat V c).Φ t1_0.succ = (dat V c).Φ t1_0.castSucc from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, -, H7⟩⟩
  rw [before_0, before_1, before_2, before_3, before_4, before_5, before_6] at *
  subst hf0 hf1 hf2 hf3 hf4 hf5 hf6
  iapply (body_wp c (V c main_v2_0) (V c main_v2_1) (V c main_v3) (V c main_arg2) (V c main_v4) (V c main_v5) (V c main_v6) f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  iexists _; isplitr; swap; (· iexact H7); ipureintro; dsimp only [dat]; rfl

/-- What the region leaves in the result's array. -/
theorem arr_7 (c : Dev nD) : (dat V c).arrAt 7 cfg1.N = finAt V c := by
  refine Dat.arrAt_eq_of_cover (dat V c) 7 (finAt V c) (fun t _ => ?_) (fun i => ⟨t1_0, flush1_7 _, ?_⟩)
  · obtain rfl := fin_N1 t
    refine (show _ = finAt V c from rfl).trans (Eq.symm (funext fun j => ?_))
    exact congrArg (finAt V c) (funext fun a => Fin.ext (show 0 * _ + 1 * (j a).val = (j a).val by omega))
  · refine Finset.mem_map.mpr ⟨i, Finset.mem_univ _, funext fun a => Fin.ext (show 0 * _ + 1 * (i a).val = (i a).val by omega)⟩

variable (Vp : (c : Dev nD) → (b : Ref sig .tc) → Buf (Elt F) ((c : Thread nD τ).loc b))

set_option backward.isDefEq.respectTransparency.types false in
/-- The region at one entry: from the arrays at `V` to the arrays at `Vp`, which differs at the result alone. -/
def reg (R : Dev nD → sProp 𝕄) (hVp_out : ∀ c, Vp c main_v7 = finAt V c)
    (hVp_ne : ∀ c (b : Ref sig .tc), b ≠ main_v7 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ ∃ W, ⌜(K (F := F)).WBelow (c : Thread nD τ) W 8⌝ ∗ owes (c : Thread nD τ) (0 : CellTallies nD τ sig (HIx 1)) W)
  post c := iprop(unscopedBufs c (Vp c) ∗ R c ∗ ∃ W, ⌜(K (F := F)).WBelow (c : Thread nD τ) W 8⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v2_0 (by decide)).symm
        · exact ((pdats V 0 c).arrAt_in 1 rfl _).trans (hVp_ne c main_v2_1 (by decide)).symm
        · exact ((pdats V 0 c).arrAt_in 2 rfl _).trans (hVp_ne c main_v3 (by decide)).symm
        · exact ((pdats V 0 c).arrAt_in 3 rfl _).trans (hVp_ne c main_arg2 (by decide)).symm
        · exact ((pdats V 0 c).arrAt_in 4 rfl _).trans (hVp_ne c main_v4 (by decide)).symm
        · exact ((pdats V 0 c).arrAt_in 5 rfl _).trans (hVp_ne c main_v5 (by decide)).symm
        · exact ((pdats V 0 c).arrAt_in 6 rfl _).trans (hVp_ne c main_v6 (by decide)).symm
        · exact (arr_7 V c).trans (hVp_out c).symm)
      (fun b hb => hVp_ne c b fun h => hb (h ▸ Finset.mem_image.mpr ⟨7, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Pool

end
-- ==== Proof.Deal.lean ====
module

public import proofs.«01_k».proof.Proof.Region

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ
variable [FloatOps F]

/-! ## The arrays dealt to the thirty-two tiles -/

/-- The coordinates of the tile on SparseCore `c`, vector subcore `s`. -/
def cI (c : Fin 2) (s : Fin 16) : grid0.Coords :=
  fun | 0 => c | 1 => s | ⟨_ + 2, h⟩ => absurd h (Nat.not_lt.2 (Nat.le_add_left _ _))

theorem wid_cI (c : Fin 2) (s : Fin 16) : wid (cI c s) = 2 * s.val + c.val := rfl

/-- The shares of `x` and of the padded ids a tile is dealt: one per SparseCore, of it one per subcore, of `x`'s two. -/
def qc (c : Fin 2) : PosShare TreeShare := Transfers.dealOf fullShare Finset.univ c
def qt (c : Fin 2) (s : Fin 16) : PosShare TreeShare := Transfers.dealOf (qc c) Finset.univ s
def qx (c : Fin 2) (s : Fin 16) (k : Fin 2) : PosShare TreeShare := Transfers.dealOf (qt c s) Finset.univ k

theorem deal2 {ℓ : Loc nD τ sig} (f : Buf (Elt F) ℓ) :
    (ℓ ↦{fullShare} f : sProp 𝕄) = bigSep Finset.univ fun c : Fin 2 => bigSep Finset.univ fun s : Fin 16 => ℓ ↦{qt c s} f := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ (qc c)

theorem deal3 {ℓ : Loc nD τ sig} (f : Buf (Elt F) ℓ) (c : Fin 2) (s : Fin 16) :
    (ℓ ↦{qt c s} f : sProp 𝕄) = iprop((ℓ ↦{qx c s 0} f) ∗ (ℓ ↦{qx c s 1} f)) := by
  rw [Transfers.pointsTo_deal (Finset.univ : Finset (Fin 2)) ⟨0, Finset.mem_univ _⟩ (qt c s)]
  exact BI.bigSep_fin_two _

theorem mem_sumM (i : grid0.Coords) (x : S512x256.Idx) : x ∈ (sumM i).view.set ↔ (x 0).val / 16 = wid i := by
  have h := k0_off281_eq i
  have hb := base_eq i
  have e : (sumM i).view.set = (Rect.unit (s := S512x256) (k0_off281 i) S16x256.size (k0_off281_inb i)).set := by
    show ((View.whole (main_v2_0_scv : Ref sig .scVector)).slice _).set = _
    rw [View.set_slice]; exact Finset.map_refl
  rw [e, Rect.mem_set_unit, h]
  constructor
  · intro k
    have k0 := k 0
    change 32 * (i 1).val + 16 * (i 0).val ≤ (x 0).val ∧ (x 0).val < 32 * (i 1).val + 16 * (i 0).val + 16 at k0
    omega
  · intro k a
    match a with
    | 0 => show 32 * (i 1).val + 16 * (i 0).val ≤ (x 0).val ∧ (x 0).val < 32 * (i 1).val + 16 * (i 0).val + 16; omega
    | 1 => show 0 ≤ (x 1).val ∧ (x 1).val < 0 + 256; have : (x 1).val < 256 := (x 1).isLt; omega

theorem mem_maxM (i : grid0.Coords) (x : S512x256.Idx) : x ∈ (maxM i).view.set ↔ (x 0).val / 16 = wid i := mem_sumM i x

theorem mem_cntM (i : grid0.Coords) (x : S512.Idx) : x ∈ (cntM i).view.set ↔ (x 0).val / 16 = wid i := by
  have h := k0_off1_eq i
  have hb := base_eq i
  have e : (cntM i).view.set = (Rect.unit (s := S512) (k0_off1 i) S16.size (k0_off1_inb i)).set := by
    show ((View.whole (main_v2_2_scv : Ref sig .scVector)).slice _).set = _
    rw [View.set_slice]; exact Finset.map_refl
  rw [e, Rect.mem_set_unit, h]
  constructor
  · intro k
    have k0 := k 0
    change 32 * (i 1).val + 16 * (i 0).val ≤ (x 0).val ∧ (x 0).val < 32 * (i 1).val + 16 * (i 0).val + 16 at k0
    omega
  · intro k a
    match a with
    | 0 => show 32 * (i 1).val + 16 * (i 0).val ≤ (x 0).val ∧ (x 0).val < 32 * (i 1).val + 16 * (i 0).val + 16; omega

/-- A whole buffer is its thirty-two parts, part `2 s + c` being tile `(c, s)`'s. -/
theorem parts {ℓ : Loc nD τ sig} (f : Buf (Elt F) ℓ) (row : Idx ℓ → ℕ) (hrow : ∀ x, row x < 32) (S : Fin 2 → Fin 16 → Finset (Idx ℓ))
    (hS : ∀ c s x, x ∈ S c s ↔ row x = wid (cI c s)) :
    (ℓ ↦{fullShare} f : sProp 𝕄) = bigSep Finset.univ fun c : Fin 2 => bigSep Finset.univ fun s : Fin 16 => ℓ ↦[S c s]{fullShare} f := by
  classical
  rw [← bigSep_univ_prod (fun p : Fin 2 × Fin 16 => (ℓ ↦[S p.1 p.2]{fullShare} f : sProp 𝕄)),
    ← pointsTo_biUnion Finset.univ (ℓ := ℓ) (fun p : Fin 2 × Fin 16 => S p.1 p.2)]
  · congr 1
    refine (Finset.eq_univ_iff_forall.mpr fun x => ?_).symm
    have := hrow x
    refine Finset.mem_biUnion.mpr ⟨(⟨row x % 2, by omega⟩, ⟨row x / 2, by omega⟩), Finset.mem_univ _, (hS _ _ _).mpr ?_⟩
    rw [wid_cI]; show row x = 2 * (row x / 2) + row x % 2; omega
  · rintro ⟨c, s⟩ - ⟨c', s'⟩ - hne
    refine Finset.disjoint_left.mpr fun x h h' => hne ?_
    have e := ((hS _ _ _).mp h).symm.trans ((hS _ _ _).mp h')
    rw [wid_cI, wid_cI] at e
    change 2 * s.val + c.val = 2 * s'.val + c'.val at e
    exact Prod.ext (Fin.ext (by show c.val = c'.val; omega)) (Fin.ext (by show s.val = s'.val; omega))

theorem row512 (x : S512x256.Idx) : (x 0).val / 16 < 32 := by have : (x 0).val < 512 := (x 0).isLt; omega
theorem row512' (x : S512.Idx) : (x 0).val / 16 < 32 := by have : (x 0).val < 512 := (x 0).isLt; omega

/-- What one SparseCore is handed and hands back. -/
def CorePay (d : Dev nD) (c : Fin 2) (X : FVec F S50000x256 .f32) (ids : IVec S50184 32) (fS fM : FVec F S512x256 .f32) (fC : FVec F S512 .f32) : sProp 𝕄 :=
  bigSep Finset.univ fun s : Fin 16 => TilePay d (cI c s) X ids (qx c s 0) (qx c s 1) (qt c s) fS fM fC

theorem sep_assoc3 {A B C : sProp 𝕄} : (iprop(A ∗ B ∗ C) : sProp 𝕄) = iprop((A ∗ B) ∗ C) := by
  have h1 : (iprop(A ∗ B ∗ C) : sProp 𝕄) ⊢ iprop((A ∗ B) ∗ C) := by
    iintro ⟨A, B, C⟩
    isplitl [A B]
    · isplitl [A]; · iexact A
      iexact B
    iexact C
  have h2 : (iprop((A ∗ B) ∗ C) : sProp 𝕄) ⊢ iprop(A ∗ B ∗ C) := by
    iintro ⟨⟨A, B⟩, C⟩
    isplitl [A]; · iexact A
    isplitl [B]; · iexact B
    iexact C
  exact BI.Entails.antisymm h1 h2

/-- What the two SparseCores are handed is the five arrays whole. -/
theorem pay_all (d : Dev nD) (X : FVec F S50000x256 .f32) (ids : IVec S50184 32) (fS fM : FVec F S512x256 .f32) (fC : FVec F S512 .f32) :
    (bigSep Finset.univ fun c : Fin 2 => CorePay d c X ids fS fM fC)
      = (iprop(((SparseCore.T d).loc main_arg0 ↦{fullShare} X) ∗ ((SparseCore.T d).loc main_v1 ↦{fullShare} ids)
        ∗ ((SparseCore.T d).loc main_v2_0 ↦{fullShare} fS) ∗ ((SparseCore.T d).loc main_v2_1 ↦{fullShare} fM)
        ∗ ((SparseCore.T d).loc main_v2_2 ↦{fullShare} fC)) : sProp 𝕄) := by
  have e : ∀ c s, (TilePay d (cI c s) X ids (qx c s 0) (qx c s 1) (qt c s) fS fM fC : sProp 𝕄)
      = iprop(((SparseCore.T d).loc main_arg0 ↦{qt c s} X) ∗ ((SparseCore.T d).loc main_v1 ↦{qt c s} ids)
        ∗ ((SparseCore.T d).loc main_v2_0 ↦[(sumM (cI c s)).view.set]{fullShare} fS) ∗ ((SparseCore.T d).loc main_v2_1 ↦[(maxM (cI c s)).view.set]{fullShare} fM)
        ∗ ((SparseCore.T d).loc main_v2_2 ↦[(cntM (cI c s)).view.set]{fullShare} fC)) := fun c s => by
    rw [deal3 (ℓ := (SparseCore.T d).loc main_arg0) X c s]
    unfold TilePay
    exact sep_assoc3
  unfold CorePay
  simp only [e, bigSep_sep']
  rw [← deal2 (ℓ := (SparseCore.T d).loc main_arg0) X, ← deal2 (ℓ := (SparseCore.T d).loc main_v1) ids,
    ← parts (ℓ := (SparseCore.T d).loc main_v2_0) fS (fun x : S512x256.Idx => (x 0).val / 16) row512 (fun c s => (sumM (cI c s)).view.set) fun c s x => mem_sumM _ x,
    ← parts (ℓ := (SparseCore.T d).loc main_v2_1) fM (fun x : S512x256.Idx => (x 0).val / 16) row512 (fun c s => (maxM (cI c s)).view.set) fun c s x => mem_maxM _ x,
    ← parts (ℓ := (SparseCore.T d).loc main_v2_2) fC (fun x : S512.Idx => (x 0).val / 16) row512' (fun c s => (cntM (cI c s)).view.set) fun c s x => mem_cntM _ x]

end Cert.Proof.Pool

end
-- ==== Proof.Launch.lean ====
module

public import proofs.«01_k».proof.Proof.Deal

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic
open Idealize.ShloMosaic.SparseCore.Cfg (ownBufs ownSems0 ownCells ownRefs mem_ownCells mem_ownRefs mem_ownRefs_of_owner)

variable {F : FTy → Type}

local notation "𝕄" => MT nD τ sig (HIx 1) (Elt F) ℕ UU ℕ
variable [FloatOps F]

/-! ## A tile's scratch among its own buffers, its semaphores among its own -/

section Own
variable (d : Dev nD) (i : grid0.Coords)

def bufs7 : Finset (Ref sig .scVector) := {cc0_scratch0, cc0_scratch1, cc0_scratch2, cc0_scratch3, cc0_scratch4, cc0_scratch5, cc0_scratch6}
def sems6 : Finset (SemLoc sig) := {.dma cc0_scratch7.sem, .dma cc0_scratch8.sem, .dma cc0_scoped0.sem, .dma cc0_scoped1.sem, .dma cc0_scoped2.sem, .dma cc0_scoped3.sem}

def ownB : Finset (DevRef τ sig) :=
  bufs7.map ⟨fun b => (Proc.scVector ((i 0).castLE hcore0) ((i 1).castLE hsub0) : Proc τ).devRef b, Proc.devRef_injective _⟩
def ownS : Finset (GSem nD τ sig) := sems6.map ⟨fun s => (tileThr d i, s), fun _ _ e => (Prod.mk.inj e).2⟩

/-- A tile's own buffers and semaphores beyond those its task uses. -/
def restB : sProp 𝕄 := bigSep (ownRefs (tileThr d i).2 \ ownB i) fun b => iprop(∃ f, ((d, b) : Loc nD τ sig) ↦{fullShare} f)
def restS : sProp 𝕄 := bigSep (ownCells (tileThr d i) \ ownS d i) fun g => semVal g 0

theorem bufs7_sep (Φ : Ref sig .scVector → sProp 𝕄) : bigSep bufs7 Φ = iprop(Φ cc0_scratch0 ∗ Φ cc0_scratch1 ∗ Φ cc0_scratch2 ∗ Φ cc0_scratch3 ∗ Φ cc0_scratch4 ∗ Φ cc0_scratch5 ∗ Φ cc0_scratch6) := by
  unfold bufs7
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem ownBufs_eq : (ownBufs (tileThr d i) : sProp 𝕄) = iprop(TileScratch d i ∗ restB d i) := by
  unfold SparseCore.Cfg.ownBufs restB
  have hsub : ownB i ⊆ ownRefs (tileThr d i).2 := fun b hb => by
    obtain ⟨r, hr, rfl⟩ := Finset.mem_map.mp hb
    have hr' : ∀ r ∈ bufs7, ((Proc.scVector ((i 0).castLE hcore0) ((i 1).castLE hsub0) : Proc τ).devRef r).owner = .proc (Proc.scVector ((i 0).castLE hcore0) ((i 1).castLE hsub0)) := by
      intro r hr
      simp only [bufs7, Finset.mem_insert, Finset.mem_singleton] at hr
      rcases hr with rfl | rfl | rfl | rfl | rfl | rfl | rfl <;> rfl
    exact mem_ownRefs_of_owner (hr' r hr)
  rw [SparseCore.bigSep_sdiff_split' hsub]
  congr 1
  unfold ownB
  rw [BI.bigSep_map]
  exact bufs7_sep _

theorem ownSems0_eq : (ownSems0 (tileThr d i) : sProp 𝕄) = iprop(TileSems d i ∗ restS d i) := by
  unfold SparseCore.Cfg.ownSems0 restS
  have hsub : ownS d i ⊆ ownCells (tileThr d i) := fun g hg => by
    obtain ⟨s, hs, rfl⟩ := Finset.mem_map.mp hg
    have hs' : ∀ s ∈ sems6, (s : SemLoc sig).isScoped .scVector = true := by decide
    exact mem_ownCells.mpr ⟨rfl, hs' s hs⟩
  rw [SparseCore.bigSep_sdiff_split' hsub]
  congr 1
  unfold ownS
  rw [BI.bigSep_map]
  unfold sems6
  rw [SparseCore.bigSep_insert' (by decide), SparseCore.bigSep_insert' (by decide), SparseCore.bigSep_insert' (by decide), SparseCore.bigSep_insert' (by decide), SparseCore.bigSep_insert' (by decide), bigSep_singleton]
  rfl

end Own

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem defs₀_tile (c : Fin 2) (s : Fin 16) :
    defs₀ (F := F) (.scVector (((cI c s) 0).castLE hcore0) (((cI c s) 1).castLE hsub0)) 0 ()
      = (cc0__sc_pool_body (cI c s) (Memref.whole main_arg0_scv) (Memref.isWhole_whole _) (Memref.whole main_v1_scv) (Memref.isWhole_whole _) (Memref.whole main_v2_0_scv) (Memref.isWhole_whole _) (Memref.whole main_v2_1_scv) (Memref.isWhole_whole _) (Memref.whole main_v2_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scoped0 cc0_scoped1 cc0_scoped2 cc0_scoped3) := by
  have hc : (((cI c s) 0).castLE hcore0).val < grid0.bound 0 ∧ (((cI c s) 1).castLE hsub0).val < grid0.bound 1 := ⟨c.isLt, s.isLt⟩
  unfold defs₀
  simp only [SparseCore.onTile, hc, and_self, ↓reduceDIte]
  rfl

/-! ## What the handshakes carry -/

variable (X : Dev nD → FVec F S50000x256 .f32) (w : Dev nD → IVec S50184 32) (b : Dev nD → ℕ → ℕ)
  (S₀ M₀ : Dev nD → FVec F S512x256 .f32) (C₀ : Dev nD → FVec F S512 .f32)

/-- A tile's arrays before its task and after. -/
def goPay (d : Dev nD) (c : Fin 2) (s : Fin 16) : sProp 𝕄 :=
  TilePay d (cI c s) (X d) (w d) (qx c s 0) (qx c s 1) (qt c s) (S₀ d) (M₀ d) (C₀ d)
def tdPay (d : Dev nD) (c : Fin 2) (s : Fin 16) : sProp 𝕄 :=
  TilePay d (cI c s) (X d) (w d) (qx c s 0) (qx c s 1) (qt c s) (sumArr (X d) (b d)) (maxArr (X d) (b d)) (cntArr (b d))

instance goPay_storable (d : Dev nD) (c : Fin 2) (s : Fin 16) : BI.Storable (upEmb : UEmb _ 𝕄) (goPay X w S₀ M₀ C₀ d c s) := by
  unfold goPay TilePay; infer_instance
instance tdPay_storable (d : Dev nD) (c : Fin 2) (s : Fin 16) : BI.Storable (upEmb : UEmb _ 𝕄) (tdPay X w b d c s) := by
  unfold tdPay TilePay; infer_instance

/-- The one call hands each SparseCore its sixteen tiles' arrays and takes them back. -/
def P : (K (F := F)).Pay (nD := nD) (Val := Elt F) (Name := ℕ) (U := UU) where
  st := fun q d c => match q with | 0 => bigSep Finset.univ fun s : Fin 16 => goPay X w S₀ M₀ C₀ d c s
  dn := fun q d c => match q with | 0 => bigSep Finset.univ fun s : Fin 16 => tdPay X w b d c s
  go := fun q d c s => match q with | 0 => goPay X w S₀ M₀ C₀ d c s
  td := fun q d c s => match q with | 0 => tdPay X w b d c s
  x := fun _ _ => iprop(emp)

instance P_storable : (P X w b S₀ M₀ C₀).IsStorable where
  st q d c := match q with
    | 0 => (inferInstance : BI.Storable (upEmb : UEmb _ 𝕄) (bigSep Finset.univ fun s : Fin 16 => goPay X w S₀ M₀ C₀ d c s))
  dn q d c := match q with
    | 0 => (inferInstance : BI.Storable (upEmb : UEmb _ 𝕄) (bigSep Finset.univ fun s : Fin 16 => tdPay X w b d c s))
  go q d c s := match q with
    | 0 => (inferInstance : BI.Storable (upEmb : UEmb _ 𝕄) (goPay X w S₀ M₀ C₀ d c s))
  td q d c s := match q with
    | 0 => (inferInstance : BI.Storable (upEmb : UEmb _ 𝕄) (tdPay X w b d c s))

theorem vecSplit : (K (F := F)).VecSplit' (P X w b S₀ M₀ C₀) 0 := by
  intro d c
  show (bigSep Finset.univ fun s : Fin 16 => goPay X w S₀ M₀ C₀ d c s) ⊢ |={Set.univ}=> iprop(
      (bigSep Finset.univ fun s : Fin 16 => goPay X w S₀ M₀ C₀ d c s)
      ∗ ((bigSep Finset.univ fun s : Fin 16 => tdPay X w b d c s) -∗ bigSep Finset.univ fun s : Fin 16 => tdPay X w b d c s))
  iintro H; imodintro
  isplitl [H]; · iexact H
  iintro H; iexact H

variable {X w b S₀ M₀ C₀} (I : ∀ d, Ids (w d) (b d))
include I

/-- The task of a tile, from what the launch deals it. -/
theorem tile_body (d : Dev nD) (c : Fin 2) (s : Fin 16) (O : CellTallies nD τ sig (HIx 1)) (W : Waits sig (HIx 1)) (hO : ∀ g, O g none = 0) :
    iprop(levAts (K (F := F)).L (K (F := F)).lev ∗ emp ∗ goPay X w S₀ M₀ C₀ d c s ∗ scopedBufs (tileThr d (cI c s)) ∗ scopedSems0 (tileThr d (cI c s)) ∗ owes (tileThr d (cI c s)) O W)
      ⊢ wp frame (wpE (defs₀ (F := F)) 𝒱₀ (tileThr d (cI c s)) none) Set.univ
          (defs₀ (F := F) (.scVector (((cI c s) 0).castLE hcore0) (((cI c s) 1).castLE hsub0)) 0 ())
          fun _ => iprop(tdPay X w b d c s ∗ scopedBufs (tileThr d (cI c s)) ∗ scopedSems0 (tileThr d (cI c s))
            ∗ ∃ W', ⌜∀ p ∈ W', p ∈ W ∨ p.2 = none ∨ p.2 = some 0⌝ ∗ owes (tileThr d (cI c s)) O W') := by
  unfold goPay
  rw [defs₀_tile, (K (F := F)).scopedBufs_V facts, SparseCore.Cfg.scopedSems0_V (Val := Elt F), ownSems0_eq, ownBufs_eq]
  iintro ⟨#Hlv, -, Hpay, ⟨Hb, Hbr⟩, ⟨Hs, Hsr⟩, HO⟩
  ihave Hmw := ((K (F := F)).mayWaits_none (thr := tileThr d (cI c s)) hO) $$ Hlv
  iapply (wp_mono frame _ _ (Q := fun _ => iprop((iprop(TilePay d (cI c s) (X d) (w d) (qx c s 0) (qx c s 1) (qt c s) (sumArr (X d) (b d)) (maxArr (X d) (b d)) (cntArr (b d)) ∗ TileScratch d (cI c s) ∗ TileSems d (cI c s) ∗ Owed d (cI c s) O W)) ∗ restB d (cI c s) ∗ restS d (cI c s))) ?post)
  case post =>
    intro _
    unfold Owed tdPay
    iintro ⟨⟨Hp, Hb, Hs, %W', %hW, HO⟩, Hbr, Hsr⟩
    isplitl [Hp]; · iexact Hp
    isplitl [Hb Hbr]
    · isplitl [Hb] <;> iassumption
    isplitl [Hs Hsr]
    · isplitl [Hs] <;> iassumption
    iexists W'
    isplitr
    · ipureintro; exact fun p hp => (hW p hp).imp_right Or.inl
    iexact HO
  iapply (wp_frame_r frame (wpE (defs₀ (F := F)) 𝒱₀ (tileThr d (cI c s)) none) Set.univ)
  isplitl [Hmw Hpay Hb Hs HO]
  · iapply (tile_wp (I d) (fS := S₀ d) (fM := M₀ d) (fC := C₀ d)) $$ [Hmw Hpay Hb Hs HO]
    isplitl [Hmw]; · iexact Hmw
    isplitl [Hpay]; · iexact Hpay
    isplitl [Hb]; · iexact Hb
    isplitl [Hs]; · iexact Hs
    iexact HO
  isplitl [Hbr] <;> iassumption

theorem tileObl : (K (F := F)).TileObl (D (F := F)) 𝒱 (P X w b S₀ M₀ C₀) v₀ 0 := by
  intro d c i O W hO _ _
  simp only [show (P X w b S₀ M₀ C₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  exact tile_body I d c i O W hO

end Cert.Proof.Pool

end
-- ==== Proof.Main.lean ====
module

public import proofs.«01_k».proof.Proof.Launch

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic
open Idealize.ShloMosaic.StableHlo (held held_split wp_hlo_within)
open Idealize.ShloMosaic.Pipeline (cells launchToks cellsGhost toksInit pin ucRefs unscopedBufs_held)

variable {F : FTy → Type}

local notation "𝕄" => MT nD τ sig (HIx 1) (Elt F) ℕ UU ℕ
variable [FloatOps F]

/-! ## What the launch deals -/

/-- The launch element: the handshakes' rounds, the staging transfers' rounds. -/
def u₀ : UU := (initOf (K (F := F)).hsCells (K (F := F)).hsToks,
  (initOf (cells (pin (pcfgs (F := F)) adm) cellOf_inj) (launchToks (pin (pcfgs (F := F)) adm) cellOf_inj), 1))

theorem ownU_split (a : UH) (p : UP) : (ownU (a, (p, (1 : Counters))) : sProp 𝕄) ⊢ iprop(BI.own (EH a) ∗ BI.own (EP p)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (p, (1 : Counters)))))

/-- What each device's TensorCore is dealt of the staging transfers' rounds. -/
def G (d : Dev nD) : sProp 𝕄 := iprop(cellsGhost (pin (pcfgs (F := F)) adm) EP 0 d ∗ toksInit (pin (pcfgs (F := F)) adm) EP 0 d)

section
variable (X : Dev nD → FVec F S50000x256 .f32) (w : Dev nD → IVec S50184 32) (b : Dev nD → ℕ → ℕ)
  (S₀ M₀ : Dev nD → FVec F S512x256 .f32) (C₀ : Dev nD → FVec F S512 .f32)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P X w b S₀ M₀ C₀).x q thr) := by
  unfold u₀
  iintro Hu
  ihave H := (ownU_split _ _) $$ Hu
  icases H with ⟨HH, HP⟩
  imod (Pipeline.fund_ghost (pin (pcfgs (F := F)) adm) EP cellOf_inj) $$ HP with ⟨Hg, Ht⟩
  imodintro
  isplitl [HH]; · iexact HH
  isplitl [Hg Ht]
  · unfold G
    rw [bigSep_sep']
    isplitl [Hg]
    · iapply (Entails.of_eq (bigSep_congr fun c _ => bigSep_univ_of_subsingleton (Φ := fun p => cellsGhost (pin (pcfgs (F := F)) adm) EP p c) (0 : Fin 1)))
      iexact Hg
    · iapply (Entails.of_eq (bigSep_congr fun c _ => bigSep_univ_of_subsingleton (Φ := fun p => toksInit (pin (pcfgs (F := F)) adm) EP p c) (0 : Fin 1)))
      iexact Ht
  unfold P; dsimp only
  rw [show (bigSep Finset.univ fun _ : Thread nD τ => bigSep Finset.univ fun _ : Fin 1 => (iprop(emp) : sProp 𝕄)) = iprop(emp) from
    (bigSep_congr fun _ _ => bigSep_emp_const _).trans (bigSep_emp_const _)]
  iempintro
end

/-! ## The program on the TensorCore -/

abbrev op1 : HloOp τ sig (Elt F) := StableHlo.nullary main_c (constantI S_ 32 512#32)
abbrev op2 : HloOp τ sig (Elt F) := StableHlo.unary main_c main_v0 (broadcastInDim S184 ![] bcast_S_S184 : (⟨S_, .i32⟩ : BufTy).Contents (Elt F) → (⟨S184, .i32⟩ : BufTy).Contents (Elt F))
abbrev op3 : HloOp τ sig (Elt F) := StableHlo.binary main_arg1 main_v0 main_v1 ((fun a b => concatenate S50184 0 [⟨S50000, a⟩, ⟨S184, b⟩] concatenates_S50000_S184_S50184_d0) : (⟨S50000, .i32⟩ : BufTy).Contents (Elt F) → (⟨S184, .i32⟩ : BufTy).Contents (Elt F) → (⟨S50184, .i32⟩ : BufTy).Contents (Elt F))
abbrev op4 : HloOp τ sig (Elt F) := StableHlo.reshape main_v2_2 main_v3 (rfl : (.f32 : EltTy) = .f32) shapeCasts_S512_S512x1
abbrev op5 : HloOp τ sig (Elt F) := StableHlo.reshape main_arg3 main_v4 (rfl : (.f32 : EltTy) = .f32) shapeCasts_S256_S1x256
abbrev op6 : HloOp τ sig (Elt F) := StableHlo.reshape main_arg4 main_v5 (rfl : (.f32 : EltTy) = .f32) shapeCasts_S256_S1x256
abbrev op7 : HloOp τ sig (Elt F) := StableHlo.reshape main_arg5 main_v6 (rfl : (.f32 : EltTy) = .f32) shapeCasts_S256_S1x256

abbrev tr (r : Ref sig .tc) : DevRef τ sig := Proc.devRef .tc r

variable (m : (ℓ : Loc nD τ sig) → Buf (Elt F) ℓ) (ρ : Dev nD → PrngReg) (b : Dev nD → ℕ → ℕ)

/-- The arrays at the launch, before the SparseCore call, after it, before the TensorCore call, and after it. -/
def V0 (d : Dev nD) : Valuation τ sig (Elt F) := fun r => m (d, r)
def VA (d : Dev nD) : Valuation τ sig (Elt F) := (op3 (F := F)).result ((op2 (F := F)).result ((op1 (F := F)).result (V0 m d)))
def VB (d : Dev nD) : Valuation τ sig (Elt F) :=
  Function.update (Function.update (Function.update (VA m d) (tr main_v2_0) (sumArr (VA m d (tr main_arg0)) (b d)))
    (tr main_v2_1) (maxArr (VA m d (tr main_arg0)) (b d))) (tr main_v2_2) (cntArr (b d))
def VC (d : Dev nD) : Valuation τ sig (Elt F) :=
  (op7 (F := F)).result ((op6 (F := F)).result ((op5 (F := F)).result ((op4 (F := F)).result (VB m b d))))
def VD (d : Dev nD) : Valuation τ sig (Elt F) :=
  Function.update (VC m b d) (tr main_v7) (finAt (fun c r => VC m b c (tr r)) d)

/-- The arrays the SparseCore call is handed. -/
def S5 : Finset (DevRef τ sig) := {tr main_arg0, tr main_v1, tr main_v2_0, tr main_v2_1, tr main_v2_2}

theorem S5_sub : S5 ⊆ ucRefs τ sig := by
  intro r hr
  simp only [S5, Finset.mem_insert, Finset.mem_singleton] at hr
  rcases hr with rfl | rfl | rfl | rfl | rfl <;>
    exact Finset.mem_filter.mpr ⟨StableHlo.devRef_mem_tcRefs _, by decide⟩

theorem held_S5 (d : Dev nD) (W : Valuation τ sig (Elt F)) :
    (held (SparseCore.T d) (ucRefs τ sig) W : sProp 𝕄) = iprop((((SparseCore.T d).loc main_arg0 ↦{fullShare} W (tr main_arg0)) ∗ ((SparseCore.T d).loc main_v1 ↦{fullShare} W (tr main_v1))
        ∗ ((SparseCore.T d).loc main_v2_0 ↦{fullShare} W (tr main_v2_0)) ∗ ((SparseCore.T d).loc main_v2_1 ↦{fullShare} W (tr main_v2_1))
        ∗ ((SparseCore.T d).loc main_v2_2 ↦{fullShare} W (tr main_v2_2))) ∗ held (SparseCore.T d) (ucRefs τ sig \ S5) W) := by
  unfold held
  rw [SparseCore.bigSep_sdiff_split' S5_sub]
  congr 1
  unfold S5
  rw [SparseCore.bigSep_insert' (by decide), SparseCore.bigSep_insert' (by decide), SparseCore.bigSep_insert' (by decide), SparseCore.bigSep_insert' (by decide), bigSep_singleton]

theorem VB_rest (d : Dev nD) : (held (SparseCore.T d) (ucRefs τ sig \ S5) (VA m d) : sProp 𝕄) = held (SparseCore.T d) (ucRefs τ sig \ S5) (VB m b d) := by
  unfold held
  refine bigSep_congr fun r hr => ?_
  have h := (Finset.mem_sdiff.mp hr).2
  simp only [S5, Finset.mem_insert, Finset.mem_singleton, not_or] at h
  unfold VB
  rw [Function.update_of_ne h.2.2.2.2, Function.update_of_ne h.2.2.2.1, Function.update_of_ne h.2.2.1]

theorem VB_0 (d : Dev nD) : VB m b d (tr main_v2_0) = sumArr (VA m d (tr main_arg0)) (b d) := by
  unfold VB
  rw [Function.update_of_ne (by decide), Function.update_of_ne (by decide), Function.update_self]
theorem VB_1 (d : Dev nD) : VB m b d (tr main_v2_1) = maxArr (VA m d (tr main_arg0)) (b d) := by
  unfold VB
  rw [Function.update_of_ne (by decide), Function.update_self]
theorem VB_2 (d : Dev nD) : VB m b d (tr main_v2_2) = cntArr (b d) := by
  unfold VB
  rw [Function.update_self]
theorem VB_ne (d : Dev nD) (r : DevRef τ sig) (h0 : r ≠ tr main_v2_0) (h1 : r ≠ tr main_v2_1) (h2 : r ≠ tr main_v2_2) : VB m b d r = VA m d r := by
  unfold VB
  rw [Function.update_of_ne h2, Function.update_of_ne h1, Function.update_of_ne h0]

/-- The payloads at this launch. -/
abbrev PP : (K (F := F)).Pay (nD := nD) (Val := Elt F) (Name := ℕ) (U := UU) :=
  P (fun d => VA m d (tr main_arg0)) (fun d => VA m d (tr main_v1)) b (fun d => VA m d (tr main_v2_0)) (fun d => VA m d (tr main_v2_1)) (fun d => VA m d (tr main_v2_2))

theorem st_eq (d : Dev nD) : (bigSep Finset.univ fun c : Fin ((K (F := F)).nCore 0) => (PP m b).st 0 d c)
    = (iprop(((SparseCore.T d).loc main_arg0 ↦{fullShare} VA m d (tr main_arg0)) ∗ ((SparseCore.T d).loc main_v1 ↦{fullShare} VA m d (tr main_v1))
        ∗ ((SparseCore.T d).loc main_v2_0 ↦{fullShare} VA m d (tr main_v2_0)) ∗ ((SparseCore.T d).loc main_v2_1 ↦{fullShare} VA m d (tr main_v2_1))
        ∗ ((SparseCore.T d).loc main_v2_2 ↦{fullShare} VA m d (tr main_v2_2))) : sProp 𝕄) :=
  pay_all d _ _ _ _ _
theorem dn_eq (d : Dev nD) : (bigSep Finset.univ fun c : Fin ((K (F := F)).nCore 0) => (PP m b).dn 0 d c)
    = (iprop(((SparseCore.T d).loc main_arg0 ↦{fullShare} VB m b d (tr main_arg0)) ∗ ((SparseCore.T d).loc main_v1 ↦{fullShare} VB m b d (tr main_v1))
        ∗ ((SparseCore.T d).loc main_v2_0 ↦{fullShare} VB m b d (tr main_v2_0)) ∗ ((SparseCore.T d).loc main_v2_1 ↦{fullShare} VB m b d (tr main_v2_1))
        ∗ ((SparseCore.T d).loc main_v2_2 ↦{fullShare} VB m b d (tr main_v2_2))) : sProp 𝕄) := by
  rw [VB_0, VB_1, VB_2, VB_ne m b d (tr main_arg0) (by decide) (by decide) (by decide), VB_ne m b d (tr main_v1) (by decide) (by decide) (by decide)]
  exact pay_all d _ _ _ _ _

/-- The TensorCore's handshake state after the call: what it owes, nothing, beside the rest. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom (Q := 1) 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_eq (d : Dev nD) : ((K (F := F)).tcSt EH d 1 : sProp 𝕄)
    = iprop((∃ W, ⌜(K (F := F)).WBelow (SparseCore.T d) W 8⌝ ∗ owes (SparseCore.T d) (0 : CellTallies nD τ sig (HIx 1)) W) ∗ tcRest d) := by
  unfold SparseCore.Cfg.tcSt
  rw [(K (F := F)).Otc_end d (le_refl 1)]
  rfl

/-- What the program leaves: every array at its final contents. -/
def FIN (d : Dev nD) : sProp 𝕄 := held (SparseCore.T d) (ucRefs τ sig) (VD m b d)

theorem uc (r : Ref sig .tc) (h : ¬ (tr r).isScoped = true) : tr r ∈ ucRefs τ sig := Finset.mem_filter.mpr ⟨StableHlo.devRef_mem_tcRefs _, h⟩

theorem sub1 {y : Ref sig .tc} (hy : ¬ (tr y).isScoped = true) : ({tr y} : Finset (DevRef τ sig)) ⊆ ucRefs τ sig :=
  Finset.singleton_subset_iff.mpr (uc y hy)
theorem sub2 {x y : Ref sig .tc} (hx : ¬ (tr x).isScoped = true) (hy : ¬ (tr y).isScoped = true) : ({tr x, tr y} : Finset (DevRef τ sig)) ⊆ ucRefs τ sig :=
  Finset.insert_subset (uc x hx) (sub1 hy)
theorem sub3 {x y z : Ref sig .tc} (hx : ¬ (tr x).isScoped = true) (hy : ¬ (tr y).isScoped = true) (hz : ¬ (tr z).isScoped = true) : ({tr x, tr y, tr z} : Finset (DevRef τ sig)) ⊆ ucRefs τ sig :=
  Finset.insert_subset (uc x hx) (sub2 hy hz)

/-- The TensorCore call, from every array at `VC` to every array at `VD`. -/
theorem fin_wp [∀ e, Nonempty (Elt F e)] (d : Dev nD) (Q : PUnit → sProp 𝕄) :
    iprop((iprop(boundary (SparseCore.T d) ∗ held (SparseCore.T d) (ucRefs τ sig) (VD m b d) ∗ (K (F := F)).tcSt EH d 1) -∗ Q ⟨⟩)
      ∗ boundary (SparseCore.T d) ∗ held (SparseCore.T d) (ucRefs τ sig) (VC m b d) ∗ (K (F := F)).tcSt EH d 1
      ∗ levAts (K (F := F)).L (K (F := F)).lev ∗ G d)
      ⊢ wp frame (wpE ((K (F := F)).defs (D (F := F))) 𝒱 (SparseCore.T d) none) Set.univ
          (SparseCore.liftProg (.op (.customCall (Pipeline.entry 0) ()) .ret)) Q := by
  have h := Pipeline.RegionSeg.wp (pcfgs (F := F)) adm (pdats fun c r => VC m b c (tr r)) (none : HIx 1) cellOf_inj EP (defs₀ (F := F)) 𝒱₀ (K (F := F)).L (K (F := F)).lev
    (reg (fun c r => VC m b c (tr r)) (fun c r => VD m b c (tr r)) (fun _ => iprop(emp))
      (fun c => by unfold VD; exact Function.update_self _ _ _)
      (fun c r hr => by unfold VD; exact Function.update_of_ne (StableHlo.devRef_ne_of_ne hr) _ _)) d none (fun _ h => nomatch h) .ret Q
  rw [tcSt_eq]
  unfold G
  rw [← unscopedBufs_held (Ix := HIx 1) (Name := ℕ) (U := UU) (Lvl := ℕ) d (VC m b d), ← unscopedBufs_held (Ix := HIx 1) (Name := ℕ) (U := UU) (Lvl := ℕ) d (VD m b d)]
  iintro ⟨Hk, Hb, Hu, ⟨HO, Hrest⟩, Hlv, Hg, Ht⟩
  iapply ((K (F := F)).wp_liftProg (D (F := F)) 𝒱 (SparseCore.T d) Set.univ none _ _)
  iapply h
  isplitl [Hk Hrest]
  · iintro ⟨Hb, Hpost⟩
    rw [wp_ret]; imodintro
    iapply Hk
    isplitl [Hb]; · iexact Hb
    unfold reg
    icases Hpost with ⟨Hu, -, HO⟩
    isplitl [Hu]; · iexact Hu
    isplitl [HO]; · iexact HO
    iexact Hrest
  isplitl [Hb]; · iexact Hb
  isplitl [Hu HO]
  · unfold reg
    isplitl [Hu]; · iexact Hu
    isplitr; · iempintro
    iexact HO
  isplitl [Hlv]; · iexact Hlv
  isplitl [Hg]; · iexact Hg
  iexact Ht

set_option maxHeartbeats 1000000 in
/-- The whole program on device `d`'s TensorCore. -/
theorem hmain [∀ e, Nonempty (Elt F e)] (κ : GSem nD τ sig → ℕ) (d : Dev nD) :
    iprop((K (F := F)).ctx EH (PP m b) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m b d ∗ (K (F := F)).tcEnd d) := by
  unfold SparseCore.Cfg.tcRes SparseCore.Cfg.tcEnd
  rw [show unscopedBufs d (fun r => m ((SparseCore.T d).loc r)) = held (SparseCore.T d) (ucRefs τ sig) (V0 m d) from
    unscopedBufs_held (Ix := HIx 1) (Name := ℕ) (U := UU) (Lvl := ℕ) d (V0 m d)]
  simp only [main, wp_bind, wp_pure]
  iintro ⟨#Hctx, Hst, ⟨Hb, Hh, Hts, -⟩, HG⟩
  iapply (wp_hlo_within 𝒱 (SparseCore.T d) none Set.univ (op := op1) (S := ucRefs τ sig) (sub1 (by decide)) (V := V0 m d)) $$ [Hb Hh]
  · isplitl [Hb] <;> iassumption
  iintro ⟨Hb, Hh⟩
  rw [wp_ret]; imodintro
  iapply (wp_hlo_within 𝒱 (SparseCore.T d) none Set.univ (op := op2) (S := ucRefs τ sig) (sub2 (by decide) (by decide)) (V := (op1 (F := F)).result (V0 m d))) $$ [Hb Hh]
  · isplitl [Hb] <;> iassumption
  iintro ⟨Hb, Hh⟩
  rw [wp_ret]; imodintro
  iapply (wp_hlo_within 𝒱 (SparseCore.T d) none Set.univ (op := op3) (S := ucRefs τ sig) (sub3 (by decide) (by decide) (by decide)) (V := (op2 (F := F)).result ((op1 (F := F)).result (V0 m d)))) $$ [Hb Hh]
  · isplitl [Hb] <;> iassumption
  iintro ⟨Hb, Hh⟩
  rw [wp_ret]; imodintro
  ihave Hh := (Entails.of_eq (show held (SparseCore.T d) (ucRefs τ sig) ((op3 (F := F)).result ((op2 (F := F)).result ((op1 (F := F)).result (V0 m d)))) = _ from held_S5 d (VA m d))) $$ Hh
  icases Hh with ⟨H5, Hrest⟩
  iapply ((K (F := F)).wp_run (D (F := F)) 𝒱 (EH := EH) (P := PP m b) κ d 0) $$ [Hst H5 Hrest Hb Hts HG]
  isplitr; · iexact Hctx
  isplitl [Hst]; · iexact Hst
  isplitl [H5]
  · rw [st_eq]; iexact H5
  iintro ⟨Hst, Hdn⟩
  ihave Hdn := (Entails.of_eq (dn_eq m b d)) $$ Hdn
  ihave Hrest := (Entails.of_eq (VB_rest m b d)) $$ Hrest
  ihave Hh := (Entails.of_eq (held_S5 d (VB m b d)).symm) $$ [Hdn Hrest]
  · isplitl [Hdn] <;> iassumption
  iapply (wp_hlo_within 𝒱 (SparseCore.T d) none Set.univ (op := op4) (S := ucRefs τ sig) (sub2 (by decide) (by decide)) (V := VB m b d)) $$ [Hb Hh]
  · isplitl [Hb] <;> iassumption
  iintro ⟨Hb, Hh⟩
  rw [wp_ret]; imodintro
  iapply (wp_hlo_within 𝒱 (SparseCore.T d) none Set.univ (op := op5) (S := ucRefs τ sig) (sub2 (by decide) (by decide)) (V := (op4 (F := F)).result (VB m b d))) $$ [Hb Hh]
  · isplitl [Hb] <;> iassumption
  iintro ⟨Hb, Hh⟩
  rw [wp_ret]; imodintro
  iapply (wp_hlo_within 𝒱 (SparseCore.T d) none Set.univ (op := op6) (S := ucRefs τ sig) (sub2 (by decide) (by decide)) (V := (op5 (F := F)).result ((op4 (F := F)).result (VB m b d)))) $$ [Hb Hh]
  · isplitl [Hb] <;> iassumption
  iintro ⟨Hb, Hh⟩
  rw [wp_ret]; imodintro
  iapply (wp_hlo_within 𝒱 (SparseCore.T d) none Set.univ (op := op7) (S := ucRefs τ sig) (sub2 (by decide) (by decide)) (V := (op6 (F := F)).result ((op5 (F := F)).result ((op4 (F := F)).result (VB m b d))))) $$ [Hb Hh]
  · isplitl [Hb] <;> iassumption
  iintro ⟨Hb, Hh⟩
  rw [wp_ret]; imodintro
  ihave Hlv := (SparseCore.Cfg.ctx_levAts κ) $$ Hctx
  iapply (fin_wp m b d)
  isplitl [Hts]
  · iintro ⟨Hb, Hh, Hst⟩
    imodintro
    isplitl [Hst]; · iexact Hst
    isplitl [Hh]; · unfold FIN; iexact Hh
    isplitl [Hb] <;> iassumption
  isplitl [Hb]; · iexact Hb
  isplitl [Hh]; · iexact Hh
  isplitl [Hst]; · iexact Hst
  isplitl [Hlv]; · iexact Hlv
  iexact HG

/-! ## The run -/

def fq (d : Dev nD) (s' : Phys nD τ sig (Elt F)) : Prop := ∀ r ∈ ucRefs τ sig, s'.mem.mem (d, r) = VD m b d r

theorem hfin (d : Dev nD) (s' : Phys nD τ sig (Elt F)) : iprop(FIN m b d ∗ SI s') ⊢ (⌜fq m b d s'⌝ : sProp 𝕄) := by
  unfold FIN held fq
  iintro ⟨H, HSI⟩
  iapply (SI_pointsTo_bufs_agree (c := d) (B := ucRefs τ sig) (qs := fun _ => fullShare) (F := fun r => VD m b d r) (st := s'))
  isplitl [HSI] <;> iassumption

/-- Every array of the TensorCore at its final contents, every semaphore at zero. -/
def QC : PUnit × MemSt nD τ sig (Elt F) → Prop := fun r => (∀ d : Dev nD, ∀ x ∈ ucRefs τ sig, r.2.mem (d, x) = VD m b d x) ∧ r.2.sem = fun _ => 0

theorem run_main [∀ e, Nonempty (Elt F e)] (I : ∀ d, Ids (VA m d (tr main_v1)) (b d)) :
    θ_run (Cert.KernelIdeal.defs (F := F)) (Cert.KernelIdeal.threads (F := F)) ⟨m, fun _ => 0, ρ⟩ (QC m b) :=
  SparseCore.Cfg.θ_run_sc_quiescent (K := K (F := F)) (D := D (F := F)) (𝒱 := 𝒱) (EH := EH) (P := PP m b) (A := ∅) facts v₀
    (fun q hq => match q with | 0 => nomatch hq)
    (fun q _ => match q with | 0 => tileObl I)
    (fun q _ => match q with | 0 => SparseCore.Cfg.VecSplit.of_plain (vecSplit _ _ _ _ _ _))
    m ρ main G (FIN m b) (u₀ (F := F)) (sep_elim_left.trans (hu₀ _ _ _ _ _ _)) (hmain m ρ b) (fq m b) (hfin m b) (QC m b) (fun _ h hz => ⟨h, hz⟩)

end Cert.Proof.Pool

end
-- ==== Proof.Inputs.lean ====
module

public import proofs.«01_k».proof.Proof.Main
public import proofs.«01_k».proof.Pre_ids_ok
public import proofs.«01_k».proof.Pre_inputs_ok
public import Idealize.ShloMosaic.Lib.ReduceAll

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ
variable [FloatOps F]
open Idealize.ShloMosaic.Pipeline (ucRefs)

/-! # What the precondition gives

The precondition of the run says of the arguments that the segment ids are in range; that of the value says besides
that they are ascending and that every feature is finite. Both are read index by index. -/

/-- The precondition on the ids read index by index. -/
structure IdsOK (ids : IVec S50000 32) : Prop where
  lo : ∀ n : Fin 50000, 0 ≤ (ids (ix1 n)).toInt
  hi : ∀ n : Fin 50000, (ids (ix1 n)).toInt < 512

/-- The precondition on all the arguments read index by index. -/
structure InOK (X : FVec F S50000x256 .f32) (ids : IVec S50000 32) : Prop extends IdsOK ids where
  asc : ∀ (n : ℕ) (h : n + 1 < 50000), (ids (ix1 ⟨n, by omega⟩)).toInt ≤ (ids (ix1 ⟨n + 1, h⟩)).toInt
  fin : ∀ i, FloatOps.cmpf .olt (FloatOps.hostAbsf (X i)) (FloatOps.ofBits .f32 0x7F800000#32) = 1#1

/-- A one-bit word made from a truth value is 1 only if the value is true. -/
theorem of_ofBool {c : Bool} (h : BitVec.ofBool c = 1#1) : c = true := by
  cases c
  · exact absurd h (by decide)
  · rfl

instance subIx0 : Subsingleton Cert.Pre_ids_ok.S_.Idx := ⟨fun a b => funext fun i => i.elim0⟩

theorem slice_at (ids : IVec S50000 32) (off : ℕ) (h : S50000.Slices ![off] Cert.Pre_inputs_ok.S49999) (n : ℕ) (hn : n < 49999) (k : ℕ) (hk : k < 50000) (e : k = off + n) :
    extractStridedSlice Cert.Pre_inputs_ok.S49999 ![off] ids h (ix1 (⟨n, hn⟩ : Fin 49999)) = ids (ix1 ⟨k, hk⟩) :=
  congrArg ids (funext fun a => by obtain rfl : a = 0 := Subsingleton.elim _ _; exact Fin.ext e.symm)

theorem idsOK_of_at [Cert.Pre_ids_ok.Facts] {X : FVec F S50000x256 .f32} {ids : IVec S50000 32} {w : FVec F S768x256 .f32} {p q r : FVec F S256 .f32}
    (e : Cert.Pre_ids_ok.fn X ids w p q r (fun i => i.elim0) = 1#1) : IdsOK ids := by
  unfold Cert.Pre_ids_ok.fn at e
  obtain ⟨e2, e3⟩ := IntOp.andi_eq_one.1 e
  refine ⟨fun n => ?_, fun n => ?_⟩
  · have k : IntOp.cmpi .sge (ids (ix1 n)) 0#32 = 1#1 := Host.reduce_andi_all _ _ _ _ _ e2 (ix1 n)
    have k := of_ofBool k
    simpa [BitVec.sle_eq_decide] using k
  · have k : IntOp.cmpi .slt (ids (ix1 n)) 512#32 = 1#1 := Host.reduce_andi_all _ _ _ _ _ e3 (ix1 n)
    have k := of_ofBool k
    simpa [BitVec.slt_eq_decide] using k

theorem idsOK_of_pre [Cert.Pre_ids_ok.Facts] {X : FVec F S50000x256 .f32} {ids : IVec S50000 32} {w : FVec F S768x256 .f32} {p q r : FVec F S256 .f32}
    (h : Cert.Pre_ids_ok.fn X ids w p q r = fun _ => 1#1) : IdsOK ids :=
  idsOK_of_at (congrFun h (fun i => i.elim0))

theorem inOK_of_pre [Cert.Pre_ids_ok.Facts] [Cert.Pre_inputs_ok.Facts] {X : FVec F S50000x256 .f32} {ids : IVec S50000 32} {w : FVec F S768x256 .f32} {p q r : FVec F S256 .f32}
    (h : Cert.Pre_inputs_ok.fn X ids w p q r = fun _ => 1#1) : InOK X ids := by
  have e := congrFun h (fun i => i.elim0)
  unfold Cert.Pre_inputs_ok.fn at e
  obtain ⟨e, e4⟩ := IntOp.andi_eq_one.1 e
  obtain ⟨e1, e2⟩ := IntOp.andi_eq_one.1 e
  have e2 : Cert.Pre_ids_ok.fn X ids w p q r (fun i => i.elim0) = 1#1 := e2
  refine { toIdsOK := idsOK_of_at e2, fin := fun i => Host.reduce_andi_all _ _ _ _ _ e1 i, asc := fun n hn => ?_ }
  have k := Host.reduce_andi_all _ _ _ _ _ e4 (ix1 (⟨n, Nat.lt_of_succ_lt_succ hn⟩ : Fin 49999))
  have k : IntOp.cmpi .sle (ids (ix1 ⟨n, by omega⟩)) (ids (ix1 ⟨n + 1, hn⟩)) = 1#1 := by
    refine Eq.trans ?_ k
    exact congrArg₂ (IntOp.cmpi .sle) (slice_at ids 0 _ n _ n _ (Nat.zero_add n).symm).symm (slice_at ids 1 _ n _ (n + 1) _ (Nat.add_comm n 1)).symm
  have k := of_ofBool k
  simpa [BitVec.sle_eq_decide] using k

/-- The id of row `n`, as a number; past the last row the number of segments. -/
def bOf (ids : IVec S50000 32) (n : ℕ) : ℕ := if h : n < 50000 then (ids (ix1 ⟨n, h⟩)).toInt.toNat else 512

theorem bOf_lt {ids : IVec S50000 32} (K : IdsOK ids) {n : ℕ} (h : n < 50000) : bOf ids n < 512 := by
  have := K.lo ⟨n, h⟩; have := K.hi ⟨n, h⟩
  rw [bOf, dif_pos h]; omega

theorem bOf_int {ids : IVec S50000 32} (K : IdsOK ids) {n : ℕ} (h : n < 50000) :
    (ids (ix1 ⟨n, h⟩)).toInt = bOf ids n := by
  have := K.lo ⟨n, h⟩
  rw [bOf, dif_pos h]; omega

theorem bOf_mono {X : FVec F S50000x256 .f32} {ids : IVec S50000 32} (K : InOK X ids) : ∀ m n, m ≤ n → bOf ids m ≤ bOf ids n := by
  refine fun m n => monotone_nat_of_le_succ (fun n => ?_) (a := m) (b := n)
  rcases Nat.lt_or_ge (n + 1) 50000 with h | h
  · have := K.asc n h; rw [bOf_int K.toIdsOK (by omega), bOf_int K.toIdsOK h] at this; omega
  · have e : bOf ids (n + 1) = 512 := by rw [bOf, dif_neg (by omega)]
    rw [e]
    rcases Nat.lt_or_ge n 50000 with h' | h'
    · exact (bOf_lt K.toIdsOK h').le
    · rw [bOf, dif_neg (by omega)]

/-- The padded ids: the argument's, then the number of segments. -/
theorem ids_of {ids : IVec S50000 32} (K : IdsOK ids) :
    Ids (concatenate S50184 0 [⟨S50000, ids⟩, ⟨S184, broadcastInDim S184 ![] bcast_S_S184 (constantI S_ 32 512#32)⟩] concatenates_S50000_S184_S50184_d0) (bOf ids) where
  word n := by
    unfold Affine.IsInt
    rcases Nat.lt_or_ge n.val 50000 with h | h
    · rw [concatenate_pair_apply_left (t := S50184) (0 : Fin 1) ids _ _ (ix1 n) rfl (ix1 ⟨n.val, h⟩) (fun b => by obtain rfl : b = 0 := Subsingleton.elim _ _; rfl)]
      exact bOf_int K h
    · have hn : n.val - 50000 < 184 := by have := n.isLt; omega
      rw [concatenate_pair_apply_right (t := S50184) (s₂ := S184) (0 : Fin 1) ids _ _ (ix1 n) rfl rfl (ix1 (⟨n.val - 50000, hn⟩ : Fin 184))
        (fun b hb => absurd (Subsingleton.elim _ _) hb) (Nat.sub_add_cancel h)]
      rw [bOf, dif_neg (Nat.not_lt.2 h)]
      rfl
  pad n h := by rw [bOf, dif_neg (by omega)]

/-! ## What the buffers hold -/

section
variable (m : (ℓ : Loc nD τ sig) → Buf (Elt F) ℓ) (b : Dev nD → ℕ → ℕ) (d : Dev nD)

theorem VA_ne (r : Ref sig .tc) (h1 : r ≠ main_c) (h2 : r ≠ main_v0) (h3 : r ≠ main_v1) : VA m d (tr r) = m (d, tr r) := by
  unfold VA
  rw [StableHlo.result_of_writes_ne _ _ main_v1 r rfl h3, StableHlo.result_of_writes_ne _ _ main_v0 r rfl h2, StableHlo.result_of_writes_ne _ _ main_c r rfl h1]
  rfl

theorem VA_v1 : VA m d (tr main_v1) = concatenate S50184 0 [⟨S50000, m (d, tr main_arg1)⟩, ⟨S184, broadcastInDim S184 ![] bcast_S_S184 (constantI S_ 32 512#32)⟩] concatenates_S50000_S184_S50184_d0 := by
  unfold VA
  rw [StableHlo.binary_result, StableHlo.unary_result, StableHlo.nullary_result, StableHlo.result_of_writes_ne _ _ main_v0 main_arg1 rfl (by decide),
    StableHlo.result_of_writes_ne _ _ main_c main_arg1 rfl (by decide)]
  rfl

theorem VC_ne (r : Ref sig .tc) (h1 : r ≠ main_v3) (h2 : r ≠ main_v4) (h3 : r ≠ main_v5) (h4 : r ≠ main_v6) : VC m b d (tr r) = VB m b d (tr r) := by
  unfold VC
  rw [StableHlo.result_of_writes_ne _ _ main_v6 r rfl h4, StableHlo.result_of_writes_ne _ _ main_v5 r rfl h3, StableHlo.result_of_writes_ne _ _ main_v4 r rfl h2,
    StableHlo.result_of_writes_ne _ _ main_v3 r rfl h1]

theorem VD_ne (r : Ref sig .tc) (h : r ≠ main_v7) : VD m b d (tr r) = VC m b d (tr r) := by
  unfold VD
  exact Function.update_of_ne (StableHlo.devRef_ne_of_ne h) _ _

/-- A buffer no operation of the program writes ends as it was. -/
theorem VD_old (r : Ref sig .tc) (h : r ∉ [main_c, main_v0, main_v1, main_v2_0, main_v2_1, main_v2_2, main_v3, main_v4, main_v5, main_v6, main_v7]) :
    VD m b d (tr r) = m (d, tr r) := by
  simp only [List.mem_cons, List.not_mem_nil, or_false, not_or] at h
  obtain ⟨h0, h1, h2, h3, h4, h5, h6, h7, h8, h9, h10⟩ := h
  rw [VD_ne m b d r h10, VC_ne m b d r h6 h7 h8 h9, VB_ne m b d _ (StableHlo.devRef_ne_of_ne h3) (StableHlo.devRef_ne_of_ne h4) (StableHlo.devRef_ne_of_ne h5),
    VA_ne m d r h0 h1 h2]

end

/-- The ids of a run, one function per device. -/
def bM (m : (ℓ : Loc nD τ sig) → Buf (Elt F) ℓ) (d : Dev nD) : ℕ → ℕ := bOf (m (d, tr main_arg1))

/-- The run of the whole program from a memory whose arguments satisfy the precondition. -/
theorem run_pre [∀ e, Nonempty (Elt F e)] (m : (ℓ : Loc nD τ sig) → Buf (Elt F) ℓ) (ρ : Dev nD → PrngReg)
    (K : ∀ d : Dev nD, IdsOK (m (d, tr main_arg1))) :
    θ_run (Cert.KernelIdeal.defs (F := F)) (Cert.KernelIdeal.threads (F := F)) ⟨m, fun _ => 0, ρ⟩ (fun r =>
      (∀ c : Dev nD, r.2.mem ((c.tc : Thread nD τ).loc main_v7) = VD m (bM m) c (tr main_v7)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0) := by
  refine (θ_run _ _ _).mono (fun r h => ⟨fun c => ?_, h.2⟩) (run_main m ρ (bM m) fun d => by rw [VA_v1]; exact ids_of (K d))
  have e (x : Ref sig .tc) (hx : tr x ∈ ucRefs τ sig) : r.2.mem (c, tr x) = VD m (bM m) c (tr x) := h.1 c _ hx
  exact ⟨e main_v7 (uc _ (by decide)), (e main_arg0 (uc _ (by decide))).trans (VD_old m _ c _ (by decide)), (e main_arg1 (uc _ (by decide))).trans (VD_old m _ c _ (by decide)),
    (e main_arg2 (uc _ (by decide))).trans (VD_old m _ c _ (by decide)), (e main_arg3 (uc _ (by decide))).trans (VD_old m _ c _ (by decide)),
    (e main_arg4 (uc _ (by decide))).trans (VD_old m _ c _ (by decide)), (e main_arg5 (uc _ (by decide))).trans (VD_old m _ c _ (by decide))⟩

end Cert.Proof.Pool

end
-- ==== Proof.Frames.lean ====
module

public import proofs.«01_k».proof.Proof.Inputs
public import proofs.«01_k».proof.Defs
public import proofs.«01_k».proof.Proof.Gen.Kernel
public import proofs.«01_k».proof.Proof.Gen.Pre_ids_ok
public import proofs.«01_k».proof.Proof.Gen.Pre_inputs_ok
public import proofs.«01_k».proof.Proof.Gen.ReferenceIdeal
public import proofs.«01_k».proof.Proof.Gen.ReferenceIdeal.Run

@[expose] public section

set_option maxRecDepth 16384

noncomputable section

namespace Cert.Proof.Pool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)
open Idealize.ShloMosaic.Tactic

variable {F : FTy → Type}

local notation "𝕄" => MT nD τ sig (HIx 1) (Elt F) ℕ UU ℕ
variable [FloatOps F]

/-! # The frames

The kernel's program and the one read over the extended reals have the same text, so the one run proves both. -/

/-! ## The two programs are one

They differ in names alone; the one difference that unfolding does not see is in how a side condition is decided. -/

theorem same_dec : Cert.Kernel.k0_chk3.dec = Cert.KernelIdeal.k0_chk3.dec := funext fun _ => funext fun _ => Subsingleton.elim _ _

theorem same61 : @Cert.Kernel.k0_part61 Bits _ _ = @Cert.KernelIdeal.k0_part61 Bits _ _ := by
  delta Cert.Kernel.k0_part61 Cert.KernelIdeal.k0_part61
  rw [same_dec]
  rfl

theorem same64 : @Cert.Kernel.k0_part64 Bits _ _ = @Cert.KernelIdeal.k0_part64 Bits _ _ := by
  delta Cert.Kernel.k0_part64 Cert.KernelIdeal.k0_part64
  rw [same61]
  rfl

theorem same_body : @Cert.Kernel.cc0__sc_pool_body Bits _ _ = @Cert.KernelIdeal.cc0__sc_pool_body Bits _ _ := by
  delta Cert.Kernel.cc0__sc_pool_body Cert.KernelIdeal.cc0__sc_pool_body
  rw [same64]
  rfl

theorem same_defs₀ : Cert.Kernel.defs₀ (F := Bits) = Cert.KernelIdeal.defs₀ (F := Bits) := by
  funext p l a
  match p, l, a with
  | .scVector c s, 0, a =>
    delta Cert.Kernel.defs₀ Cert.KernelIdeal.defs₀
    dsimp only
    rw [same_body]
    rfl
  | .scVector c s, 1, a => rfl
  | .tc, 0, a => rfl
  | .tc, 1, (t, s) => rfl
  | .scScalar c, 0, a => rfl
  | .scScalar c, 1, a => rfl

theorem same_defs : Cert.Kernel.defs (F := Bits) = Cert.KernelIdeal.defs (F := Bits) := by
  delta Cert.Kernel.defs Cert.KernelIdeal.defs
  rw [same_defs₀]
  rfl

theorem same_threads : Cert.Kernel.threads (F := Bits) = Cert.KernelIdeal.threads (F := Bits) := rfl

/-! ## The frames -/

instance neB : ∀ e, Nonempty (Elt Bits e) := fun e => ⟨by cases e <;> exact 0⟩
instance neI : ∀ e, Nonempty (Elt Ideal e) := fun e => ⟨by cases e <;> first | exact (0 : EReal) | exact 0⟩

theorem frame_kernelIdeal : Cert.quiescent_KernelIdeal := fun m ρ h =>
  (θ_run Cert.KernelIdeal.defs _ _).mono (fun _ k => ⟨fun c => (k.1 c).2, k.2⟩) (run_pre (F := Ideal) m ρ fun d => idsOK_of_pre (h d))

/-- The same under the precondition of the value claim. -/
theorem frame_kernelIdeal_pre : Cert.quiescent_KernelIdeal_pre_inputs_ok := fun m ρ h =>
  (θ_run Cert.KernelIdeal.defs _ _).mono (fun _ k => ⟨fun c => (k.1 c).2, k.2⟩) (run_pre (F := Ideal) m ρ fun d => (inOK_of_pre (h d)).toIdsOK)

theorem frame_kernel : Cert.quiescent_Kernel := fun m ρ h => by
  rw [same_defs, same_threads]
  exact (θ_run Cert.KernelIdeal.defs _ _).mono (fun _ k => ⟨fun c => (k.1 c).2, k.2⟩) (run_pre (F := Bits) m ρ fun d => idsOK_of_pre (h d))

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_reference_pre : Cert.quiescent_ReferenceIdeal_pre_inputs_ok := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof.Pool

end
-- ==== Proof.Parts.lean ====
module

public import proofs.«01_k».proof.Proof.Common
public import proofs.«01_k».proof.Proof.Gen.ReferenceIdeal.Run
public import Idealize.ShloMosaic.Lib.Pointwise

@[expose] public section

set_option maxRecDepth 16384

noncomputable section

namespace Cert.Proof.Pool

open Cert.ReferenceIdeal Cert.ReferenceIdeal.Gen

open Idealize.ShloMosaic
open Idealize.ShloMosaic.ValueIdx (ix0 ix1 ix2 eq_ix1 eq_ix2)

/-! # The reference's value, part by part

The reference is one long expression of its arguments. Here it is named part by part: the pooled arrays, the dense
layer, the normalisation and the activation. -/

section Parts

/-- The segment ids as a column. -/
def rIds (ids : IVec S50000 32) : IVec S50000x1 32 := broadcastInDim S50000x1 ![0] bcast_S50000_S50000x1_0 ids
/-- The segment sums. -/
def rSum (X : FVec Ideal S50000x256 .f32) (ids : IVec S50000 32) : FVec Ideal S512x256 .f32 :=
  Host.scatterAdd scatter_S512x256_S50000x1_S50000x256_1_0_0_1 (broadcastInDim S512x256 ![] bcast_S_S512x256 (constant (F := Ideal) S_ .f32 0x00000000#32)) (rIds ids) X
/-- The segment sizes. -/
def rCnt (ids : IVec S50000 32) : FVec Ideal S512x1 .f32 :=
  Host.scatterAdd scatter_S512x1_S50000x1_S50000x1_1_0_0_1 (broadcastInDim S512x1 ![] bcast_S_S512x1 (constant (F := Ideal) S_ .f32 0x00000000#32)) (rIds ids)
    (broadcastInDim S50000x1 ![] bcast_S_S50000x1 (constant (F := Ideal) S_ .f32 0x3F800000#32))
/-- The segment means. -/
def rMean (s : FVec Ideal S512x256 .f32) (n : FVec Ideal S512x1 .f32) : FVec Ideal S512x256 .f32 :=
  Host.divf s (broadcastInDim S512x256 ![0, 1] bcast_S512x1_S512x256_0_1
    (maximumf (broadcastInDim S512x1 ![] bcast_S_S512x1 (id (constant (F := Ideal) S_ .f32 0x3F800000#32))) n))
/-- The segment maxima, minus infinity for an empty segment. -/
def rMx (X : FVec Ideal S50000x256 .f32) (ids : IVec S50000 32) : FVec Ideal S512x256 .f32 :=
  Host.reduce FloatOps.maximumf
    (select
      (broadcastInDim S50000x512x256 ![0, 1, 2] bcast_S50000x512x1_S50000x512x256_0_1_2
        (broadcastInDim S50000x512x1 ![0, 1] bcast_S50000x512_S50000x512x1_0_1
          (cmpi .eq (broadcastInDim S50000x512 ![0, 1] bcast_S50000x1_S50000x512_0_1 (rIds ids))
            (broadcastInDim S50000x512 ![0, 1] bcast_S1x512_S50000x512_0_1 (broadcastInDim S1x512 ![1] bcast_S512_S1x512_1 (iotaInDim S512 32 0))))))
      (broadcastInDim S50000x512x256 ![0, 1, 2] bcast_S50000x1x256_S50000x512x256_0_1_2 (broadcastInDim S50000x1x256 ![0, 2] bcast_S50000x256_S50000x1x256_0_2 X))
      (broadcastInDim S50000x512x256 ![] bcast_S_S50000x512x256 (id (constant (F := Ideal) S_ .f32 0xFF800000#32))))
    (constant (F := Ideal) S_ .f32 0xFF800000#32) reducesTo_S50000x512x256_S512x256_d0 h_S_
/-- The segment maxima, zero for an empty segment. -/
def rMax (mx : FVec Ideal S512x256 .f32) : FVec Ideal S512x256 .f32 :=
  select (cmpf .oeq mx (broadcastInDim S512x256 ![] bcast_S_S512x256 (constant (F := Ideal) S_ .f32 0xFF800000#32)))
    (broadcastInDim S512x256 ![] bcast_S_S512x256 (id (constant (F := Ideal) S_ .f32 0x00000000#32))) mx
/-- The dense layer over the means, the maxima and the sums side by side. -/
def rH (mean mx s : FVec Ideal S512x256 .f32) (W : FVec Ideal S768x256 .f32) (b : FVec Ideal S256 .f32) : FVec Ideal S512x256 .f32 :=
  addf (Host.dotGeneral dot_S512x768_S768x256_S512x256_1_0_0_1_n_n none
      (concatenate S512x768 1 [⟨S512x256, mean⟩, ⟨S512x256, mx⟩, ⟨S512x256, s⟩] concatenates_S512x256_S512x256_S512x256_S512x768_d1) W)
    (broadcastInDim S512x256 ![0, 1] bcast_S1x256_S512x256_0_1 (broadcastInDim S1x256 ![1] bcast_S256_S1x256_1 b))
/-- The mean of every row. -/
def rMu (H : FVec Ideal S512x256 .f32) : FVec Ideal S512x1 .f32 :=
  Host.divf (broadcastInDim S512x1 ![0] bcast_S512_S512x1_0 (Host.reduceAdd H (constant (F := Ideal) S_ .f32 0x00000000#32) reducesTo_S512x256_S512_d1 h_S_))
    (broadcastInDim S512x1 ![] bcast_S_S512x1 (constant (F := Ideal) S_ .f32 0x43800000#32))
/-- Every entry less its row's mean. -/
def rDev (H : FVec Ideal S512x256 .f32) : FVec Ideal S512x256 .f32 :=
  subf H (broadcastInDim S512x256 ![0, 1] bcast_S512x1_S512x256_0_1 (rMu H))
/-- The deviation of every row. -/
def rSd (H : FVec Ideal S512x256 .f32) : FVec Ideal S512x1 .f32 :=
  Host.sqrt (addf (rMu (mulf (rDev H) (rDev H))) (broadcastInDim S512x1 ![] bcast_S_S512x1 (constant (F := Ideal) S_ .f32 0x3727C5AC#32)))
/-- The normalised layer. -/
def rY (H : FVec Ideal S512x256 .f32) (g be : FVec Ideal S256 .f32) : FVec Ideal S512x256 .f32 :=
  addf (mulf (Host.divf (rDev H) (broadcastInDim S512x256 ![0, 1] bcast_S512x1_S512x256_0_1 (rSd H)))
      (broadcastInDim S512x256 ![0, 1] bcast_S1x256_S512x256_0_1 (broadcastInDim S1x256 ![1] bcast_S256_S1x256_1 g)))
    (broadcastInDim S512x256 ![0, 1] bcast_S1x256_S512x256_0_1 (broadcastInDim S1x256 ![1] bcast_S256_S1x256_1 be))
/-- The activation. -/
def rOut (y : FVec Ideal S512x256 .f32) : FVec Ideal S512x256 .f32 :=
  mulf (mulf (broadcastInDim S512x256 ![] bcast_S_S512x256 (constant (F := Ideal) S_ .f32 0x3F000000#32)) y)
    (addf (broadcastInDim S512x256 ![] bcast_S_S512x256 (constant (F := Ideal) S_ .f32 0x3F800000#32))
      (Host.erf (Host.divf y (broadcastInDim S512x256 ![] bcast_S_S512x256 (id (Host.sqrt (constant (F := Ideal) S_ .f32 0x40000000#32)))))))

/-- The reference's value. -/
def rVal (X : FVec Ideal S50000x256 .f32) (ids : IVec S50000 32) (W : FVec Ideal S768x256 .f32) (b g be : FVec Ideal S256 .f32) : FVec Ideal S512x256 .f32 :=
  rOut (rY (rH (rMean (rSum X ids) (rCnt ids)) (rMax (rMx X ids)) (rSum X ids) W b) g be)

theorem res_parts (m : (ℓ : Loc nD τ sig) → Buf (Elt Ideal) ℓ) (c : Dev nD) :
    Value.res_main_v61 m c = rVal (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Value.res_main_v61
  rfl

end Parts

end Cert.Proof.Pool

end
-- ==== Proof.Dense.lean ====
module

public import proofs.«01_k».proof.Proof.Finish
public import proofs.«01_k».proof.Proof.Parts
public import Idealize.ShloMosaic.Lib.Pointwise

@[expose] public section

set_option maxRecDepth 16384

noncomputable section

namespace Cert.Proof.Pool

open Cert.KernelIdeal Cert.KernelIdeal.Gen

open Idealize.ShloMosaic

/-! # The second call computes the reference's dense part

The second call multiplies the means, the maxima and the sums each by its own third of the weights and adds the three
products, where the reference multiplies the three side by side. The rest is the same operations. -/

section Dense

/-- The maxima the call uses: zero for an empty segment. -/
def kMax (mx : FVec Ideal S512x256 .f32) (n : FVec Ideal S512x1 .f32) : FVec Ideal S512x256 .f32 :=
  select (broadcastTo S512x256 (shapeCast S512x1 (cmpf .ogt (shapeCast S512x1 n shapeCasts_S512x1_S512x1) (broadcast S512x1 (Scalar.ofBits (F := Ideal) .f32 0x00000000#32))) shapeCasts_S512x1_S512x1) broadcasts_S512x1_S512x256)
    mx (broadcast S512x256 (Scalar.ofBits (F := Ideal) .f32 0x00000000#32))

theorem wRows_at (W : FVec Ideal S768x256 .f32) (o : ℕ) (h : ∀ a, (![o, 0] : Fin 2 → ℕ) a + S256x256.size a ≤ S768x256.size a) (k l : Fin 256) :
    wRows W o h (ix2 k l) = W (ix2 ⟨o + k.val, Nat.lt_of_lt_of_le (Nat.add_lt_add_left k.isLt o) (h 0)⟩ l) := by
  unfold wRows
  refine congrArg W (funext fun a => Fin.ext ?_)
  match a with
  | ⟨0, _⟩ => simp [Rect.emb, Rect.unit]
  | ⟨1, _⟩ => simp [Rect.emb, Rect.unit]

theorem dense_H (s mx : FVec Ideal S512x256 .f32) (n : FVec Ideal S512x1 .f32) (W : FVec Ideal S768x256 .f32) (b1 : FVec Ideal S1x256 .f32) (b : FVec Ideal S256 .f32)
    (hb : ∀ l, b1 (ix2 0 l) = b (ix1 l)) :
    k1_pay2 s mx n (wRows W 0 inb_S768x256_S256x256_0_0) (wRows W 256 inb_S768x256_S256x256_256_0) (wRows W 512 inb_S768x256_S256x256_512_0) b1
      = rH (rMean s n) (kMax mx n) s W b := by
  funext j
  obtain ⟨r, l, rfl⟩ : ∃ r l, j = ix2 r l := ⟨_, _, ValueIdx.eq_ix2 j⟩
  unfold k1_pay2 rH rMean kMax
  dsimp only
  pointwise [sumSplitAll, wRows_at, hb, id_eq]
  rw [max_comm (n (ix2 r 0)) 1, add_assoc (∑ x : Fin 256, _)]
  rfl

theorem dense_mu (H : FVec Ideal S512x256 .f32) :
    divf (shapeCast S512x1 (multiReduction .add [1] S512 H 0x00000000#32 reduces_S512x256_S512 (.inl rfl) rfl) shapeCasts_S512_S512x1)
      (broadcast S512x1 (Scalar.ofBits (F := Ideal) .f32 0x43800000#32)) = rMu H := by
  funext j
  obtain ⟨r, l, rfl⟩ : ∃ r l, j = ix2 r l := ⟨_, _, ValueIdx.eq_ix2 j⟩
  unfold rMu
  pointwise

theorem dense_out (H : FVec Ideal S512x256 .f32) (v34 v35 : FVec Ideal S512x1 .f32) (g1 be1 : FVec Ideal S1x256 .f32) (g be : FVec Ideal S256 .f32)
    (hg : ∀ l, g1 (ix2 0 l) = g (ix1 l)) (hbe : ∀ l, be1 (ix2 0 l) = be (ix1 l)) (hv : divf v34 v35 = rMu (mulf (rDev H) (rDev H))) :
    k1_pay1 H (rMu H) v34 v35 g1 be1 = rOut (rY H g be) := by
  funext j
  obtain ⟨r, l, rfl⟩ : ∃ r l, j = ix2 r l := ⟨_, _, ValueIdx.eq_ix2 j⟩
  unfold k1_pay1 rOut rY rSd
  dsimp only
  rw [hv]
  generalize rMu (mulf (rDev H) (rDev H)) = v
  unfold rDev
  generalize rMu H = mu
  pointwise [hg, hbe, id_eq]
  rfl

theorem dense_dev (H : FVec Ideal S512x256 .f32) : subf H (broadcastTo S512x256 (rMu H) broadcasts_S512x1_S512x256) = rDev H := by
  funext j
  obtain ⟨r, l, rfl⟩ : ∃ r l, j = ix2 r l := ⟨_, _, ValueIdx.eq_ix2 j⟩
  unfold rDev
  pointwise

/-- The second call's value is the reference's, from the sums, the maxima and the sizes. -/
theorem finV_eq (s mx : FVec Ideal S512x256 .f32) (n : FVec Ideal S512x1 .f32) (W : FVec Ideal S768x256 .f32) (b1 g1 be1 : FVec Ideal S1x256 .f32)
    (b g be : FVec Ideal S256 .f32) (hb : ∀ l, b1 (ix2 0 l) = b (ix1 l)) (hg : ∀ l, g1 (ix2 0 l) = g (ix1 l)) (hbe : ∀ l, be1 (ix2 0 l) = be (ix1 l)) :
    finV s mx n W b1 g1 be1 = rOut (rY (rH (rMean s n) (kMax mx n) s W b) g be) := by
  have e2 := dense_H s mx n W b1 b hb
  generalize rH (rMean s n) (kMax mx n) s W b = H at e2 ⊢
  unfold finV k1_pay4 k1_pay3 k1_pay5
  dsimp only
  rw [e2, dense_mu H]
  refine dense_out H _ _ g1 be1 g be hg hbe ?_
  rw [dense_dev H]
  exact dense_mu _

end Dense

end Cert.Proof.Pool

end
-- ==== Proof.Pools.lean ====
module

public import proofs.«01_k».proof.Proof.Inputs
public import proofs.«01_k».proof.Proof.Dense
public import Idealize.ShloMosaic.Lib.Routing.OpsPair
public import Idealize.ShloMosaic.Lib.Pointwise

@[expose] public section

set_option maxRecDepth 16384

noncomputable section

namespace Cert.Proof.Pool

open Cert.KernelIdeal Cert.KernelIdeal.Gen

open Idealize.ShloMosaic

/-! # The first call computes the reference's pooled arrays

The segment ids ascend, so the rows of segment `g` are those from the first row with an id at least `g` up to the first
with an id above `g`. The call adds and compares the rows of that range; the reference visits every row and leaves out
those of other segments. Sums and maxima of extended reals depend on neither order nor on what is left out. -/

section Land

theorem landS (idx : IVec ReferenceIdeal.S50000x1 32) (n : Fin 50000) (c : Fin 256) (r : Fin 512) (l : Fin 256) :
    ReferenceIdeal.scatter_S512x256_S50000x1_S50000x256_1_0_0_1.resultIdx? (ix2 n c) idx = some (ix2 r l) ↔ (idx (ix2 n 0)).toInt = r.val ∧ c = l := by
  rw [Routing.resultIdx?_eq_some]
  have w0 : ReferenceIdeal.scatter_S512x256_S50000x1_S50000x256_1_0_0_1.window (ix2 n c) 0 = 0 := rfl
  have w1 : ReferenceIdeal.scatter_S512x256_S50000x1_S50000x256_1_0_0_1.window (ix2 n c) 1 = c.val := rfl
  have s0 : ReferenceIdeal.scatter_S512x256_S50000x1_S50000x256_1_0_0_1.start (ix2 n c) idx 0 = (idx (ix2 n 0)).toInt := by
    refine congrArg (fun i => (idx i).toInt) (funext fun a => Fin.ext ?_)
    match a with
    | ⟨0, _⟩ => rfl
    | ⟨1, _⟩ => rfl
  have s1 : ReferenceIdeal.scatter_S512x256_S50000x1_S50000x256_1_0_0_1.start (ix2 n c) idx 1 = 0 := rfl
  constructor
  · intro h
    have h0 := h 0; have h1 := h 1
    rw [w0, s0] at h0
    rw [w1, s1] at h1
    exact ⟨by simpa using h0, Fin.ext (by simpa using h1)⟩
  · rintro ⟨h, rfl⟩ a
    match a with
    | ⟨0, _⟩ => exact (congrArg₂ (fun x y => x + ((y : ℕ) : ℤ)) s0 w0).trans (by simpa using h)
    | ⟨1, _⟩ => exact (congrArg₂ (fun x y => x + ((y : ℕ) : ℤ)) s1 w1).trans (by simp)

theorem landC (idx : IVec ReferenceIdeal.S50000x1 32) (n : Fin 50000) (c : Fin 1) (r : Fin 512) (l : Fin 1) :
    ReferenceIdeal.scatter_S512x1_S50000x1_S50000x1_1_0_0_1.resultIdx? (ix2 n c) idx = some (ix2 r l) ↔ (idx (ix2 n 0)).toInt = r.val ∧ c = l := by
  rw [Routing.resultIdx?_eq_some]
  have w0 : ReferenceIdeal.scatter_S512x1_S50000x1_S50000x1_1_0_0_1.window (ix2 n c) 0 = 0 := rfl
  have w1 : ReferenceIdeal.scatter_S512x1_S50000x1_S50000x1_1_0_0_1.window (ix2 n c) 1 = c.val := rfl
  have s0 : ReferenceIdeal.scatter_S512x1_S50000x1_S50000x1_1_0_0_1.start (ix2 n c) idx 0 = (idx (ix2 n 0)).toInt := by
    refine congrArg (fun i => (idx i).toInt) (funext fun a => Fin.ext ?_)
    match a with
    | ⟨0, _⟩ => rfl
    | ⟨1, _⟩ => rfl
  have s1 : ReferenceIdeal.scatter_S512x1_S50000x1_S50000x1_1_0_0_1.start (ix2 n c) idx 1 = 0 := rfl
  constructor
  · intro h
    have h0 := h 0; have h1 := h 1
    rw [w0, s0] at h0
    rw [w1, s1] at h1
    exact ⟨by simpa using h0, Fin.ext (by simpa using h1)⟩
  · rintro ⟨h, rfl⟩ a
    match a with
    | ⟨0, _⟩ => exact (congrArg₂ (fun x y => x + ((y : ℕ) : ℤ)) s0 w0).trans (by simpa using h)
    | ⟨1, _⟩ => exact (congrArg₂ (fun x y => x + ((y : ℕ) : ℤ)) s1 w1).trans (by simp)

theorem rIds_at (ids : IVec S50000 32) (n : Fin 50000) : rIds ids (ix2 n 0) = ids (ix1 n) := by
  unfold rIds
  pointwise

end Land

section Range
open scoped BigOperators

/-- A sum over all rows of those in a range is the sum over the range. -/
theorem sum_range_of (f : ℕ → EReal) {lo hi N : ℕ} (h : hi ≤ N) :
    (∑ n : Fin N, if lo ≤ n.val ∧ n.val < hi then f n.val else 0) = ∑ k ∈ Finset.range (hi - lo), f (lo + k) := by
  rw [Fin.sum_univ_eq_sum_range (fun n => if lo ≤ n ∧ n < hi then f n else 0) N, ← Finset.sum_filter,
    show (Finset.range N).filter (fun n => lo ≤ n ∧ n < hi) = Finset.Ico lo hi from by
      ext n; simp only [Finset.mem_filter, Finset.mem_range, Finset.mem_Ico]; omega, Finset.sum_Ico_eq_sum_range]

/-- A sum over all entries of those of one column and some rows is a sum over the rows. -/
theorem sum_col {N M : ℕ} (f : (⟨2, ![N, M]⟩ : Shape).Idx → EReal) (P : Fin N → Prop) [DecidablePred P] (l : Fin M) (Q : (⟨2, ![N, M]⟩ : Shape).Idx → Prop)
    [DecidablePred Q] (hQ : ∀ n c, Q (ix2 n c) ↔ P n ∧ c = l) :
    (∑ j ∈ Finset.univ.filter Q, f j) = ∑ n : Fin N, if P n then f (ix2 n l) else 0 := by
  rw [Finset.sum_filter, ValueIdx.sum_idx2]
  refine Finset.sum_congr rfl fun n _ => ?_
  rw [Finset.sum_eq_single l]
  · by_cases hp : P n
    · rw [if_pos hp]; exact if_pos ((hQ n l).mpr ⟨hp, rfl⟩)
    · rw [if_neg hp]; exact if_neg fun h => hp ((hQ n l).mp h).1
  · intro c _ hc; exact if_neg fun h => hc ((hQ n c).mp h).2
  · intro h; exact absurd (Finset.mem_univ l) h

end Range

section Pools
variable {X : FVec Ideal S50000x256 .f32} {ids : IVec S50000 32} (K : InOK X ids)

/-- Row `n`, lane `l` of `x`. -/
def xAt (X : FVec Ideal S50000x256 .f32) (l : Fin 256) (n : ℕ) : EReal := X (ix2 ⟨n % 50000, Nat.mod_lt _ (by decide)⟩ l)

theorem xAt_fin (l : Fin 256) (n : Fin 50000) : X (ix2 n l) = xAt X l n.val := by
  unfold xAt
  refine congrArg (fun a => X (ix2 a l)) (Fin.ext (Nat.mod_eq_of_lt n.isLt).symm)

include K in
/-- A row is of segment `r` exactly when it is in the segment's range. -/
theorem in_seg (r : Fin 512) (n : Fin 50000) : (rIds ids (ix2 n 0)).toInt = r.val ↔ sLo (bOf ids) r.val ≤ n.val ∧ n.val < sHi (bOf ids) r.val := by
  have I := ids_of K.toIdsOK
  have hr := r.isLt
  rw [rIds_at, show (ids (ix1 n)).toInt = bOf ids n.val from bOf_int K.toIdsOK n.isLt]
  have h1 := lt_lb I (g := r.val) (by omega) (bOf_mono K) (n := n.val)
  have h2 := lt_lb I (g := r.val + 1) (by omega) (bOf_mono K) (n := n.val)
  have e1 : sLo (bOf ids) r.val = lb (bOf ids) r.val := rfl
  have e2 : sHi (bOf ids) r.val = lb (bOf ids) (r.val + 1) := rfl
  rw [e1, e2, h2]
  constructor
  · intro h
    have h' : bOf ids n.val = r.val := by exact_mod_cast h
    exact ⟨not_lt.mp fun hh => by have := h1.mp hh; omega, by omega⟩
  · rintro ⟨ha, hb⟩
    have : ¬ bOf ids n.val < r.val := fun hh => absurd (h1.mpr hh) (not_lt.mpr ha)
    have h' : bOf ids n.val = r.val := by omega
    exact_mod_cast h'

include K in
theorem sHi_le (r : Fin 512) : sHi (bOf ids) r.val ≤ 50000 := lb_le (ids_of K.toIdsOK) (by have := r.isLt; omega)

theorem Words_ofNat (n : ℕ) (h : n ≤ 50000) : (BitVec.ofNat 32 n).toInt = (n : ℤ) := by
  rw [BitVec.toInt_ofNat']
  rw [Int.bmod_def]
  omega

theorem lane_eq (l : Fin 256) : (⟨(16 * (l.val / 16) + l.val % 16) % 256, Nat.mod_lt _ (by decide)⟩ : Fin 256) = l :=
  Fin.ext (by have := l.isLt; show _ % 256 = _; omega)

theorem accS_at (s n : ℕ) (l : Fin 256) :
    accS X s n (l.val / 16) (ix1 ⟨l.val % 16, Nat.mod_lt _ (by decide)⟩) = ∑ k ∈ Finset.range n, xAt X l (s + k) := by
  induction n with
  | zero =>
    rw [Finset.sum_range_zero]
    show Scalar.ofBits (F := Ideal) .f32 0x00000000#32 = 0
    exact Ideal.ofBits_zero_f32
  | succ n ih =>
    rw [Finset.sum_range_succ, ← ih]
    show accS X s n _ _ + rowV X (s + n) (l.val / 16) _ = _
    refine congrArg (_ + ·) ?_
    unfold rowV xAt
    pointwise [lane_eq]
    exact congrArg X (ValueIdx.eq_ix2 _)

theorem accM_at (s n : ℕ) (l : Fin 256) :
    accM X s n (l.val / 16) (ix1 ⟨l.val % 16, Nat.mod_lt _ (by decide)⟩) = (Finset.range n).sup fun k => xAt X l (s + k) := by
  induction n with
  | zero =>
    rw [Finset.range_zero, Finset.sup_empty]
    show Scalar.ofBits (F := Ideal) .f32 0xFF800000#32 = ⊥
    show Ideal.ofBits .f32 0xFF800000#32 = ⊥
    simp [Ideal.ofBits, Ideal.ieee]
  | succ n ih =>
    rw [Finset.range_add_one, Finset.sup_insert, ← ih, sup_comm]
    show max (accM X s n _ _) (rowV X (s + n) (l.val / 16) _) = _
    refine congrArg (max _ ·) ?_
    unfold rowV xAt
    pointwise [lane_eq]
    exact congrArg X (ValueIdx.eq_ix2 _)

include K in
theorem pool_sum : sumArr X (bOf ids) = rSum X ids := by
  funext j
  obtain ⟨r, l, rfl⟩ : ∃ r l, j = ix2 r l := ⟨_, _, ValueIdx.eq_ix2 j⟩
  have hL : sumArr X (bOf ids) (ix2 r l) = ∑ k ∈ Finset.range (sHi (bOf ids) r.val - sLo (bOf ids) r.val), xAt X l (sLo (bOf ids) r.val + k) :=
    accS_at _ _ l
  rw [hL]
  unfold rSum
  show _ = Ideal.hostScatterAdd _ _ _ _ _
  rw [Ideal.hostScatterAdd, sum_col X (fun n => (rIds ids (ix2 n 0)).toInt = r.val) l _ fun n c => landS _ n c r l]
  pointwise [in_seg K, xAt_fin, sum_range_of _ (sHi_le K r)]

include K in
theorem pool_cnt : shapeCast S512x1 (cntArr (F := Ideal) (bOf ids)) shapeCasts_S512_S512x1 = rCnt ids := by
  funext j
  obtain ⟨r, l, rfl⟩ : ∃ r l, j = ix2 r l := ⟨_, _, ValueIdx.eq_ix2 j⟩
  obtain rfl : l = 0 := Subsingleton.elim _ _
  unfold rCnt
  show _ = Ideal.hostScatterAdd _ _ _ _ _
  rw [Ideal.hostScatterAdd, sum_col _ (fun n => (rIds ids (ix2 n 0)).toInt = r.val) 0 _ fun n c => landC _ n c r 0]
  unfold cntArr
  pointwise [in_seg K]
  have hle := sHi_le K r
  rw [sum_range_of (fun _ => 1) hle, Finset.sum_const, Finset.card_range, nsmul_one]
  show (((BitVec.ofNat 32 (sHi (bOf ids) r.val - sLo (bOf ids) r.val)).toInt : ℝ) : EReal) = _
  rw [show (BitVec.ofNat 32 (sHi (bOf ids) r.val - sLo (bOf ids) r.val)).toInt = ((sHi (bOf ids) r.val - sLo (bOf ids) r.val : ℕ) : ℤ) from
    Words_ofNat _ (by omega)]
  simp

include K in
theorem rMx_at (r : Fin 512) (l : Fin 256) : rMx X ids (ix2 r l) = (Finset.range (sHi (bOf ids) r.val - sLo (bOf ids) r.val)).sup fun k => xAt X l (sLo (bOf ids) r.val + k) := by
  have hle := sHi_le K r
  have hbot : Ideal.ofBits .f32 0xFF800000#32 = ⊥ := by simp [Ideal.ofBits, Ideal.ieee]
  have hsel : ∀ n : Fin 50000, Scalar.select (IntOp.cmpi .eq (rIds ids (ix2 n 0)) (BitVec.ofNat 32 r.val)) (X (ix2 n l)) (⊥ : EReal)
      = if sLo (bOf ids) r.val ≤ n.val ∧ n.val < sHi (bOf ids) r.val then xAt X l n.val else ⊥ := fun n => by
    have hr := r.isLt
    have hs := in_seg K r n
    have hw : (BitVec.ofNat 32 r.val).toInt = (r.val : ℤ) := Words_ofNat _ (by omega)
    by_cases h : sLo (bOf ids) r.val ≤ n.val ∧ n.val < sHi (bOf ids) r.val
    · have e : rIds ids (ix2 n 0) = BitVec.ofNat 32 r.val := BitVec.eq_of_toInt_eq ((hs.mpr h).trans hw.symm)
      rw [if_pos h, e, xAt_fin (X := X) l n]
      pointwise
    · have e : rIds ids (ix2 n 0) ≠ BitVec.ofNat 32 r.val := fun e => h (hs.mp (by rw [e]; exact hw))
      rw [if_neg h]
      unfold IntOp.cmpi
      pointwise
      simp [e]
  unfold rMx
  pointwise [id_eq, hbot, hsel]
  show Finset.sup Finset.univ (fun n : Fin 50000 => if sLo (bOf ids) r.val ≤ n.val ∧ n.val < sHi (bOf ids) r.val then xAt X l n.val else ⊥) = _
  refine le_antisymm (Finset.sup_le fun n _ => ?_) (Finset.sup_le fun k hk => ?_)
  · by_cases h : sLo (bOf ids) r.val ≤ n.val ∧ n.val < sHi (bOf ids) r.val
    · rw [if_pos h]
      refine le_trans (le_of_eq (congrArg (xAt X l) (Nat.add_sub_cancel' h.1).symm)) (Finset.le_sup (f := fun k => xAt X l (sLo (bOf ids) r.val + k)) (Finset.mem_range.mpr ?_))
      omega
    · rw [if_neg h]; exact bot_le
  · have hk' := Finset.mem_range.mp hk
    have hn : sLo (bOf ids) r.val + k < 50000 := by omega
    refine le_trans (le_of_eq ?_) (Finset.le_sup (f := fun n : Fin 50000 => if sLo (bOf ids) r.val ≤ n.val ∧ n.val < sHi (bOf ids) r.val then xAt X l n.val else ⊥)
      (Finset.mem_univ ⟨sLo (bOf ids) r.val + k, hn⟩))
    exact (if_pos ⟨Nat.le_add_right _ _, by show _ + k < _; omega⟩).symm

include K in
theorem maxArr_at (r : Fin 512) (l : Fin 256) : maxArr X (bOf ids) (ix2 r l) = rMx X ids (ix2 r l) := by
  rw [rMx_at K]
  exact accM_at _ _ l

include K in
theorem rCnt_at (r : Fin 512) : rCnt ids (ix2 r 0) = ((sHi (bOf ids) r.val - sLo (bOf ids) r.val : ℕ) : EReal) := by
  rw [← pool_cnt K]
  unfold cntArr
  pointwise
  have hle := sHi_le K r
  show (((BitVec.ofNat 32 (sHi (bOf ids) r.val - sLo (bOf ids) r.val)).toInt : ℝ) : EReal) = _
  rw [Words_ofNat _ (by omega)]
  simp

include K in
/-- No feature is minus infinity. -/
theorem ne_bot (i : S50000x256.Idx) : X i ≠ ⊥ := by
  intro h
  have k := K.fin i
  rw [h] at k
  have k' : BitVec.ofBool (decide (max (⊥ : EReal) (-⊥) < Ideal.ofBits .f32 0x7F800000#32)) = 1#1 := k
  have ht : Ideal.ofBits .f32 0x7F800000#32 = ⊤ := by simp [Ideal.ofBits, Ideal.ieee]
  rw [ht] at k'
  simp at k'

include K in
theorem xAt_ne (l : Fin 256) (n : ℕ) : xAt X l n ≠ ⊥ := by
  unfold xAt
  exact ne_bot K _

theorem kMax_at (mx : FVec Ideal S512x256 .f32) (n : FVec Ideal S512x1 .f32) (r : Fin 512) (l : Fin 256) :
    kMax mx n (ix2 r l) = if 0 < n (ix2 r 0) then mx (ix2 r l) else 0 := by
  unfold kMax
  pointwise

theorem rMax_at (mx : FVec Ideal S512x256 .f32) (r : Fin 512) (l : Fin 256) :
    rMax mx (ix2 r l) = if mx (ix2 r l) = ⊥ then 0 else mx (ix2 r l) := by
  have hbot : Ideal.ofBits .f32 0xFF800000#32 = ⊥ := by simp [Ideal.ofBits, Ideal.ieee]
  unfold rMax
  pointwise [hbot, id_eq]

include K in
theorem maxArr_eq : maxArr X (bOf ids) = rMx X ids := by
  funext j
  rw [ValueIdx.eq_ix2 j]
  exact maxArr_at K _ _

include K in
/-- The maxima of the two programs: an empty segment gives zero, and a segment with rows has a maximum above minus infinity. -/
theorem pool_max : kMax (maxArr X (bOf ids)) (rCnt ids) = rMax (rMx X ids) := by
  rw [maxArr_eq K]
  funext j
  obtain ⟨r, l, rfl⟩ : ∃ r l, j = ix2 r l := ⟨_, _, ValueIdx.eq_ix2 j⟩
  rw [kMax_at, rMax_at, rCnt_at K]
  rcases Nat.eq_zero_or_pos (sHi (bOf ids) r.val - sLo (bOf ids) r.val) with h | h
  · have e : rMx X ids (ix2 r l) = ⊥ := by rw [rMx_at K, h, Finset.range_zero, Finset.sup_empty]
    have hn : ¬ (0 : EReal) < ((sHi (bOf ids) r.val - sLo (bOf ids) r.val : ℕ) : EReal) := by rw [h, Nat.cast_zero]; exact lt_irrefl _
    rw [if_neg hn, if_pos e]
  · have e : rMx X ids (ix2 r l) ≠ ⊥ := by
      rw [rMx_at K]
      intro e
      have h1 := (Finset.sup_eq_bot_iff _ _).mp e 0 (Finset.mem_range.mpr h)
      exact xAt_ne K l _ h1
    have hp : (0 : EReal) < ((sHi (bOf ids) r.val - sLo (bOf ids) r.val : ℕ) : EReal) := by exact_mod_cast h
    rw [if_pos hp, if_neg e]

end Pools

end Cert.Proof.Pool

end
-- ==== Proof.Value.lean ====
module

public import proofs.«01_k».proof.Proof.Frames
public import proofs.«01_k».proof.Proof.Dense
public import proofs.«01_k».proof.Proof.Pools

@[expose] public section

set_option maxRecDepth 16384

noncomputable section

namespace Cert.Proof.Pool

open Cert.KernelIdeal Cert.KernelIdeal.Gen

open Idealize.ShloMosaic
open Idealize.SL.Sem

/-! # The value

The kernel's whole run leaves in the result what the reference's run leaves: the SparseCore call gives the sums,
the maxima and the sizes of the segments, and the second call is the reference's dense half of them. -/

section
variable (m : (ℓ : Loc nD τ sig) → Buf (Elt Ideal) ℓ) (d : Dev nD)

theorem VC_v6 (b : Dev nD → ℕ → ℕ) : VC m b d (tr main_v6) = shapeCast S1x256 (m (d, tr main_arg5)) shapeCasts_S256_S1x256 := by
  unfold VC
  rw [StableHlo.reshape_result, StableHlo.result_of_writes_ne _ _ main_v5 main_arg5 rfl (by decide), StableHlo.result_of_writes_ne _ _ main_v4 main_arg5 rfl (by decide),
    StableHlo.result_of_writes_ne _ _ main_v3 main_arg5 rfl (by decide),
    VB_ne m b d _ (StableHlo.devRef_ne_of_ne (by decide)) (StableHlo.devRef_ne_of_ne (by decide)) (StableHlo.devRef_ne_of_ne (by decide)),
    VA_ne m d main_arg5 (by decide) (by decide) (by decide)]
  rfl

theorem VC_v5 (b : Dev nD → ℕ → ℕ) : VC m b d (tr main_v5) = shapeCast S1x256 (m (d, tr main_arg4)) shapeCasts_S256_S1x256 := by
  unfold VC
  rw [StableHlo.result_of_writes_ne _ _ main_v6 main_v5 rfl (by decide), StableHlo.reshape_result, StableHlo.result_of_writes_ne _ _ main_v4 main_arg4 rfl (by decide),
    StableHlo.result_of_writes_ne _ _ main_v3 main_arg4 rfl (by decide),
    VB_ne m b d _ (StableHlo.devRef_ne_of_ne (by decide)) (StableHlo.devRef_ne_of_ne (by decide)) (StableHlo.devRef_ne_of_ne (by decide)),
    VA_ne m d main_arg4 (by decide) (by decide) (by decide)]
  rfl

theorem VC_v4 (b : Dev nD → ℕ → ℕ) : VC m b d (tr main_v4) = shapeCast S1x256 (m (d, tr main_arg3)) shapeCasts_S256_S1x256 := by
  unfold VC
  rw [StableHlo.result_of_writes_ne _ _ main_v6 main_v4 rfl (by decide), StableHlo.result_of_writes_ne _ _ main_v5 main_v4 rfl (by decide), StableHlo.reshape_result,
    StableHlo.result_of_writes_ne _ _ main_v3 main_arg3 rfl (by decide),
    VB_ne m b d _ (StableHlo.devRef_ne_of_ne (by decide)) (StableHlo.devRef_ne_of_ne (by decide)) (StableHlo.devRef_ne_of_ne (by decide)),
    VA_ne m d main_arg3 (by decide) (by decide) (by decide)]
  rfl

theorem VC_v3 (b : Dev nD → ℕ → ℕ) : VC m b d (tr main_v3) = shapeCast S512x1 (cntArr (F := Ideal) (b d)) shapeCasts_S512_S512x1 := by
  unfold VC
  rw [StableHlo.result_of_writes_ne _ _ main_v6 main_v3 rfl (by decide), StableHlo.result_of_writes_ne _ _ main_v5 main_v3 rfl (by decide),
    StableHlo.result_of_writes_ne _ _ main_v4 main_v3 rfl (by decide), StableHlo.reshape_result, VB_2]
  rfl

theorem VC_v0 (b : Dev nD → ℕ → ℕ) : VC m b d (tr main_v2_0) = sumArr (F := Ideal) (m (d, tr main_arg0)) (b d) := by
  rw [VC_ne m b d main_v2_0 (by decide) (by decide) (by decide) (by decide), VB_0, VA_ne m d main_arg0 (by decide) (by decide) (by decide)]

theorem VC_v1 (b : Dev nD → ℕ → ℕ) : VC m b d (tr main_v2_1) = maxArr (F := Ideal) (m (d, tr main_arg0)) (b d) := by
  rw [VC_ne m b d main_v2_1 (by decide) (by decide) (by decide) (by decide), VB_1, VA_ne m d main_arg0 (by decide) (by decide) (by decide)]

theorem VC_W (b : Dev nD → ℕ → ℕ) : VC m b d (tr main_arg2) = m (d, tr main_arg2) := by
  rw [VC_ne m b d main_arg2 (by decide) (by decide) (by decide) (by decide),
    VB_ne m b d _ (StableHlo.devRef_ne_of_ne (by decide)) (StableHlo.devRef_ne_of_ne (by decide)) (StableHlo.devRef_ne_of_ne (by decide)),
    VA_ne m d main_arg2 (by decide) (by decide) (by decide)]

/-- A row vector laid out as one row of a matrix. -/
theorem row_at (b : FVec Ideal S256 .f32) (l : Fin 256) : shapeCast S1x256 b shapeCasts_S256_S1x256 (ix2 0 l) = b (ix1 l) := by
  pointwise

/-- The kernel's result is the reference's value of its arguments. -/
theorem VD_val (K : InOK (F := Ideal) (m (d, tr main_arg0)) (m (d, tr main_arg1))) :
    VD m (bM m) d (tr main_v7) = rVal (m (d, tr main_arg0)) (m (d, tr main_arg1)) (m (d, tr main_arg2)) (m (d, tr main_arg3)) (m (d, tr main_arg4)) (m (d, tr main_arg5)) := by
  have e1 : VD m (bM m) d (tr main_v7) = finAt (fun c r => VC m (bM m) c (tr r)) d := by
    unfold VD
    exact Function.update_self _ _ _
  rw [e1]
  unfold finAt
  beta_reduce
  rw [VC_v0, VC_v1, VC_v3, VC_W, VC_v4, VC_v5, VC_v6]
  unfold bM
  rw [pool_sum K, pool_cnt K]
  refine (finV_eq _ _ _ _ _ _ _ _ _ _ (row_at _) (row_at _) (row_at _)).trans ?_
  rw [pool_max K]
  rfl

end

/-- The value claim. -/
theorem algebraic_kernelIdeal : Cert.algebraic_KernelIdeal_ReferenceIdeal_pre_inputs_ok := fun m g m' g' h e => by
  have K : ∀ d : Dev nD, InOK (F := Ideal) (m (d, tr main_arg0)) (m (d, tr main_arg1)) := fun d => inOK_of_pre (h d)
  refine ⟨fun c => VD m (bM m) c (tr main_v7), (θ_run Cert.KernelIdeal.defs _ _).mono (fun _ k => k.1) (run_pre (F := Ideal) m g fun d => (K d).toIdsOK),
    (θ_run Cert.ReferenceIdeal.defs _ _).mono (fun r k c => ⟨(k c).1.trans ?_, (k c).2⟩) (Cert.ReferenceIdeal.Value.run (F := Ideal) m' g')⟩
  obtain ⟨e0, e1, e2, e3, e4, e5⟩ := e c
  rw [res_parts, e0, e1, e2, e3, e4, e5]
  exact (VD_val m c (K c)).symm

end Cert.Proof.Pool

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_ok
public import proofs.«01_k».proof.Proof.Gen.Pre_inputs_ok
public import proofs.«01_k».proof.Proof.Value

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_ids_ok.Gen.facts, Cert.Pre_inputs_ok.Gen.facts,
    Pool.frame_kernel, Pool.frame_kernelIdeal, Pool.frame_kernelIdeal_pre, Pool.frame_reference, Pool.frame_reference_pre, trivial, Pool.algebraic_kernelIdeal⟩

end Cert.Proof

end
